-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero [hPre_biases_zero : Cert.Pre_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 = (fun _ => 1#1)

def Pre_KernelIdeal_finite_edge [hPre_finite_edge : Cert.Pre_finite_edge.Facts] (m : (ℓ : Loc Cert.KernelIdeal.nD Cert.KernelIdeal.τ Cert.KernelIdeal.sig) → Buf (Elt Ideal) ℓ) : Prop :=
  ∀ c : Dev Cert.KernelIdeal.nD,
    (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero [hPre_biases_zero : Cert.Pre_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2 = (fun _ => 1#1)

def Pre_ReferenceIdeal_finite_edge [hPre_finite_edge : Cert.Pre_finite_edge.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_biases_zero [hKernelIdeal : Cert.KernelIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_edge [hKernelIdeal : Cert.KernelIdeal.Facts] [hPre_finite_edge : Cert.Pre_finite_edge.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_edge m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_biases_zero [hReferenceIdeal : Cert.ReferenceIdeal.Facts] [hPre_biases_zero : Cert.Pre_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_edge [hReferenceIdeal : Cert.ReferenceIdeal.Facts] [hPre_finite_edge : Cert.Pre_finite_edge.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_edge m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_on_edge_map_pre_biases_zero [hKernelIdeal : Cert.KernelIdeal.Facts] [hReferenceIdeal : Cert.ReferenceIdeal.Facts] [hPre_biases_zero : Cert.Pre_biases_zero.Facts] [hOn_edge_map : Cert.On_edge_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 192, 128, 128]⟩ : Shape).Idx, (Cert.On_edge_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v61) i = v0 c i)
          ∧ (∀ i : (⟨4, ![8, 1, 64, 64]⟩ : Shape).Idx, (Cert.On_edge_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 i = 1#1 → r.2.mem ((c.tc : Thread Cert.KernelIdeal.nD Cert.KernelIdeal.τ).loc Cert.KernelIdeal.main_v48) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 192, 128, 128]⟩ : Shape).Idx, (Cert.On_edge_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v821) i = v0 c i)
          ∧ (∀ i : (⟨4, ![8, 1, 64, 64]⟩ : Shape).Idx, (Cert.On_edge_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 i = 1#1 → r.2.mem ((c.tc : Thread Cert.ReferenceIdeal.nD Cert.ReferenceIdeal.τ).loc Cert.ReferenceIdeal.main_v349) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def algebraic_KernelIdeal_ReferenceIdeal_pre_finite_edge [hKernelIdeal : Cert.KernelIdeal.Facts] [hReferenceIdeal : Cert.ReferenceIdeal.Facts] [hPre_finite_edge : Cert.Pre_finite_edge.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_edge m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v821) = v0 c
          ∧ r.2.mem ((c.tc : Thread Cert.ReferenceIdeal.nD Cert.ReferenceIdeal.τ).loc Cert.ReferenceIdeal.main_v349) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_biases_zero : Cert.Pre_biases_zero.Facts) (hPre_finite_edge : Cert.Pre_finite_edge.Facts) (hOn_edge_map : Cert.On_edge_map.Facts),
    quiescent_Kernel (hKernel := hKernel)
    ∧ quiescent_KernelIdeal (hKernelIdeal := hKernelIdeal)
    ∧ quiescent_KernelIdeal_pre_biases_zero (hKernelIdeal := hKernelIdeal) (hPre_biases_zero := hPre_biases_zero)
    ∧ quiescent_KernelIdeal_pre_finite_edge (hKernelIdeal := hKernelIdeal) (hPre_finite_edge := hPre_finite_edge)
    ∧ quiescent_ReferenceIdeal (hReferenceIdeal := hReferenceIdeal)
    ∧ quiescent_ReferenceIdeal_pre_biases_zero (hReferenceIdeal := hReferenceIdeal) (hPre_biases_zero := hPre_biases_zero)
    ∧ quiescent_ReferenceIdeal_pre_finite_edge (hReferenceIdeal := hReferenceIdeal) (hPre_finite_edge := hPre_finite_edge)
    ∧ preserves_Kernel_KernelIdeal
    ∧ algebraic_KernelIdeal_ReferenceIdeal_on_edge_map_pre_biases_zero (hKernelIdeal := hKernelIdeal) (hReferenceIdeal := hReferenceIdeal) (hPre_biases_zero := hPre_biases_zero) (hOn_edge_map := hOn_edge_map)
    ∧ algebraic_KernelIdeal_ReferenceIdeal_pre_finite_edge (hKernelIdeal := hKernelIdeal) (hReferenceIdeal := hReferenceIdeal) (hPre_finite_edge := hPre_finite_edge)
-- ==== On_edge_map.lean ====
abbrev S8x192x64x64 : Shape := ⟨4, ![8, 192, 64, 64]⟩
abbrev S8x192x128x128 : Shape := ⟨4, ![8, 192, 128, 128]⟩
abbrev S64x192x1x1 : Shape := ⟨4, ![64, 192, 1, 1]⟩
abbrev S64 : Shape := ⟨1, ![64]⟩
abbrev S1x128x3x3 : Shape := ⟨4, ![1, 128, 3, 3]⟩
abbrev S1 : Shape := ⟨1, ![1]⟩
abbrev S192x192x3x3 : Shape := ⟨4, ![192, 192, 3, 3]⟩
abbrev S192 : Shape := ⟨1, ![192]⟩
abbrev S1x192x3x3 : Shape := ⟨4, ![1, 192, 3, 3]⟩
abbrev S_ : Shape := ⟨0, ![]⟩
abbrev S8x1x64x64 : Shape := ⟨4, ![8, 1, 64, 64]⟩

class Facts : Prop where
  bcast_S_S8x192x128x128 : S_.BroadcastsInDim S8x192x128x128 (![] : Fin 0 → Fin S8x192x128x128.rank)
  bcast_S_S8x1x64x64 : S_.BroadcastsInDim S8x1x64x64 (![] : Fin 0 → Fin S8x1x64x64.rank)

variable [Facts]

def fn {F : FTy → Type} [FloatOps F] (main_arg0 : FVec F S8x192x64x64 .f32) (main_arg1 : FVec F S8x192x128x128 .f32) (main_arg2 : FVec F S64x192x1x1 .f32) (main_arg3 : FVec F S64 .f32) (main_arg4 : FVec F S64x192x1x1 .f32) (main_arg5 : FVec F S64 .f32) (main_arg6 : FVec F S1x128x3x3 .f32) (main_arg7 : FVec F S1 .f32) (main_arg8 : FVec F S192x192x3x3 .f32) (main_arg9 : FVec F S192 .f32) (main_arg10 : FVec F S192 .f32) (main_arg11 : FVec F S1x192x3x3 .f32) (main_arg12 : FVec F S192x192x3x3 .f32) (main_arg13 : FVec F S192 .f32) : IVec S8x192x128x128 1 × IVec S8x1x64x64 1 :=
  let main_c : IVec S_ 1 := constantI S_ 1 0#1
  let main_v0 : IVec S8x192x128x128 1 := broadcastInDim S8x192x128x128 ![] bcast_S_S8x192x128x128 main_c
  let main_c_0 : IVec S_ 1 := constantI S_ 1 1#1
  let main_v1 : IVec S8x1x64x64 1 := broadcastInDim S8x1x64x64 ![] bcast_S_S8x1x64x64 main_c_0
  (main_v0, main_v1)
-- ==== Pre_biases_zero.lean ====
abbrev S8x192x64x64 : Shape := ⟨4, ![8, 192, 64, 64]⟩
abbrev S8x192x128x128 : Shape := ⟨4, ![8, 192, 128, 128]⟩
abbrev S64x192x1x1 : Shape := ⟨4, ![64, 192, 1, 1]⟩
abbrev S64 : Shape := ⟨1, ![64]⟩
abbrev S1x128x3x3 : Shape := ⟨4, ![1, 128, 3, 3]⟩
abbrev S1 : Shape := ⟨1, ![1]⟩
abbrev S192x192x3x3 : Shape := ⟨4, ![192, 192, 3, 3]⟩
abbrev S192 : Shape := ⟨1, ![192]⟩
abbrev S1x192x3x3 : Shape := ⟨4, ![1, 192, 3, 3]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S8x192x64x64 .f32) (main_arg1 : FVec F S8x192x128x128 .f32) (main_arg2 : FVec F S64x192x1x1 .f32) (main_arg3 : FVec F S64 .f32) (main_arg4 : FVec F S64x192x1x1 .f32) (main_arg5 : FVec F S64 .f32) (main_arg6 : FVec F S1x128x3x3 .f32) (main_arg7 : FVec F S1 .f32) (main_arg8 : FVec F S192x192x3x3 .f32) (main_arg9 : FVec F S192 .f32) (main_arg10 : FVec F S192 .f32) (main_arg11 : FVec F S1x192x3x3 .f32) (main_arg12 : FVec F S192x192x3x3 .f32) (main_arg13 : FVec F S192 .f32) : IVec S64 1 × IVec S64 1 :=
  let main_cst : FVec F S_ .f32 := constant S_ .f32 0x00000000#32
  let main_v0 : FVec F S64 .f32 := broadcastInDim S64 ![] bcast_S_S64 main_cst
  let main_v1 : IVec S64 1 := cmpf .oeq main_arg3 main_v0
  let main_v2 : IVec S64 1 := cmpf .oeq main_arg5 main_v0
  (main_v1, main_v2)
-- ==== Pre_finite_edge.lean ====
abbrev S8x192x64x64 : Shape := ⟨4, ![8, 192, 64, 64]⟩
abbrev S8x192x128x128 : Shape := ⟨4, ![8, 192, 128, 128]⟩
abbrev S64x192x1x1 : Shape := ⟨4, ![64, 192, 1, 1]⟩
abbrev S64 : Shape := ⟨1, ![64]⟩
abbrev S1x128x3x3 : Shape := ⟨4, ![1, 128, 3, 3]⟩
abbrev S1 : Shape := ⟨1, ![1]⟩
abbrev S192x192x3x3 : Shape := ⟨4, ![192, 192, 3, 3]⟩
abbrev S192 : Shape := ⟨1, ![192]⟩
abbrev S1x192x3x3 : Shape := ⟨4, ![1, 192, 3, 3]⟩
abbrev S_ : Shape := ⟨0, ![]⟩

class Facts : Prop where
  bcast_S_S64 : S_.BroadcastsInDim S64 (![] : Fin 0 → Fin S64.rank)
  bcast_S_S8x192x64x64 : S_.BroadcastsInDim S8x192x64x64 (![] : Fin 0 → Fin S8x192x64x64.rank)
  bcast_S_S192x192x3x3 : S_.BroadcastsInDim S192x192x3x3 (![] : Fin 0 → Fin S192x192x3x3.rank)
  bcast_S_S192 : S_.BroadcastsInDim S192 (![] : Fin 0 → Fin S192.rank)
  bcast_S_S1x192x3x3 : S_.BroadcastsInDim S1x192x3x3 (![] : Fin 0 → Fin S1x192x3x3.rank)

variable [Facts]

def fn {F : FTy → Type} [FloatOps F] (main_arg0 : FVec F S8x192x64x64 .f32) (main_arg1 : FVec F S8x192x128x128 .f32) (main_arg2 : FVec F S64x192x1x1 .f32) (main_arg3 : FVec F S64 .f32) (main_arg4 : FVec F S64x192x1x1 .f32) (main_arg5 : FVec F S64 .f32) (main_arg6 : FVec F S1x128x3x3 .f32) (main_arg7 : FVec F S1 .f32) (main_arg8 : FVec F S192x192x3x3 .f32) (main_arg9 : FVec F S192 .f32) (main_arg10 : FVec F S192 .f32) (main_arg11 : FVec F S1x192x3x3 .f32) (main_arg12 : FVec F S192x192x3x3 .f32) (main_arg13 : FVec F S192 .f32) : IVec S64 1 × IVec S64 1 × IVec S8x192x64x64 1 × IVec S192x192x3x3 1 × IVec S192 1 × IVec S192 1 × IVec S1x192x3x3 1 :=
  let main_cst : FVec F S_ .f32 := constant S_ .f32 0x00000000#32
  let main_v0 : FVec F S64 .f32 := broadcastInDim S64 ![] bcast_S_S64 main_cst
  let main_v1 : IVec S64 1 := cmpf .oeq main_arg3 main_v0
  let main_v2 : IVec S64 1 := cmpf .oeq main_arg5 main_v0
  let main_v3 : FVec F S8x192x64x64 .f32 := Host.absf main_arg0
  let main_cst_0 : FVec F S_ .f32 := constant S_ .f32 0x7F800000#32
  let main_v4 : FVec F S8x192x64x64 .f32 := broadcastInDim S8x192x64x64 ![] bcast_S_S8x192x64x64 main_cst_0
  let main_v5 : IVec S8x192x64x64 1 := cmpf .olt main_v3 main_v4
  let main_v6 : FVec F S192x192x3x3 .f32 := Host.absf main_arg8
  let main_cst_1 : FVec F S_ .f32 := constant S_ .f32 0x7F800000#32
  let main_v7 : FVec F S192x192x3x3 .f32 := broadcastInDim S192x192x3x3 ![] bcast_S_S192x192x3x3 main_cst_1
  let main_v8 : IVec S192x192x3x3 1 := cmpf .olt main_v6 main_v7
  let main_v9 : FVec F S192 .f32 := Host.absf main_arg9
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_v12 : FVec F S192 .f32 := Host.absf main_arg10
  let main_cst_3 : FVec F S_ .f32 := constant S_ .f32 0x7F800000#32
  let main_v13 : FVec F S192 .f32 := broadcastInDim S192 ![] bcast_S_S192 main_cst_3
  let main_v14 : IVec S192 1 := cmpf .olt main_v12 main_v13
  let main_v15 : FVec F S1x192x3x3 .f32 := Host.absf main_arg11
  let main_cst_4 : FVec F S_ .f32 := constant S_ .f32 0x7F800000#32
  let main_v16 : FVec F S1x192x3x3 .f32 := broadcastInDim S1x192x3x3 ![] bcast_S_S1x192x3x3 main_cst_4
  let main_v17 : IVec S1x192x3x3 1 := cmpf .olt main_v15 main_v16
  (main_v1, main_v2, main_v5, main_v8, main_v11, main_v14, main_v17)
-- ==== Kernel.lean ====
abbrev S8x192x64x64 : Shape := ⟨4, ![8, 192, 64, 64]⟩
abbrev S8x192x128x128 : Shape := ⟨4, ![8, 192, 128, 128]⟩
abbrev S64x192x1x1 : Shape := ⟨4, ![64, 192, 1, 1]⟩
abbrev S64 : Shape := ⟨1, ![64]⟩
abbrev S1x128x3x3 : Shape := ⟨4, ![1, 128, 3, 3]⟩
abbrev S1 : Shape := ⟨1, ![1]⟩
abbrev S192x192x3x3 : Shape := ⟨4, ![192, 192, 3, 3]⟩
abbrev S192 : Shape := ⟨1, ![192]⟩
abbrev S1x192x3x3 : Shape := ⟨4, ![1, 192, 3, 3]⟩
abbrev S128x64 : Shape := ⟨2, ![128, 64]⟩
abbrev S8x64 : Shape := ⟨2, ![8, 64]⟩
abbrev S64x8 : Shape := ⟨2, ![64, 8]⟩
abbrev S8x192x4096 : Shape := ⟨3, ![8, 192, 4096]⟩
abbrev S8x192x16384 : Shape := ⟨3, ![8, 192, 16384]⟩
abbrev S64x192 : Shape := ⟨2, ![64, 192]⟩
abbrev S64x1 : Shape := ⟨2, ![64, 1]⟩
abbrev S128x9 : Shape := ⟨2, ![128, 9]⟩
abbrev S9x128 : Shape := ⟨2, ![9, 128]⟩
abbrev S1x1 : Shape := ⟨2, ![1, 1]⟩
abbrev S3x3x192x192 : Shape := ⟨4, ![3, 3, 192, 192]⟩
abbrev S9x192x192 : Shape := ⟨3, ![9, 192, 192]⟩
abbrev S192x9 : Shape := ⟨2, ![192, 9]⟩
abbrev S9x192 : Shape := ⟨2, ![9, 192]⟩
abbrev S192x192x1x3 : Shape := ⟨4, ![192, 192, 1, 3]⟩
abbrev S192x192x3 : Shape := ⟨3, ![192, 192, 3]⟩
abbrev S3x192x192 : Shape := ⟨3, ![3, 192, 192]⟩
abbrev S192x1 : Shape := ⟨2, ![192, 1]⟩
abbrev S_ : Shape := ⟨0, ![]⟩
abbrev S63 : Shape := ⟨1, ![63]⟩
abbrev S1x64 : Shape := ⟨2, ![1, 64]⟩
abbrev S8x64x16384 : Shape := ⟨3, ![8, 64, 16384]⟩
abbrev S1x192x4096 : Shape := ⟨3, ![1, 192, 4096]⟩
abbrev S1x64x4096 : Shape := ⟨3, ![1, 64, 4096]⟩
abbrev S192x4096 : Shape := ⟨2, ![192, 4096]⟩
abbrev S64x4096 : Shape := ⟨2, ![64, 4096]⟩
abbrev S8x64x4096 : Shape := ⟨3, ![8, 64, 4096]⟩
abbrev S8x64x64 : Shape := ⟨3, ![8, 64, 64]⟩
abbrev S1x48x16384 : Shape := ⟨3, ![1, 48, 16384]⟩
abbrev S1x64x16384 : Shape := ⟨3, ![1, 64, 16384]⟩
abbrev S1x64x64 : Shape := ⟨3, ![1, 64, 64]⟩
abbrev S1x48x64x64 : Shape := ⟨4, ![1, 48, 64, 64]⟩
abbrev S48x16384 : Shape := ⟨2, ![48, 16384]⟩
abbrev S48x128x128 : Shape := ⟨3, ![48, 128, 128]⟩
abbrev S48x64x2x128 : Shape := ⟨4, ![48, 64, 2, 128]⟩
abbrev S48x64x128 : Shape := ⟨3, ![48, 64, 128]⟩
abbrev S3072x128 : Shape := ⟨2, ![3072, 128]⟩
abbrev S3072x64 : Shape := ⟨2, ![3072, 64]⟩
abbrev S48x64x64 : Shape := ⟨3, ![48, 64, 64]⟩
abbrev S64x16384 : Shape := ⟨2, ![64, 16384]⟩
abbrev S64x128x128 : Shape := ⟨3, ![64, 128, 128]⟩
abbrev S8192x128 : Shape := ⟨2, ![8192, 128]⟩
abbrev S8192x64 : Shape := ⟨2, ![8192, 64]⟩
abbrev S64x128x64 : Shape := ⟨3, ![64, 128, 64]⟩
abbrev S1x1x64 : Shape := ⟨3, ![1, 1, 64]⟩
abbrev S64x64x128 : Shape := ⟨3, ![64, 64, 128]⟩
abbrev S4096x128 : Shape := ⟨2, ![4096, 128]⟩
abbrev S4096x64 : Shape := ⟨2, ![4096, 64]⟩
abbrev S64x64x64 : Shape := ⟨3, ![64, 64, 64]⟩
abbrev S128x4096 : Shape := ⟨2, ![128, 4096]⟩
abbrev S9x4096 : Shape := ⟨2, ![9, 4096]⟩
abbrev S9x64x64 : Shape := ⟨3, ![9, 64, 64]⟩
abbrev S64x64 : Shape := ⟨2, ![64, 64]⟩
abbrev S65x64 : Shape := ⟨2, ![65, 64]⟩
abbrev S66x64 : Shape := ⟨2, ![66, 64]⟩
abbrev S66x1 : Shape := ⟨2, ![66, 1]⟩
abbrev S66x65 : Shape := ⟨2, ![66, 65]⟩
abbrev S66x66 : Shape := ⟨2, ![66, 66]⟩
abbrev S8x192x2 : Shape := ⟨3, ![8, 192, 2]⟩
abbrev S1x192x2 : Shape := ⟨3, ![1, 192, 2]⟩
abbrev S8x8 : Shape := ⟨2, ![8, 8]⟩
abbrev S192x64x64 : Shape := ⟨3, ![192, 64, 64]⟩
abbrev S192x1x64 : Shape := ⟨3, ![192, 1, 64]⟩
abbrev S192x65x64 : Shape := ⟨3, ![192, 65, 64]⟩
abbrev S192x66x64 : Shape := ⟨3, ![192, 66, 64]⟩
abbrev S192x66x1 : Shape := ⟨3, ![192, 66, 1]⟩
abbrev S192x66x65 : Shape := ⟨3, ![192, 66, 65]⟩
abbrev S192x66x66 : Shape := ⟨3, ![192, 66, 66]⟩
abbrev S1x192x192 : Shape := ⟨3, ![1, 192, 192]⟩
abbrev S192x192 : Shape := ⟨2, ![192, 192]⟩
abbrev S192x2 : Shape := ⟨2, ![192, 2]⟩
abbrev S8x192x1 : Shape := ⟨3, ![8, 192, 1]⟩
abbrev S1x192x1 : Shape := ⟨3, ![1, 192, 1]⟩
abbrev S8x1x64x64 : Shape := ⟨4, ![8, 1, 64, 64]⟩
abbrev S1x1x64x64 : Shape := ⟨4, ![1, 1, 64, 64]⟩
abbrev S8x4096 : Shape := ⟨2, ![8, 4096]⟩
abbrev S8x128 : Shape := ⟨2, ![8, 128]⟩
abbrev S8 : Shape := ⟨1, ![8]⟩
abbrev S8x1 : Shape := ⟨2, ![8, 1]⟩
abbrev S8x1x128 : Shape := ⟨3, ![8, 1, 128]⟩
abbrev S8x192x128 : Shape := ⟨3, ![8, 192, 128]⟩
abbrev S8x192x192 : Shape := ⟨3, ![8, 192, 192]⟩
abbrev S1x192x64x64 : Shape := ⟨4, ![1, 192, 64, 64]⟩
abbrev S1x1x128 : Shape := ⟨3, ![1, 1, 128]⟩
abbrev S1x192x128 : Shape := ⟨3, ![1, 192, 128]⟩
abbrev S1x128 : Shape := ⟨2, ![1, 128]⟩
abbrev S192x128 : Shape := ⟨2, ![192, 128]⟩
abbrev S192x129 : Shape := ⟨2, ![192, 129]⟩
abbrev S192x130 : Shape := ⟨2, ![192, 130]⟩
abbrev S8x128x192 : Shape := ⟨3, ![8, 128, 192]⟩
abbrev S1x192x2048 : Shape := ⟨3, ![1, 192, 2048]⟩
abbrev S2048x128 : Shape := ⟨2, ![2048, 128]⟩
abbrev S192x2048 : Shape := ⟨2, ![192, 2048]⟩
abbrev S1x2048 : Shape := ⟨2, ![1, 2048]⟩

abbrev nBuf : Space → Nat
  | .hbm => 136
  | .vmem => 96
  | .smem => 0
  | _ => 0

abbrev hbmTy0_0 (i : Nat) : BufTy := match i % 128 with
  | 0 => ⟨S8x192x64x64, .f32⟩
  | 1 => ⟨S8x192x128x128, .f32⟩
  | 2 => ⟨S64x192x1x1, .f32⟩
  | 3 => ⟨S64, .f32⟩
  | 4 => ⟨S64x192x1x1, .f32⟩
  | 5 => ⟨S64, .f32⟩
  | 6 => ⟨S1x128x3x3, .f32⟩
  | 7 => ⟨S1, .f32⟩
  | 8 => ⟨S192x192x3x3, .f32⟩
  | 9 => ⟨S192, .f32⟩
  | 10 => ⟨S192, .f32⟩
  | 11 => ⟨S1x192x3x3, .f32⟩
  | 12 => ⟨S192x192x3x3, .f32⟩
  | 13 => ⟨S192, .f32⟩
  | 14 => ⟨S128x64, .f32⟩
  | 15 => ⟨S128x64, .f32⟩
  | 16 => ⟨S8x64, .f32⟩
  | 17 => ⟨S64x8, .f32⟩
  | 18 => ⟨S64x8, .f32⟩
  | 19 => ⟨S128x64, .f32⟩
  | 20 => ⟨S8x192x4096, .f32⟩
  | 21 => ⟨S8x192x16384, .f32⟩
  | 22 => ⟨S64x192, .f32⟩
  | 23 => ⟨S64x192, .f32⟩
  | 24 => ⟨S64x1, .f32⟩
  | 25 => ⟨S64x1, .f32⟩
  | 26 => ⟨S128x9, .f32⟩
  | 27 => ⟨S9x128, .f32⟩
  | 28 => ⟨S1x1, .f32⟩
  | 29 => ⟨S3x3x192x192, .f32⟩
  | 30 => ⟨S9x192x192, .f32⟩
  | 31 => ⟨S192x9, .f32⟩
  | 32 => ⟨S9x192, .f32⟩
  | 33 => ⟨S192x192x1x3, .f32⟩
  | 34 => ⟨S192x192x3, .f32⟩
  | 35 => ⟨S3x192x192, .f32⟩
  | 36 => ⟨S192x1, .f32⟩
  | 37 => ⟨S192x1, .f32⟩
  | 38 => ⟨S192x1, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S63, .f32⟩
  | 47 => ⟨S_, .f32⟩
  | 48 => ⟨S63, .f32⟩
  | 49 => ⟨S63, .f32⟩
  | 50 => ⟨S1, .f32⟩
  | 51 => ⟨S_, .f32⟩
  | 52 => ⟨S63, .f32⟩
  | 53 => ⟨S63, .f32⟩
  | 54 => ⟨S63, .f32⟩
  | 55 => ⟨S63, .f32⟩
  | 56 => ⟨S1, .f32⟩
  | 57 => ⟨S63, .f32⟩
  | 58 => ⟨S63, .f32⟩
  | 59 => ⟨S63, .f32⟩
  | 60 => ⟨S1, .f32⟩
  | 61 => ⟨S64, .f32⟩
  | 62 => ⟨S64, .f32⟩
  | 63 => ⟨S64, .f32⟩
  | 64 => ⟨S1x64, .f32⟩
  | 65 => ⟨S_, .f32⟩
  | 66 => ⟨S1x64, .f32⟩
  | 67 => ⟨S1x64, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S63, .f32⟩
  | 76 => ⟨S_, .f32⟩
  | 77 => ⟨S63, .f32⟩
  | 78 => ⟨S63, .f32⟩
  | 79 => ⟨S1, .f32⟩
  | 80 => ⟨S_, .f32⟩
  | 81 => ⟨S63, .f32⟩
  | 82 => ⟨S63, .f32⟩
  | 83 => ⟨S63, .f32⟩
  | 84 => ⟨S63, .f32⟩
  | 85 => ⟨S1, .f32⟩
  | 86 => ⟨S63, .f32⟩
  | 87 => ⟨S63, .f32⟩
  | 88 => ⟨S63, .f32⟩
  | 89 => ⟨S1, .f32⟩
  | 90 => ⟨S64, .f32⟩
  | 91 => ⟨S64, .f32⟩
  | 92 => ⟨S64, .f32⟩
  | 93 => ⟨S64x1, .f32⟩
  | 94 => ⟨S_, .f32⟩
  | 95 => ⟨S64x1, .f32⟩
  | 96 => ⟨S64x1, .f32⟩
  | 97 => ⟨S1x64, .f32⟩
  | 98 => ⟨S_, .f32⟩
  | 99 => ⟨S1x64, .f32⟩
  | 100 => ⟨S1x64, .f32⟩
  | 101 => ⟨S8x64x16384, .f32⟩
  | 102 => ⟨S8x64x4096, .f32⟩
  | 103 => ⟨S8x64x64, .f32⟩
  | 104 => ⟨S8x192x64x64, .f32⟩
  | 105 => ⟨S8x64x64, .f32⟩
  | 106 => ⟨S8x64x64, .f32⟩
  | 107 => ⟨S_, .f32⟩
  | 108 => ⟨S8x64x64, .f32⟩
  | 109 => ⟨S8x64x64, .f32⟩
  | 110 => ⟨S_, .f32⟩
  | 111 => ⟨S8x64x64, .f32⟩
  | 112 => ⟨S8x64x64, .f32⟩
  | 113 => ⟨S64x8, .f32⟩
  | 114 => ⟨S8x64, .f32⟩
  | 115 => ⟨S8x64, .f32⟩
  | 116 => ⟨S8x192x4096, .f32⟩
  | 117 => ⟨S8x192x2, .f32⟩
  | 118 => ⟨S8x192x1, .f32⟩
  | 119 => ⟨S8x1x64x64, .f32⟩
  | 120 => ⟨S8x4096, .f32⟩
  | 121 => ⟨S8x128, .i32⟩
  | 122 => ⟨S8x1x128, .i32⟩
  | 123 => ⟨S8x192x128, .f32⟩
  | 124 => ⟨S8x192x128, .f32⟩
  | 125 => ⟨S8x192x192, .f32⟩
  | 126 => ⟨S8x192x128, .f32⟩
  | 127 => ⟨S8x128x192, .f32⟩
  | _ => ⟨S8x192x64x64, .f32⟩

abbrev hbmTy0_1 (i : Nat) : BufTy := match i % 128 with
  | 0 => ⟨S8x192x128, .f32⟩
  | 1 => ⟨S8x128x192, .f32⟩
  | 2 => ⟨S8x192x128, .f32⟩
  | 3 => ⟨S8x192x128, .f32⟩
  | 4 => ⟨S8x128x192, .f32⟩
  | 5 => ⟨S8x192x128, .f32⟩
  | 6 => ⟨S8x192x16384, .f32⟩
  | 7 => ⟨S8x192x128x128, .f32⟩
  | _ => ⟨S8x192x64x64, .f32⟩

abbrev hbmTy (i : Nat) : BufTy := match i / 128 with
  | 0 => hbmTy0_0 i
  | 1 => hbmTy0_1 i
  | _ => ⟨S8x192x64x64, .f32⟩

abbrev bufTy : (tb : Table) → Fin (tcTables nBuf tb) → BufTy
  | .hbm, ⟨i, _⟩ => hbmTy i
  | .local _ .vmem, ⟨0, _⟩ => ⟨S1x192x4096, .f32⟩
  | .local _ .vmem, ⟨1, _⟩ => ⟨S1x192x4096, .f32⟩
  | .local _ .vmem, ⟨2, _⟩ => ⟨S64x192, .f32⟩
  | .local _ .vmem, ⟨3, _⟩ => ⟨S1x64x4096, .f32⟩
  | .local _ .vmem, ⟨4, _⟩ => ⟨S1x64x4096, .f32⟩
  | .local _ .vmem, ⟨5, _⟩ => ⟨S1x192x4096, .f32⟩
  | .local _ .vmem, ⟨6, _⟩ => ⟨S1x192x4096, .f32⟩
  | .local _ .vmem, ⟨7, _⟩ => ⟨S64x192, .f32⟩
  | .local _ .vmem, ⟨8, _⟩ => ⟨S1x64x4096, .f32⟩
  | .local _ .vmem, ⟨9, _⟩ => ⟨S1x64x4096, .f32⟩
  | .local _ .vmem, ⟨10, _⟩ => ⟨S1x48x16384, .f32⟩
  | .local _ .vmem, ⟨11, _⟩ => ⟨S1x48x16384, .f32⟩
  | .local _ .vmem, ⟨12, _⟩ => ⟨S1x64x16384, .f32⟩
  | .local _ .vmem, ⟨13, _⟩ => ⟨S1x64x16384, .f32⟩
  | .local _ .vmem, ⟨14, _⟩ => ⟨S1x64x4096, .f32⟩
  | .local _ .vmem, ⟨15, _⟩ => ⟨S1x64x4096, .f32⟩
  | .local _ .vmem, ⟨16, _⟩ => ⟨S9x128, .f32⟩
  | .local _ .vmem, ⟨17, _⟩ => ⟨S1x1, .f32⟩
  | .local _ .vmem, ⟨18, _⟩ => ⟨S128x64, .f32⟩
  | .local _ .vmem, ⟨19, _⟩ => ⟨S128x64, .f32⟩
  | .local _ .vmem, ⟨20, _⟩ => ⟨S1x64, .f32⟩
  | .local _ .vmem, ⟨21, _⟩ => ⟨S1x64, .f32⟩
  | .local _ .vmem, ⟨22, _⟩ => ⟨S128x64, .f32⟩
  | .local _ .vmem, ⟨23, _⟩ => ⟨S1x64x64, .f32⟩
  | .local _ .vmem, ⟨24, _⟩ => ⟨S1x64x64, .f32⟩
  | .local _ .vmem, ⟨25, _⟩ => ⟨S1x48x64x64, .f32⟩
  | .local _ .vmem, ⟨26, _⟩ => ⟨S1x48x64x64, .f32⟩
  | .local _ .vmem, ⟨27, _⟩ => ⟨S1x192x4096, .f32⟩
  | .local _ .vmem, ⟨28, _⟩ => ⟨S1x192x4096, .f32⟩
  | .local _ .vmem, ⟨29, _⟩ => ⟨S1x64x64, .f32⟩
  | .local _ .vmem, ⟨30, _⟩ => ⟨S1x64x64, .f32⟩
  | .local _ .vmem, ⟨31, _⟩ => ⟨S9x192x192, .f32⟩
  | .local _ .vmem, ⟨32, _⟩ => ⟨S8x64, .f32⟩
  | .local _ .vmem, ⟨33, _⟩ => ⟨S64x8, .f32⟩
  | .local _ .vmem, ⟨34, _⟩ => ⟨S64x8, .f32⟩
  | .local _ .vmem, ⟨35, _⟩ => ⟨S64x8, .f32⟩
  | .local _ .vmem, ⟨36, _⟩ => ⟨S8x64, .f32⟩
  | .local _ .vmem, ⟨37, _⟩ => ⟨S8x64, .f32⟩
  | .local _ .vmem, ⟨38, _⟩ => ⟨S64x1, .f32⟩
  | .local _ .vmem, ⟨39, _⟩ => ⟨S64x1, .f32⟩
  | .local _ .vmem, ⟨40, _⟩ => ⟨S1x64, .f32⟩
  | .local _ .vmem, ⟨41, _⟩ => ⟨S1x64, .f32⟩
  | .local _ .vmem, ⟨42, _⟩ => ⟨S1x192x4096, .f32⟩
  | .local _ .vmem, ⟨43, _⟩ => ⟨S1x192x4096, .f32⟩
  | .local _ .vmem, ⟨44, _⟩ => ⟨S1x192x2, .f32⟩
  | .local _ .vmem, ⟨45, _⟩ => ⟨S1x192x2, .f32⟩
  | .local _ .vmem, ⟨46, _⟩ => ⟨S1x192x4096, .f32⟩
  | .local _ .vmem, ⟨47, _⟩ => ⟨S1x192x4096, .f32⟩
  | .local _ .vmem, ⟨48, _⟩ => ⟨S8x192x2, .f32⟩
  | .local _ .vmem, ⟨49, _⟩ => ⟨S1x192x1, .f32⟩
  | .local _ .vmem, ⟨50, _⟩ => ⟨S1x192x1, .f32⟩
  | .local _ .vmem, ⟨51, _⟩ => ⟨S1x192x4096, .f32⟩
  | .local _ .vmem, ⟨52, _⟩ => ⟨S1x192x4096, .f32⟩
  | .local _ .vmem, ⟨53, _⟩ => ⟨S8x192x2, .f32⟩
  | .local _ .vmem, ⟨54, _⟩ => ⟨S8x192x1, .f32⟩
  | .local _ .vmem, ⟨55, _⟩ => ⟨S192x1, .f32⟩
  | .local _ .vmem, ⟨56, _⟩ => ⟨S192x1, .f32⟩
  | .local _ .vmem, ⟨57, _⟩ => ⟨S9x192, .f32⟩
  | .local _ .vmem, ⟨58, _⟩ => ⟨S1x1x64x64, .f32⟩
  | .local _ .vmem, ⟨59, _⟩ => ⟨S1x1x64x64, .f32⟩
  | .local _ .vmem, ⟨60, _⟩ => ⟨S8x4096, .f32⟩
  | .local _ .vmem, ⟨61, _⟩ => ⟨S8x128, .i32⟩
  | .local _ .vmem, ⟨62, _⟩ => ⟨S1x192x4096, .f32⟩
  | .local _ .vmem, ⟨63, _⟩ => ⟨S1x192x4096, .f32⟩
  | .local _ .vmem, ⟨64, _⟩ => ⟨S1x192x64x64, .f32⟩
  | .local _ .vmem, ⟨65, _⟩ => ⟨S1x192x64x64, .f32⟩
  | .local _ .vmem, ⟨66, _⟩ => ⟨S1x1x128, .i32⟩
  | .local _ .vmem, ⟨67, _⟩ => ⟨S1x1x128, .i32⟩
  | .local _ .vmem, ⟨68, _⟩ => ⟨S3x192x192, .f32⟩
  | .local _ .vmem, ⟨69, _⟩ => ⟨S192x1, .f32⟩
  | .local _ .vmem, ⟨70, _⟩ => ⟨S1x192x128, .f32⟩
  | .local _ .vmem, ⟨71, _⟩ => ⟨S1x192x128, .f32⟩
  | .local _ .vmem, ⟨72, _⟩ => ⟨S1x192x128, .f32⟩
  | .local _ .vmem, ⟨73, _⟩ => ⟨S1x192x128, .f32⟩
  | .local _ .vmem, ⟨74, _⟩ => ⟨S1x192x192, .f32⟩
  | .local _ .vmem, ⟨75, _⟩ => ⟨S1x192x192, .f32⟩
  | .local _ .vmem, ⟨76, _⟩ => ⟨S1x192x128, .f32⟩
  | .local _ .vmem, ⟨77, _⟩ => ⟨S1x192x128, .f32⟩
  | .local _ .vmem, ⟨78, _⟩ => ⟨S1x192x192, .f32⟩
  | .local _ .vmem, ⟨79, _⟩ => ⟨S1x192x192, .f32⟩
  | .local _ .vmem, ⟨80, _⟩ => ⟨S1x192x128, .f32⟩
  | .local _ .vmem, ⟨81, _⟩ => ⟨S1x192x128, .f32⟩
  | .local _ .vmem, ⟨82, _⟩ => ⟨S1x192x128, .f32⟩
  | .local _ .vmem, ⟨83, _⟩ => ⟨S1x192x128, .f32⟩
  | .local _ .vmem, ⟨84, _⟩ => ⟨S1x192x128, .f32⟩
  | .local _ .vmem, ⟨85, _⟩ => ⟨S1x192x128, .f32⟩
  | .local _ .vmem, ⟨86, _⟩ => ⟨S1x192x2048, .f32⟩
  | .local _ .vmem, ⟨87, _⟩ => ⟨S1x192x2048, .f32⟩
  | .local _ .vmem, ⟨88, _⟩ => ⟨S1x192x128, .f32⟩
  | .local _ .vmem, ⟨89, _⟩ => ⟨S1x192x128, .f32⟩
  | .local _ .vmem, ⟨90, _⟩ => ⟨S1x192x128, .f32⟩
  | .local _ .vmem, ⟨91, _⟩ => ⟨S1x192x128, .f32⟩
  | .local _ .vmem, ⟨92, _⟩ => ⟨S1x1x128, .i32⟩
  | .local _ .vmem, ⟨93, _⟩ => ⟨S1x1x128, .i32⟩
  | .local _ .vmem, ⟨94, _⟩ => ⟨S1x192x2048, .f32⟩
  | .local _ .vmem, ⟨95, _⟩ => ⟨S1x192x2048, .f32⟩
  | _, _ => ⟨S8x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_cst_2 : Ref sig .tc := ⟨.hbm, 17, rfl⟩
abbrev main_cst_3 : Ref sig .tc := ⟨.hbm, 18, rfl⟩
abbrev main_cst_4 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_cst_0 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_7 : Ref sig .tc := ⟨.hbm, 65, rfl⟩
abbrev main_v23 : Ref sig .tc := ⟨.hbm, 66, rfl⟩
abbrev main_v24 : Ref sig .tc := ⟨.hbm, 67, rfl⟩
abbrev main_cst_8 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_cst : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_v15 : Ref sig .tc := ⟨.hbm, 88, rfl⟩
abbrev main_call1_v16 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst_10 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_cst_11 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36_0 : Ref sig .tc := ⟨.hbm, 103, rfl⟩
abbrev main_v36_1 : Ref sig .tc := ⟨.hbm, 104, rfl⟩
abbrev main_v37 : Ref sig .tc := ⟨.hbm, 105, rfl⟩
abbrev main_v38 : Ref sig .tc := ⟨.hbm, 106, rfl⟩
abbrev main_cst_12 : Ref sig .tc := ⟨.hbm, 107, rfl⟩
abbrev main_v39 : Ref sig .tc := ⟨.hbm, 108, rfl⟩
abbrev main_v40 : Ref sig .tc := ⟨.hbm, 109, rfl⟩
abbrev main_cst_13 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46_0 : Ref sig .tc := ⟨.hbm, 116, rfl⟩
abbrev main_v46_1 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52_0 : Ref sig .tc := ⟨.hbm, 123, rfl⟩
abbrev main_v52_1 : Ref sig .tc := ⟨.hbm, 124, rfl⟩
abbrev main_v52_2 : Ref sig .tc := ⟨.hbm, 125, rfl⟩
abbrev main_v52_3 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg10_1 : Ref sig .tc := ⟨.vmem, 24, rfl⟩
abbrev cc2_stg11_0 : Ref sig .tc := ⟨.vmem, 25, rfl⟩
abbrev cc2_stg11_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg13_1 : Ref sig .tc := ⟨.vmem, 43, rfl⟩
abbrev cc3_stg14_0 : Ref sig .tc := ⟨.vmem, 44, rfl⟩
abbrev cc3_stg14_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg2_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg1_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc7_stg6_0 : Ref sig .tc := ⟨.vmem, 72, rfl⟩
abbrev cc7_stg6_1 : Ref sig .tc := ⟨.vmem, 73, rfl⟩
abbrev cc7_stg7_0 : Ref sig .tc := ⟨.vmem, 74, rfl⟩
abbrev cc7_stg7_1 : Ref sig .tc := ⟨.vmem, 75, rfl⟩
abbrev cc7_stg8_0 : Ref sig .tc := ⟨.vmem, 76, rfl⟩
abbrev cc7_stg8_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg3_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg2_1 : Ref sig .tc := ⟨.vmem, 91, rfl⟩
abbrev cc9_stg3_0 : Ref sig .tc := ⟨.vmem, 92, rfl⟩
abbrev cc9_stg3_1 : Ref sig .tc := ⟨.vmem, 93, rfl⟩
abbrev cc9_stg4_0 : Ref sig .tc := ⟨.vmem, 94, rfl⟩
abbrev cc9_stg4_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem10_1 : DmaSem sig := 24
abbrev cc2_sem11_0 : DmaSem sig := 25
abbrev cc2_sem11_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem13_1 : DmaSem sig := 43
abbrev cc3_sem14_0 : DmaSem sig := 44
abbrev cc3_sem14_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem2_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem1_0 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem4_0 : DmaSem sig := 69
abbrev cc7_sem5_0 : DmaSem sig := 70
abbrev cc7_sem5_1 : DmaSem sig := 71
abbrev cc7_sem6_0 : DmaSem sig := 72
abbrev cc7_sem6_1 : DmaSem sig := 73
abbrev cc7_sem7_0 : DmaSem sig := 74
abbrev cc7_sem7_1 : DmaSem sig := 75
abbrev cc7_sem8_0 : DmaSem sig := 76
abbrev cc7_sem8_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem3_1 : DmaSem sig := 85
abbrev cc9_sem0_0 : DmaSem sig := 86
abbrev cc9_sem0_1 : DmaSem sig := 87
abbrev cc9_sem1_0 : DmaSem sig := 88
abbrev cc9_sem1_1 : DmaSem sig := 89
abbrev cc9_sem2_0 : DmaSem sig := 90
abbrev cc9_sem2_1 : DmaSem sig := 91
abbrev cc9_sem3_0 : DmaSem sig := 92
abbrev cc9_sem3_1 : DmaSem sig := 93
abbrev cc9_sem4_0 : DmaSem sig := 94
abbrev cc9_sem4_1 : DmaSem sig := 95

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x192x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond1 (i : grid2.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32 : BitVec 32 := 0#32
  let v14 : BitVec 1 := Scalar.cmpi .ne v13 c0_i32
  v14

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x48x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x64x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S9x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x64x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S1x48x64x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_14 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x192x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x64x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S9x192x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S8x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S1x192x4096 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S1x192x2 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x192x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x192x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x192x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x192x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x192x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S8x192x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S192x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S192x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S9x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1x1x64x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := .none

@[reducible] def k6_t1_loop : Scf.Loop 32 :=
  let c0_i32_1 : BitVec 32 := 0#32
  let c128_i32 : BitVec 32 := 128#32
  let v5 : BitVec 32 := Scalar.addi c0_i32_1 c128_i32
  let c1_i32 : BitVec 32 := 1#32
  ⟨c0_i32_1, v5, c1_i32⟩
abbrev stage6_0 : Fin 1 → Memref sig .tc .vmem S8x4096 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S8x128 .i32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_8 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x192x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x192x64x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x128 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S3x192x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S192x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x192x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x192x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1x192x192 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x192x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![8], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x192x192 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x192x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x192x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x192x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![8, 8], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_4 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage9_0 : Fin 2 → Memref sig .tc .vmem S1x192x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x192x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1x192x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1x1x128 .i32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 2 → Memref sig .tc .vmem S1x192x2048 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]
-- ==== ReferenceIdeal.lean ====
abbrev S8x192x64x64 : Shape := ⟨4, ![8, 192, 64, 64]⟩
abbrev S8x192x128x128 : Shape := ⟨4, ![8, 192, 128, 128]⟩
abbrev S64x192x1x1 : Shape := ⟨4, ![64, 192, 1, 1]⟩
abbrev S64 : Shape := ⟨1, ![64]⟩
abbrev S1x128x3x3 : Shape := ⟨4, ![1, 128, 3, 3]⟩
abbrev S1 : Shape := ⟨1, ![1]⟩
abbrev S192x192x3x3 : Shape := ⟨4, ![192, 192, 3, 3]⟩
abbrev S192 : Shape := ⟨1, ![192]⟩
abbrev S1x192x3x3 : Shape := ⟨4, ![1, 192, 3, 3]⟩
abbrev S_ : Shape := ⟨0, ![]⟩
abbrev S8x64x64x64 : Shape := ⟨4, ![8, 64, 64, 64]⟩
abbrev S64x192 : Shape := ⟨2, ![64, 192]⟩
abbrev S1x64x1x1 : Shape := ⟨4, ![1, 64, 1, 1]⟩
abbrev S8x64x128x128 : Shape := ⟨4, ![8, 64, 128, 128]⟩
abbrev S8x128x128x64 : Shape := ⟨4, ![8, 128, 128, 64]⟩
abbrev S63 : Shape := ⟨1, ![63]⟩
abbrev S64x1 : Shape := ⟨2, ![64, 1]⟩
abbrev S8x64x64x128 : Shape := ⟨4, ![8, 64, 64, 128]⟩
abbrev S1x1x64x1 : Shape := ⟨4, ![1, 1, 64, 1]⟩
abbrev S1x1x1x64 : Shape := ⟨4, ![1, 1, 1, 64]⟩
abbrev S8x128x64x64 : Shape := ⟨4, ![8, 128, 64, 64]⟩
abbrev S8x128x66x66 : Shape := ⟨4, ![8, 128, 66, 66]⟩
abbrev S8x1x64x64 : Shape := ⟨4, ![8, 1, 64, 64]⟩
abbrev S1x128x1x1 : Shape := ⟨4, ![1, 128, 1, 1]⟩
abbrev S1x128 : Shape := ⟨2, ![1, 128]⟩
abbrev S8x64x64x1 : Shape := ⟨4, ![8, 64, 64, 1]⟩
abbrev S1x1x1x1 : Shape := ⟨4, ![1, 1, 1, 1]⟩
abbrev S8x1x8x8x8x8 : Shape := ⟨6, ![8, 1, 8, 8, 8, 8]⟩
abbrev S8x1x8x8 : Shape := ⟨4, ![8, 1, 8, 8]⟩
abbrev S8x1x64x8 : Shape := ⟨4, ![8, 1, 64, 8]⟩
abbrev S8x192x66x66 : Shape := ⟨4, ![8, 192, 66, 66]⟩
abbrev S192x192x1x1 : Shape := ⟨4, ![192, 192, 1, 1]⟩
abbrev S192x192 : Shape := ⟨2, ![192, 192]⟩
abbrev S8x64x64x192 : Shape := ⟨4, ![8, 64, 64, 192]⟩
abbrev S1x192x1x1 : Shape := ⟨4, ![1, 192, 1, 1]⟩
abbrev S1x192 : Shape := ⟨2, ![1, 192]⟩
abbrev S8x4096 : Shape := ⟨2, ![8, 4096]⟩
abbrev S8x128 : Shape := ⟨2, ![8, 128]⟩
abbrev S8x128x1 : Shape := ⟨3, ![8, 128, 1]⟩
abbrev S8x128x2 : Shape := ⟨3, ![8, 128, 2]⟩
abbrev S8x1x128 : Shape := ⟨3, ![8, 1, 128]⟩
abbrev S8x192x128 : Shape := ⟨3, ![8, 192, 128]⟩
abbrev S8x192x4096 : Shape := ⟨3, ![8, 192, 4096]⟩
abbrev S8x192x128x1 : Shape := ⟨4, ![8, 192, 128, 1]⟩
abbrev S8x192x16384 : Shape := ⟨3, ![8, 192, 16384]⟩
abbrev S8x192x1x128 : Shape := ⟨4, ![8, 192, 1, 128]⟩
abbrev S8x192x3x130 : Shape := ⟨4, ![8, 192, 3, 130]⟩
abbrev S8x1x128x192 : Shape := ⟨4, ![8, 1, 128, 192]⟩
abbrev S8x128x192 : Shape := ⟨3, ![8, 128, 192]⟩
abbrev S8x192x192 : Shape := ⟨3, ![8, 192, 192]⟩
abbrev S8x192 : Shape := ⟨2, ![8, 192]⟩
abbrev S8x192x1 : Shape := ⟨3, ![8, 192, 1]⟩
abbrev S8 : Shape := ⟨1, ![8]⟩
abbrev S8x1x1 : Shape := ⟨3, ![8, 1, 1]⟩
abbrev S1x192x1 : Shape := ⟨3, ![1, 192, 1]⟩
abbrev S8x192x128x3 : Shape := ⟨4, ![8, 192, 128, 3]⟩

abbrev nBuf : Space → Nat
  | .hbm => 1452
  | .vmem => 0
  | .smem => 0
  | _ => 0

abbrev hbmTy0_0 (i : Nat) : BufTy := match i % 128 with
  | 0 => ⟨S8x192x64x64, .f32⟩
  | 1 => ⟨S8x192x128x128, .f32⟩
  | 2 => ⟨S64x192x1x1, .f32⟩
  | 3 => ⟨S64, .f32⟩
  | 4 => ⟨S64x192x1x1, .f32⟩
  | 5 => ⟨S64, .f32⟩
  | 6 => ⟨S1x128x3x3, .f32⟩
  | 7 => ⟨S1, .f32⟩
  | 8 => ⟨S192x192x3x3, .f32⟩
  | 9 => ⟨S192, .f32⟩
  | 10 => ⟨S192, .f32⟩
  | 11 => ⟨S1x192x3x3, .f32⟩
  | 12 => ⟨S192x192x3x3, .f32⟩
  | 13 => ⟨S192, .f32⟩
  | 14 => ⟨S_, .i32⟩
  | 15 => ⟨S_, .f32⟩
  | 16 => ⟨S8x192x64x64, .f32⟩
  | 17 => ⟨S_, .f32⟩
  | 18 => ⟨S8x64x64x64, .f32⟩
  | 19 => ⟨S64x192, .f32⟩
  | 20 => ⟨S8x64x64x64, .f32⟩
  | 21 => ⟨S8x64x64x64, .f32⟩
  | 22 => ⟨S8x64x64x64, .f32⟩
  | 23 => ⟨S1x64x1x1, .f32⟩
  | 24 => ⟨S8x64x64x64, .f32⟩
  | 25 => ⟨S8x64x64x64, .f32⟩
  | 26 => ⟨S_, .i32⟩
  | 27 => ⟨S_, .f32⟩
  | 28 => ⟨S8x192x128x128, .f32⟩
  | 29 => ⟨S_, .f32⟩
  | 30 => ⟨S8x64x128x128, .f32⟩
  | 31 => ⟨S64x192, .f32⟩
  | 32 => ⟨S8x128x128x64, .f32⟩
  | 33 => ⟨S8x64x128x128, .f32⟩
  | 34 => ⟨S8x64x128x128, .f32⟩
  | 35 => ⟨S1x64x1x1, .f32⟩
  | 36 => ⟨S8x64x128x128, .f32⟩
  | 37 => ⟨S8x64x128x128, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S63, .f32⟩
  | 46 => ⟨S_, .f32⟩
  | 47 => ⟨S63, .f32⟩
  | 48 => ⟨S63, .f32⟩
  | 49 => ⟨S1, .f32⟩
  | 50 => ⟨S_, .f32⟩
  | 51 => ⟨S63, .f32⟩
  | 52 => ⟨S63, .f32⟩
  | 53 => ⟨S63, .f32⟩
  | 54 => ⟨S63, .f32⟩
  | 55 => ⟨S1, .f32⟩
  | 56 => ⟨S63, .f32⟩
  | 57 => ⟨S63, .f32⟩
  | 58 => ⟨S63, .f32⟩
  | 59 => ⟨S1, .f32⟩
  | 60 => ⟨S64, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S63, .f32⟩
  | 69 => ⟨S_, .f32⟩
  | 70 => ⟨S63, .f32⟩
  | 71 => ⟨S63, .f32⟩
  | 72 => ⟨S1, .f32⟩
  | 73 => ⟨S_, .f32⟩
  | 74 => ⟨S63, .f32⟩
  | 75 => ⟨S63, .f32⟩
  | 76 => ⟨S63, .f32⟩
  | 77 => ⟨S63, .f32⟩
  | 78 => ⟨S1, .f32⟩
  | 79 => ⟨S63, .f32⟩
  | 80 => ⟨S63, .f32⟩
  | 81 => ⟨S63, .f32⟩
  | 82 => ⟨S1, .f32⟩
  | 83 => ⟨S64, .f32⟩
  | 84 => ⟨S64, .f32⟩
  | 85 => ⟨S64, .i32⟩
  | 86 => ⟨S_, .i32⟩
  | 87 => ⟨S64, .i32⟩
  | 88 => ⟨S64, .i32⟩
  | 89 => ⟨S_, .i32⟩
  | 90 => ⟨S64, .i32⟩
  | 91 => ⟨S64, .i32⟩
  | 92 => ⟨S64, .f32⟩
  | 93 => ⟨S64, .f32⟩
  | 94 => ⟨S64, .f32⟩
  | 95 => ⟨S64, .i32⟩
  | 96 => ⟨S_, .i32⟩
  | 97 => ⟨S64, .i32⟩
  | 98 => ⟨S64, .i32⟩
  | 99 => ⟨S_, .i32⟩
  | 100 => ⟨S64, .i32⟩
  | 101 => ⟨S64, .i32⟩
  | 102 => ⟨S64, .f32⟩
  | 103 => ⟨S64, .f32⟩
  | 104 => ⟨S_, .i32⟩
  | 105 => ⟨S64, .i32⟩
  | 106 => ⟨S64, .i1⟩
  | 107 => ⟨S_, .i32⟩
  | 108 => ⟨S64, .i32⟩
  | 109 => ⟨S64, .i32⟩
  | 110 => ⟨S64, .i32⟩
  | 111 => ⟨S64x1, .i32⟩
  | 112 => ⟨S8x64x64x128, .f32⟩
  | 113 => ⟨S_, .i32⟩
  | 114 => ⟨S64, .i32⟩
  | 115 => ⟨S64, .i1⟩
  | 116 => ⟨S_, .i32⟩
  | 117 => ⟨S64, .i32⟩
  | 118 => ⟨S64, .i32⟩
  | 119 => ⟨S64, .i32⟩
  | 120 => ⟨S64x1, .i32⟩
  | 121 => ⟨S8x64x64x128, .f32⟩
  | 122 => ⟨S_, .f32⟩
  | 123 => ⟨S64, .f32⟩
  | 124 => ⟨S64, .f32⟩
  | 125 => ⟨S1x1x64x1, .f32⟩
  | 126 => ⟨S8x64x64x128, .f32⟩
  | 127 => ⟨S8x64x64x128, .f32⟩
  | _ => ⟨S8x192x64x64, .f32⟩

abbrev hbmTy0_1 (i : Nat) : BufTy := match i % 128 with
  | 0 => ⟨S1x1x64x1, .f32⟩
  | 1 => ⟨S8x64x64x128, .f32⟩
  | 2 => ⟨S8x64x64x128, .f32⟩
  | 3 => ⟨S8x64x64x128, .f32⟩
  | 4 => ⟨S_, .i32⟩
  | 5 => ⟨S64, .i32⟩
  | 6 => ⟨S64, .i1⟩
  | 7 => ⟨S_, .i32⟩
  | 8 => ⟨S64, .i32⟩
  | 9 => ⟨S64, .i32⟩
  | 10 => ⟨S64, .i32⟩
  | 11 => ⟨S64x1, .i32⟩
  | 12 => ⟨S8x64x64x64, .f32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S8x64x64x64, .f32⟩
  | 22 => ⟨S_, .f32⟩
  | 23 => ⟨S64, .f32⟩
  | 24 => ⟨S64, .f32⟩
  | 25 => ⟨S1x1x1x64, .f32⟩
  | 26 => ⟨S8x64x64x64, .f32⟩
  | 27 => ⟨S8x64x64x64, .f32⟩
  | 28 => ⟨S1x1x1x64, .f32⟩
  | 29 => ⟨S8x64x64x64, .f32⟩
  | 30 => ⟨S8x64x64x64, .f32⟩
  | 31 => ⟨S8x64x64x64, .f32⟩
  | 32 => ⟨S8x128x64x64, .f32⟩
  | 33 => ⟨S_, .i32⟩
  | 34 => ⟨S_, .f32⟩
  | 35 => ⟨S8x128x66x66, .f32⟩
  | 36 => ⟨S_, .f32⟩
  | 37 => ⟨S8x1x64x64, .f32⟩
  | 38 => ⟨S1x128x1x1, .f32⟩
  | 39 => ⟨S1x128, .f32⟩
  | 40 => ⟨S8x128x64x64, .f32⟩
  | 41 => ⟨S8x64x64x1, .f32⟩
  | 42 => ⟨S8x1x64x64, .f32⟩
  | 43 => ⟨S8x1x64x64, .f32⟩
  | 44 => ⟨S1x128x1x1, .f32⟩
  | 45 => ⟨S1x128, .f32⟩
  | 46 => ⟨S8x128x64x64, .f32⟩
  | 47 => ⟨S8x64x64x1, .f32⟩
  | 48 => ⟨S8x1x64x64, .f32⟩
  | 49 => ⟨S8x1x64x64, .f32⟩
  | 50 => ⟨S1x128x1x1, .f32⟩
  | 51 => ⟨S1x128, .f32⟩
  | 52 => ⟨S8x128x64x64, .f32⟩
  | 53 => ⟨S8x64x64x1, .f32⟩
  | 54 => ⟨S8x1x64x64, .f32⟩
  | 55 => ⟨S8x1x64x64, .f32⟩
  | 56 => ⟨S1x128x1x1, .f32⟩
  | 57 => ⟨S1x128, .f32⟩
  | 58 => ⟨S8x128x64x64, .f32⟩
  | 59 => ⟨S8x64x64x1, .f32⟩
  | 60 => ⟨S8x1x64x64, .f32⟩
  | 61 => ⟨S8x1x64x64, .f32⟩
  | 62 => ⟨S1x128x1x1, .f32⟩
  | 63 => ⟨S1x128, .f32⟩
  | 64 => ⟨S8x128x64x64, .f32⟩
  | 65 => ⟨S8x64x64x1, .f32⟩
  | 66 => ⟨S8x1x64x64, .f32⟩
  | 67 => ⟨S8x1x64x64, .f32⟩
  | 68 => ⟨S1x128x1x1, .f32⟩
  | 69 => ⟨S1x128, .f32⟩
  | 70 => ⟨S8x128x64x64, .f32⟩
  | 71 => ⟨S8x64x64x1, .f32⟩
  | 72 => ⟨S8x1x64x64, .f32⟩
  | 73 => ⟨S8x1x64x64, .f32⟩
  | 74 => ⟨S1x128x1x1, .f32⟩
  | 75 => ⟨S1x128, .f32⟩
  | 76 => ⟨S8x128x64x64, .f32⟩
  | 77 => ⟨S8x64x64x1, .f32⟩
  | 78 => ⟨S8x1x64x64, .f32⟩
  | 79 => ⟨S8x1x64x64, .f32⟩
  | 80 => ⟨S1x128x1x1, .f32⟩
  | 81 => ⟨S1x128, .f32⟩
  | 82 => ⟨S8x128x64x64, .f32⟩
  | 83 => ⟨S8x64x64x1, .f32⟩
  | 84 => ⟨S8x1x64x64, .f32⟩
  | 85 => ⟨S8x1x64x64, .f32⟩
  | 86 => ⟨S1x128x1x1, .f32⟩
  | 87 => ⟨S1x128, .f32⟩
  | 88 => ⟨S8x128x64x64, .f32⟩
  | 89 => ⟨S8x64x64x1, .f32⟩
  | 90 => ⟨S8x1x64x64, .f32⟩
  | 91 => ⟨S8x1x64x64, .f32⟩
  | 92 => ⟨S1x1x1x1, .f32⟩
  | 93 => ⟨S8x1x64x64, .f32⟩
  | 94 => ⟨S8x1x64x64, .f32⟩
  | 95 => ⟨S8x1x64x64, .f32⟩
  | 96 => ⟨S8x1x64x64, .f32⟩
  | 97 => ⟨S_, .f32⟩
  | 98 => ⟨S8x1x64x64, .f32⟩
  | 99 => ⟨S8x1x64x64, .f32⟩
  | 100 => ⟨S_, .f32⟩
  | 101 => ⟨S8x1x64x64, .f32⟩
  | 102 => ⟨S8x1x64x64, .f32⟩
  | 103 => ⟨S8x1x8x8x8x8, .f32⟩
  | 104 => ⟨S_, .f32⟩
  | 105 => ⟨S8x1x8x8, .f32⟩
  | 106 => ⟨S_, .f32⟩
  | 107 => ⟨S8x1x8x8, .f32⟩
  | 108 => ⟨S8x1x8x8, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S63, .f32⟩
  | 117 => ⟨S_, .f32⟩
  | 118 => ⟨S63, .f32⟩
  | 119 => ⟨S63, .f32⟩
  | 120 => ⟨S1, .f32⟩
  | 121 => ⟨S_, .f32⟩
  | 122 => ⟨S63, .f32⟩
  | 123 => ⟨S63, .f32⟩
  | 124 => ⟨S63, .f32⟩
  | 125 => ⟨S63, .f32⟩
  | 126 => ⟨S1, .f32⟩
  | 127 => ⟨S63, .f32⟩
  | _ => ⟨S8x192x64x64, .f32⟩

abbrev hbmTy0_2 (i : Nat) : BufTy := match i % 128 with
  | 0 => ⟨S63, .f32⟩
  | 1 => ⟨S63, .f32⟩
  | 2 => ⟨S1, .f32⟩
  | 3 => ⟨S64, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S63, .f32⟩
  | 12 => ⟨S_, .f32⟩
  | 13 => ⟨S63, .f32⟩
  | 14 => ⟨S63, .f32⟩
  | 15 => ⟨S1, .f32⟩
  | 16 => ⟨S_, .f32⟩
  | 17 => ⟨S63, .f32⟩
  | 18 => ⟨S63, .f32⟩
  | 19 => ⟨S63, .f32⟩
  | 20 => ⟨S63, .f32⟩
  | 21 => ⟨S1, .f32⟩
  | 22 => ⟨S63, .f32⟩
  | 23 => ⟨S63, .f32⟩
  | 24 => ⟨S63, .f32⟩
  | 25 => ⟨S1, .f32⟩
  | 26 => ⟨S64, .f32⟩
  | 27 => ⟨S64, .f32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .f32⟩
  | 36 => ⟨S64, .f32⟩
  | 37 => ⟨S64, .f32⟩
  | 38 => ⟨S64, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64, .f32⟩
  | 46 => ⟨S64, .f32⟩
  | 47 => ⟨S_, .i32⟩
  | 48 => ⟨S64, .i32⟩
  | 49 => ⟨S64, .i1⟩
  | 50 => ⟨S_, .i32⟩
  | 51 => ⟨S64, .i32⟩
  | 52 => ⟨S64, .i32⟩
  | 53 => ⟨S64, .i32⟩
  | 54 => ⟨S64x1, .i32⟩
  | 55 => ⟨S8x1x64x8, .f32⟩
  | 56 => ⟨S_, .i32⟩
  | 57 => ⟨S64, .i32⟩
  | 58 => ⟨S64, .i1⟩
  | 59 => ⟨S_, .i32⟩
  | 60 => ⟨S64, .i32⟩
  | 61 => ⟨S64, .i32⟩
  | 62 => ⟨S64, .i32⟩
  | 63 => ⟨S64x1, .i32⟩
  | 64 => ⟨S8x1x64x8, .f32⟩
  | 65 => ⟨S_, .f32⟩
  | 66 => ⟨S64, .f32⟩
  | 67 => ⟨S64, .f32⟩
  | 68 => ⟨S1x1x64x1, .f32⟩
  | 69 => ⟨S8x1x64x8, .f32⟩
  | 70 => ⟨S8x1x64x8, .f32⟩
  | 71 => ⟨S1x1x64x1, .f32⟩
  | 72 => ⟨S8x1x64x8, .f32⟩
  | 73 => ⟨S8x1x64x8, .f32⟩
  | 74 => ⟨S8x1x64x8, .f32⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S8x1x64x64, .f32⟩
  | 84 => ⟨S_, .i32⟩
  | 85 => ⟨S64, .i32⟩
  | 86 => ⟨S64, .i1⟩
  | 87 => ⟨S_, .i32⟩
  | 88 => ⟨S64, .i32⟩
  | 89 => ⟨S64, .i32⟩
  | 90 => ⟨S64, .i32⟩
  | 91 => ⟨S64x1, .i32⟩
  | 92 => ⟨S8x1x64x64, .f32⟩
  | 93 => ⟨S_, .f32⟩
  | 94 => ⟨S64, .f32⟩
  | 95 => ⟨S64, .f32⟩
  | 96 => ⟨S1x1x1x64, .f32⟩
  | 97 => ⟨S8x1x64x64, .f32⟩
  | 98 => ⟨S8x1x64x64, .f32⟩
  | 99 => ⟨S1x1x1x64, .f32⟩
  | 100 => ⟨S8x1x64x64, .f32⟩
  | 101 => ⟨S8x1x64x64, .f32⟩
  | 102 => ⟨S8x1x64x64, .f32⟩
  | 103 => ⟨S8x192x64x64, .f32⟩
  | 104 => ⟨S8x192x64x64, .f32⟩
  | 105 => ⟨S8x192x64x64, .f32⟩
  | 106 => ⟨S_, .i32⟩
  | 107 => ⟨S_, .f32⟩
  | 108 => ⟨S8x192x66x66, .f32⟩
  | 109 => ⟨S_, .f32⟩
  | 110 => ⟨S8x192x64x64, .f32⟩
  | 111 => ⟨S192x192x1x1, .f32⟩
  | 112 => ⟨S192x192, .f32⟩
  | 113 => ⟨S8x192x64x64, .f32⟩
  | 114 => ⟨S8x64x64x192, .f32⟩
  | 115 => ⟨S8x192x64x64, .f32⟩
  | 116 => ⟨S8x192x64x64, .f32⟩
  | 117 => ⟨S192x192x1x1, .f32⟩
  | 118 => ⟨S192x192, .f32⟩
  | 119 => ⟨S8x192x64x64, .f32⟩
  | 120 => ⟨S8x64x64x192, .f32⟩
  | 121 => ⟨S8x192x64x64, .f32⟩
  | 122 => ⟨S8x192x64x64, .f32⟩
  | 123 => ⟨S192x192x1x1, .f32⟩
  | 124 => ⟨S192x192, .f32⟩
  | 125 => ⟨S8x192x64x64, .f32⟩
  | 126 => ⟨S8x64x64x192, .f32⟩
  | 127 => ⟨S8x192x64x64, .f32⟩
  | _ => ⟨S8x192x64x64, .f32⟩

abbrev hbmTy0_3 (i : Nat) : BufTy := match i % 128 with
  | 0 => ⟨S8x192x64x64, .f32⟩
  | 1 => ⟨S192x192x1x1, .f32⟩
  | 2 => ⟨S192x192, .f32⟩
  | 3 => ⟨S8x192x64x64, .f32⟩
  | 4 => ⟨S8x64x64x192, .f32⟩
  | 5 => ⟨S8x192x64x64, .f32⟩
  | 6 => ⟨S8x192x64x64, .f32⟩
  | 7 => ⟨S192x192x1x1, .f32⟩
  | 8 => ⟨S192x192, .f32⟩
  | 9 => ⟨S8x192x64x64, .f32⟩
  | 10 => ⟨S8x64x64x192, .f32⟩
  | 11 => ⟨S8x192x64x64, .f32⟩
  | 12 => ⟨S8x192x64x64, .f32⟩
  | 13 => ⟨S192x192x1x1, .f32⟩
  | 14 => ⟨S192x192, .f32⟩
  | 15 => ⟨S8x192x64x64, .f32⟩
  | 16 => ⟨S8x64x64x192, .f32⟩
  | 17 => ⟨S8x192x64x64, .f32⟩
  | 18 => ⟨S8x192x64x64, .f32⟩
  | 19 => ⟨S192x192x1x1, .f32⟩
  | 20 => ⟨S192x192, .f32⟩
  | 21 => ⟨S8x192x64x64, .f32⟩
  | 22 => ⟨S8x64x64x192, .f32⟩
  | 23 => ⟨S8x192x64x64, .f32⟩
  | 24 => ⟨S8x192x64x64, .f32⟩
  | 25 => ⟨S192x192x1x1, .f32⟩
  | 26 => ⟨S192x192, .f32⟩
  | 27 => ⟨S8x192x64x64, .f32⟩
  | 28 => ⟨S8x64x64x192, .f32⟩
  | 29 => ⟨S8x192x64x64, .f32⟩
  | 30 => ⟨S8x192x64x64, .f32⟩
  | 31 => ⟨S192x192x1x1, .f32⟩
  | 32 => ⟨S192x192, .f32⟩
  | 33 => ⟨S8x192x64x64, .f32⟩
  | 34 => ⟨S8x64x64x192, .f32⟩
  | 35 => ⟨S8x192x64x64, .f32⟩
  | 36 => ⟨S8x192x64x64, .f32⟩
  | 37 => ⟨S_, .f32⟩
  | 38 => ⟨S192, .f32⟩
  | 39 => ⟨S1x192x1x1, .f32⟩
  | 40 => ⟨S_, .f32⟩
  | 41 => ⟨S1x192x1x1, .f32⟩
  | 42 => ⟨S1x192x1x1, .f32⟩
  | 43 => ⟨S_, .i32⟩
  | 44 => ⟨S_, .f32⟩
  | 45 => ⟨S192, .f32⟩
  | 46 => ⟨S1x192x1x1, .f32⟩
  | 47 => ⟨S_, .f32⟩
  | 48 => ⟨S1x192x1x1, .f32⟩
  | 49 => ⟨S1x192x1x1, .f32⟩
  | 50 => ⟨S8x192x64x64, .f32⟩
  | 51 => ⟨S8x192x64x64, .f32⟩
  | 52 => ⟨S8x192x64x64, .f32⟩
  | 53 => ⟨S_, .f32⟩
  | 54 => ⟨S_, .f32⟩
  | 55 => ⟨S_, .f32⟩
  | 56 => ⟨S_, .f32⟩
  | 57 => ⟨S192, .f32⟩
  | 58 => ⟨S1x192x1x1, .f32⟩
  | 59 => ⟨S1x192x1x1, .f32⟩
  | 60 => ⟨S1x192x1x1, .f32⟩
  | 61 => ⟨S_, .f32⟩
  | 62 => ⟨S_, .i1⟩
  | 63 => ⟨S_, .f32⟩
  | 64 => ⟨S_, .f32⟩
  | 65 => ⟨S1x192x1x1, .f32⟩
  | 66 => ⟨S1x192x1x1, .f32⟩
  | 67 => ⟨S8x192x64x64, .f32⟩
  | 68 => ⟨S8x192x64x64, .f32⟩
  | 69 => ⟨S_, .f32⟩
  | 70 => ⟨S1x192x1x1, .f32⟩
  | 71 => ⟨S1x192x1x1, .f32⟩
  | 72 => ⟨S1x192x1x1, .f32⟩
  | 73 => ⟨S8x192x64x64, .f32⟩
  | 74 => ⟨S8x192x64x64, .f32⟩
  | 75 => ⟨S1x192x1x1, .f32⟩
  | 76 => ⟨S8x192x64x64, .f32⟩
  | 77 => ⟨S8x192x64x64, .f32⟩
  | 78 => ⟨S1x192x1x1, .f32⟩
  | 79 => ⟨S8x192x64x64, .f32⟩
  | 80 => ⟨S8x192x64x64, .f32⟩
  | 81 => ⟨S_, .f32⟩
  | 82 => ⟨S8x192x64x64, .f32⟩
  | 83 => ⟨S8x192x64x64, .f32⟩
  | 84 => ⟨S_, .i32⟩
  | 85 => ⟨S_, .f32⟩
  | 86 => ⟨S8x192x66x66, .f32⟩
  | 87 => ⟨S_, .f32⟩
  | 88 => ⟨S8x1x64x64, .f32⟩
  | 89 => ⟨S1x192x1x1, .f32⟩
  | 90 => ⟨S1x192, .f32⟩
  | 91 => ⟨S8x192x64x64, .f32⟩
  | 92 => ⟨S8x64x64x1, .f32⟩
  | 93 => ⟨S8x1x64x64, .f32⟩
  | 94 => ⟨S8x1x64x64, .f32⟩
  | 95 => ⟨S1x192x1x1, .f32⟩
  | 96 => ⟨S1x192, .f32⟩
  | 97 => ⟨S8x192x64x64, .f32⟩
  | 98 => ⟨S8x64x64x1, .f32⟩
  | 99 => ⟨S8x1x64x64, .f32⟩
  | 100 => ⟨S8x1x64x64, .f32⟩
  | 101 => ⟨S1x192x1x1, .f32⟩
  | 102 => ⟨S1x192, .f32⟩
  | 103 => ⟨S8x192x64x64, .f32⟩
  | 104 => ⟨S8x64x64x1, .f32⟩
  | 105 => ⟨S8x1x64x64, .f32⟩
  | 106 => ⟨S8x1x64x64, .f32⟩
  | 107 => ⟨S1x192x1x1, .f32⟩
  | 108 => ⟨S1x192, .f32⟩
  | 109 => ⟨S8x192x64x64, .f32⟩
  | 110 => ⟨S8x64x64x1, .f32⟩
  | 111 => ⟨S8x1x64x64, .f32⟩
  | 112 => ⟨S8x1x64x64, .f32⟩
  | 113 => ⟨S1x192x1x1, .f32⟩
  | 114 => ⟨S1x192, .f32⟩
  | 115 => ⟨S8x192x64x64, .f32⟩
  | 116 => ⟨S8x64x64x1, .f32⟩
  | 117 => ⟨S8x1x64x64, .f32⟩
  | 118 => ⟨S8x1x64x64, .f32⟩
  | 119 => ⟨S1x192x1x1, .f32⟩
  | 120 => ⟨S1x192, .f32⟩
  | 121 => ⟨S8x192x64x64, .f32⟩
  | 122 => ⟨S8x64x64x1, .f32⟩
  | 123 => ⟨S8x1x64x64, .f32⟩
  | 124 => ⟨S8x1x64x64, .f32⟩
  | 125 => ⟨S1x192x1x1, .f32⟩
  | 126 => ⟨S1x192, .f32⟩
  | 127 => ⟨S8x192x64x64, .f32⟩
  | _ => ⟨S8x192x64x64, .f32⟩

abbrev hbmTy0_4 (i : Nat) : BufTy := match i % 128 with
  | 0 => ⟨S8x64x64x1, .f32⟩
  | 1 => ⟨S8x1x64x64, .f32⟩
  | 2 => ⟨S8x1x64x64, .f32⟩
  | 3 => ⟨S1x192x1x1, .f32⟩
  | 4 => ⟨S1x192, .f32⟩
  | 5 => ⟨S8x192x64x64, .f32⟩
  | 6 => ⟨S8x64x64x1, .f32⟩
  | 7 => ⟨S8x1x64x64, .f32⟩
  | 8 => ⟨S8x1x64x64, .f32⟩
  | 9 => ⟨S1x192x1x1, .f32⟩
  | 10 => ⟨S1x192, .f32⟩
  | 11 => ⟨S8x192x64x64, .f32⟩
  | 12 => ⟨S8x64x64x1, .f32⟩
  | 13 => ⟨S8x1x64x64, .f32⟩
  | 14 => ⟨S8x1x64x64, .f32⟩
  | 15 => ⟨S8x4096, .f32⟩
  | 16 => ⟨S8x128, .f32⟩
  | 17 => ⟨S8x128, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S8x128, .i32⟩
  | 25 => ⟨S8x128, .i32⟩
  | 26 => ⟨S_, .i32⟩
  | 27 => ⟨S8x128, .i32⟩
  | 28 => ⟨S8x128, .i1⟩
  | 29 => ⟨S_, .i32⟩
  | 30 => ⟨S8x128, .i32⟩
  | 31 => ⟨S8x128, .i1⟩
  | 32 => ⟨S_, .i32⟩
  | 33 => ⟨S_, .i1⟩
  | 34 => ⟨S8x128, .i1⟩
  | 35 => ⟨S8x128, .i1⟩
  | 36 => ⟨S8x128, .i1⟩
  | 37 => ⟨S8x128, .i32⟩
  | 38 => ⟨S8x128, .i32⟩
  | 39 => ⟨S8x128, .i32⟩
  | 40 => ⟨S8x128, .f32⟩
  | 41 => ⟨S_, .f32⟩
  | 42 => ⟨S8x128, .f32⟩
  | 43 => ⟨S8x128, .f32⟩
  | 44 => ⟨S_, .f32⟩
  | 45 => ⟨S8x128, .f32⟩
  | 46 => ⟨S8x128, .f32⟩
  | 47 => ⟨S_, .i32⟩
  | 48 => ⟨S_, .i32⟩
  | 49 => ⟨S8x128, .i32⟩
  | 50 => ⟨S8x128, .i32⟩
  | 51 => ⟨S8x128, .i32⟩
  | 52 => ⟨S_, .i32⟩
  | 53 => ⟨S8x128, .i32⟩
  | 54 => ⟨S8x128, .i1⟩
  | 55 => ⟨S8x128, .i32⟩
  | 56 => ⟨S8x128, .i32⟩
  | 57 => ⟨S_, .i32⟩
  | 58 => ⟨S8x128, .i32⟩
  | 59 => ⟨S8x128, .i1⟩
  | 60 => ⟨S8x128, .i1⟩
  | 61 => ⟨S_, .i32⟩
  | 62 => ⟨S8x128, .i32⟩
  | 63 => ⟨S8x128, .i32⟩
  | 64 => ⟨S8x128, .i32⟩
  | 65 => ⟨S8x128, .f32⟩
  | 66 => ⟨S_, .f32⟩
  | 67 => ⟨S8x128, .f32⟩
  | 68 => ⟨S8x128, .f32⟩
  | 69 => ⟨S_, .f32⟩
  | 70 => ⟨S8x128, .f32⟩
  | 71 => ⟨S8x128, .f32⟩
  | 72 => ⟨S8x128x1, .f32⟩
  | 73 => ⟨S8x128x1, .f32⟩
  | 74 => ⟨S8x128x2, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S8x128, .i32⟩
  | 82 => ⟨S8x128, .i32⟩
  | 83 => ⟨S_, .i32⟩
  | 84 => ⟨S8x128, .i32⟩
  | 85 => ⟨S8x128, .i1⟩
  | 86 => ⟨S_, .i32⟩
  | 87 => ⟨S8x128, .i32⟩
  | 88 => ⟨S8x128, .i1⟩
  | 89 => ⟨S_, .i32⟩
  | 90 => ⟨S_, .i1⟩
  | 91 => ⟨S8x128, .i1⟩
  | 92 => ⟨S8x128, .i1⟩
  | 93 => ⟨S8x128, .i1⟩
  | 94 => ⟨S8x128, .i32⟩
  | 95 => ⟨S8x128, .i32⟩
  | 96 => ⟨S8x128, .i32⟩
  | 97 => ⟨S8x128, .f32⟩
  | 98 => ⟨S_, .f32⟩
  | 99 => ⟨S8x128, .f32⟩
  | 100 => ⟨S8x128, .f32⟩
  | 101 => ⟨S_, .i32⟩
  | 102 => ⟨S_, .i32⟩
  | 103 => ⟨S8x128, .i32⟩
  | 104 => ⟨S8x128, .i32⟩
  | 105 => ⟨S8x128, .i32⟩
  | 106 => ⟨S_, .i32⟩
  | 107 => ⟨S8x128, .i32⟩
  | 108 => ⟨S8x128, .i1⟩
  | 109 => ⟨S8x128, .i32⟩
  | 110 => ⟨S8x128, .i32⟩
  | 111 => ⟨S_, .i32⟩
  | 112 => ⟨S8x128, .i32⟩
  | 113 => ⟨S8x128, .i1⟩
  | 114 => ⟨S8x128, .i1⟩
  | 115 => ⟨S_, .i32⟩
  | 116 => ⟨S8x128, .i32⟩
  | 117 => ⟨S8x128, .i32⟩
  | 118 => ⟨S8x128, .i32⟩
  | 119 => ⟨S8x128, .f32⟩
  | 120 => ⟨S_, .f32⟩
  | 121 => ⟨S8x128, .f32⟩
  | 122 => ⟨S8x128, .f32⟩
  | 123 => ⟨S_, .f32⟩
  | 124 => ⟨S8x128, .f32⟩
  | 125 => ⟨S8x128, .f32⟩
  | 126 => ⟨S8x128, .f32⟩
  | 127 => ⟨S8x128, .i32⟩
  | _ => ⟨S8x192x64x64, .f32⟩

abbrev hbmTy0_5 (i : Nat) : BufTy := match i % 128 with
  | 0 => ⟨S8x1x128, .i32⟩
  | 1 => ⟨S8x192x128, .i32⟩
  | 2 => ⟨S_, .f32⟩
  | 3 => ⟨S8x128x2, .f32⟩
  | 4 => ⟨S8x128x2, .f32⟩
  | 5 => ⟨S_, .f32⟩
  | 6 => ⟨S8x128x2, .f32⟩
  | 7 => ⟨S8x128x2, .f32⟩
  | 8 => ⟨S8x128x1, .f32⟩
  | 9 => ⟨S8x128, .f32⟩
  | 10 => ⟨S_, .f32⟩
  | 11 => ⟨S8x128, .f32⟩
  | 12 => ⟨S8x128, .f32⟩
  | 13 => ⟨S_, .f32⟩
  | 14 => ⟨S8x128, .f32⟩
  | 15 => ⟨S8x128, .f32⟩
  | 16 => ⟨S_, .f32⟩
  | 17 => ⟨S8x128, .f32⟩
  | 18 => ⟨S8x128, .f32⟩
  | 19 => ⟨S_, .f32⟩
  | 20 => ⟨S8x128, .f32⟩
  | 21 => ⟨S8x128, .f32⟩
  | 22 => ⟨S8x128x1, .f32⟩
  | 23 => ⟨S8x128, .f32⟩
  | 24 => ⟨S_, .f32⟩
  | 25 => ⟨S8x128, .f32⟩
  | 26 => ⟨S8x128, .f32⟩
  | 27 => ⟨S_, .f32⟩
  | 28 => ⟨S8x128, .f32⟩
  | 29 => ⟨S8x128, .f32⟩
  | 30 => ⟨S_, .f32⟩
  | 31 => ⟨S8x128, .f32⟩
  | 32 => ⟨S8x128, .f32⟩
  | 33 => ⟨S_, .f32⟩
  | 34 => ⟨S8x128, .f32⟩
  | 35 => ⟨S8x128, .f32⟩
  | 36 => ⟨S8x128, .f32⟩
  | 37 => ⟨S8x128, .f32⟩
  | 38 => ⟨S8x128, .f32⟩
  | 39 => ⟨S8x128, .f32⟩
  | 40 => ⟨S8x192x4096, .f32⟩
  | 41 => ⟨S_, .f32⟩
  | 42 => ⟨S8x128, .f32⟩
  | 43 => ⟨S8x128, .i1⟩
  | 44 => ⟨S_, .f32⟩
  | 45 => ⟨S8x128, .f32⟩
  | 46 => ⟨S8x128, .i1⟩
  | 47 => ⟨S8x128, .i1⟩
  | 48 => ⟨S_, .f32⟩
  | 49 => ⟨S8x128, .f32⟩
  | 50 => ⟨S8x128, .i1⟩
  | 51 => ⟨S8x128, .i1⟩
  | 52 => ⟨S_, .f32⟩
  | 53 => ⟨S8x128, .f32⟩
  | 54 => ⟨S8x128, .i1⟩
  | 55 => ⟨S8x128, .i1⟩
  | 56 => ⟨S_, .i32⟩
  | 57 => ⟨S_, .i32⟩
  | 58 => ⟨S_, .f32⟩
  | 59 => ⟨S8x128, .f32⟩
  | 60 => ⟨S8x128, .f32⟩
  | 61 => ⟨S_, .f32⟩
  | 62 => ⟨S8x128, .f32⟩
  | 63 => ⟨S8x128, .f32⟩
  | 64 => ⟨S8x128, .i32⟩
  | 65 => ⟨S_, .i32⟩
  | 66 => ⟨S_, .i32⟩
  | 67 => ⟨S_, .f32⟩
  | 68 => ⟨S8x128, .f32⟩
  | 69 => ⟨S8x128, .f32⟩
  | 70 => ⟨S_, .f32⟩
  | 71 => ⟨S8x128, .f32⟩
  | 72 => ⟨S8x128, .f32⟩
  | 73 => ⟨S8x128, .i32⟩
  | 74 => ⟨S_, .i32⟩
  | 75 => ⟨S8x128, .i32⟩
  | 76 => ⟨S8x128, .i32⟩
  | 77 => ⟨S8x128, .i32⟩
  | 78 => ⟨S8x1x128, .i32⟩
  | 79 => ⟨S8x192x128, .i32⟩
  | 80 => ⟨S_, .i32⟩
  | 81 => ⟨S8x192x128, .i32⟩
  | 82 => ⟨S8x192x128, .i1⟩
  | 83 => ⟨S_, .i32⟩
  | 84 => ⟨S8x192x128, .i32⟩
  | 85 => ⟨S8x192x128, .i32⟩
  | 86 => ⟨S8x192x128, .i32⟩
  | 87 => ⟨S8x192x128x1, .i32⟩
  | 88 => ⟨S1, .i32⟩
  | 89 => ⟨S_, .i32⟩
  | 90 => ⟨S8x192x128x1, .i32⟩
  | 91 => ⟨S8x192x128x1, .i1⟩
  | 92 => ⟨S1x1x1x1, .i32⟩
  | 93 => ⟨S8x192x128x1, .i32⟩
  | 94 => ⟨S8x192x128x1, .i1⟩
  | 95 => ⟨S8x192x128x1, .i1⟩
  | 96 => ⟨S_, .i1⟩
  | 97 => ⟨S8x192x128, .i1⟩
  | 98 => ⟨S8x192x128, .f32⟩
  | 99 => ⟨S_, .f32⟩
  | 100 => ⟨S8x192x128, .f32⟩
  | 101 => ⟨S8x192x128, .f32⟩
  | 102 => ⟨S8x1x128, .i1⟩
  | 103 => ⟨S8x1x128, .f32⟩
  | 104 => ⟨S8x192x128, .f32⟩
  | 105 => ⟨S8x192x128, .f32⟩
  | 106 => ⟨S_, .f32⟩
  | 107 => ⟨S8x128, .f32⟩
  | 108 => ⟨S8x128, .f32⟩
  | 109 => ⟨S_, .f32⟩
  | 110 => ⟨S8x128, .f32⟩
  | 111 => ⟨S8x128, .i1⟩
  | 112 => ⟨S_, .f32⟩
  | 113 => ⟨S8x128, .f32⟩
  | 114 => ⟨S8x128, .i1⟩
  | 115 => ⟨S8x128, .i1⟩
  | 116 => ⟨S_, .f32⟩
  | 117 => ⟨S8x128, .f32⟩
  | 118 => ⟨S8x128, .i1⟩
  | 119 => ⟨S8x128, .i1⟩
  | 120 => ⟨S_, .f32⟩
  | 121 => ⟨S8x128, .f32⟩
  | 122 => ⟨S8x128, .i1⟩
  | 123 => ⟨S8x128, .i1⟩
  | 124 => ⟨S_, .i32⟩
  | 125 => ⟨S_, .i32⟩
  | 126 => ⟨S_, .f32⟩
  | 127 => ⟨S8x128, .f32⟩
  | _ => ⟨S8x192x64x64, .f32⟩

abbrev hbmTy0_6 (i : Nat) : BufTy := match i % 128 with
  | 0 => ⟨S8x128, .f32⟩
  | 1 => ⟨S_, .f32⟩
  | 2 => ⟨S8x128, .f32⟩
  | 3 => ⟨S8x128, .f32⟩
  | 4 => ⟨S8x128, .i32⟩
  | 5 => ⟨S_, .i32⟩
  | 6 => ⟨S_, .i32⟩
  | 7 => ⟨S_, .f32⟩
  | 8 => ⟨S8x128, .f32⟩
  | 9 => ⟨S8x128, .f32⟩
  | 10 => ⟨S_, .f32⟩
  | 11 => ⟨S8x128, .f32⟩
  | 12 => ⟨S8x128, .f32⟩
  | 13 => ⟨S8x128, .i32⟩
  | 14 => ⟨S_, .i32⟩
  | 15 => ⟨S8x128, .i32⟩
  | 16 => ⟨S8x128, .i32⟩
  | 17 => ⟨S8x128, .i32⟩
  | 18 => ⟨S8x1x128, .i32⟩
  | 19 => ⟨S8x192x128, .i32⟩
  | 20 => ⟨S_, .i32⟩
  | 21 => ⟨S8x192x128, .i32⟩
  | 22 => ⟨S8x192x128, .i1⟩
  | 23 => ⟨S_, .i32⟩
  | 24 => ⟨S8x192x128, .i32⟩
  | 25 => ⟨S8x192x128, .i32⟩
  | 26 => ⟨S8x192x128, .i32⟩
  | 27 => ⟨S8x192x128x1, .i32⟩
  | 28 => ⟨S1, .i32⟩
  | 29 => ⟨S_, .i32⟩
  | 30 => ⟨S8x192x128x1, .i32⟩
  | 31 => ⟨S8x192x128x1, .i1⟩
  | 32 => ⟨S1x1x1x1, .i32⟩
  | 33 => ⟨S8x192x128x1, .i32⟩
  | 34 => ⟨S8x192x128x1, .i1⟩
  | 35 => ⟨S8x192x128x1, .i1⟩
  | 36 => ⟨S_, .i1⟩
  | 37 => ⟨S8x192x128, .i1⟩
  | 38 => ⟨S8x192x128, .f32⟩
  | 39 => ⟨S_, .f32⟩
  | 40 => ⟨S8x192x128, .f32⟩
  | 41 => ⟨S8x192x128, .f32⟩
  | 42 => ⟨S8x1x128, .i1⟩
  | 43 => ⟨S8x1x128, .f32⟩
  | 44 => ⟨S8x192x128, .f32⟩
  | 45 => ⟨S8x192x128, .f32⟩
  | 46 => ⟨S_, .f32⟩
  | 47 => ⟨S8x128, .f32⟩
  | 48 => ⟨S8x128, .f32⟩
  | 49 => ⟨S_, .f32⟩
  | 50 => ⟨S8x128, .f32⟩
  | 51 => ⟨S8x128, .i1⟩
  | 52 => ⟨S_, .f32⟩
  | 53 => ⟨S8x128, .f32⟩
  | 54 => ⟨S8x128, .i1⟩
  | 55 => ⟨S8x128, .i1⟩
  | 56 => ⟨S_, .f32⟩
  | 57 => ⟨S8x128, .f32⟩
  | 58 => ⟨S8x128, .i1⟩
  | 59 => ⟨S8x128, .i1⟩
  | 60 => ⟨S_, .f32⟩
  | 61 => ⟨S8x128, .f32⟩
  | 62 => ⟨S8x128, .i1⟩
  | 63 => ⟨S8x128, .i1⟩
  | 64 => ⟨S_, .i32⟩
  | 65 => ⟨S_, .i32⟩
  | 66 => ⟨S_, .f32⟩
  | 67 => ⟨S8x128, .f32⟩
  | 68 => ⟨S8x128, .f32⟩
  | 69 => ⟨S_, .f32⟩
  | 70 => ⟨S8x128, .f32⟩
  | 71 => ⟨S8x128, .f32⟩
  | 72 => ⟨S8x128, .i32⟩
  | 73 => ⟨S_, .i32⟩
  | 74 => ⟨S_, .i32⟩
  | 75 => ⟨S_, .f32⟩
  | 76 => ⟨S8x128, .f32⟩
  | 77 => ⟨S8x128, .f32⟩
  | 78 => ⟨S_, .f32⟩
  | 79 => ⟨S8x128, .f32⟩
  | 80 => ⟨S8x128, .f32⟩
  | 81 => ⟨S8x128, .i32⟩
  | 82 => ⟨S_, .i32⟩
  | 83 => ⟨S8x128, .i32⟩
  | 84 => ⟨S8x128, .i32⟩
  | 85 => ⟨S8x128, .i32⟩
  | 86 => ⟨S8x1x128, .i32⟩
  | 87 => ⟨S8x192x128, .i32⟩
  | 88 => ⟨S_, .i32⟩
  | 89 => ⟨S8x192x128, .i32⟩
  | 90 => ⟨S8x192x128, .i1⟩
  | 91 => ⟨S_, .i32⟩
  | 92 => ⟨S8x192x128, .i32⟩
  | 93 => ⟨S8x192x128, .i32⟩
  | 94 => ⟨S8x192x128, .i32⟩
  | 95 => ⟨S8x192x128x1, .i32⟩
  | 96 => ⟨S1, .i32⟩
  | 97 => ⟨S_, .i32⟩
  | 98 => ⟨S8x192x128x1, .i32⟩
  | 99 => ⟨S8x192x128x1, .i1⟩
  | 100 => ⟨S1x1x1x1, .i32⟩
  | 101 => ⟨S8x192x128x1, .i32⟩
  | 102 => ⟨S8x192x128x1, .i1⟩
  | 103 => ⟨S8x192x128x1, .i1⟩
  | 104 => ⟨S_, .i1⟩
  | 105 => ⟨S8x192x128, .i1⟩
  | 106 => ⟨S8x192x128, .f32⟩
  | 107 => ⟨S_, .f32⟩
  | 108 => ⟨S8x192x128, .f32⟩
  | 109 => ⟨S8x192x128, .f32⟩
  | 110 => ⟨S8x1x128, .i1⟩
  | 111 => ⟨S8x1x128, .f32⟩
  | 112 => ⟨S8x192x128, .f32⟩
  | 113 => ⟨S8x192x128, .f32⟩
  | 114 => ⟨S_, .f32⟩
  | 115 => ⟨S8x128, .f32⟩
  | 116 => ⟨S8x128, .f32⟩
  | 117 => ⟨S_, .f32⟩
  | 118 => ⟨S8x128, .f32⟩
  | 119 => ⟨S8x128, .f32⟩
  | 120 => ⟨S_, .f32⟩
  | 121 => ⟨S8x128, .f32⟩
  | 122 => ⟨S8x128, .i1⟩
  | 123 => ⟨S_, .f32⟩
  | 124 => ⟨S8x128, .f32⟩
  | 125 => ⟨S8x128, .i1⟩
  | 126 => ⟨S8x128, .i1⟩
  | 127 => ⟨S_, .f32⟩
  | _ => ⟨S8x192x64x64, .f32⟩

abbrev hbmTy0_7 (i : Nat) : BufTy := match i % 128 with
  | 0 => ⟨S8x128, .f32⟩
  | 1 => ⟨S8x128, .i1⟩
  | 2 => ⟨S8x128, .i1⟩
  | 3 => ⟨S_, .f32⟩
  | 4 => ⟨S8x128, .f32⟩
  | 5 => ⟨S8x128, .i1⟩
  | 6 => ⟨S8x128, .i1⟩
  | 7 => ⟨S_, .i32⟩
  | 8 => ⟨S_, .i32⟩
  | 9 => ⟨S_, .f32⟩
  | 10 => ⟨S8x128, .f32⟩
  | 11 => ⟨S8x128, .f32⟩
  | 12 => ⟨S_, .f32⟩
  | 13 => ⟨S8x128, .f32⟩
  | 14 => ⟨S8x128, .f32⟩
  | 15 => ⟨S8x128, .i32⟩
  | 16 => ⟨S_, .i32⟩
  | 17 => ⟨S_, .i32⟩
  | 18 => ⟨S_, .f32⟩
  | 19 => ⟨S8x128, .f32⟩
  | 20 => ⟨S8x128, .f32⟩
  | 21 => ⟨S_, .f32⟩
  | 22 => ⟨S8x128, .f32⟩
  | 23 => ⟨S8x128, .f32⟩
  | 24 => ⟨S8x128, .i32⟩
  | 25 => ⟨S_, .i32⟩
  | 26 => ⟨S8x128, .i32⟩
  | 27 => ⟨S8x128, .i32⟩
  | 28 => ⟨S8x128, .i32⟩
  | 29 => ⟨S8x1x128, .i32⟩
  | 30 => ⟨S8x192x128, .i32⟩
  | 31 => ⟨S_, .i32⟩
  | 32 => ⟨S8x192x128, .i32⟩
  | 33 => ⟨S8x192x128, .i1⟩
  | 34 => ⟨S_, .i32⟩
  | 35 => ⟨S8x192x128, .i32⟩
  | 36 => ⟨S8x192x128, .i32⟩
  | 37 => ⟨S8x192x128, .i32⟩
  | 38 => ⟨S8x192x128x1, .i32⟩
  | 39 => ⟨S1, .i32⟩
  | 40 => ⟨S_, .i32⟩
  | 41 => ⟨S8x192x128x1, .i32⟩
  | 42 => ⟨S8x192x128x1, .i1⟩
  | 43 => ⟨S1x1x1x1, .i32⟩
  | 44 => ⟨S8x192x128x1, .i32⟩
  | 45 => ⟨S8x192x128x1, .i1⟩
  | 46 => ⟨S8x192x128x1, .i1⟩
  | 47 => ⟨S_, .i1⟩
  | 48 => ⟨S8x192x128, .i1⟩
  | 49 => ⟨S8x192x128, .f32⟩
  | 50 => ⟨S_, .f32⟩
  | 51 => ⟨S8x192x128, .f32⟩
  | 52 => ⟨S8x192x128, .f32⟩
  | 53 => ⟨S8x1x128, .i1⟩
  | 54 => ⟨S8x1x128, .f32⟩
  | 55 => ⟨S8x192x128, .f32⟩
  | 56 => ⟨S8x192x128, .f32⟩
  | 57 => ⟨S8x1x128, .f32⟩
  | 58 => ⟨S8x1x128, .f32⟩
  | 59 => ⟨S_, .f32⟩
  | 60 => ⟨S8x1x128, .f32⟩
  | 61 => ⟨S8x1x128, .f32⟩
  | 62 => ⟨S8x192x128, .f32⟩
  | 63 => ⟨S8x192x128, .f32⟩
  | 64 => ⟨S_, .f32⟩
  | 65 => ⟨S8x1x128, .f32⟩
  | 66 => ⟨S8x1x128, .f32⟩
  | 67 => ⟨S8x192x128, .f32⟩
  | 68 => ⟨S8x192x128, .f32⟩
  | 69 => ⟨S8x192x128, .f32⟩
  | 70 => ⟨S8x192x128, .f32⟩
  | 71 => ⟨S_, .f32⟩
  | 72 => ⟨S8x1x128, .f32⟩
  | 73 => ⟨S8x1x128, .f32⟩
  | 74 => ⟨S8x192x128, .f32⟩
  | 75 => ⟨S8x192x128, .f32⟩
  | 76 => ⟨S8x192x128, .f32⟩
  | 77 => ⟨S_, .f32⟩
  | 78 => ⟨S8x1x128, .f32⟩
  | 79 => ⟨S8x1x128, .f32⟩
  | 80 => ⟨S8x192x128, .f32⟩
  | 81 => ⟨S8x192x128, .f32⟩
  | 82 => ⟨S8x192x128, .f32⟩
  | 83 => ⟨S8x192x128, .f32⟩
  | 84 => ⟨S8x192x128, .f32⟩
  | 85 => ⟨S8x192x128, .f32⟩
  | 86 => ⟨S8x192x128, .f32⟩
  | 87 => ⟨S8x192x128, .f32⟩
  | 88 => ⟨S8x192x128, .f32⟩
  | 89 => ⟨S8x192x128, .f32⟩
  | 90 => ⟨S_, .f32⟩
  | 91 => ⟨S8x128x2, .f32⟩
  | 92 => ⟨S8x128x2, .f32⟩
  | 93 => ⟨S_, .f32⟩
  | 94 => ⟨S8x128x2, .f32⟩
  | 95 => ⟨S8x128x2, .f32⟩
  | 96 => ⟨S8x128x1, .f32⟩
  | 97 => ⟨S8x128, .f32⟩
  | 98 => ⟨S_, .f32⟩
  | 99 => ⟨S8x128, .f32⟩
  | 100 => ⟨S8x128, .f32⟩
  | 101 => ⟨S_, .f32⟩
  | 102 => ⟨S8x128, .f32⟩
  | 103 => ⟨S8x128, .f32⟩
  | 104 => ⟨S_, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x128x1, .f32⟩
  | 111 => ⟨S8x128, .f32⟩
  | 112 => ⟨S_, .f32⟩
  | 113 => ⟨S8x128, .f32⟩
  | 114 => ⟨S8x128, .f32⟩
  | 115 => ⟨S_, .f32⟩
  | 116 => ⟨S8x128, .f32⟩
  | 117 => ⟨S8x128, .f32⟩
  | 118 => ⟨S_, .f32⟩
  | 119 => ⟨S8x128, .f32⟩
  | 120 => ⟨S8x128, .f32⟩
  | 121 => ⟨S_, .f32⟩
  | 122 => ⟨S8x128, .f32⟩
  | 123 => ⟨S8x128, .f32⟩
  | 124 => ⟨S8x128, .f32⟩
  | 125 => ⟨S8x128, .f32⟩
  | 126 => ⟨S8x128, .f32⟩
  | 127 => ⟨S8x128, .f32⟩
  | _ => ⟨S8x192x64x64, .f32⟩

abbrev hbmTy0_8 (i : Nat) : BufTy := match i % 128 with
  | 0 => ⟨S8x192x16384, .f32⟩
  | 1 => ⟨S_, .f32⟩
  | 2 => ⟨S8x128, .f32⟩
  | 3 => ⟨S8x128, .i1⟩
  | 4 => ⟨S_, .f32⟩
  | 5 => ⟨S8x128, .f32⟩
  | 6 => ⟨S8x128, .i1⟩
  | 7 => ⟨S8x128, .i1⟩
  | 8 => ⟨S_, .f32⟩
  | 9 => ⟨S8x128, .f32⟩
  | 10 => ⟨S8x128, .i1⟩
  | 11 => ⟨S8x128, .i1⟩
  | 12 => ⟨S_, .f32⟩
  | 13 => ⟨S8x128, .f32⟩
  | 14 => ⟨S8x128, .i1⟩
  | 15 => ⟨S8x128, .i1⟩
  | 16 => ⟨S_, .i32⟩
  | 17 => ⟨S_, .i32⟩
  | 18 => ⟨S_, .f32⟩
  | 19 => ⟨S8x128, .f32⟩
  | 20 => ⟨S8x128, .f32⟩
  | 21 => ⟨S_, .f32⟩
  | 22 => ⟨S8x128, .f32⟩
  | 23 => ⟨S8x128, .f32⟩
  | 24 => ⟨S8x128, .i32⟩
  | 25 => ⟨S_, .i32⟩
  | 26 => ⟨S_, .i32⟩
  | 27 => ⟨S_, .f32⟩
  | 28 => ⟨S8x128, .f32⟩
  | 29 => ⟨S8x128, .f32⟩
  | 30 => ⟨S_, .f32⟩
  | 31 => ⟨S8x128, .f32⟩
  | 32 => ⟨S8x128, .f32⟩
  | 33 => ⟨S8x128, .i32⟩
  | 34 => ⟨S_, .i32⟩
  | 35 => ⟨S8x128, .i32⟩
  | 36 => ⟨S8x128, .i32⟩
  | 37 => ⟨S8x128, .i32⟩
  | 38 => ⟨S8x1x128, .i32⟩
  | 39 => ⟨S8x192x128, .i32⟩
  | 40 => ⟨S_, .i32⟩
  | 41 => ⟨S8x192x128, .i32⟩
  | 42 => ⟨S8x192x128, .i1⟩
  | 43 => ⟨S_, .i32⟩
  | 44 => ⟨S8x192x128, .i32⟩
  | 45 => ⟨S8x192x128, .i32⟩
  | 46 => ⟨S8x192x128, .i32⟩
  | 47 => ⟨S8x192x128x1, .i32⟩
  | 48 => ⟨S1, .i32⟩
  | 49 => ⟨S_, .i32⟩
  | 50 => ⟨S8x192x128x1, .i32⟩
  | 51 => ⟨S8x192x128x1, .i1⟩
  | 52 => ⟨S1x1x1x1, .i32⟩
  | 53 => ⟨S8x192x128x1, .i32⟩
  | 54 => ⟨S8x192x128x1, .i1⟩
  | 55 => ⟨S8x192x128x1, .i1⟩
  | 56 => ⟨S_, .i1⟩
  | 57 => ⟨S8x192x128, .i1⟩
  | 58 => ⟨S8x192x128, .f32⟩
  | 59 => ⟨S_, .f32⟩
  | 60 => ⟨S8x192x128, .f32⟩
  | 61 => ⟨S8x192x128, .f32⟩
  | 62 => ⟨S8x1x128, .i1⟩
  | 63 => ⟨S8x1x128, .f32⟩
  | 64 => ⟨S8x192x128, .f32⟩
  | 65 => ⟨S8x192x128, .f32⟩
  | 66 => ⟨S_, .f32⟩
  | 67 => ⟨S8x128, .f32⟩
  | 68 => ⟨S8x128, .f32⟩
  | 69 => ⟨S_, .f32⟩
  | 70 => ⟨S8x128, .f32⟩
  | 71 => ⟨S8x128, .i1⟩
  | 72 => ⟨S_, .f32⟩
  | 73 => ⟨S8x128, .f32⟩
  | 74 => ⟨S8x128, .i1⟩
  | 75 => ⟨S8x128, .i1⟩
  | 76 => ⟨S_, .f32⟩
  | 77 => ⟨S8x128, .f32⟩
  | 78 => ⟨S8x128, .i1⟩
  | 79 => ⟨S8x128, .i1⟩
  | 80 => ⟨S_, .f32⟩
  | 81 => ⟨S8x128, .f32⟩
  | 82 => ⟨S8x128, .i1⟩
  | 83 => ⟨S8x128, .i1⟩
  | 84 => ⟨S_, .i32⟩
  | 85 => ⟨S_, .i32⟩
  | 86 => ⟨S_, .f32⟩
  | 87 => ⟨S8x128, .f32⟩
  | 88 => ⟨S8x128, .f32⟩
  | 89 => ⟨S_, .f32⟩
  | 90 => ⟨S8x128, .f32⟩
  | 91 => ⟨S8x128, .f32⟩
  | 92 => ⟨S8x128, .i32⟩
  | 93 => ⟨S_, .i32⟩
  | 94 => ⟨S_, .i32⟩
  | 95 => ⟨S_, .f32⟩
  | 96 => ⟨S8x128, .f32⟩
  | 97 => ⟨S8x128, .f32⟩
  | 98 => ⟨S_, .f32⟩
  | 99 => ⟨S8x128, .f32⟩
  | 100 => ⟨S8x128, .f32⟩
  | 101 => ⟨S8x128, .i32⟩
  | 102 => ⟨S_, .i32⟩
  | 103 => ⟨S8x128, .i32⟩
  | 104 => ⟨S8x128, .i32⟩
  | 105 => ⟨S8x128, .i32⟩
  | 106 => ⟨S8x1x128, .i32⟩
  | 107 => ⟨S8x192x128, .i32⟩
  | 108 => ⟨S_, .i32⟩
  | 109 => ⟨S8x192x128, .i32⟩
  | 110 => ⟨S8x192x128, .i1⟩
  | 111 => ⟨S_, .i32⟩
  | 112 => ⟨S8x192x128, .i32⟩
  | 113 => ⟨S8x192x128, .i32⟩
  | 114 => ⟨S8x192x128, .i32⟩
  | 115 => ⟨S8x192x128x1, .i32⟩
  | 116 => ⟨S1, .i32⟩
  | 117 => ⟨S_, .i32⟩
  | 118 => ⟨S8x192x128x1, .i32⟩
  | 119 => ⟨S8x192x128x1, .i1⟩
  | 120 => ⟨S1x1x1x1, .i32⟩
  | 121 => ⟨S8x192x128x1, .i32⟩
  | 122 => ⟨S8x192x128x1, .i1⟩
  | 123 => ⟨S8x192x128x1, .i1⟩
  | 124 => ⟨S_, .i1⟩
  | 125 => ⟨S8x192x128, .i1⟩
  | 126 => ⟨S8x192x128, .f32⟩
  | 127 => ⟨S_, .f32⟩
  | _ => ⟨S8x192x64x64, .f32⟩

abbrev hbmTy0_9 (i : Nat) : BufTy := match i % 128 with
  | 0 => ⟨S8x192x128, .f32⟩
  | 1 => ⟨S8x192x128, .f32⟩
  | 2 => ⟨S8x1x128, .i1⟩
  | 3 => ⟨S8x1x128, .f32⟩
  | 4 => ⟨S8x192x128, .f32⟩
  | 5 => ⟨S8x192x128, .f32⟩
  | 6 => ⟨S_, .f32⟩
  | 7 => ⟨S8x128, .f32⟩
  | 8 => ⟨S8x128, .f32⟩
  | 9 => ⟨S_, .f32⟩
  | 10 => ⟨S8x128, .f32⟩
  | 11 => ⟨S8x128, .i1⟩
  | 12 => ⟨S_, .f32⟩
  | 13 => ⟨S8x128, .f32⟩
  | 14 => ⟨S8x128, .i1⟩
  | 15 => ⟨S8x128, .i1⟩
  | 16 => ⟨S_, .f32⟩
  | 17 => ⟨S8x128, .f32⟩
  | 18 => ⟨S8x128, .i1⟩
  | 19 => ⟨S8x128, .i1⟩
  | 20 => ⟨S_, .f32⟩
  | 21 => ⟨S8x128, .f32⟩
  | 22 => ⟨S8x128, .i1⟩
  | 23 => ⟨S8x128, .i1⟩
  | 24 => ⟨S_, .i32⟩
  | 25 => ⟨S_, .i32⟩
  | 26 => ⟨S_, .f32⟩
  | 27 => ⟨S8x128, .f32⟩
  | 28 => ⟨S8x128, .f32⟩
  | 29 => ⟨S_, .f32⟩
  | 30 => ⟨S8x128, .f32⟩
  | 31 => ⟨S8x128, .f32⟩
  | 32 => ⟨S8x128, .i32⟩
  | 33 => ⟨S_, .i32⟩
  | 34 => ⟨S_, .i32⟩
  | 35 => ⟨S_, .f32⟩
  | 36 => ⟨S8x128, .f32⟩
  | 37 => ⟨S8x128, .f32⟩
  | 38 => ⟨S_, .f32⟩
  | 39 => ⟨S8x128, .f32⟩
  | 40 => ⟨S8x128, .f32⟩
  | 41 => ⟨S8x128, .i32⟩
  | 42 => ⟨S_, .i32⟩
  | 43 => ⟨S8x128, .i32⟩
  | 44 => ⟨S8x128, .i32⟩
  | 45 => ⟨S8x128, .i32⟩
  | 46 => ⟨S8x1x128, .i32⟩
  | 47 => ⟨S8x192x128, .i32⟩
  | 48 => ⟨S_, .i32⟩
  | 49 => ⟨S8x192x128, .i32⟩
  | 50 => ⟨S8x192x128, .i1⟩
  | 51 => ⟨S_, .i32⟩
  | 52 => ⟨S8x192x128, .i32⟩
  | 53 => ⟨S8x192x128, .i32⟩
  | 54 => ⟨S8x192x128, .i32⟩
  | 55 => ⟨S8x192x128x1, .i32⟩
  | 56 => ⟨S1, .i32⟩
  | 57 => ⟨S_, .i32⟩
  | 58 => ⟨S8x192x128x1, .i32⟩
  | 59 => ⟨S8x192x128x1, .i1⟩
  | 60 => ⟨S1x1x1x1, .i32⟩
  | 61 => ⟨S8x192x128x1, .i32⟩
  | 62 => ⟨S8x192x128x1, .i1⟩
  | 63 => ⟨S8x192x128x1, .i1⟩
  | 64 => ⟨S_, .i1⟩
  | 65 => ⟨S8x192x128, .i1⟩
  | 66 => ⟨S8x192x128, .f32⟩
  | 67 => ⟨S_, .f32⟩
  | 68 => ⟨S8x192x128, .f32⟩
  | 69 => ⟨S8x192x128, .f32⟩
  | 70 => ⟨S8x1x128, .i1⟩
  | 71 => ⟨S8x1x128, .f32⟩
  | 72 => ⟨S8x192x128, .f32⟩
  | 73 => ⟨S8x192x128, .f32⟩
  | 74 => ⟨S_, .f32⟩
  | 75 => ⟨S8x128, .f32⟩
  | 76 => ⟨S8x128, .f32⟩
  | 77 => ⟨S_, .f32⟩
  | 78 => ⟨S8x128, .f32⟩
  | 79 => ⟨S8x128, .f32⟩
  | 80 => ⟨S_, .f32⟩
  | 81 => ⟨S8x128, .f32⟩
  | 82 => ⟨S8x128, .i1⟩
  | 83 => ⟨S_, .f32⟩
  | 84 => ⟨S8x128, .f32⟩
  | 85 => ⟨S8x128, .i1⟩
  | 86 => ⟨S8x128, .i1⟩
  | 87 => ⟨S_, .f32⟩
  | 88 => ⟨S8x128, .f32⟩
  | 89 => ⟨S8x128, .i1⟩
  | 90 => ⟨S8x128, .i1⟩
  | 91 => ⟨S_, .f32⟩
  | 92 => ⟨S8x128, .f32⟩
  | 93 => ⟨S8x128, .i1⟩
  | 94 => ⟨S8x128, .i1⟩
  | 95 => ⟨S_, .i32⟩
  | 96 => ⟨S_, .i32⟩
  | 97 => ⟨S_, .f32⟩
  | 98 => ⟨S8x128, .f32⟩
  | 99 => ⟨S8x128, .f32⟩
  | 100 => ⟨S_, .f32⟩
  | 101 => ⟨S8x128, .f32⟩
  | 102 => ⟨S8x128, .f32⟩
  | 103 => ⟨S8x128, .i32⟩
  | 104 => ⟨S_, .i32⟩
  | 105 => ⟨S_, .i32⟩
  | 106 => ⟨S_, .f32⟩
  | 107 => ⟨S8x128, .f32⟩
  | 108 => ⟨S8x128, .f32⟩
  | 109 => ⟨S_, .f32⟩
  | 110 => ⟨S8x128, .f32⟩
  | 111 => ⟨S8x128, .f32⟩
  | 112 => ⟨S8x128, .i32⟩
  | 113 => ⟨S_, .i32⟩
  | 114 => ⟨S8x128, .i32⟩
  | 115 => ⟨S8x128, .i32⟩
  | 116 => ⟨S8x128, .i32⟩
  | 117 => ⟨S8x1x128, .i32⟩
  | 118 => ⟨S8x192x128, .i32⟩
  | 119 => ⟨S_, .i32⟩
  | 120 => ⟨S8x192x128, .i32⟩
  | 121 => ⟨S8x192x128, .i1⟩
  | 122 => ⟨S_, .i32⟩
  | 123 => ⟨S8x192x128, .i32⟩
  | 124 => ⟨S8x192x128, .i32⟩
  | 125 => ⟨S8x192x128, .i32⟩
  | 126 => ⟨S8x192x128x1, .i32⟩
  | 127 => ⟨S1, .i32⟩
  | _ => ⟨S8x192x64x64, .f32⟩

abbrev hbmTy0_10 (i : Nat) : BufTy := match i % 128 with
  | 0 => ⟨S_, .i32⟩
  | 1 => ⟨S8x192x128x1, .i32⟩
  | 2 => ⟨S8x192x128x1, .i1⟩
  | 3 => ⟨S1x1x1x1, .i32⟩
  | 4 => ⟨S8x192x128x1, .i32⟩
  | 5 => ⟨S8x192x128x1, .i1⟩
  | 6 => ⟨S8x192x128x1, .i1⟩
  | 7 => ⟨S_, .i1⟩
  | 8 => ⟨S8x192x128, .i1⟩
  | 9 => ⟨S8x192x128, .f32⟩
  | 10 => ⟨S_, .f32⟩
  | 11 => ⟨S8x192x128, .f32⟩
  | 12 => ⟨S8x192x128, .f32⟩
  | 13 => ⟨S8x1x128, .i1⟩
  | 14 => ⟨S8x1x128, .f32⟩
  | 15 => ⟨S8x192x128, .f32⟩
  | 16 => ⟨S8x192x128, .f32⟩
  | 17 => ⟨S8x1x128, .f32⟩
  | 18 => ⟨S8x1x128, .f32⟩
  | 19 => ⟨S_, .f32⟩
  | 20 => ⟨S8x1x128, .f32⟩
  | 21 => ⟨S8x1x128, .f32⟩
  | 22 => ⟨S8x192x128, .f32⟩
  | 23 => ⟨S8x192x128, .f32⟩
  | 24 => ⟨S_, .f32⟩
  | 25 => ⟨S8x1x128, .f32⟩
  | 26 => ⟨S8x1x128, .f32⟩
  | 27 => ⟨S8x192x128, .f32⟩
  | 28 => ⟨S8x192x128, .f32⟩
  | 29 => ⟨S8x192x128, .f32⟩
  | 30 => ⟨S8x192x128, .f32⟩
  | 31 => ⟨S_, .f32⟩
  | 32 => ⟨S8x1x128, .f32⟩
  | 33 => ⟨S8x1x128, .f32⟩
  | 34 => ⟨S8x192x128, .f32⟩
  | 35 => ⟨S8x192x128, .f32⟩
  | 36 => ⟨S8x192x128, .f32⟩
  | 37 => ⟨S_, .f32⟩
  | 38 => ⟨S8x1x128, .f32⟩
  | 39 => ⟨S8x1x128, .f32⟩
  | 40 => ⟨S8x192x128, .f32⟩
  | 41 => ⟨S8x192x128, .f32⟩
  | 42 => ⟨S8x192x128, .f32⟩
  | 43 => ⟨S8x192x128, .f32⟩
  | 44 => ⟨S8x192x128, .f32⟩
  | 45 => ⟨S8x192x128, .f32⟩
  | 46 => ⟨S8x192x128, .f32⟩
  | 47 => ⟨S8x192x128, .f32⟩
  | 48 => ⟨S8x192x128, .f32⟩
  | 49 => ⟨S8x192x128, .f32⟩
  | 50 => ⟨S8x192x1x128, .f32⟩
  | 51 => ⟨S_, .i32⟩
  | 52 => ⟨S_, .f32⟩
  | 53 => ⟨S8x192x3x130, .f32⟩
  | 54 => ⟨S_, .f32⟩
  | 55 => ⟨S8x192x1x128, .f32⟩
  | 56 => ⟨S192x192x1x1, .f32⟩
  | 57 => ⟨S192x192, .f32⟩
  | 58 => ⟨S8x192x1x128, .f32⟩
  | 59 => ⟨S8x1x128x192, .f32⟩
  | 60 => ⟨S8x192x1x128, .f32⟩
  | 61 => ⟨S8x192x1x128, .f32⟩
  | 62 => ⟨S192x192x1x1, .f32⟩
  | 63 => ⟨S192x192, .f32⟩
  | 64 => ⟨S8x192x1x128, .f32⟩
  | 65 => ⟨S8x1x128x192, .f32⟩
  | 66 => ⟨S8x192x1x128, .f32⟩
  | 67 => ⟨S8x192x1x128, .f32⟩
  | 68 => ⟨S192x192x1x1, .f32⟩
  | 69 => ⟨S192x192, .f32⟩
  | 70 => ⟨S8x192x1x128, .f32⟩
  | 71 => ⟨S8x1x128x192, .f32⟩
  | 72 => ⟨S8x192x1x128, .f32⟩
  | 73 => ⟨S8x192x1x128, .f32⟩
  | 74 => ⟨S192x192x1x1, .f32⟩
  | 75 => ⟨S192x192, .f32⟩
  | 76 => ⟨S8x192x1x128, .f32⟩
  | 77 => ⟨S8x1x128x192, .f32⟩
  | 78 => ⟨S8x192x1x128, .f32⟩
  | 79 => ⟨S8x192x1x128, .f32⟩
  | 80 => ⟨S192x192x1x1, .f32⟩
  | 81 => ⟨S192x192, .f32⟩
  | 82 => ⟨S8x192x1x128, .f32⟩
  | 83 => ⟨S8x1x128x192, .f32⟩
  | 84 => ⟨S8x192x1x128, .f32⟩
  | 85 => ⟨S8x192x1x128, .f32⟩
  | 86 => ⟨S192x192x1x1, .f32⟩
  | 87 => ⟨S192x192, .f32⟩
  | 88 => ⟨S8x192x1x128, .f32⟩
  | 89 => ⟨S8x1x128x192, .f32⟩
  | 90 => ⟨S8x192x1x128, .f32⟩
  | 91 => ⟨S8x192x1x128, .f32⟩
  | 92 => ⟨S192x192x1x1, .f32⟩
  | 93 => ⟨S192x192, .f32⟩
  | 94 => ⟨S8x192x1x128, .f32⟩
  | 95 => ⟨S8x1x128x192, .f32⟩
  | 96 => ⟨S8x192x1x128, .f32⟩
  | 97 => ⟨S8x192x1x128, .f32⟩
  | 98 => ⟨S192x192x1x1, .f32⟩
  | 99 => ⟨S192x192, .f32⟩
  | 100 => ⟨S8x192x1x128, .f32⟩
  | 101 => ⟨S8x1x128x192, .f32⟩
  | 102 => ⟨S8x192x1x128, .f32⟩
  | 103 => ⟨S8x192x1x128, .f32⟩
  | 104 => ⟨S192x192x1x1, .f32⟩
  | 105 => ⟨S192x192, .f32⟩
  | 106 => ⟨S8x192x1x128, .f32⟩
  | 107 => ⟨S8x1x128x192, .f32⟩
  | 108 => ⟨S8x192x1x128, .f32⟩
  | 109 => ⟨S8x192x1x128, .f32⟩
  | 110 => ⟨S1x192x1x1, .f32⟩
  | 111 => ⟨S8x192x1x128, .f32⟩
  | 112 => ⟨S8x192x1x128, .f32⟩
  | 113 => ⟨S8x128x192, .f32⟩
  | 114 => ⟨S8x192x128, .f32⟩
  | 115 => ⟨S8x128x192, .f32⟩
  | 116 => ⟨S8x192x128, .f32⟩
  | 117 => ⟨S8x128x192, .f32⟩
  | 118 => ⟨S8x192x192, .f32⟩
  | 119 => ⟨S_, .f32⟩
  | 120 => ⟨S8x192, .f32⟩
  | 121 => ⟨S_, .f32⟩
  | 122 => ⟨S8x192, .f32⟩
  | 123 => ⟨S8x192, .f32⟩
  | 124 => ⟨S8x192x1, .f32⟩
  | 125 => ⟨S8x192x192, .f32⟩
  | 126 => ⟨S8x192x192, .f32⟩
  | 127 => ⟨S8x192x192, .f32⟩
  | _ => ⟨S8x192x64x64, .f32⟩

abbrev hbmTy0_11 (i : Nat) : BufTy := match i % 128 with
  | 0 => ⟨S_, .f32⟩
  | 1 => ⟨S8x192, .f32⟩
  | 2 => ⟨S8x192x1, .f32⟩
  | 3 => ⟨S8x192x192, .f32⟩
  | 4 => ⟨S8x192x192, .f32⟩
  | 5 => ⟨S8x192x128, .f32⟩
  | 6 => ⟨S8x192x128, .f32⟩
  | 7 => ⟨S8x128x192, .f32⟩
  | 8 => ⟨S8x192x128, .f32⟩
  | 9 => ⟨S8x192x128, .f32⟩
  | 10 => ⟨S8x192x16384, .f32⟩
  | 11 => ⟨S8, .i32⟩
  | 12 => ⟨S8x1x1, .i32⟩
  | 13 => ⟨S192, .i32⟩
  | 14 => ⟨S1x192x1, .i32⟩
  | 15 => ⟨S_, .i32⟩
  | 16 => ⟨S8x1x1, .i32⟩
  | 17 => ⟨S8x1x1, .i1⟩
  | 18 => ⟨S_, .i32⟩
  | 19 => ⟨S8x1x1, .i32⟩
  | 20 => ⟨S8x1x1, .i32⟩
  | 21 => ⟨S8x1x1, .i32⟩
  | 22 => ⟨S_, .i32⟩
  | 23 => ⟨S1x192x1, .i32⟩
  | 24 => ⟨S1x192x1, .i1⟩
  | 25 => ⟨S_, .i32⟩
  | 26 => ⟨S1x192x1, .i32⟩
  | 27 => ⟨S1x192x1, .i32⟩
  | 28 => ⟨S1x192x1, .i32⟩
  | 29 => ⟨S_, .i32⟩
  | 30 => ⟨S8x192x128, .i32⟩
  | 31 => ⟨S8x192x128, .i1⟩
  | 32 => ⟨S_, .i32⟩
  | 33 => ⟨S8x192x128, .i32⟩
  | 34 => ⟨S8x192x128, .i32⟩
  | 35 => ⟨S8x192x128, .i32⟩
  | 36 => ⟨S8x192x128, .i32⟩
  | 37 => ⟨S8x192x128, .i32⟩
  | 38 => ⟨S8x192x128x1, .i32⟩
  | 39 => ⟨S8x192x128x1, .i32⟩
  | 40 => ⟨S8x192x128x1, .i32⟩
  | 41 => ⟨S8x192x128x3, .i32⟩
  | 42 => ⟨S8x192x16384, .f32⟩
  | 43 => ⟨S8x192x128x128, .f32⟩
  | _ => ⟨S8x192x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S8x192x64x64, .f32⟩

abbrev bufTy : (tb : Table) → Fin (tcTables nBuf tb) → BufTy
  | .hbm, ⟨i, _⟩ => hbmTy i
  | _, _ => ⟨S8x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_call1_v0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_cst_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_cst : Ref sig .tc := ⟨.hbm, 43, rfl⟩
abbrev main_call2_v3 : Ref sig .tc := ⟨.hbm, 44, rfl⟩
abbrev main_call2_v4 : Ref sig .tc := ⟨.hbm, 45, rfl⟩
abbrev main_call2_cst_0 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_cst_1 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v18 : Ref sig .tc := ⟨.hbm, 60, rfl⟩
abbrev main_cst_4 : Ref sig .tc := ⟨.hbm, 61, rfl⟩
abbrev main_cst_5 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_cst : Ref sig .tc := ⟨.hbm, 66, rfl⟩
abbrev main_call3_v3 : Ref sig .tc := ⟨.hbm, 67, rfl⟩
abbrev main_call3_v4 : Ref sig .tc := ⟨.hbm, 68, rfl⟩
abbrev main_call3_cst_0 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_cst_1 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_call3_v15 : Ref sig .tc := ⟨.hbm, 81, rfl⟩
abbrev main_call3_v16 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_c_6 : Ref sig .tc := ⟨.hbm, 86, rfl⟩
abbrev main_v22 : Ref sig .tc := ⟨.hbm, 87, rfl⟩
abbrev main_v23 : Ref sig .tc := ⟨.hbm, 88, rfl⟩
abbrev main_c_7 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_c_8 : Ref sig .tc := ⟨.hbm, 96, rfl⟩
abbrev main_v30 : Ref sig .tc := ⟨.hbm, 97, rfl⟩
abbrev main_v31 : Ref sig .tc := ⟨.hbm, 98, rfl⟩
abbrev main_c_9 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_10 : Ref sig .tc := ⟨.hbm, 104, rfl⟩
abbrev main_v36 : Ref sig .tc := ⟨.hbm, 105, rfl⟩
abbrev main_v37 : Ref sig .tc := ⟨.hbm, 106, rfl⟩
abbrev main_c_11 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_c_12 : Ref sig .tc := ⟨.hbm, 113, rfl⟩
abbrev main_v43 : Ref sig .tc := ⟨.hbm, 114, rfl⟩
abbrev main_v44 : Ref sig .tc := ⟨.hbm, 115, rfl⟩
abbrev main_c_13 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_cst_14 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_c_15 : Ref sig .tc := ⟨.hbm, 132, rfl⟩
abbrev main_v59 : Ref sig .tc := ⟨.hbm, 133, rfl⟩
abbrev main_v60 : Ref sig .tc := ⟨.hbm, 134, rfl⟩
abbrev main_c_16 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_c_17 : Ref sig .tc := ⟨.hbm, 141, rfl⟩
abbrev main_v66 : Ref sig .tc := ⟨.hbm, 142, rfl⟩
abbrev main_v67 : Ref sig .tc := ⟨.hbm, 143, rfl⟩
abbrev main_c_18 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_19 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_c_20 : Ref sig .tc := ⟨.hbm, 161, rfl⟩
abbrev main_call4_v0 : Ref sig .tc := ⟨.hbm, 162, rfl⟩
abbrev main_v83 : Ref sig .tc := ⟨.hbm, 163, rfl⟩
abbrev main_cst_21 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_22 : Ref sig .tc := ⟨.hbm, 225, rfl⟩
abbrev main_v144 : Ref sig .tc := ⟨.hbm, 226, rfl⟩
abbrev main_v145 : Ref sig .tc := ⟨.hbm, 227, rfl⟩
abbrev main_cst_23 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_24 : Ref sig .tc := ⟨.hbm, 232, rfl⟩
abbrev main_v149 : Ref sig .tc := ⟨.hbm, 233, rfl⟩
abbrev main_cst_25 : Ref sig .tc := ⟨.hbm, 234, rfl⟩
abbrev main_v150 : Ref sig .tc := ⟨.hbm, 235, rfl⟩
abbrev main_v151 : Ref sig .tc := ⟨.hbm, 236, rfl⟩
abbrev main_cst_26 : Ref sig .tc := ⟨.hbm, 237, rfl⟩
abbrev main_cst_27 : Ref sig .tc := ⟨.hbm, 238, rfl⟩
abbrev main_call5_v0 : Ref sig .tc := ⟨.hbm, 239, rfl⟩
abbrev main_call5_v1 : Ref sig .tc := ⟨.hbm, 240, rfl⟩
abbrev main_call5_v2 : Ref sig .tc := ⟨.hbm, 241, rfl⟩
abbrev main_call5_cst : Ref sig .tc := ⟨.hbm, 242, rfl⟩
abbrev main_call5_v3 : Ref sig .tc := ⟨.hbm, 243, rfl⟩
abbrev main_call5_v4 : Ref sig .tc := ⟨.hbm, 244, rfl⟩
abbrev main_call5_cst_0 : Ref sig .tc := ⟨.hbm, 245, rfl⟩
abbrev main_call5_v5 : Ref sig .tc := ⟨.hbm, 246, rfl⟩
abbrev main_call5_v6 : Ref sig .tc := ⟨.hbm, 247, rfl⟩
abbrev main_call5_v7 : Ref sig .tc := ⟨.hbm, 248, rfl⟩
abbrev main_call5_cst_1 : Ref sig .tc := ⟨.hbm, 249, rfl⟩
abbrev main_call5_v8 : Ref sig .tc := ⟨.hbm, 250, rfl⟩
abbrev main_call5_v9 : Ref sig .tc := ⟨.hbm, 251, rfl⟩
abbrev main_call5_v10 : Ref sig .tc := ⟨.hbm, 252, rfl⟩
abbrev main_call5_v11 : Ref sig .tc := ⟨.hbm, 253, rfl⟩
abbrev main_call5_v12 : Ref sig .tc := ⟨.hbm, 254, rfl⟩
abbrev main_call5_v13 : Ref sig .tc := ⟨.hbm, 255, rfl⟩
abbrev main_call5_v14 : Ref sig .tc := ⟨.hbm, 256, rfl⟩
abbrev main_call5_v15 : Ref sig .tc := ⟨.hbm, 257, rfl⟩
abbrev main_call5_v16 : Ref sig .tc := ⟨.hbm, 258, rfl⟩
abbrev main_v152 : Ref sig .tc := ⟨.hbm, 259, rfl⟩
abbrev main_cst_28 : Ref sig .tc := ⟨.hbm, 260, rfl⟩
abbrev main_cst_29 : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_cst : Ref sig .tc := ⟨.hbm, 265, rfl⟩
abbrev main_call6_v3 : Ref sig .tc := ⟨.hbm, 266, rfl⟩
abbrev main_call6_v4 : Ref sig .tc := ⟨.hbm, 267, rfl⟩
abbrev main_call6_cst_0 : Ref sig .tc := ⟨.hbm, 268, rfl⟩
abbrev main_call6_v5 : Ref sig .tc := ⟨.hbm, 269, rfl⟩
abbrev main_call6_v6 : Ref sig .tc := ⟨.hbm, 270, rfl⟩
abbrev main_call6_v7 : Ref sig .tc := ⟨.hbm, 271, rfl⟩
abbrev main_call6_cst_1 : Ref sig .tc := ⟨.hbm, 272, rfl⟩
abbrev main_call6_v8 : Ref sig .tc := ⟨.hbm, 273, rfl⟩
abbrev main_call6_v9 : Ref sig .tc := ⟨.hbm, 274, rfl⟩
abbrev main_call6_v10 : Ref sig .tc := ⟨.hbm, 275, rfl⟩
abbrev main_call6_v11 : Ref sig .tc := ⟨.hbm, 276, rfl⟩
abbrev main_call6_v12 : Ref sig .tc := ⟨.hbm, 277, rfl⟩
abbrev main_call6_v13 : Ref sig .tc := ⟨.hbm, 278, rfl⟩
abbrev main_call6_v14 : Ref sig .tc := ⟨.hbm, 279, rfl⟩
abbrev main_call6_v15 : Ref sig .tc := ⟨.hbm, 280, rfl⟩
abbrev main_call6_v16 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_c_30 : Ref sig .tc := ⟨.hbm, 285, rfl⟩
abbrev main_v156 : Ref sig .tc := ⟨.hbm, 286, rfl⟩
abbrev main_v157 : Ref sig .tc := ⟨.hbm, 287, rfl⟩
abbrev main_c_31 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_c_32 : Ref sig .tc := ⟨.hbm, 295, rfl⟩
abbrev main_v164 : Ref sig .tc := ⟨.hbm, 296, rfl⟩
abbrev main_v165 : Ref sig .tc := ⟨.hbm, 297, rfl⟩
abbrev main_c_33 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_c_34 : Ref sig .tc := ⟨.hbm, 303, rfl⟩
abbrev main_v170 : Ref sig .tc := ⟨.hbm, 304, rfl⟩
abbrev main_v171 : Ref sig .tc := ⟨.hbm, 305, rfl⟩
abbrev main_c_35 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_c_36 : Ref sig .tc := ⟨.hbm, 312, rfl⟩
abbrev main_v177 : Ref sig .tc := ⟨.hbm, 313, rfl⟩
abbrev main_v178 : Ref sig .tc := ⟨.hbm, 314, rfl⟩
abbrev main_c_37 : Ref sig .tc := ⟨.hbm, 315, rfl⟩
abbrev main_v179 : Ref sig .tc := ⟨.hbm, 316, rfl⟩
abbrev main_v180 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_cst_38 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_c_39 : Ref sig .tc := ⟨.hbm, 331, rfl⟩
abbrev main_v193 : Ref sig .tc := ⟨.hbm, 332, rfl⟩
abbrev main_v194 : Ref sig .tc := ⟨.hbm, 333, rfl⟩
abbrev main_c_40 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_c_41 : Ref sig .tc := ⟨.hbm, 340, rfl⟩
abbrev main_v200 : Ref sig .tc := ⟨.hbm, 341, rfl⟩
abbrev main_v201 : Ref sig .tc := ⟨.hbm, 342, rfl⟩
abbrev main_c_42 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_cst_43 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_c_44 : Ref sig .tc := ⟨.hbm, 362, rfl⟩
abbrev main_call7_v0 : Ref sig .tc := ⟨.hbm, 363, rfl⟩
abbrev main_v219 : Ref sig .tc := ⟨.hbm, 364, rfl⟩
abbrev main_cst_45 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_v226 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_v230 : Ref sig .tc := ⟨.hbm, 376, rfl⟩
abbrev main_v231 : Ref sig .tc := ⟨.hbm, 377, rfl⟩
abbrev main_v232 : Ref sig .tc := ⟨.hbm, 378, rfl⟩
abbrev main_v233 : Ref sig .tc := ⟨.hbm, 379, rfl⟩
abbrev main_v234 : Ref sig .tc := ⟨.hbm, 380, rfl⟩
abbrev main_v235 : Ref sig .tc := ⟨.hbm, 381, rfl⟩
abbrev main_v236 : Ref sig .tc := ⟨.hbm, 382, rfl⟩
abbrev main_v237 : Ref sig .tc := ⟨.hbm, 383, rfl⟩
abbrev main_v238 : Ref sig .tc := ⟨.hbm, 384, rfl⟩
abbrev main_v239 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_v247 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_v267 : Ref sig .tc := ⟨.hbm, 413, rfl⟩
abbrev main_v268 : Ref sig .tc := ⟨.hbm, 414, rfl⟩
abbrev main_v269 : Ref sig .tc := ⟨.hbm, 415, rfl⟩
abbrev main_v270 : Ref sig .tc := ⟨.hbm, 416, rfl⟩
abbrev main_v271 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_cst_46 : Ref sig .tc := ⟨.hbm, 421, rfl⟩
abbrev main_v275 : Ref sig .tc := ⟨.hbm, 422, rfl⟩
abbrev main_v276 : Ref sig .tc := ⟨.hbm, 423, rfl⟩
abbrev main_cst_47 : Ref sig .tc := ⟨.hbm, 424, rfl⟩
abbrev main_v277 : Ref sig .tc := ⟨.hbm, 425, rfl⟩
abbrev main_v278 : Ref sig .tc := ⟨.hbm, 426, rfl⟩
abbrev main_c_48 : Ref sig .tc := ⟨.hbm, 427, rfl⟩
abbrev main_call8_cst : Ref sig .tc := ⟨.hbm, 428, rfl⟩
abbrev main_call8_v0 : Ref sig .tc := ⟨.hbm, 429, rfl⟩
abbrev main_call8_v1 : Ref sig .tc := ⟨.hbm, 430, rfl⟩
abbrev main_call8_cst_0 : Ref sig .tc := ⟨.hbm, 431, rfl⟩
abbrev main_call8_v2 : Ref sig .tc := ⟨.hbm, 432, rfl⟩
abbrev main_call8_v3 : Ref sig .tc := ⟨.hbm, 433, rfl⟩
abbrev main_call8_v4 : Ref sig .tc := ⟨.hbm, 434, rfl⟩
abbrev main_call8_v5 : Ref sig .tc := ⟨.hbm, 435, rfl⟩
abbrev main_call8_v6 : Ref sig .tc := ⟨.hbm, 436, rfl⟩
abbrev main_call8_v7 : Ref sig .tc := ⟨.hbm, 437, rfl⟩
abbrev main_call8_cst_1 : Ref sig .tc := ⟨.hbm, 438, rfl⟩
abbrev main_call8_v8 : Ref sig .tc := ⟨.hbm, 439, rfl⟩
abbrev main_call8_cst_2 : Ref sig .tc := ⟨.hbm, 440, rfl⟩
abbrev main_call8_v9 : Ref sig .tc := ⟨.hbm, 441, rfl⟩
abbrev main_call8_v10 : Ref sig .tc := ⟨.hbm, 442, rfl⟩
abbrev main_call8_v11 : Ref sig .tc := ⟨.hbm, 443, rfl⟩
abbrev main_call8_v12 : Ref sig .tc := ⟨.hbm, 444, rfl⟩
abbrev main_call8_cst_3 : Ref sig .tc := ⟨.hbm, 445, rfl⟩
abbrev main_call8_v13 : Ref sig .tc := ⟨.hbm, 446, rfl⟩
abbrev main_call8_cst_4 : Ref sig .tc := ⟨.hbm, 447, rfl⟩
abbrev main_call8_call0_v0 : Ref sig .tc := ⟨.hbm, 448, rfl⟩
abbrev main_call8_call0_v1 : Ref sig .tc := ⟨.hbm, 449, rfl⟩
abbrev main_v279 : Ref sig .tc := ⟨.hbm, 450, rfl⟩
abbrev main_v280 : Ref sig .tc := ⟨.hbm, 451, rfl⟩
abbrev main_v281 : Ref sig .tc := ⟨.hbm, 452, rfl⟩
abbrev main_cst_49 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_call9_cst : Ref sig .tc := ⟨.hbm, 465, rfl⟩
abbrev main_call9_v0 : Ref sig .tc := ⟨.hbm, 466, rfl⟩
abbrev main_v293 : Ref sig .tc := ⟨.hbm, 467, rfl⟩
abbrev main_c_50 : Ref sig .tc := ⟨.hbm, 468, rfl⟩
abbrev main_call10_v0 : Ref sig .tc := ⟨.hbm, 469, rfl⟩
abbrev main_v294 : Ref sig .tc := ⟨.hbm, 470, rfl⟩
abbrev main_cst_51 : Ref sig .tc := ⟨.hbm, 471, rfl⟩
abbrev main_v295 : Ref sig .tc := ⟨.hbm, 472, rfl⟩
abbrev main_v296 : Ref sig .tc := ⟨.hbm, 473, rfl⟩
abbrev main_v297 : Ref sig .tc := ⟨.hbm, 474, rfl⟩
abbrev main_v298 : Ref sig .tc := ⟨.hbm, 475, rfl⟩
abbrev main_v299 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_v310 : Ref sig .tc := ⟨.hbm, 487, rfl⟩
abbrev main_v311 : Ref sig .tc := ⟨.hbm, 488, rfl⟩
abbrev main_v312 : Ref sig .tc := ⟨.hbm, 489, rfl⟩
abbrev main_v313 : Ref sig .tc := ⟨.hbm, 490, rfl⟩
abbrev main_v314 : Ref sig .tc := ⟨.hbm, 491, rfl⟩
abbrev main_v315 : Ref sig .tc := ⟨.hbm, 492, rfl⟩
abbrev main_v316 : Ref sig .tc := ⟨.hbm, 493, rfl⟩
abbrev main_v317 : Ref sig .tc := ⟨.hbm, 494, rfl⟩
abbrev main_v318 : Ref sig .tc := ⟨.hbm, 495, rfl⟩
abbrev main_v319 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_v323 : Ref sig .tc := ⟨.hbm, 500, rfl⟩
abbrev main_v324 : Ref sig .tc := ⟨.hbm, 501, rfl⟩
abbrev main_v325 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_v330 : Ref sig .tc := ⟨.hbm, 507, rfl⟩
abbrev main_v331 : Ref sig .tc := ⟨.hbm, 508, rfl⟩
abbrev main_v332 : Ref sig .tc := ⟨.hbm, 509, rfl⟩
abbrev main_v333 : Ref sig .tc := ⟨.hbm, 510, rfl⟩
abbrev main_v334 : Ref sig .tc := ⟨.hbm, 511, rfl⟩
abbrev main_v335 : Ref sig .tc := ⟨.hbm, 512, rfl⟩
abbrev main_v336 : Ref sig .tc := ⟨.hbm, 513, rfl⟩
abbrev main_v337 : Ref sig .tc := ⟨.hbm, 514, rfl⟩
abbrev main_v338 : Ref sig .tc := ⟨.hbm, 515, rfl⟩
abbrev main_v339 : Ref sig .tc := ⟨.hbm, 516, rfl⟩
abbrev main_v340 : Ref sig .tc := ⟨.hbm, 517, rfl⟩
abbrev main_v341 : Ref sig .tc := ⟨.hbm, 518, rfl⟩
abbrev main_v342 : Ref sig .tc := ⟨.hbm, 519, rfl⟩
abbrev main_v343 : Ref sig .tc := ⟨.hbm, 520, rfl⟩
abbrev main_v344 : Ref sig .tc := ⟨.hbm, 521, rfl⟩
abbrev main_v345 : Ref sig .tc := ⟨.hbm, 522, rfl⟩
abbrev main_v346 : Ref sig .tc := ⟨.hbm, 523, rfl⟩
abbrev main_v347 : Ref sig .tc := ⟨.hbm, 524, rfl⟩
abbrev main_v348 : Ref sig .tc := ⟨.hbm, 525, rfl⟩
abbrev main_v349 : Ref sig .tc := ⟨.hbm, 526, rfl⟩
abbrev main_v350 : Ref sig .tc := ⟨.hbm, 527, rfl⟩
abbrev main_values : Ref sig .tc := ⟨.hbm, 528, rfl⟩
abbrev main_indices : Ref sig .tc := ⟨.hbm, 529, rfl⟩
abbrev main_c_52 : Ref sig .tc := ⟨.hbm, 530, rfl⟩
abbrev main_call11_v0 : Ref sig .tc := ⟨.hbm, 531, rfl⟩
abbrev main_call11_c : Ref sig .tc := ⟨.hbm, 532, rfl⟩
abbrev main_call11_v1 : Ref sig .tc := ⟨.hbm, 533, rfl⟩
abbrev main_call11_c_0 : Ref sig .tc := ⟨.hbm, 534, rfl⟩
abbrev main_call11_v2 : Ref sig .tc := ⟨.hbm, 535, rfl⟩
abbrev main_call11_v3 : Ref sig .tc := ⟨.hbm, 536, rfl⟩
abbrev main_call11_v4 : Ref sig .tc := ⟨.hbm, 537, rfl⟩
abbrev main_call11_c_1 : Ref sig .tc := ⟨.hbm, 538, rfl⟩
abbrev main_call11_v5 : Ref sig .tc := ⟨.hbm, 539, rfl⟩
abbrev main_call11_v6 : Ref sig .tc := ⟨.hbm, 540, rfl⟩
abbrev main_call11_c_2 : Ref sig .tc := ⟨.hbm, 541, rfl⟩
abbrev main_call11_v7 : Ref sig .tc := ⟨.hbm, 542, rfl⟩
abbrev main_call11_v8 : Ref sig .tc := ⟨.hbm, 543, rfl⟩
abbrev main_call11_c_3 : Ref sig .tc := ⟨.hbm, 544, rfl⟩
abbrev main_call11_v9 : Ref sig .tc := ⟨.hbm, 545, rfl⟩
abbrev main_call11_v10 : Ref sig .tc := ⟨.hbm, 546, rfl⟩
abbrev main_call11_v11 : Ref sig .tc := ⟨.hbm, 547, rfl⟩
abbrev main_call11_v12 : Ref sig .tc := ⟨.hbm, 548, rfl⟩
abbrev main_call11_v13 : Ref sig .tc := ⟨.hbm, 549, rfl⟩
abbrev main_call11_v14 : Ref sig .tc := ⟨.hbm, 550, rfl⟩
abbrev main_v351 : Ref sig .tc := ⟨.hbm, 551, rfl⟩
abbrev main_v352 : Ref sig .tc := ⟨.hbm, 552, rfl⟩
abbrev main_cst_53 : Ref sig .tc := ⟨.hbm, 553, rfl⟩
abbrev main_v353 : Ref sig .tc := ⟨.hbm, 554, rfl⟩
abbrev main_v354 : Ref sig .tc := ⟨.hbm, 555, rfl⟩
abbrev main_cst_54 : Ref sig .tc := ⟨.hbm, 556, rfl⟩
abbrev main_v355 : Ref sig .tc := ⟨.hbm, 557, rfl⟩
abbrev main_v356 : Ref sig .tc := ⟨.hbm, 558, rfl⟩
abbrev main_c_55 : Ref sig .tc := ⟨.hbm, 559, rfl⟩
abbrev main_call12_v0 : Ref sig .tc := ⟨.hbm, 560, rfl⟩
abbrev main_call12_v1 : Ref sig .tc := ⟨.hbm, 561, rfl⟩
abbrev main_call12_v2 : Ref sig .tc := ⟨.hbm, 562, rfl⟩
abbrev main_call12_v3 : Ref sig .tc := ⟨.hbm, 563, rfl⟩
abbrev main_call12_v4 : Ref sig .tc := ⟨.hbm, 564, rfl⟩
abbrev main_call12_v5 : Ref sig .tc := ⟨.hbm, 565, rfl⟩
abbrev main_call12_v6 : Ref sig .tc := ⟨.hbm, 566, rfl⟩
abbrev main_call12_v7 : Ref sig .tc := ⟨.hbm, 567, rfl⟩
abbrev main_call12_v8 : Ref sig .tc := ⟨.hbm, 568, rfl⟩
abbrev main_call12_c : Ref sig .tc := ⟨.hbm, 569, rfl⟩
abbrev main_call12_v9 : Ref sig .tc := ⟨.hbm, 570, rfl⟩
abbrev main_call12_v10 : Ref sig .tc := ⟨.hbm, 571, rfl⟩
abbrev main_call12_v11 : Ref sig .tc := ⟨.hbm, 572, rfl⟩
abbrev main_call12_c_0 : Ref sig .tc := ⟨.hbm, 573, rfl⟩
abbrev main_call12_v12 : Ref sig .tc := ⟨.hbm, 574, rfl⟩
abbrev main_call12_v13 : Ref sig .tc := ⟨.hbm, 575, rfl⟩
abbrev main_v357 : Ref sig .tc := ⟨.hbm, 576, rfl⟩
abbrev main_v358 : Ref sig .tc := ⟨.hbm, 577, rfl⟩
abbrev main_cst_56 : Ref sig .tc := ⟨.hbm, 578, rfl⟩
abbrev main_v359 : Ref sig .tc := ⟨.hbm, 579, rfl⟩
abbrev main_v360 : Ref sig .tc := ⟨.hbm, 580, rfl⟩
abbrev main_cst_57 : Ref sig .tc := ⟨.hbm, 581, rfl⟩
abbrev main_v361 : Ref sig .tc := ⟨.hbm, 582, rfl⟩
abbrev main_v362 : Ref sig .tc := ⟨.hbm, 583, rfl⟩
abbrev main_v363 : Ref sig .tc := ⟨.hbm, 584, rfl⟩
abbrev main_v364 : Ref sig .tc := ⟨.hbm, 585, rfl⟩
abbrev main_v365 : Ref sig .tc := ⟨.hbm, 586, rfl⟩
abbrev main_c_58 : Ref sig .tc := ⟨.hbm, 587, rfl⟩
abbrev main_call13_v0 : Ref sig .tc := ⟨.hbm, 588, rfl⟩
abbrev main_call13_c : Ref sig .tc := ⟨.hbm, 589, rfl⟩
abbrev main_call13_v1 : Ref sig .tc := ⟨.hbm, 590, rfl⟩
abbrev main_call13_c_0 : Ref sig .tc := ⟨.hbm, 591, rfl⟩
abbrev main_call13_v2 : Ref sig .tc := ⟨.hbm, 592, rfl⟩
abbrev main_call13_v3 : Ref sig .tc := ⟨.hbm, 593, rfl⟩
abbrev main_call13_v4 : Ref sig .tc := ⟨.hbm, 594, rfl⟩
abbrev main_call13_c_1 : Ref sig .tc := ⟨.hbm, 595, rfl⟩
abbrev main_call13_v5 : Ref sig .tc := ⟨.hbm, 596, rfl⟩
abbrev main_call13_v6 : Ref sig .tc := ⟨.hbm, 597, rfl⟩
abbrev main_call13_c_2 : Ref sig .tc := ⟨.hbm, 598, rfl⟩
abbrev main_call13_v7 : Ref sig .tc := ⟨.hbm, 599, rfl⟩
abbrev main_call13_v8 : Ref sig .tc := ⟨.hbm, 600, rfl⟩
abbrev main_call13_c_3 : Ref sig .tc := ⟨.hbm, 601, rfl⟩
abbrev main_call13_v9 : Ref sig .tc := ⟨.hbm, 602, rfl⟩
abbrev main_call13_v10 : Ref sig .tc := ⟨.hbm, 603, rfl⟩
abbrev main_call13_v11 : Ref sig .tc := ⟨.hbm, 604, rfl⟩
abbrev main_call13_v12 : Ref sig .tc := ⟨.hbm, 605, rfl⟩
abbrev main_call13_v13 : Ref sig .tc := ⟨.hbm, 606, rfl⟩
abbrev main_call13_v14 : Ref sig .tc := ⟨.hbm, 607, rfl⟩
abbrev main_v366 : Ref sig .tc := ⟨.hbm, 608, rfl⟩
abbrev main_v367 : Ref sig .tc := ⟨.hbm, 609, rfl⟩
abbrev main_cst_59 : Ref sig .tc := ⟨.hbm, 610, rfl⟩
abbrev main_v368 : Ref sig .tc := ⟨.hbm, 611, rfl⟩
abbrev main_v369 : Ref sig .tc := ⟨.hbm, 612, rfl⟩
abbrev main_c_60 : Ref sig .tc := ⟨.hbm, 613, rfl⟩
abbrev main_call14_v0 : Ref sig .tc := ⟨.hbm, 614, rfl⟩
abbrev main_call14_v1 : Ref sig .tc := ⟨.hbm, 615, rfl⟩
abbrev main_call14_v2 : Ref sig .tc := ⟨.hbm, 616, rfl⟩
abbrev main_call14_v3 : Ref sig .tc := ⟨.hbm, 617, rfl⟩
abbrev main_call14_v4 : Ref sig .tc := ⟨.hbm, 618, rfl⟩
abbrev main_call14_v5 : Ref sig .tc := ⟨.hbm, 619, rfl⟩
abbrev main_call14_v6 : Ref sig .tc := ⟨.hbm, 620, rfl⟩
abbrev main_call14_v7 : Ref sig .tc := ⟨.hbm, 621, rfl⟩
abbrev main_call14_v8 : Ref sig .tc := ⟨.hbm, 622, rfl⟩
abbrev main_call14_c : Ref sig .tc := ⟨.hbm, 623, rfl⟩
abbrev main_call14_v9 : Ref sig .tc := ⟨.hbm, 624, rfl⟩
abbrev main_call14_v10 : Ref sig .tc := ⟨.hbm, 625, rfl⟩
abbrev main_call14_v11 : Ref sig .tc := ⟨.hbm, 626, rfl⟩
abbrev main_call14_c_0 : Ref sig .tc := ⟨.hbm, 627, rfl⟩
abbrev main_call14_v12 : Ref sig .tc := ⟨.hbm, 628, rfl⟩
abbrev main_call14_v13 : Ref sig .tc := ⟨.hbm, 629, rfl⟩
abbrev main_v370 : Ref sig .tc := ⟨.hbm, 630, rfl⟩
abbrev main_v371 : Ref sig .tc := ⟨.hbm, 631, rfl⟩
abbrev main_cst_61 : Ref sig .tc := ⟨.hbm, 632, rfl⟩
abbrev main_v372 : Ref sig .tc := ⟨.hbm, 633, rfl⟩
abbrev main_v373 : Ref sig .tc := ⟨.hbm, 634, rfl⟩
abbrev main_cst_62 : Ref sig .tc := ⟨.hbm, 635, rfl⟩
abbrev main_v374 : Ref sig .tc := ⟨.hbm, 636, rfl⟩
abbrev main_v375 : Ref sig .tc := ⟨.hbm, 637, rfl⟩
abbrev main_v376 : Ref sig .tc := ⟨.hbm, 638, rfl⟩
abbrev main_v377 : Ref sig .tc := ⟨.hbm, 639, rfl⟩
abbrev main_v378 : Ref sig .tc := ⟨.hbm, 640, rfl⟩
abbrev main_v379 : Ref sig .tc := ⟨.hbm, 641, rfl⟩
abbrev main_cst_63 : Ref sig .tc := ⟨.hbm, 642, rfl⟩
abbrev main_v380 : Ref sig .tc := ⟨.hbm, 643, rfl⟩
abbrev main_v381 : Ref sig .tc := ⟨.hbm, 644, rfl⟩
abbrev main_cst_64 : Ref sig .tc := ⟨.hbm, 645, rfl⟩
abbrev main_v382 : Ref sig .tc := ⟨.hbm, 646, rfl⟩
abbrev main_v383 : Ref sig .tc := ⟨.hbm, 647, rfl⟩
abbrev main_v384 : Ref sig .tc := ⟨.hbm, 648, rfl⟩
abbrev main_v385 : Ref sig .tc := ⟨.hbm, 649, rfl⟩
abbrev main_cst_65 : Ref sig .tc := ⟨.hbm, 650, rfl⟩
abbrev main_v386 : Ref sig .tc := ⟨.hbm, 651, rfl⟩
abbrev main_v387 : Ref sig .tc := ⟨.hbm, 652, rfl⟩
abbrev main_cst_66 : Ref sig .tc := ⟨.hbm, 653, rfl⟩
abbrev main_v388 : Ref sig .tc := ⟨.hbm, 654, rfl⟩
abbrev main_v389 : Ref sig .tc := ⟨.hbm, 655, rfl⟩
abbrev main_cst_67 : Ref sig .tc := ⟨.hbm, 656, rfl⟩
abbrev main_v390 : Ref sig .tc := ⟨.hbm, 657, rfl⟩
abbrev main_v391 : Ref sig .tc := ⟨.hbm, 658, rfl⟩
abbrev main_cst_68 : Ref sig .tc := ⟨.hbm, 659, rfl⟩
abbrev main_v392 : Ref sig .tc := ⟨.hbm, 660, rfl⟩
abbrev main_v393 : Ref sig .tc := ⟨.hbm, 661, rfl⟩
abbrev main_v394 : Ref sig .tc := ⟨.hbm, 662, rfl⟩
abbrev main_v395 : Ref sig .tc := ⟨.hbm, 663, rfl⟩
abbrev main_cst_69 : Ref sig .tc := ⟨.hbm, 664, rfl⟩
abbrev main_v396 : Ref sig .tc := ⟨.hbm, 665, rfl⟩
abbrev main_v397 : Ref sig .tc := ⟨.hbm, 666, rfl⟩
abbrev main_cst_70 : Ref sig .tc := ⟨.hbm, 667, rfl⟩
abbrev main_v398 : Ref sig .tc := ⟨.hbm, 668, rfl⟩
abbrev main_v399 : Ref sig .tc := ⟨.hbm, 669, rfl⟩
abbrev main_cst_71 : Ref sig .tc := ⟨.hbm, 670, rfl⟩
abbrev main_v400 : Ref sig .tc := ⟨.hbm, 671, rfl⟩
abbrev main_v401 : Ref sig .tc := ⟨.hbm, 672, rfl⟩
abbrev main_cst_72 : Ref sig .tc := ⟨.hbm, 673, rfl⟩
abbrev main_v402 : Ref sig .tc := ⟨.hbm, 674, rfl⟩
abbrev main_v403 : Ref sig .tc := ⟨.hbm, 675, rfl⟩
abbrev main_v404 : Ref sig .tc := ⟨.hbm, 676, rfl⟩
abbrev main_v405 : Ref sig .tc := ⟨.hbm, 677, rfl⟩
abbrev main_v406 : Ref sig .tc := ⟨.hbm, 678, rfl⟩
abbrev main_v407 : Ref sig .tc := ⟨.hbm, 679, rfl⟩
abbrev main_v408 : Ref sig .tc := ⟨.hbm, 680, rfl⟩
abbrev main_cst_73 : Ref sig .tc := ⟨.hbm, 681, rfl⟩
abbrev main_v409 : Ref sig .tc := ⟨.hbm, 682, rfl⟩
abbrev main_v410 : Ref sig .tc := ⟨.hbm, 683, rfl⟩
abbrev main_cst_74 : Ref sig .tc := ⟨.hbm, 684, rfl⟩
abbrev main_v411 : Ref sig .tc := ⟨.hbm, 685, rfl⟩
abbrev main_v412 : Ref sig .tc := ⟨.hbm, 686, rfl⟩
abbrev main_v413 : Ref sig .tc := ⟨.hbm, 687, rfl⟩
abbrev main_cst_75 : Ref sig .tc := ⟨.hbm, 688, rfl⟩
abbrev main_v414 : Ref sig .tc := ⟨.hbm, 689, rfl⟩
abbrev main_v415 : Ref sig .tc := ⟨.hbm, 690, rfl⟩
abbrev main_v416 : Ref sig .tc := ⟨.hbm, 691, rfl⟩
abbrev main_cst_76 : Ref sig .tc := ⟨.hbm, 692, rfl⟩
abbrev main_v417 : Ref sig .tc := ⟨.hbm, 693, rfl⟩
abbrev main_v418 : Ref sig .tc := ⟨.hbm, 694, rfl⟩
abbrev main_v419 : Ref sig .tc := ⟨.hbm, 695, rfl⟩
abbrev main_c_77 : Ref sig .tc := ⟨.hbm, 696, rfl⟩
abbrev main_c_78 : Ref sig .tc := ⟨.hbm, 697, rfl⟩
abbrev main_call15_v0 : Ref sig .tc := ⟨.hbm, 698, rfl⟩
abbrev main_call15_v1 : Ref sig .tc := ⟨.hbm, 699, rfl⟩
abbrev main_call15_v2 : Ref sig .tc := ⟨.hbm, 700, rfl⟩
abbrev main_call15_v3 : Ref sig .tc := ⟨.hbm, 701, rfl⟩
abbrev main_call15_v4 : Ref sig .tc := ⟨.hbm, 702, rfl⟩
abbrev main_v420 : Ref sig .tc := ⟨.hbm, 703, rfl⟩
abbrev main_v421 : Ref sig .tc := ⟨.hbm, 704, rfl⟩
abbrev main_c_79 : Ref sig .tc := ⟨.hbm, 705, rfl⟩
abbrev main_c_80 : Ref sig .tc := ⟨.hbm, 706, rfl⟩
abbrev main_call16_v0 : Ref sig .tc := ⟨.hbm, 707, rfl⟩
abbrev main_call16_v1 : Ref sig .tc := ⟨.hbm, 708, rfl⟩
abbrev main_call16_v2 : Ref sig .tc := ⟨.hbm, 709, rfl⟩
abbrev main_call16_v3 : Ref sig .tc := ⟨.hbm, 710, rfl⟩
abbrev main_call16_v4 : Ref sig .tc := ⟨.hbm, 711, rfl⟩
abbrev main_v422 : Ref sig .tc := ⟨.hbm, 712, rfl⟩
abbrev main_v423 : Ref sig .tc := ⟨.hbm, 713, rfl⟩
abbrev main_c_81 : Ref sig .tc := ⟨.hbm, 714, rfl⟩
abbrev main_v424 : Ref sig .tc := ⟨.hbm, 715, rfl⟩
abbrev main_v425 : Ref sig .tc := ⟨.hbm, 716, rfl⟩
abbrev main_v426 : Ref sig .tc := ⟨.hbm, 717, rfl⟩
abbrev main_v427 : Ref sig .tc := ⟨.hbm, 718, rfl⟩
abbrev main_v428 : Ref sig .tc := ⟨.hbm, 719, rfl⟩
abbrev main_call17_c : Ref sig .tc := ⟨.hbm, 720, rfl⟩
abbrev main_call17_v0 : Ref sig .tc := ⟨.hbm, 721, rfl⟩
abbrev main_call17_v1 : Ref sig .tc := ⟨.hbm, 722, rfl⟩
abbrev main_call17_c_0 : Ref sig .tc := ⟨.hbm, 723, rfl⟩
abbrev main_call17_v2 : Ref sig .tc := ⟨.hbm, 724, rfl⟩
abbrev main_call17_v3 : Ref sig .tc := ⟨.hbm, 725, rfl⟩
abbrev main_call17_v4 : Ref sig .tc := ⟨.hbm, 726, rfl⟩
abbrev main_call17_v5 : Ref sig .tc := ⟨.hbm, 727, rfl⟩
abbrev main_call17_c_1 : Ref sig .tc := ⟨.hbm, 728, rfl⟩
abbrev main_call17_c_2 : Ref sig .tc := ⟨.hbm, 729, rfl⟩
abbrev main_call17_v6 : Ref sig .tc := ⟨.hbm, 730, rfl⟩
abbrev main_call17_v7 : Ref sig .tc := ⟨.hbm, 731, rfl⟩
abbrev main_call17_v8 : Ref sig .tc := ⟨.hbm, 732, rfl⟩
abbrev main_call17_v9 : Ref sig .tc := ⟨.hbm, 733, rfl⟩
abbrev main_call17_v10 : Ref sig .tc := ⟨.hbm, 734, rfl⟩
abbrev main_call17_v11 : Ref sig .tc := ⟨.hbm, 735, rfl⟩
abbrev main_call17_c_3 : Ref sig .tc := ⟨.hbm, 736, rfl⟩
abbrev main_call17_v12 : Ref sig .tc := ⟨.hbm, 737, rfl⟩
abbrev main_call17_v13 : Ref sig .tc := ⟨.hbm, 738, rfl⟩
abbrev main_call17_cst : Ref sig .tc := ⟨.hbm, 739, rfl⟩
abbrev main_call17_v14 : Ref sig .tc := ⟨.hbm, 740, rfl⟩
abbrev main_v429 : Ref sig .tc := ⟨.hbm, 741, rfl⟩
abbrev main_v430 : Ref sig .tc := ⟨.hbm, 742, rfl⟩
abbrev main_v431 : Ref sig .tc := ⟨.hbm, 743, rfl⟩
abbrev main_v432 : Ref sig .tc := ⟨.hbm, 744, rfl⟩
abbrev main_v433 : Ref sig .tc := ⟨.hbm, 745, rfl⟩
abbrev main_cst_82 : Ref sig .tc := ⟨.hbm, 746, rfl⟩
abbrev main_v434 : Ref sig .tc := ⟨.hbm, 747, rfl⟩
abbrev main_v435 : Ref sig .tc := ⟨.hbm, 748, rfl⟩
abbrev main_cst_83 : Ref sig .tc := ⟨.hbm, 749, rfl⟩
abbrev main_v436 : Ref sig .tc := ⟨.hbm, 750, rfl⟩
abbrev main_v437 : Ref sig .tc := ⟨.hbm, 751, rfl⟩
abbrev main_cst_84 : Ref sig .tc := ⟨.hbm, 752, rfl⟩
abbrev main_v438 : Ref sig .tc := ⟨.hbm, 753, rfl⟩
abbrev main_v439 : Ref sig .tc := ⟨.hbm, 754, rfl⟩
abbrev main_v440 : Ref sig .tc := ⟨.hbm, 755, rfl⟩
abbrev main_cst_85 : Ref sig .tc := ⟨.hbm, 756, rfl⟩
abbrev main_v441 : Ref sig .tc := ⟨.hbm, 757, rfl⟩
abbrev main_v442 : Ref sig .tc := ⟨.hbm, 758, rfl⟩
abbrev main_v443 : Ref sig .tc := ⟨.hbm, 759, rfl⟩
abbrev main_cst_86 : Ref sig .tc := ⟨.hbm, 760, rfl⟩
abbrev main_v444 : Ref sig .tc := ⟨.hbm, 761, rfl⟩
abbrev main_v445 : Ref sig .tc := ⟨.hbm, 762, rfl⟩
abbrev main_v446 : Ref sig .tc := ⟨.hbm, 763, rfl⟩
abbrev main_c_87 : Ref sig .tc := ⟨.hbm, 764, rfl⟩
abbrev main_c_88 : Ref sig .tc := ⟨.hbm, 765, rfl⟩
abbrev main_call18_v0 : Ref sig .tc := ⟨.hbm, 766, rfl⟩
abbrev main_call18_v1 : Ref sig .tc := ⟨.hbm, 767, rfl⟩
abbrev main_call18_v2 : Ref sig .tc := ⟨.hbm, 768, rfl⟩
abbrev main_call18_v3 : Ref sig .tc := ⟨.hbm, 769, rfl⟩
abbrev main_call18_v4 : Ref sig .tc := ⟨.hbm, 770, rfl⟩
abbrev main_v447 : Ref sig .tc := ⟨.hbm, 771, rfl⟩
abbrev main_v448 : Ref sig .tc := ⟨.hbm, 772, rfl⟩
abbrev main_c_89 : Ref sig .tc := ⟨.hbm, 773, rfl⟩
abbrev main_c_90 : Ref sig .tc := ⟨.hbm, 774, rfl⟩
abbrev main_call19_v0 : Ref sig .tc := ⟨.hbm, 775, rfl⟩
abbrev main_call19_v1 : Ref sig .tc := ⟨.hbm, 776, rfl⟩
abbrev main_call19_v2 : Ref sig .tc := ⟨.hbm, 777, rfl⟩
abbrev main_call19_v3 : Ref sig .tc := ⟨.hbm, 778, rfl⟩
abbrev main_call19_v4 : Ref sig .tc := ⟨.hbm, 779, rfl⟩
abbrev main_v449 : Ref sig .tc := ⟨.hbm, 780, rfl⟩
abbrev main_v450 : Ref sig .tc := ⟨.hbm, 781, rfl⟩
abbrev main_c_91 : Ref sig .tc := ⟨.hbm, 782, rfl⟩
abbrev main_v451 : Ref sig .tc := ⟨.hbm, 783, rfl⟩
abbrev main_v452 : Ref sig .tc := ⟨.hbm, 784, rfl⟩
abbrev main_v453 : Ref sig .tc := ⟨.hbm, 785, rfl⟩
abbrev main_v454 : Ref sig .tc := ⟨.hbm, 786, rfl⟩
abbrev main_v455 : Ref sig .tc := ⟨.hbm, 787, rfl⟩
abbrev main_call20_c : Ref sig .tc := ⟨.hbm, 788, rfl⟩
abbrev main_call20_v0 : Ref sig .tc := ⟨.hbm, 789, rfl⟩
abbrev main_call20_v1 : Ref sig .tc := ⟨.hbm, 790, rfl⟩
abbrev main_call20_c_0 : Ref sig .tc := ⟨.hbm, 791, rfl⟩
abbrev main_call20_v2 : Ref sig .tc := ⟨.hbm, 792, rfl⟩
abbrev main_call20_v3 : Ref sig .tc := ⟨.hbm, 793, rfl⟩
abbrev main_call20_v4 : Ref sig .tc := ⟨.hbm, 794, rfl⟩
abbrev main_call20_v5 : Ref sig .tc := ⟨.hbm, 795, rfl⟩
abbrev main_call20_c_1 : Ref sig .tc := ⟨.hbm, 796, rfl⟩
abbrev main_call20_c_2 : Ref sig .tc := ⟨.hbm, 797, rfl⟩
abbrev main_call20_v6 : Ref sig .tc := ⟨.hbm, 798, rfl⟩
abbrev main_call20_v7 : Ref sig .tc := ⟨.hbm, 799, rfl⟩
abbrev main_call20_v8 : Ref sig .tc := ⟨.hbm, 800, rfl⟩
abbrev main_call20_v9 : Ref sig .tc := ⟨.hbm, 801, rfl⟩
abbrev main_call20_v10 : Ref sig .tc := ⟨.hbm, 802, rfl⟩
abbrev main_call20_v11 : Ref sig .tc := ⟨.hbm, 803, rfl⟩
abbrev main_call20_c_3 : Ref sig .tc := ⟨.hbm, 804, rfl⟩
abbrev main_call20_v12 : Ref sig .tc := ⟨.hbm, 805, rfl⟩
abbrev main_call20_v13 : Ref sig .tc := ⟨.hbm, 806, rfl⟩
abbrev main_call20_cst : Ref sig .tc := ⟨.hbm, 807, rfl⟩
abbrev main_call20_v14 : Ref sig .tc := ⟨.hbm, 808, rfl⟩
abbrev main_v456 : Ref sig .tc := ⟨.hbm, 809, rfl⟩
abbrev main_v457 : Ref sig .tc := ⟨.hbm, 810, rfl⟩
abbrev main_v458 : Ref sig .tc := ⟨.hbm, 811, rfl⟩
abbrev main_v459 : Ref sig .tc := ⟨.hbm, 812, rfl⟩
abbrev main_v460 : Ref sig .tc := ⟨.hbm, 813, rfl⟩
abbrev main_cst_92 : Ref sig .tc := ⟨.hbm, 814, rfl⟩
abbrev main_v461 : Ref sig .tc := ⟨.hbm, 815, rfl⟩
abbrev main_v462 : Ref sig .tc := ⟨.hbm, 816, rfl⟩
abbrev main_cst_93 : Ref sig .tc := ⟨.hbm, 817, rfl⟩
abbrev main_v463 : Ref sig .tc := ⟨.hbm, 818, rfl⟩
abbrev main_v464 : Ref sig .tc := ⟨.hbm, 819, rfl⟩
abbrev main_cst_94 : Ref sig .tc := ⟨.hbm, 820, rfl⟩
abbrev main_v465 : Ref sig .tc := ⟨.hbm, 821, rfl⟩
abbrev main_v466 : Ref sig .tc := ⟨.hbm, 822, rfl⟩
abbrev main_v467 : Ref sig .tc := ⟨.hbm, 823, rfl⟩
abbrev main_cst_95 : Ref sig .tc := ⟨.hbm, 824, rfl⟩
abbrev main_v468 : Ref sig .tc := ⟨.hbm, 825, rfl⟩
abbrev main_v469 : Ref sig .tc := ⟨.hbm, 826, rfl⟩
abbrev main_v470 : Ref sig .tc := ⟨.hbm, 827, rfl⟩
abbrev main_cst_96 : Ref sig .tc := ⟨.hbm, 828, rfl⟩
abbrev main_v471 : Ref sig .tc := ⟨.hbm, 829, rfl⟩
abbrev main_v472 : Ref sig .tc := ⟨.hbm, 830, rfl⟩
abbrev main_v473 : Ref sig .tc := ⟨.hbm, 831, rfl⟩
abbrev main_c_97 : Ref sig .tc := ⟨.hbm, 832, rfl⟩
abbrev main_c_98 : Ref sig .tc := ⟨.hbm, 833, rfl⟩
abbrev main_call21_v0 : Ref sig .tc := ⟨.hbm, 834, rfl⟩
abbrev main_call21_v1 : Ref sig .tc := ⟨.hbm, 835, rfl⟩
abbrev main_call21_v2 : Ref sig .tc := ⟨.hbm, 836, rfl⟩
abbrev main_call21_v3 : Ref sig .tc := ⟨.hbm, 837, rfl⟩
abbrev main_call21_v4 : Ref sig .tc := ⟨.hbm, 838, rfl⟩
abbrev main_v474 : Ref sig .tc := ⟨.hbm, 839, rfl⟩
abbrev main_v475 : Ref sig .tc := ⟨.hbm, 840, rfl⟩
abbrev main_c_99 : Ref sig .tc := ⟨.hbm, 841, rfl⟩
abbrev main_c_100 : Ref sig .tc := ⟨.hbm, 842, rfl⟩
abbrev main_call22_v0 : Ref sig .tc := ⟨.hbm, 843, rfl⟩
abbrev main_call22_v1 : Ref sig .tc := ⟨.hbm, 844, rfl⟩
abbrev main_call22_v2 : Ref sig .tc := ⟨.hbm, 845, rfl⟩
abbrev main_call22_v3 : Ref sig .tc := ⟨.hbm, 846, rfl⟩
abbrev main_call22_v4 : Ref sig .tc := ⟨.hbm, 847, rfl⟩
abbrev main_v476 : Ref sig .tc := ⟨.hbm, 848, rfl⟩
abbrev main_v477 : Ref sig .tc := ⟨.hbm, 849, rfl⟩
abbrev main_c_101 : Ref sig .tc := ⟨.hbm, 850, rfl⟩
abbrev main_v478 : Ref sig .tc := ⟨.hbm, 851, rfl⟩
abbrev main_v479 : Ref sig .tc := ⟨.hbm, 852, rfl⟩
abbrev main_v480 : Ref sig .tc := ⟨.hbm, 853, rfl⟩
abbrev main_v481 : Ref sig .tc := ⟨.hbm, 854, rfl⟩
abbrev main_v482 : Ref sig .tc := ⟨.hbm, 855, rfl⟩
abbrev main_call23_c : Ref sig .tc := ⟨.hbm, 856, rfl⟩
abbrev main_call23_v0 : Ref sig .tc := ⟨.hbm, 857, rfl⟩
abbrev main_call23_v1 : Ref sig .tc := ⟨.hbm, 858, rfl⟩
abbrev main_call23_c_0 : Ref sig .tc := ⟨.hbm, 859, rfl⟩
abbrev main_call23_v2 : Ref sig .tc := ⟨.hbm, 860, rfl⟩
abbrev main_call23_v3 : Ref sig .tc := ⟨.hbm, 861, rfl⟩
abbrev main_call23_v4 : Ref sig .tc := ⟨.hbm, 862, rfl⟩
abbrev main_call23_v5 : Ref sig .tc := ⟨.hbm, 863, rfl⟩
abbrev main_call23_c_1 : Ref sig .tc := ⟨.hbm, 864, rfl⟩
abbrev main_call23_c_2 : Ref sig .tc := ⟨.hbm, 865, rfl⟩
abbrev main_call23_v6 : Ref sig .tc := ⟨.hbm, 866, rfl⟩
abbrev main_call23_v7 : Ref sig .tc := ⟨.hbm, 867, rfl⟩
abbrev main_call23_v8 : Ref sig .tc := ⟨.hbm, 868, rfl⟩
abbrev main_call23_v9 : Ref sig .tc := ⟨.hbm, 869, rfl⟩
abbrev main_call23_v10 : Ref sig .tc := ⟨.hbm, 870, rfl⟩
abbrev main_call23_v11 : Ref sig .tc := ⟨.hbm, 871, rfl⟩
abbrev main_call23_c_3 : Ref sig .tc := ⟨.hbm, 872, rfl⟩
abbrev main_call23_v12 : Ref sig .tc := ⟨.hbm, 873, rfl⟩
abbrev main_call23_v13 : Ref sig .tc := ⟨.hbm, 874, rfl⟩
abbrev main_call23_cst : Ref sig .tc := ⟨.hbm, 875, rfl⟩
abbrev main_call23_v14 : Ref sig .tc := ⟨.hbm, 876, rfl⟩
abbrev main_v483 : Ref sig .tc := ⟨.hbm, 877, rfl⟩
abbrev main_v484 : Ref sig .tc := ⟨.hbm, 878, rfl⟩
abbrev main_v485 : Ref sig .tc := ⟨.hbm, 879, rfl⟩
abbrev main_v486 : Ref sig .tc := ⟨.hbm, 880, rfl⟩
abbrev main_v487 : Ref sig .tc := ⟨.hbm, 881, rfl⟩
abbrev main_cst_102 : Ref sig .tc := ⟨.hbm, 882, rfl⟩
abbrev main_v488 : Ref sig .tc := ⟨.hbm, 883, rfl⟩
abbrev main_v489 : Ref sig .tc := ⟨.hbm, 884, rfl⟩
abbrev main_cst_103 : Ref sig .tc := ⟨.hbm, 885, rfl⟩
abbrev main_v490 : Ref sig .tc := ⟨.hbm, 886, rfl⟩
abbrev main_v491 : Ref sig .tc := ⟨.hbm, 887, rfl⟩
abbrev main_cst_104 : Ref sig .tc := ⟨.hbm, 888, rfl⟩
abbrev main_v492 : Ref sig .tc := ⟨.hbm, 889, rfl⟩
abbrev main_v493 : Ref sig .tc := ⟨.hbm, 890, rfl⟩
abbrev main_cst_105 : Ref sig .tc := ⟨.hbm, 891, rfl⟩
abbrev main_v494 : Ref sig .tc := ⟨.hbm, 892, rfl⟩
abbrev main_v495 : Ref sig .tc := ⟨.hbm, 893, rfl⟩
abbrev main_v496 : Ref sig .tc := ⟨.hbm, 894, rfl⟩
abbrev main_cst_106 : Ref sig .tc := ⟨.hbm, 895, rfl⟩
abbrev main_v497 : Ref sig .tc := ⟨.hbm, 896, rfl⟩
abbrev main_v498 : Ref sig .tc := ⟨.hbm, 897, rfl⟩
abbrev main_v499 : Ref sig .tc := ⟨.hbm, 898, rfl⟩
abbrev main_cst_107 : Ref sig .tc := ⟨.hbm, 899, rfl⟩
abbrev main_v500 : Ref sig .tc := ⟨.hbm, 900, rfl⟩
abbrev main_v501 : Ref sig .tc := ⟨.hbm, 901, rfl⟩
abbrev main_v502 : Ref sig .tc := ⟨.hbm, 902, rfl⟩
abbrev main_c_108 : Ref sig .tc := ⟨.hbm, 903, rfl⟩
abbrev main_c_109 : Ref sig .tc := ⟨.hbm, 904, rfl⟩
abbrev main_call24_v0 : Ref sig .tc := ⟨.hbm, 905, rfl⟩
abbrev main_call24_v1 : Ref sig .tc := ⟨.hbm, 906, rfl⟩
abbrev main_call24_v2 : Ref sig .tc := ⟨.hbm, 907, rfl⟩
abbrev main_call24_v3 : Ref sig .tc := ⟨.hbm, 908, rfl⟩
abbrev main_call24_v4 : Ref sig .tc := ⟨.hbm, 909, rfl⟩
abbrev main_v503 : Ref sig .tc := ⟨.hbm, 910, rfl⟩
abbrev main_v504 : Ref sig .tc := ⟨.hbm, 911, rfl⟩
abbrev main_c_110 : Ref sig .tc := ⟨.hbm, 912, rfl⟩
abbrev main_c_111 : Ref sig .tc := ⟨.hbm, 913, rfl⟩
abbrev main_call25_v0 : Ref sig .tc := ⟨.hbm, 914, rfl⟩
abbrev main_call25_v1 : Ref sig .tc := ⟨.hbm, 915, rfl⟩
abbrev main_call25_v2 : Ref sig .tc := ⟨.hbm, 916, rfl⟩
abbrev main_call25_v3 : Ref sig .tc := ⟨.hbm, 917, rfl⟩
abbrev main_call25_v4 : Ref sig .tc := ⟨.hbm, 918, rfl⟩
abbrev main_v505 : Ref sig .tc := ⟨.hbm, 919, rfl⟩
abbrev main_v506 : Ref sig .tc := ⟨.hbm, 920, rfl⟩
abbrev main_c_112 : Ref sig .tc := ⟨.hbm, 921, rfl⟩
abbrev main_v507 : Ref sig .tc := ⟨.hbm, 922, rfl⟩
abbrev main_v508 : Ref sig .tc := ⟨.hbm, 923, rfl⟩
abbrev main_v509 : Ref sig .tc := ⟨.hbm, 924, rfl⟩
abbrev main_v510 : Ref sig .tc := ⟨.hbm, 925, rfl⟩
abbrev main_v511 : Ref sig .tc := ⟨.hbm, 926, rfl⟩
abbrev main_call26_c : Ref sig .tc := ⟨.hbm, 927, rfl⟩
abbrev main_call26_v0 : Ref sig .tc := ⟨.hbm, 928, rfl⟩
abbrev main_call26_v1 : Ref sig .tc := ⟨.hbm, 929, rfl⟩
abbrev main_call26_c_0 : Ref sig .tc := ⟨.hbm, 930, rfl⟩
abbrev main_call26_v2 : Ref sig .tc := ⟨.hbm, 931, rfl⟩
abbrev main_call26_v3 : Ref sig .tc := ⟨.hbm, 932, rfl⟩
abbrev main_call26_v4 : Ref sig .tc := ⟨.hbm, 933, rfl⟩
abbrev main_call26_v5 : Ref sig .tc := ⟨.hbm, 934, rfl⟩
abbrev main_call26_c_1 : Ref sig .tc := ⟨.hbm, 935, rfl⟩
abbrev main_call26_c_2 : Ref sig .tc := ⟨.hbm, 936, rfl⟩
abbrev main_call26_v6 : Ref sig .tc := ⟨.hbm, 937, rfl⟩
abbrev main_call26_v7 : Ref sig .tc := ⟨.hbm, 938, rfl⟩
abbrev main_call26_v8 : Ref sig .tc := ⟨.hbm, 939, rfl⟩
abbrev main_call26_v9 : Ref sig .tc := ⟨.hbm, 940, rfl⟩
abbrev main_call26_v10 : Ref sig .tc := ⟨.hbm, 941, rfl⟩
abbrev main_call26_v11 : Ref sig .tc := ⟨.hbm, 942, rfl⟩
abbrev main_call26_c_3 : Ref sig .tc := ⟨.hbm, 943, rfl⟩
abbrev main_call26_v12 : Ref sig .tc := ⟨.hbm, 944, rfl⟩
abbrev main_call26_v13 : Ref sig .tc := ⟨.hbm, 945, rfl⟩
abbrev main_call26_cst : Ref sig .tc := ⟨.hbm, 946, rfl⟩
abbrev main_call26_v14 : Ref sig .tc := ⟨.hbm, 947, rfl⟩
abbrev main_v512 : Ref sig .tc := ⟨.hbm, 948, rfl⟩
abbrev main_v513 : Ref sig .tc := ⟨.hbm, 949, rfl⟩
abbrev main_v514 : Ref sig .tc := ⟨.hbm, 950, rfl⟩
abbrev main_v515 : Ref sig .tc := ⟨.hbm, 951, rfl⟩
abbrev main_v516 : Ref sig .tc := ⟨.hbm, 952, rfl⟩
abbrev main_v517 : Ref sig .tc := ⟨.hbm, 953, rfl⟩
abbrev main_v518 : Ref sig .tc := ⟨.hbm, 954, rfl⟩
abbrev main_cst_113 : Ref sig .tc := ⟨.hbm, 955, rfl⟩
abbrev main_v519 : Ref sig .tc := ⟨.hbm, 956, rfl⟩
abbrev main_v520 : Ref sig .tc := ⟨.hbm, 957, rfl⟩
abbrev main_v521 : Ref sig .tc := ⟨.hbm, 958, rfl⟩
abbrev main_v522 : Ref sig .tc := ⟨.hbm, 959, rfl⟩
abbrev main_cst_114 : Ref sig .tc := ⟨.hbm, 960, rfl⟩
abbrev main_v523 : Ref sig .tc := ⟨.hbm, 961, rfl⟩
abbrev main_v524 : Ref sig .tc := ⟨.hbm, 962, rfl⟩
abbrev main_v525 : Ref sig .tc := ⟨.hbm, 963, rfl⟩
abbrev main_v526 : Ref sig .tc := ⟨.hbm, 964, rfl⟩
abbrev main_v527 : Ref sig .tc := ⟨.hbm, 965, rfl⟩
abbrev main_v528 : Ref sig .tc := ⟨.hbm, 966, rfl⟩
abbrev main_cst_115 : Ref sig .tc := ⟨.hbm, 967, rfl⟩
abbrev main_v529 : Ref sig .tc := ⟨.hbm, 968, rfl⟩
abbrev main_v530 : Ref sig .tc := ⟨.hbm, 969, rfl⟩
abbrev main_v531 : Ref sig .tc := ⟨.hbm, 970, rfl⟩
abbrev main_v532 : Ref sig .tc := ⟨.hbm, 971, rfl⟩
abbrev main_v533 : Ref sig .tc := ⟨.hbm, 972, rfl⟩
abbrev main_cst_116 : Ref sig .tc := ⟨.hbm, 973, rfl⟩
abbrev main_v534 : Ref sig .tc := ⟨.hbm, 974, rfl⟩
abbrev main_v535 : Ref sig .tc := ⟨.hbm, 975, rfl⟩
abbrev main_v536 : Ref sig .tc := ⟨.hbm, 976, rfl⟩
abbrev main_v537 : Ref sig .tc := ⟨.hbm, 977, rfl⟩
abbrev main_v538 : Ref sig .tc := ⟨.hbm, 978, rfl⟩
abbrev main_v539 : Ref sig .tc := ⟨.hbm, 979, rfl⟩
abbrev main_v540 : Ref sig .tc := ⟨.hbm, 980, rfl⟩
abbrev main_v541 : Ref sig .tc := ⟨.hbm, 981, rfl⟩
abbrev main_v542 : Ref sig .tc := ⟨.hbm, 982, rfl⟩
abbrev main_v543 : Ref sig .tc := ⟨.hbm, 983, rfl⟩
abbrev main_v544 : Ref sig .tc := ⟨.hbm, 984, rfl⟩
abbrev main_v545 : Ref sig .tc := ⟨.hbm, 985, rfl⟩
abbrev main_cst_117 : Ref sig .tc := ⟨.hbm, 986, rfl⟩
abbrev main_v546 : Ref sig .tc := ⟨.hbm, 987, rfl⟩
abbrev main_v547 : Ref sig .tc := ⟨.hbm, 988, rfl⟩
abbrev main_cst_118 : Ref sig .tc := ⟨.hbm, 989, rfl⟩
abbrev main_v548 : Ref sig .tc := ⟨.hbm, 990, rfl⟩
abbrev main_v549 : Ref sig .tc := ⟨.hbm, 991, rfl⟩
abbrev main_v550 : Ref sig .tc := ⟨.hbm, 992, rfl⟩
abbrev main_v551 : Ref sig .tc := ⟨.hbm, 993, rfl⟩
abbrev main_cst_119 : Ref sig .tc := ⟨.hbm, 994, rfl⟩
abbrev main_v552 : Ref sig .tc := ⟨.hbm, 995, rfl⟩
abbrev main_v553 : Ref sig .tc := ⟨.hbm, 996, rfl⟩
abbrev main_cst_120 : Ref sig .tc := ⟨.hbm, 997, rfl⟩
abbrev main_v554 : Ref sig .tc := ⟨.hbm, 998, rfl⟩
abbrev main_v555 : Ref sig .tc := ⟨.hbm, 999, rfl⟩
abbrev main_cst_121 : Ref sig .tc := ⟨.hbm, 1000, rfl⟩
abbrev main_v556 : Ref sig .tc := ⟨.hbm, 1001, rfl⟩
abbrev main_v557 : Ref sig .tc := ⟨.hbm, 1002, rfl⟩
abbrev main_cst_122 : Ref sig .tc := ⟨.hbm, 1003, rfl⟩
abbrev main_v558 : Ref sig .tc := ⟨.hbm, 1004, rfl⟩
abbrev main_v559 : Ref sig .tc := ⟨.hbm, 1005, rfl⟩
abbrev main_v560 : Ref sig .tc := ⟨.hbm, 1006, rfl⟩
abbrev main_v561 : Ref sig .tc := ⟨.hbm, 1007, rfl⟩
abbrev main_cst_123 : Ref sig .tc := ⟨.hbm, 1008, rfl⟩
abbrev main_v562 : Ref sig .tc := ⟨.hbm, 1009, rfl⟩
abbrev main_v563 : Ref sig .tc := ⟨.hbm, 1010, rfl⟩
abbrev main_cst_124 : Ref sig .tc := ⟨.hbm, 1011, rfl⟩
abbrev main_v564 : Ref sig .tc := ⟨.hbm, 1012, rfl⟩
abbrev main_v565 : Ref sig .tc := ⟨.hbm, 1013, rfl⟩
abbrev main_cst_125 : Ref sig .tc := ⟨.hbm, 1014, rfl⟩
abbrev main_v566 : Ref sig .tc := ⟨.hbm, 1015, rfl⟩
abbrev main_v567 : Ref sig .tc := ⟨.hbm, 1016, rfl⟩
abbrev main_cst_126 : Ref sig .tc := ⟨.hbm, 1017, rfl⟩
abbrev main_v568 : Ref sig .tc := ⟨.hbm, 1018, rfl⟩
abbrev main_v569 : Ref sig .tc := ⟨.hbm, 1019, rfl⟩
abbrev main_v570 : Ref sig .tc := ⟨.hbm, 1020, rfl⟩
abbrev main_v571 : Ref sig .tc := ⟨.hbm, 1021, rfl⟩
abbrev main_v572 : Ref sig .tc := ⟨.hbm, 1022, rfl⟩
abbrev main_v573 : Ref sig .tc := ⟨.hbm, 1023, rfl⟩
abbrev main_v574 : Ref sig .tc := ⟨.hbm, 1024, rfl⟩
abbrev main_cst_127 : Ref sig .tc := ⟨.hbm, 1025, rfl⟩
abbrev main_v575 : Ref sig .tc := ⟨.hbm, 1026, rfl⟩
abbrev main_v576 : Ref sig .tc := ⟨.hbm, 1027, rfl⟩
abbrev main_cst_128 : Ref sig .tc := ⟨.hbm, 1028, rfl⟩
abbrev main_v577 : Ref sig .tc := ⟨.hbm, 1029, rfl⟩
abbrev main_v578 : Ref sig .tc := ⟨.hbm, 1030, rfl⟩
abbrev main_v579 : Ref sig .tc := ⟨.hbm, 1031, rfl⟩
abbrev main_cst_129 : Ref sig .tc := ⟨.hbm, 1032, rfl⟩
abbrev main_v580 : Ref sig .tc := ⟨.hbm, 1033, rfl⟩
abbrev main_v581 : Ref sig .tc := ⟨.hbm, 1034, rfl⟩
abbrev main_v582 : Ref sig .tc := ⟨.hbm, 1035, rfl⟩
abbrev main_cst_130 : Ref sig .tc := ⟨.hbm, 1036, rfl⟩
abbrev main_v583 : Ref sig .tc := ⟨.hbm, 1037, rfl⟩
abbrev main_v584 : Ref sig .tc := ⟨.hbm, 1038, rfl⟩
abbrev main_v585 : Ref sig .tc := ⟨.hbm, 1039, rfl⟩
abbrev main_c_131 : Ref sig .tc := ⟨.hbm, 1040, rfl⟩
abbrev main_c_132 : Ref sig .tc := ⟨.hbm, 1041, rfl⟩
abbrev main_call27_v0 : Ref sig .tc := ⟨.hbm, 1042, rfl⟩
abbrev main_call27_v1 : Ref sig .tc := ⟨.hbm, 1043, rfl⟩
abbrev main_call27_v2 : Ref sig .tc := ⟨.hbm, 1044, rfl⟩
abbrev main_call27_v3 : Ref sig .tc := ⟨.hbm, 1045, rfl⟩
abbrev main_call27_v4 : Ref sig .tc := ⟨.hbm, 1046, rfl⟩
abbrev main_v586 : Ref sig .tc := ⟨.hbm, 1047, rfl⟩
abbrev main_v587 : Ref sig .tc := ⟨.hbm, 1048, rfl⟩
abbrev main_c_133 : Ref sig .tc := ⟨.hbm, 1049, rfl⟩
abbrev main_c_134 : Ref sig .tc := ⟨.hbm, 1050, rfl⟩
abbrev main_call28_v0 : Ref sig .tc := ⟨.hbm, 1051, rfl⟩
abbrev main_call28_v1 : Ref sig .tc := ⟨.hbm, 1052, rfl⟩
abbrev main_call28_v2 : Ref sig .tc := ⟨.hbm, 1053, rfl⟩
abbrev main_call28_v3 : Ref sig .tc := ⟨.hbm, 1054, rfl⟩
abbrev main_call28_v4 : Ref sig .tc := ⟨.hbm, 1055, rfl⟩
abbrev main_v588 : Ref sig .tc := ⟨.hbm, 1056, rfl⟩
abbrev main_v589 : Ref sig .tc := ⟨.hbm, 1057, rfl⟩
abbrev main_c_135 : Ref sig .tc := ⟨.hbm, 1058, rfl⟩
abbrev main_v590 : Ref sig .tc := ⟨.hbm, 1059, rfl⟩
abbrev main_v591 : Ref sig .tc := ⟨.hbm, 1060, rfl⟩
abbrev main_v592 : Ref sig .tc := ⟨.hbm, 1061, rfl⟩
abbrev main_v593 : Ref sig .tc := ⟨.hbm, 1062, rfl⟩
abbrev main_v594 : Ref sig .tc := ⟨.hbm, 1063, rfl⟩
abbrev main_call29_c : Ref sig .tc := ⟨.hbm, 1064, rfl⟩
abbrev main_call29_v0 : Ref sig .tc := ⟨.hbm, 1065, rfl⟩
abbrev main_call29_v1 : Ref sig .tc := ⟨.hbm, 1066, rfl⟩
abbrev main_call29_c_0 : Ref sig .tc := ⟨.hbm, 1067, rfl⟩
abbrev main_call29_v2 : Ref sig .tc := ⟨.hbm, 1068, rfl⟩
abbrev main_call29_v3 : Ref sig .tc := ⟨.hbm, 1069, rfl⟩
abbrev main_call29_v4 : Ref sig .tc := ⟨.hbm, 1070, rfl⟩
abbrev main_call29_v5 : Ref sig .tc := ⟨.hbm, 1071, rfl⟩
abbrev main_call29_c_1 : Ref sig .tc := ⟨.hbm, 1072, rfl⟩
abbrev main_call29_c_2 : Ref sig .tc := ⟨.hbm, 1073, rfl⟩
abbrev main_call29_v6 : Ref sig .tc := ⟨.hbm, 1074, rfl⟩
abbrev main_call29_v7 : Ref sig .tc := ⟨.hbm, 1075, rfl⟩
abbrev main_call29_v8 : Ref sig .tc := ⟨.hbm, 1076, rfl⟩
abbrev main_call29_v9 : Ref sig .tc := ⟨.hbm, 1077, rfl⟩
abbrev main_call29_v10 : Ref sig .tc := ⟨.hbm, 1078, rfl⟩
abbrev main_call29_v11 : Ref sig .tc := ⟨.hbm, 1079, rfl⟩
abbrev main_call29_c_3 : Ref sig .tc := ⟨.hbm, 1080, rfl⟩
abbrev main_call29_v12 : Ref sig .tc := ⟨.hbm, 1081, rfl⟩
abbrev main_call29_v13 : Ref sig .tc := ⟨.hbm, 1082, rfl⟩
abbrev main_call29_cst : Ref sig .tc := ⟨.hbm, 1083, rfl⟩
abbrev main_call29_v14 : Ref sig .tc := ⟨.hbm, 1084, rfl⟩
abbrev main_v595 : Ref sig .tc := ⟨.hbm, 1085, rfl⟩
abbrev main_v596 : Ref sig .tc := ⟨.hbm, 1086, rfl⟩
abbrev main_v597 : Ref sig .tc := ⟨.hbm, 1087, rfl⟩
abbrev main_v598 : Ref sig .tc := ⟨.hbm, 1088, rfl⟩
abbrev main_v599 : Ref sig .tc := ⟨.hbm, 1089, rfl⟩
abbrev main_cst_136 : Ref sig .tc := ⟨.hbm, 1090, rfl⟩
abbrev main_v600 : Ref sig .tc := ⟨.hbm, 1091, rfl⟩
abbrev main_v601 : Ref sig .tc := ⟨.hbm, 1092, rfl⟩
abbrev main_cst_137 : Ref sig .tc := ⟨.hbm, 1093, rfl⟩
abbrev main_v602 : Ref sig .tc := ⟨.hbm, 1094, rfl⟩
abbrev main_v603 : Ref sig .tc := ⟨.hbm, 1095, rfl⟩
abbrev main_cst_138 : Ref sig .tc := ⟨.hbm, 1096, rfl⟩
abbrev main_v604 : Ref sig .tc := ⟨.hbm, 1097, rfl⟩
abbrev main_v605 : Ref sig .tc := ⟨.hbm, 1098, rfl⟩
abbrev main_v606 : Ref sig .tc := ⟨.hbm, 1099, rfl⟩
abbrev main_cst_139 : Ref sig .tc := ⟨.hbm, 1100, rfl⟩
abbrev main_v607 : Ref sig .tc := ⟨.hbm, 1101, rfl⟩
abbrev main_v608 : Ref sig .tc := ⟨.hbm, 1102, rfl⟩
abbrev main_v609 : Ref sig .tc := ⟨.hbm, 1103, rfl⟩
abbrev main_cst_140 : Ref sig .tc := ⟨.hbm, 1104, rfl⟩
abbrev main_v610 : Ref sig .tc := ⟨.hbm, 1105, rfl⟩
abbrev main_v611 : Ref sig .tc := ⟨.hbm, 1106, rfl⟩
abbrev main_v612 : Ref sig .tc := ⟨.hbm, 1107, rfl⟩
abbrev main_c_141 : Ref sig .tc := ⟨.hbm, 1108, rfl⟩
abbrev main_c_142 : Ref sig .tc := ⟨.hbm, 1109, rfl⟩
abbrev main_call30_v0 : Ref sig .tc := ⟨.hbm, 1110, rfl⟩
abbrev main_call30_v1 : Ref sig .tc := ⟨.hbm, 1111, rfl⟩
abbrev main_call30_v2 : Ref sig .tc := ⟨.hbm, 1112, rfl⟩
abbrev main_call30_v3 : Ref sig .tc := ⟨.hbm, 1113, rfl⟩
abbrev main_call30_v4 : Ref sig .tc := ⟨.hbm, 1114, rfl⟩
abbrev main_v613 : Ref sig .tc := ⟨.hbm, 1115, rfl⟩
abbrev main_v614 : Ref sig .tc := ⟨.hbm, 1116, rfl⟩
abbrev main_c_143 : Ref sig .tc := ⟨.hbm, 1117, rfl⟩
abbrev main_c_144 : Ref sig .tc := ⟨.hbm, 1118, rfl⟩
abbrev main_call31_v0 : Ref sig .tc := ⟨.hbm, 1119, rfl⟩
abbrev main_call31_v1 : Ref sig .tc := ⟨.hbm, 1120, rfl⟩
abbrev main_call31_v2 : Ref sig .tc := ⟨.hbm, 1121, rfl⟩
abbrev main_call31_v3 : Ref sig .tc := ⟨.hbm, 1122, rfl⟩
abbrev main_call31_v4 : Ref sig .tc := ⟨.hbm, 1123, rfl⟩
abbrev main_v615 : Ref sig .tc := ⟨.hbm, 1124, rfl⟩
abbrev main_v616 : Ref sig .tc := ⟨.hbm, 1125, rfl⟩
abbrev main_c_145 : Ref sig .tc := ⟨.hbm, 1126, rfl⟩
abbrev main_v617 : Ref sig .tc := ⟨.hbm, 1127, rfl⟩
abbrev main_v618 : Ref sig .tc := ⟨.hbm, 1128, rfl⟩
abbrev main_v619 : Ref sig .tc := ⟨.hbm, 1129, rfl⟩
abbrev main_v620 : Ref sig .tc := ⟨.hbm, 1130, rfl⟩
abbrev main_v621 : Ref sig .tc := ⟨.hbm, 1131, rfl⟩
abbrev main_call32_c : Ref sig .tc := ⟨.hbm, 1132, rfl⟩
abbrev main_call32_v0 : Ref sig .tc := ⟨.hbm, 1133, rfl⟩
abbrev main_call32_v1 : Ref sig .tc := ⟨.hbm, 1134, rfl⟩
abbrev main_call32_c_0 : Ref sig .tc := ⟨.hbm, 1135, rfl⟩
abbrev main_call32_v2 : Ref sig .tc := ⟨.hbm, 1136, rfl⟩
abbrev main_call32_v3 : Ref sig .tc := ⟨.hbm, 1137, rfl⟩
abbrev main_call32_v4 : Ref sig .tc := ⟨.hbm, 1138, rfl⟩
abbrev main_call32_v5 : Ref sig .tc := ⟨.hbm, 1139, rfl⟩
abbrev main_call32_c_1 : Ref sig .tc := ⟨.hbm, 1140, rfl⟩
abbrev main_call32_c_2 : Ref sig .tc := ⟨.hbm, 1141, rfl⟩
abbrev main_call32_v6 : Ref sig .tc := ⟨.hbm, 1142, rfl⟩
abbrev main_call32_v7 : Ref sig .tc := ⟨.hbm, 1143, rfl⟩
abbrev main_call32_v8 : Ref sig .tc := ⟨.hbm, 1144, rfl⟩
abbrev main_call32_v9 : Ref sig .tc := ⟨.hbm, 1145, rfl⟩
abbrev main_call32_v10 : Ref sig .tc := ⟨.hbm, 1146, rfl⟩
abbrev main_call32_v11 : Ref sig .tc := ⟨.hbm, 1147, rfl⟩
abbrev main_call32_c_3 : Ref sig .tc := ⟨.hbm, 1148, rfl⟩
abbrev main_call32_v12 : Ref sig .tc := ⟨.hbm, 1149, rfl⟩
abbrev main_call32_v13 : Ref sig .tc := ⟨.hbm, 1150, rfl⟩
abbrev main_call32_cst : Ref sig .tc := ⟨.hbm, 1151, rfl⟩
abbrev main_call32_v14 : Ref sig .tc := ⟨.hbm, 1152, rfl⟩
abbrev main_v622 : Ref sig .tc := ⟨.hbm, 1153, rfl⟩
abbrev main_v623 : Ref sig .tc := ⟨.hbm, 1154, rfl⟩
abbrev main_v624 : Ref sig .tc := ⟨.hbm, 1155, rfl⟩
abbrev main_v625 : Ref sig .tc := ⟨.hbm, 1156, rfl⟩
abbrev main_v626 : Ref sig .tc := ⟨.hbm, 1157, rfl⟩
abbrev main_cst_146 : Ref sig .tc := ⟨.hbm, 1158, rfl⟩
abbrev main_v627 : Ref sig .tc := ⟨.hbm, 1159, rfl⟩
abbrev main_v628 : Ref sig .tc := ⟨.hbm, 1160, rfl⟩
abbrev main_cst_147 : Ref sig .tc := ⟨.hbm, 1161, rfl⟩
abbrev main_v629 : Ref sig .tc := ⟨.hbm, 1162, rfl⟩
abbrev main_v630 : Ref sig .tc := ⟨.hbm, 1163, rfl⟩
abbrev main_cst_148 : Ref sig .tc := ⟨.hbm, 1164, rfl⟩
abbrev main_v631 : Ref sig .tc := ⟨.hbm, 1165, rfl⟩
abbrev main_v632 : Ref sig .tc := ⟨.hbm, 1166, rfl⟩
abbrev main_v633 : Ref sig .tc := ⟨.hbm, 1167, rfl⟩
abbrev main_cst_149 : Ref sig .tc := ⟨.hbm, 1168, rfl⟩
abbrev main_v634 : Ref sig .tc := ⟨.hbm, 1169, rfl⟩
abbrev main_v635 : Ref sig .tc := ⟨.hbm, 1170, rfl⟩
abbrev main_v636 : Ref sig .tc := ⟨.hbm, 1171, rfl⟩
abbrev main_cst_150 : Ref sig .tc := ⟨.hbm, 1172, rfl⟩
abbrev main_v637 : Ref sig .tc := ⟨.hbm, 1173, rfl⟩
abbrev main_v638 : Ref sig .tc := ⟨.hbm, 1174, rfl⟩
abbrev main_v639 : Ref sig .tc := ⟨.hbm, 1175, rfl⟩
abbrev main_c_151 : Ref sig .tc := ⟨.hbm, 1176, rfl⟩
abbrev main_c_152 : Ref sig .tc := ⟨.hbm, 1177, rfl⟩
abbrev main_call33_v0 : Ref sig .tc := ⟨.hbm, 1178, rfl⟩
abbrev main_call33_v1 : Ref sig .tc := ⟨.hbm, 1179, rfl⟩
abbrev main_call33_v2 : Ref sig .tc := ⟨.hbm, 1180, rfl⟩
abbrev main_call33_v3 : Ref sig .tc := ⟨.hbm, 1181, rfl⟩
abbrev main_call33_v4 : Ref sig .tc := ⟨.hbm, 1182, rfl⟩
abbrev main_v640 : Ref sig .tc := ⟨.hbm, 1183, rfl⟩
abbrev main_v641 : Ref sig .tc := ⟨.hbm, 1184, rfl⟩
abbrev main_c_153 : Ref sig .tc := ⟨.hbm, 1185, rfl⟩
abbrev main_c_154 : Ref sig .tc := ⟨.hbm, 1186, rfl⟩
abbrev main_call34_v0 : Ref sig .tc := ⟨.hbm, 1187, rfl⟩
abbrev main_call34_v1 : Ref sig .tc := ⟨.hbm, 1188, rfl⟩
abbrev main_call34_v2 : Ref sig .tc := ⟨.hbm, 1189, rfl⟩
abbrev main_call34_v3 : Ref sig .tc := ⟨.hbm, 1190, rfl⟩
abbrev main_call34_v4 : Ref sig .tc := ⟨.hbm, 1191, rfl⟩
abbrev main_v642 : Ref sig .tc := ⟨.hbm, 1192, rfl⟩
abbrev main_v643 : Ref sig .tc := ⟨.hbm, 1193, rfl⟩
abbrev main_c_155 : Ref sig .tc := ⟨.hbm, 1194, rfl⟩
abbrev main_v644 : Ref sig .tc := ⟨.hbm, 1195, rfl⟩
abbrev main_v645 : Ref sig .tc := ⟨.hbm, 1196, rfl⟩
abbrev main_v646 : Ref sig .tc := ⟨.hbm, 1197, rfl⟩
abbrev main_v647 : Ref sig .tc := ⟨.hbm, 1198, rfl⟩
abbrev main_v648 : Ref sig .tc := ⟨.hbm, 1199, rfl⟩
abbrev main_call35_c : Ref sig .tc := ⟨.hbm, 1200, rfl⟩
abbrev main_call35_v0 : Ref sig .tc := ⟨.hbm, 1201, rfl⟩
abbrev main_call35_v1 : Ref sig .tc := ⟨.hbm, 1202, rfl⟩
abbrev main_call35_c_0 : Ref sig .tc := ⟨.hbm, 1203, rfl⟩
abbrev main_call35_v2 : Ref sig .tc := ⟨.hbm, 1204, rfl⟩
abbrev main_call35_v3 : Ref sig .tc := ⟨.hbm, 1205, rfl⟩
abbrev main_call35_v4 : Ref sig .tc := ⟨.hbm, 1206, rfl⟩
abbrev main_call35_v5 : Ref sig .tc := ⟨.hbm, 1207, rfl⟩
abbrev main_call35_c_1 : Ref sig .tc := ⟨.hbm, 1208, rfl⟩
abbrev main_call35_c_2 : Ref sig .tc := ⟨.hbm, 1209, rfl⟩
abbrev main_call35_v6 : Ref sig .tc := ⟨.hbm, 1210, rfl⟩
abbrev main_call35_v7 : Ref sig .tc := ⟨.hbm, 1211, rfl⟩
abbrev main_call35_v8 : Ref sig .tc := ⟨.hbm, 1212, rfl⟩
abbrev main_call35_v9 : Ref sig .tc := ⟨.hbm, 1213, rfl⟩
abbrev main_call35_v10 : Ref sig .tc := ⟨.hbm, 1214, rfl⟩
abbrev main_call35_v11 : Ref sig .tc := ⟨.hbm, 1215, rfl⟩
abbrev main_call35_c_3 : Ref sig .tc := ⟨.hbm, 1216, rfl⟩
abbrev main_call35_v12 : Ref sig .tc := ⟨.hbm, 1217, rfl⟩
abbrev main_call35_v13 : Ref sig .tc := ⟨.hbm, 1218, rfl⟩
abbrev main_call35_cst : Ref sig .tc := ⟨.hbm, 1219, rfl⟩
abbrev main_call35_v14 : Ref sig .tc := ⟨.hbm, 1220, rfl⟩
abbrev main_v649 : Ref sig .tc := ⟨.hbm, 1221, rfl⟩
abbrev main_v650 : Ref sig .tc := ⟨.hbm, 1222, rfl⟩
abbrev main_v651 : Ref sig .tc := ⟨.hbm, 1223, rfl⟩
abbrev main_v652 : Ref sig .tc := ⟨.hbm, 1224, rfl⟩
abbrev main_v653 : Ref sig .tc := ⟨.hbm, 1225, rfl⟩
abbrev main_cst_156 : Ref sig .tc := ⟨.hbm, 1226, rfl⟩
abbrev main_v654 : Ref sig .tc := ⟨.hbm, 1227, rfl⟩
abbrev main_v655 : Ref sig .tc := ⟨.hbm, 1228, rfl⟩
abbrev main_cst_157 : Ref sig .tc := ⟨.hbm, 1229, rfl⟩
abbrev main_v656 : Ref sig .tc := ⟨.hbm, 1230, rfl⟩
abbrev main_v657 : Ref sig .tc := ⟨.hbm, 1231, rfl⟩
abbrev main_cst_158 : Ref sig .tc := ⟨.hbm, 1232, rfl⟩
abbrev main_v658 : Ref sig .tc := ⟨.hbm, 1233, rfl⟩
abbrev main_v659 : Ref sig .tc := ⟨.hbm, 1234, rfl⟩
abbrev main_cst_159 : Ref sig .tc := ⟨.hbm, 1235, rfl⟩
abbrev main_v660 : Ref sig .tc := ⟨.hbm, 1236, rfl⟩
abbrev main_v661 : Ref sig .tc := ⟨.hbm, 1237, rfl⟩
abbrev main_v662 : Ref sig .tc := ⟨.hbm, 1238, rfl⟩
abbrev main_cst_160 : Ref sig .tc := ⟨.hbm, 1239, rfl⟩
abbrev main_v663 : Ref sig .tc := ⟨.hbm, 1240, rfl⟩
abbrev main_v664 : Ref sig .tc := ⟨.hbm, 1241, rfl⟩
abbrev main_v665 : Ref sig .tc := ⟨.hbm, 1242, rfl⟩
abbrev main_cst_161 : Ref sig .tc := ⟨.hbm, 1243, rfl⟩
abbrev main_v666 : Ref sig .tc := ⟨.hbm, 1244, rfl⟩
abbrev main_v667 : Ref sig .tc := ⟨.hbm, 1245, rfl⟩
abbrev main_v668 : Ref sig .tc := ⟨.hbm, 1246, rfl⟩
abbrev main_c_162 : Ref sig .tc := ⟨.hbm, 1247, rfl⟩
abbrev main_c_163 : Ref sig .tc := ⟨.hbm, 1248, rfl⟩
abbrev main_call36_v0 : Ref sig .tc := ⟨.hbm, 1249, rfl⟩
abbrev main_call36_v1 : Ref sig .tc := ⟨.hbm, 1250, rfl⟩
abbrev main_call36_v2 : Ref sig .tc := ⟨.hbm, 1251, rfl⟩
abbrev main_call36_v3 : Ref sig .tc := ⟨.hbm, 1252, rfl⟩
abbrev main_call36_v4 : Ref sig .tc := ⟨.hbm, 1253, rfl⟩
abbrev main_v669 : Ref sig .tc := ⟨.hbm, 1254, rfl⟩
abbrev main_v670 : Ref sig .tc := ⟨.hbm, 1255, rfl⟩
abbrev main_c_164 : Ref sig .tc := ⟨.hbm, 1256, rfl⟩
abbrev main_c_165 : Ref sig .tc := ⟨.hbm, 1257, rfl⟩
abbrev main_call37_v0 : Ref sig .tc := ⟨.hbm, 1258, rfl⟩
abbrev main_call37_v1 : Ref sig .tc := ⟨.hbm, 1259, rfl⟩
abbrev main_call37_v2 : Ref sig .tc := ⟨.hbm, 1260, rfl⟩
abbrev main_call37_v3 : Ref sig .tc := ⟨.hbm, 1261, rfl⟩
abbrev main_call37_v4 : Ref sig .tc := ⟨.hbm, 1262, rfl⟩
abbrev main_v671 : Ref sig .tc := ⟨.hbm, 1263, rfl⟩
abbrev main_v672 : Ref sig .tc := ⟨.hbm, 1264, rfl⟩
abbrev main_c_166 : Ref sig .tc := ⟨.hbm, 1265, rfl⟩
abbrev main_v673 : Ref sig .tc := ⟨.hbm, 1266, rfl⟩
abbrev main_v674 : Ref sig .tc := ⟨.hbm, 1267, rfl⟩
abbrev main_v675 : Ref sig .tc := ⟨.hbm, 1268, rfl⟩
abbrev main_v676 : Ref sig .tc := ⟨.hbm, 1269, rfl⟩
abbrev main_v677 : Ref sig .tc := ⟨.hbm, 1270, rfl⟩
abbrev main_call38_c : Ref sig .tc := ⟨.hbm, 1271, rfl⟩
abbrev main_call38_v0 : Ref sig .tc := ⟨.hbm, 1272, rfl⟩
abbrev main_call38_v1 : Ref sig .tc := ⟨.hbm, 1273, rfl⟩
abbrev main_call38_c_0 : Ref sig .tc := ⟨.hbm, 1274, rfl⟩
abbrev main_call38_v2 : Ref sig .tc := ⟨.hbm, 1275, rfl⟩
abbrev main_call38_v3 : Ref sig .tc := ⟨.hbm, 1276, rfl⟩
abbrev main_call38_v4 : Ref sig .tc := ⟨.hbm, 1277, rfl⟩
abbrev main_call38_v5 : Ref sig .tc := ⟨.hbm, 1278, rfl⟩
abbrev main_call38_c_1 : Ref sig .tc := ⟨.hbm, 1279, rfl⟩
abbrev main_call38_c_2 : Ref sig .tc := ⟨.hbm, 1280, rfl⟩
abbrev main_call38_v6 : Ref sig .tc := ⟨.hbm, 1281, rfl⟩
abbrev main_call38_v7 : Ref sig .tc := ⟨.hbm, 1282, rfl⟩
abbrev main_call38_v8 : Ref sig .tc := ⟨.hbm, 1283, rfl⟩
abbrev main_call38_v9 : Ref sig .tc := ⟨.hbm, 1284, rfl⟩
abbrev main_call38_v10 : Ref sig .tc := ⟨.hbm, 1285, rfl⟩
abbrev main_call38_v11 : Ref sig .tc := ⟨.hbm, 1286, rfl⟩
abbrev main_call38_c_3 : Ref sig .tc := ⟨.hbm, 1287, rfl⟩
abbrev main_call38_v12 : Ref sig .tc := ⟨.hbm, 1288, rfl⟩
abbrev main_call38_v13 : Ref sig .tc := ⟨.hbm, 1289, rfl⟩
abbrev main_call38_cst : Ref sig .tc := ⟨.hbm, 1290, rfl⟩
abbrev main_call38_v14 : Ref sig .tc := ⟨.hbm, 1291, rfl⟩
abbrev main_v678 : Ref sig .tc := ⟨.hbm, 1292, rfl⟩
abbrev main_v679 : Ref sig .tc := ⟨.hbm, 1293, rfl⟩
abbrev main_v680 : Ref sig .tc := ⟨.hbm, 1294, rfl⟩
abbrev main_v681 : Ref sig .tc := ⟨.hbm, 1295, rfl⟩
abbrev main_v682 : Ref sig .tc := ⟨.hbm, 1296, rfl⟩
abbrev main_v683 : Ref sig .tc := ⟨.hbm, 1297, rfl⟩
abbrev main_v684 : Ref sig .tc := ⟨.hbm, 1298, rfl⟩
abbrev main_cst_167 : Ref sig .tc := ⟨.hbm, 1299, rfl⟩
abbrev main_v685 : Ref sig .tc := ⟨.hbm, 1300, rfl⟩
abbrev main_v686 : Ref sig .tc := ⟨.hbm, 1301, rfl⟩
abbrev main_v687 : Ref sig .tc := ⟨.hbm, 1302, rfl⟩
abbrev main_v688 : Ref sig .tc := ⟨.hbm, 1303, rfl⟩
abbrev main_cst_168 : Ref sig .tc := ⟨.hbm, 1304, rfl⟩
abbrev main_v689 : Ref sig .tc := ⟨.hbm, 1305, rfl⟩
abbrev main_v690 : Ref sig .tc := ⟨.hbm, 1306, rfl⟩
abbrev main_v691 : Ref sig .tc := ⟨.hbm, 1307, rfl⟩
abbrev main_v692 : Ref sig .tc := ⟨.hbm, 1308, rfl⟩
abbrev main_v693 : Ref sig .tc := ⟨.hbm, 1309, rfl⟩
abbrev main_v694 : Ref sig .tc := ⟨.hbm, 1310, rfl⟩
abbrev main_cst_169 : Ref sig .tc := ⟨.hbm, 1311, rfl⟩
abbrev main_v695 : Ref sig .tc := ⟨.hbm, 1312, rfl⟩
abbrev main_v696 : Ref sig .tc := ⟨.hbm, 1313, rfl⟩
abbrev main_v697 : Ref sig .tc := ⟨.hbm, 1314, rfl⟩
abbrev main_v698 : Ref sig .tc := ⟨.hbm, 1315, rfl⟩
abbrev main_v699 : Ref sig .tc := ⟨.hbm, 1316, rfl⟩
abbrev main_cst_170 : Ref sig .tc := ⟨.hbm, 1317, rfl⟩
abbrev main_v700 : Ref sig .tc := ⟨.hbm, 1318, rfl⟩
abbrev main_v701 : Ref sig .tc := ⟨.hbm, 1319, rfl⟩
abbrev main_v702 : Ref sig .tc := ⟨.hbm, 1320, rfl⟩
abbrev main_v703 : Ref sig .tc := ⟨.hbm, 1321, rfl⟩
abbrev main_v704 : Ref sig .tc := ⟨.hbm, 1322, rfl⟩
abbrev main_v705 : Ref sig .tc := ⟨.hbm, 1323, rfl⟩
abbrev main_v706 : Ref sig .tc := ⟨.hbm, 1324, rfl⟩
abbrev main_v707 : Ref sig .tc := ⟨.hbm, 1325, rfl⟩
abbrev main_v708 : Ref sig .tc := ⟨.hbm, 1326, rfl⟩
abbrev main_v709 : Ref sig .tc := ⟨.hbm, 1327, rfl⟩
abbrev main_v710 : Ref sig .tc := ⟨.hbm, 1328, rfl⟩
abbrev main_v711 : Ref sig .tc := ⟨.hbm, 1329, rfl⟩
abbrev main_v712 : Ref sig .tc := ⟨.hbm, 1330, rfl⟩
abbrev main_c_171 : Ref sig .tc := ⟨.hbm, 1331, rfl⟩
abbrev main_call39_v0 : Ref sig .tc := ⟨.hbm, 1332, rfl⟩
abbrev main_v713 : Ref sig .tc := ⟨.hbm, 1333, rfl⟩
abbrev main_cst_172 : Ref sig .tc := ⟨.hbm, 1334, rfl⟩
abbrev main_v714 : Ref sig .tc := ⟨.hbm, 1335, rfl⟩
abbrev main_v715 : Ref sig .tc := ⟨.hbm, 1336, rfl⟩
abbrev main_v716 : Ref sig .tc := ⟨.hbm, 1337, rfl⟩
abbrev main_v717 : Ref sig .tc := ⟨.hbm, 1338, rfl⟩
abbrev main_v718 : Ref sig .tc := ⟨.hbm, 1339, rfl⟩
abbrev main_v719 : Ref sig .tc := ⟨.hbm, 1340, rfl⟩
abbrev main_v720 : Ref sig .tc := ⟨.hbm, 1341, rfl⟩
abbrev main_v721 : Ref sig .tc := ⟨.hbm, 1342, rfl⟩
abbrev main_v722 : Ref sig .tc := ⟨.hbm, 1343, rfl⟩
abbrev main_v723 : Ref sig .tc := ⟨.hbm, 1344, rfl⟩
abbrev main_v724 : Ref sig .tc := ⟨.hbm, 1345, rfl⟩
abbrev main_v725 : Ref sig .tc := ⟨.hbm, 1346, rfl⟩
abbrev main_v726 : Ref sig .tc := ⟨.hbm, 1347, rfl⟩
abbrev main_v727 : Ref sig .tc := ⟨.hbm, 1348, rfl⟩
abbrev main_v728 : Ref sig .tc := ⟨.hbm, 1349, rfl⟩
abbrev main_v729 : Ref sig .tc := ⟨.hbm, 1350, rfl⟩
abbrev main_v730 : Ref sig .tc := ⟨.hbm, 1351, rfl⟩
abbrev main_v731 : Ref sig .tc := ⟨.hbm, 1352, rfl⟩
abbrev main_v732 : Ref sig .tc := ⟨.hbm, 1353, rfl⟩
abbrev main_v733 : Ref sig .tc := ⟨.hbm, 1354, rfl⟩
abbrev main_v734 : Ref sig .tc := ⟨.hbm, 1355, rfl⟩
abbrev main_v735 : Ref sig .tc := ⟨.hbm, 1356, rfl⟩
abbrev main_v736 : Ref sig .tc := ⟨.hbm, 1357, rfl⟩
abbrev main_v737 : Ref sig .tc := ⟨.hbm, 1358, rfl⟩
abbrev main_v738 : Ref sig .tc := ⟨.hbm, 1359, rfl⟩
abbrev main_v739 : Ref sig .tc := ⟨.hbm, 1360, rfl⟩
abbrev main_v740 : Ref sig .tc := ⟨.hbm, 1361, rfl⟩
abbrev main_v741 : Ref sig .tc := ⟨.hbm, 1362, rfl⟩
abbrev main_v742 : Ref sig .tc := ⟨.hbm, 1363, rfl⟩
abbrev main_v743 : Ref sig .tc := ⟨.hbm, 1364, rfl⟩
abbrev main_v744 : Ref sig .tc := ⟨.hbm, 1365, rfl⟩
abbrev main_v745 : Ref sig .tc := ⟨.hbm, 1366, rfl⟩
abbrev main_v746 : Ref sig .tc := ⟨.hbm, 1367, rfl⟩
abbrev main_v747 : Ref sig .tc := ⟨.hbm, 1368, rfl⟩
abbrev main_v748 : Ref sig .tc := ⟨.hbm, 1369, rfl⟩
abbrev main_v749 : Ref sig .tc := ⟨.hbm, 1370, rfl⟩
abbrev main_v750 : Ref sig .tc := ⟨.hbm, 1371, rfl⟩
abbrev main_v751 : Ref sig .tc := ⟨.hbm, 1372, rfl⟩
abbrev main_v752 : Ref sig .tc := ⟨.hbm, 1373, rfl⟩
abbrev main_v753 : Ref sig .tc := ⟨.hbm, 1374, rfl⟩
abbrev main_v754 : Ref sig .tc := ⟨.hbm, 1375, rfl⟩
abbrev main_v755 : Ref sig .tc := ⟨.hbm, 1376, rfl⟩
abbrev main_v756 : Ref sig .tc := ⟨.hbm, 1377, rfl⟩
abbrev main_v757 : Ref sig .tc := ⟨.hbm, 1378, rfl⟩
abbrev main_v758 : Ref sig .tc := ⟨.hbm, 1379, rfl⟩
abbrev main_v759 : Ref sig .tc := ⟨.hbm, 1380, rfl⟩
abbrev main_v760 : Ref sig .tc := ⟨.hbm, 1381, rfl⟩
abbrev main_v761 : Ref sig .tc := ⟨.hbm, 1382, rfl⟩
abbrev main_v762 : Ref sig .tc := ⟨.hbm, 1383, rfl⟩
abbrev main_v763 : Ref sig .tc := ⟨.hbm, 1384, rfl⟩
abbrev main_v764 : Ref sig .tc := ⟨.hbm, 1385, rfl⟩
abbrev main_v765 : Ref sig .tc := ⟨.hbm, 1386, rfl⟩
abbrev main_v766 : Ref sig .tc := ⟨.hbm, 1387, rfl⟩
abbrev main_v767 : Ref sig .tc := ⟨.hbm, 1388, rfl⟩
abbrev main_v768 : Ref sig .tc := ⟨.hbm, 1389, rfl⟩
abbrev main_v769 : Ref sig .tc := ⟨.hbm, 1390, rfl⟩
abbrev main_v770 : Ref sig .tc := ⟨.hbm, 1391, rfl⟩
abbrev main_v771 : Ref sig .tc := ⟨.hbm, 1392, rfl⟩
abbrev main_v772 : Ref sig .tc := ⟨.hbm, 1393, rfl⟩
abbrev main_v773 : Ref sig .tc := ⟨.hbm, 1394, rfl⟩
abbrev main_v774 : Ref sig .tc := ⟨.hbm, 1395, rfl⟩
abbrev main_v775 : Ref sig .tc := ⟨.hbm, 1396, rfl⟩
abbrev main_v776 : Ref sig .tc := ⟨.hbm, 1397, rfl⟩
abbrev main_v777 : Ref sig .tc := ⟨.hbm, 1398, rfl⟩
abbrev main_cst_173 : Ref sig .tc := ⟨.hbm, 1399, rfl⟩
abbrev main_v778 : Ref sig .tc := ⟨.hbm, 1400, rfl⟩
abbrev main_cst_174 : Ref sig .tc := ⟨.hbm, 1401, rfl⟩
abbrev main_v779 : Ref sig .tc := ⟨.hbm, 1402, rfl⟩
abbrev main_v780 : Ref sig .tc := ⟨.hbm, 1403, rfl⟩
abbrev main_v781 : Ref sig .tc := ⟨.hbm, 1404, rfl⟩
abbrev main_v782 : Ref sig .tc := ⟨.hbm, 1405, rfl⟩
abbrev main_v783 : Ref sig .tc := ⟨.hbm, 1406, rfl⟩
abbrev main_v784 : Ref sig .tc := ⟨.hbm, 1407, rfl⟩
abbrev main_cst_175 : Ref sig .tc := ⟨.hbm, 1408, rfl⟩
abbrev main_v785 : Ref sig .tc := ⟨.hbm, 1409, rfl⟩
abbrev main_v786 : Ref sig .tc := ⟨.hbm, 1410, rfl⟩
abbrev main_v787 : Ref sig .tc := ⟨.hbm, 1411, rfl⟩
abbrev main_v788 : Ref sig .tc := ⟨.hbm, 1412, rfl⟩
abbrev main_v789 : Ref sig .tc := ⟨.hbm, 1413, rfl⟩
abbrev main_v790 : Ref sig .tc := ⟨.hbm, 1414, rfl⟩
abbrev main_v791 : Ref sig .tc := ⟨.hbm, 1415, rfl⟩
abbrev main_v792 : Ref sig .tc := ⟨.hbm, 1416, rfl⟩
abbrev main_v793 : Ref sig .tc := ⟨.hbm, 1417, rfl⟩
abbrev main_v794 : Ref sig .tc := ⟨.hbm, 1418, rfl⟩
abbrev main_v795 : Ref sig .tc := ⟨.hbm, 1419, rfl⟩
abbrev main_v796 : Ref sig .tc := ⟨.hbm, 1420, rfl⟩
abbrev main_v797 : Ref sig .tc := ⟨.hbm, 1421, rfl⟩
abbrev main_v798 : Ref sig .tc := ⟨.hbm, 1422, rfl⟩
abbrev main_c_176 : Ref sig .tc := ⟨.hbm, 1423, rfl⟩
abbrev main_v799 : Ref sig .tc := ⟨.hbm, 1424, rfl⟩
abbrev main_v800 : Ref sig .tc := ⟨.hbm, 1425, rfl⟩
abbrev main_c_177 : Ref sig .tc := ⟨.hbm, 1426, rfl⟩
abbrev main_v801 : Ref sig .tc := ⟨.hbm, 1427, rfl⟩
abbrev main_v802 : Ref sig .tc := ⟨.hbm, 1428, rfl⟩
abbrev main_v803 : Ref sig .tc := ⟨.hbm, 1429, rfl⟩
abbrev main_c_178 : Ref sig .tc := ⟨.hbm, 1430, rfl⟩
abbrev main_v804 : Ref sig .tc := ⟨.hbm, 1431, rfl⟩
abbrev main_v805 : Ref sig .tc := ⟨.hbm, 1432, rfl⟩
abbrev main_c_179 : Ref sig .tc := ⟨.hbm, 1433, rfl⟩
abbrev main_v806 : Ref sig .tc := ⟨.hbm, 1434, rfl⟩
abbrev main_v807 : Ref sig .tc := ⟨.hbm, 1435, rfl⟩
abbrev main_v808 : Ref sig .tc := ⟨.hbm, 1436, rfl⟩
abbrev main_c_180 : Ref sig .tc := ⟨.hbm, 1437, rfl⟩
abbrev main_v809 : Ref sig .tc := ⟨.hbm, 1438, rfl⟩
abbrev main_v810 : Ref sig .tc := ⟨.hbm, 1439, rfl⟩
abbrev main_c_181 : Ref sig .tc := ⟨.hbm, 1440, rfl⟩
abbrev main_v811 : Ref sig .tc := ⟨.hbm, 1441, rfl⟩
abbrev main_v812 : Ref sig .tc := ⟨.hbm, 1442, rfl⟩
abbrev main_v813 : Ref sig .tc := ⟨.hbm, 1443, rfl⟩
abbrev main_v814 : Ref sig .tc := ⟨.hbm, 1444, rfl⟩
abbrev main_v815 : Ref sig .tc := ⟨.hbm, 1445, rfl⟩
abbrev main_v816 : Ref sig .tc := ⟨.hbm, 1446, rfl⟩
abbrev main_v817 : Ref sig .tc := ⟨.hbm, 1447, rfl⟩
abbrev main_v818 : Ref sig .tc := ⟨.hbm, 1448, rfl⟩
abbrev main_v819 : Ref sig .tc := ⟨.hbm, 1449, rfl⟩
abbrev main_v820 : Ref sig .tc := ⟨.hbm, 1450, rfl⟩
abbrev main_v821 : Ref sig .tc := ⟨.hbm, 1451, rfl⟩

abbrev nD : Nat := 1
abbrev τ : Topo := Topo.v7x

variable {F : FTy → Type} [FloatOps F]
-- ==== Proof.KernelRun.lean ====
module

public import proofs.«01_k».proof.Proof.Gen.KernelIdeal.Frame

/-! The kernel's run: its results hold what the last boundary's contents say, and its arguments are as launched. -/

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends, with its two results at the last boundary's contents and its arguments unchanged. -/
theorem run : θ_run defs (onTc (τ := τ) (main (F := F))) ⟨m, fun _ => 0, ρ⟩ (fun r => ∀ c : Dev nD,
      r.2.mem ((c.tc : Thread nD τ).loc main_v61) = W21 m ρ c (Proc.devRef .tc main_v61)
      ∧ r.2.mem ((c.tc : Thread nD τ).loc main_v48) = W21 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => fun c =>
      ⟨h c _ (mem_uc main_v61 (by decide)),
       h c _ (mem_uc main_v48 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KernelRun

end

end
-- ==== Proof.Tables.lean ====
module

public import proofs.«01_k».proof.KernelIdeal
public import Idealize.ShloMosaic.Lib.Pointwise

/-! The kernel's constant tables, read at an index: each is a zero-one matrix with one 1 per output row. -/

@[expose] public section

set_option maxRecDepth 16384

noncomputable section

namespace Cert.Tables

open Idealize.ShloMosaic Idealize.SL.Sem
open Cert.KernelIdeal

/-- The row (of 128) below the `i`-th of 64 equally spaced sample points. -/
def lo (i : Fin 64) : Fin 128 := ⟨127 * i.val / 63, by omega⟩
/-- The row (of 128) above it, the last row where there is none. -/
def hi (i : Fin 64) : Fin 128 := ⟨min (127 * i.val / 63 + 1) 127, by omega⟩
/-- The row (of 8) below the `i`-th of 64 equally spaced sample points. -/
def lo8 (i : Fin 64) : Fin 8 := ⟨i.val / 9, by omega⟩
/-- The row (of 8) above it, the last row where there is none. -/
def hi8 (i : Fin 64) : Fin 8 := ⟨min (i.val / 9 + 1) 7, by omega⟩
/-- The block of eight rows that row `i` of 64 lies in. -/
def blk8 (i : Fin 64) : Fin 8 := ⟨i.val / 8, by omega⟩

/-- Table 0 selects the lower row of 128. -/
theorem lit0_bits : ∀ h : Fin 128, ∀ i : Fin 64,
    lit0 (S128x64.rowMajor (ix2 h i)) = if h = lo i then 0x3F800000#32 else 0#32 := by
  decide +kernel

/-- Table 1 selects the upper row of 128. -/
theorem lit1_bits : ∀ h : Fin 128, ∀ i : Fin 64,
    lit1 (S128x64.rowMajor (ix2 h i)) = if h = hi i then 0x3F800000#32 else 0#32 := by
  decide +kernel

/-- Table 2 selects the eight rows of a block. -/
theorem lit2_bits : ∀ h : Fin 8, ∀ i : Fin 64,
    lit2 (S8x64.rowMajor (ix2 h i)) = if h = blk8 i then 0x3F800000#32 else 0#32 := by
  decide +kernel

/-- Table 3 selects the lower row of 8. -/
theorem lit3_bits : ∀ i : Fin 64, ∀ h : Fin 8,
    lit3 (S64x8.rowMajor (ix2 i h)) = if h = lo8 i then 0x3F800000#32 else 0#32 := by
  decide +kernel

/-- Table 4 selects the upper row of 8. -/
theorem lit4_bits : ∀ i : Fin 64, ∀ h : Fin 8,
    lit4 (S64x8.rowMajor (ix2 i h)) = if h = hi8 i then 0x3F800000#32 else 0#32 := by
  decide +kernel

end Cert.Tables

end

end
-- ==== Proof.Pad.lean ====
module

public import proofs.«01_k».proof.Proof.Gen.KernelIdeal.Skeleton
public import Idealize.ShloMosaic.Lib.Pointwise

/-! Zero padding of a 64 by 64 map by one cell on every side, and the shifted copies of it. -/

@[expose] public section

set_option maxRecDepth 16384

noncomputable section

namespace Cert.Pad

open Idealize.ShloMosaic Idealize.SL.Sem
open Cert.KernelIdeal

/-- A 64 by 64 map bordered by zeros, at row `r` and column `c` of 66 by 66. -/
def zpad (f : Fin 64 → Fin 64 → EReal) (r c : ℕ) : EReal :=
  if h : (1 ≤ r ∧ r ≤ 64) ∧ (1 ≤ c ∧ c ≤ 64) then f ⟨r - 1, by omega⟩ ⟨c - 1, by omega⟩ else 0

/-- Nine terms added to zero one after the other, row by row. -/
def taps (f : ℕ → ℕ → EReal) : EReal :=
  0 + f 0 0 + f 0 1 + f 0 2 + f 1 0 + f 1 1 + f 1 2 + f 2 0 + f 2 1 + f 2 2

/-- Padding commutes with a weighted sum over channels. -/
theorem sum_zpad {n : ℕ} (W : Fin n → EReal) (f : Fin n → Fin 64 → Fin 64 → EReal) (r c : ℕ) :
    zpad (fun i j => ∑ k : Fin n, W k * f k i j) r c = ∑ k : Fin n, W k * zpad (f k) r c := by
  unfold zpad
  by_cases h : (1 ≤ r ∧ r ≤ 64) ∧ (1 ≤ c ∧ c ≤ 64)
  · simp only [dif_pos h]
  · simp only [dif_neg h, mul_zero, Finset.sum_const_zero]

open Facts₀ Facts

/-- The zero the padding is filled with. -/
theorem fill_zero : (Scalar.sitofp .f32 0#32 : Ideal .f32) = (0 : EReal) := by
  simp

/-- A float zero. -/
theorem word_zero : (Scalar.ofBits .f32 0x00000000#32 : Ideal .f32) = (0 : EReal) := by
  show Ideal.ofBits .f32 0x00000000#32 = 0
  simp [Ideal.ofBits, Ideal.ieee]

/-- One map bordered row by row, then column by column. -/
def bordered (z : Ideal .f32) (v : FVec Ideal S64x64 .f32) : FVec Ideal S66x66 .f32 :=
  concatenate S66x66 1 [⟨S66x65, concatenate S66x65 1 [⟨S66x1, broadcast S66x1 z⟩, ⟨S66x64,
    concatenate S66x64 0 [⟨S65x64, concatenate S65x64 0 [⟨S1x64, broadcast S1x64 z⟩, ⟨S64x64, v⟩]
      concatenates_S1x64_S64x64_S65x64_d0⟩, ⟨S1x64, broadcast S1x64 z⟩]
      concatenates_S65x64_S1x64_S66x64_d0⟩] concatenates_S66x1_S66x64_S66x65_d1⟩, ⟨S66x1, broadcast S66x1 z⟩]
    concatenates_S66x65_S66x1_S66x66_d1

/-- A map bordered by zeros, read at an index. -/
theorem bordered_at (v : FVec Ideal S64x64 .f32) (r c : Fin 66) :
    bordered (0 : EReal) v (ix2 r c) = zpad (fun i j => v (ix2 i j)) r c := by
  have hr := r.isLt
  have hc := c.isLt
  unfold zpad
  pointwise [bordered]
  by_cases h1 : (c : ℕ) < 65
  · rw [dif_pos h1]
    by_cases h2 : (c : ℕ) < 1
    · rw [dif_pos h2, dif_neg (by omega)]
    · rw [dif_neg h2]
      by_cases h3 : (r : ℕ) < 65
      · rw [dif_pos h3]
        by_cases h4 : (r : ℕ) < 1
        · rw [dif_pos h4, dif_neg (by omega)]
        · rw [dif_neg h4, dif_pos (by omega)]
      · rw [dif_neg h3, dif_neg (by omega)]
  · rw [dif_neg h1, dif_neg (by omega)]

/-- The window of a bordered map that starts at row `a` and column `b`. -/
theorem window_at (v : FVec Ideal S64x64 .f32) (a b : ℕ) (h : S66x66.Slices ![a, b] S64x64)
    (ha : a ≤ 2) (hb : b ≤ 2) (i j : Fin 64) :
    extractStridedSlice S64x64 ![a, b] (bordered (0 : EReal) v) h (ix2 i j)
      = zpad (fun i j => v (ix2 i j)) (a + i) (b + j) := by
  refine Eq.trans ?_ (bordered_at v ⟨a + i, by omega⟩ ⟨b + j, by omega⟩)
  pointwise []

/-- One of nine maps. -/
def plane (t : ℕ) (h : S9x64x64.Slices ![t, 0, 0] S1x64x64) (v : FVec Ideal S9x64x64 .f32) : FVec Ideal S64x64 .f32 :=
  shapeCast S64x64 (extractStridedSlice S1x64x64 ![t, 0, 0] v h) shapeCasts_S1x64x64_S64x64

theorem plane_at (t : ℕ) (ht : t < 9) (h : S9x64x64.Slices ![t, 0, 0] S1x64x64) (v : FVec Ideal S9x64x64 .f32)
    (i j : Fin 64) : plane t h v (ix2 i j) = v (ix3 ⟨t, ht⟩ i j) := by
  pointwise [plane]

/-- Map `t` of nine, and zero beyond. -/
def mapOf (v : FVec Ideal S9x64x64 .f32) (t : ℕ) (i j : Fin 64) : EReal :=
  if h : t < 9 then v (ix3 ⟨t, h⟩ i j) else 0

/-- Map `t` of nine bordered by zeros and shifted. -/
def shifted (t a b : ℕ) (h : S9x64x64.Slices ![t, 0, 0] S1x64x64) (h' : S66x66.Slices ![a, b] S64x64)
    (v : FVec Ideal S9x64x64 .f32) : FVec Ideal S64x64 .f32 :=
  extractStridedSlice S64x64 ![a, b] (bordered (Scalar.sitofp .f32 0#32) (plane t h v)) h'

theorem shifted_at (t a b : ℕ) (h : S9x64x64.Slices ![t, 0, 0] S1x64x64) (h' : S66x66.Slices ![a, b] S64x64)
    (v : FVec Ideal S9x64x64 .f32) (ht : t < 9) (ha : a ≤ 2) (hb : b ≤ 2) (i j : Fin 64) :
    shifted t a b h h' v (ix2 i j) = zpad (mapOf v t) (a + i) (b + j) := by
  unfold shifted
  rw [fill_zero]
  refine (window_at _ a b h' ha hb i j).trans ?_
  congr 1
  funext i j
  rw [plane_at t ht, mapOf, dif_pos ht]

/-- The nine maps, each bordered by zeros and shifted to its place in a 3 by 3 stencil, added up. -/
def stencil (v : FVec Ideal S9x64x64 .f32) : FVec Ideal S64x64 .f32 :=
  (addf (addf (addf (addf (addf (addf (addf (addf (addf (broadcast S64x64 (Scalar.ofBits .f32 0x00000000#32)) (shifted 0 0 0 slices_S9x64x64_o0_0_0_S1x64x64 slices_S66x66_o0_0_S64x64 v)) (shifted 1 0 1 slices_S9x64x64_o1_0_0_S1x64x64 slices_S66x66_o0_1_S64x64 v)) (shifted 2 0 2 slices_S9x64x64_o2_0_0_S1x64x64 slices_S66x66_o0_2_S64x64 v))
     (shifted 3 1 0 slices_S9x64x64_o3_0_0_S1x64x64 slices_S66x66_o1_0_S64x64 v)) (shifted 4 1 1 slices_S9x64x64_o4_0_0_S1x64x64 slices_S66x66_o1_1_S64x64 v)) (shifted 5 1 2 slices_S9x64x64_o5_0_0_S1x64x64 slices_S66x66_o1_2_S64x64 v))
     (shifted 6 2 0 slices_S9x64x64_o6_0_0_S1x64x64 slices_S66x66_o2_0_S64x64 v)) (shifted 7 2 1 slices_S9x64x64_o7_0_0_S1x64x64 slices_S66x66_o2_1_S64x64 v)) (shifted 8 2 2 slices_S9x64x64_o8_0_0_S1x64x64 slices_S66x66_o2_2_S64x64 v))

theorem stencil_at (v : FVec Ideal S9x64x64 .f32) (i j : Fin 64) :
    stencil v (ix2 i j) = taps (fun a b => zpad (mapOf v (3 * a + b)) (a + i) (b + j)) := by
  unfold stencil taps
  pointwise []
  rw [shifted_at 0 0 0 _ _ v (by decide) (by decide) (by decide),
    shifted_at 1 0 1 _ _ v (by decide) (by decide) (by decide),
    shifted_at 2 0 2 _ _ v (by decide) (by decide) (by decide),
    shifted_at 3 1 0 _ _ v (by decide) (by decide) (by decide),
    shifted_at 4 1 1 _ _ v (by decide) (by decide) (by decide),
    shifted_at 5 1 2 _ _ v (by decide) (by decide) (by decide),
    shifted_at 6 2 0 _ _ v (by decide) (by decide) (by decide),
    shifted_at 7 2 1 _ _ v (by decide) (by decide) (by decide),
    shifted_at 8 2 2 _ _ v (by decide) (by decide) (by decide)]
  simp only [Nat.zero_add]

end Cert.Pad

end

end
-- ==== Proof.Spec.lean ====
module

public import proofs.«01_k».proof.Proof.Tables
public import proofs.«01_k».proof.Proof.Pad

/-! The edge map in plain arithmetic over the extended reals: what both programs are shown to compute. -/

@[expose] public section

noncomputable section

namespace Cert.Spec

open Idealize.ShloMosaic
open Cert.Tables Cert.Pad

/-- The arguments that the edge map depends on, read at their coordinates. -/
structure Args where
  /-- the high-level image -/
  xh : Fin 8 → Fin 192 → Fin 64 → Fin 64 → EReal
  /-- the low-level image -/
  xl : Fin 8 → Fin 192 → Fin 128 → Fin 128 → EReal
  /-- the projection of the high-level image -/
  wh : Fin 64 → Fin 192 → EReal
  /-- the projection of the low-level image -/
  wl : Fin 64 → Fin 192 → EReal
  /-- the weights of the matching convolution -/
  wm : Fin 128 → Fin 3 → Fin 3 → EReal
  /-- the bias of the matching convolution -/
  bm : EReal
  /-- the weights of the first edge convolution -/
  we : Fin 192 → Fin 192 → Fin 3 → Fin 3 → EReal
  /-- the scale of the normalization -/
  g : Fin 192 → EReal
  /-- the shift of the normalization -/
  b : Fin 192 → EReal
  /-- the weights of the second edge convolution -/
  wo : Fin 192 → Fin 3 → Fin 3 → EReal

/-- Nine terms added to zero one after the other. -/
def taps9 (f : Fin 3 → Fin 3 → EReal) : EReal :=
  0 + f 0 0 + f 0 1 + f 0 2 + f 1 0 + f 1 1 + f 1 2 + f 2 0 + f 2 1 + f 2 2

theorem taps_eq (f : ℕ → ℕ → EReal) (g : Fin 3 → Fin 3 → EReal) (h : ∀ u v : Fin 3, f u v = g u v) :
    taps f = taps9 g := by
  have e : ∀ u v : Fin 3, g u v = f u v := fun u v => (h u v).symm
  unfold taps9
  simp only [e]
  rfl

/-- How far the `i`-th of 64 equally spaced points lies above the row (of 128) below it. -/
def fr (i : Fin 64) : EReal := ((127 * (i : ℝ) / 63 - ((lo i : ℕ) : ℝ) : ℝ) : EReal)
/-- How far the `i`-th of 64 equally spaced points lies above the row (of 8) below it. -/
def fr8 (i : Fin 64) : EReal := ((7 * (i : ℝ) / 63 - ((lo8 i : ℕ) : ℝ) : ℝ) : EReal)

/-- A 128 by 128 map resampled at 64 by 64 points, rows first. -/
def shrink (f : Fin 128 → Fin 128 → EReal) (i j : Fin 64) : EReal :=
  (f (lo i) (lo j) * (1 - fr i) + f (hi i) (lo j) * fr i) * (1 - fr j)
    + (f (lo i) (hi j) * (1 - fr i) + f (hi i) (hi j) * fr i) * fr j

/-- An 8 by 8 map resampled at 64 by 64 points, rows first. -/
def grow (f : Fin 8 → Fin 8 → EReal) (i j : Fin 64) : EReal :=
  (f (lo8 i) (lo8 j) * (1 - fr8 i) + f (hi8 i) (lo8 j) * fr8 i) * (1 - fr8 j)
    + (f (lo8 i) (hi8 j) * (1 - fr8 i) + f (hi8 i) (hi8 j) * fr8 i) * fr8 j

variable (a : Args)

/-- The low-level image projected to 64 channels. -/
def low (n : Fin 8) (d : Fin 64) (h x : Fin 128) : EReal := ∑ c : Fin 192, a.wl d c * a.xl n c h x

/-- The high-level image projected to 64 channels. -/
def high (n : Fin 8) (d i j : Fin 64) : EReal := ∑ c : Fin 192, a.wh d c * a.xh n c i j

/-- The 128 channels that are matched: the high-level ones, then the resampled low-level ones. -/
def chan (n : Fin 8) (k : Fin 128) (i j : Fin 64) : EReal :=
  if h : (k : ℕ) < 64 then high a n ⟨k, h⟩ i j else shrink (low a n ⟨k - 64, by omega⟩) i j

/-- The matching convolution. -/
def mtch (n : Fin 8) (i j : Fin 64) : EReal :=
  taps9 (fun u v => ∑ k : Fin 128, a.wm k u v * zpad (chan a n k) (u + i) (v + j)) + a.bm

/-- The certainty map. -/
def cert (n : Fin 8) (i j : Fin 64) : EReal := Ideal.div 1 (1 + Ideal.exp (-(mtch a n i j)))

/-- The mean of the certainty over an 8 by 8 block. -/
def avg (n : Fin 8) (r c : Fin 8) : EReal :=
  (∑ x : Fin 8, ∑ y : Fin 8, cert a n ⟨r * 8 + x, by omega⟩ ⟨c * 8 + y, by omega⟩) * ((1 / 64 : ℝ) : EReal)

/-- The high-level image with its resampled mean certainty taken out. -/
def edge (n : Fin 8) (k : Fin 192) (i j : Fin 64) : EReal :=
  a.xh n k i j - a.xh n k i j * grow (avg a n) i j

/-- The first edge convolution. -/
def conv (n : Fin 8) (o : Fin 192) (i j : Fin 64) : EReal :=
  taps9 (fun u v => ∑ k : Fin 192, a.we o k u v * zpad (edge a n k) (u + i) (v + j))

/-- A channel's mean over all images and positions. -/
def mean (o : Fin 192) : EReal :=
  (∑ n : Fin 8, ∑ i : Fin 64, ∑ j : Fin 64, conv a n o i j) * ((1 / 32768 : ℝ) : EReal)

/-- A channel's variance over all images and positions. -/
def var (o : Fin 192) : EReal :=
  (∑ n : Fin 8, ∑ i : Fin 64, ∑ j : Fin 64, (conv a n o i j - mean a o) * (conv a n o i j - mean a o))
    * ((1 / 32768 : ℝ) : EReal)

/-- The normalized channels, cut at zero. -/
def nrm (n : Fin 8) (o : Fin 192) (i j : Fin 64) : EReal :=
  max (Ideal.div (conv a n o i j - mean a o) (Ideal.sqrt (var a o + Ideal.ofBits .f32 0x3727C5AC#32)) * a.g o + a.b o) 0

/-- The edge map. -/
def out (n : Fin 8) (i j : Fin 64) : EReal :=
  taps9 (fun u v => ∑ o : Fin 192, a.wo o u v * zpad (nrm a n o) (u + i) (v + j))

end Cert.Spec

end

end
-- ==== Proof.Host.lean ====
module

public import proofs.«01_k».proof.Proof.Spec
public import proofs.«01_k».proof.Proof.Gen.KernelIdeal.Frame
public import Idealize.ShloMosaic.Lib.StableHlo.ReadAt

/-! The kernel's host operations before its calls: the arguments in the layouts the calls read, the tables and the
sample points. -/

@[expose] public section

set_option maxRecDepth 16384

noncomputable section

open Idealize.ShloMosaic Idealize.ShloMosaic.TcCoe Idealize.SL.Sem

namespace Cert.Host

open Cert.KernelIdeal Cert.KernelIdeal.Gen Cert.Tables

/-- The float zero. -/
theorem zero_val : Ideal.ofBits .f32 0x00000000#32 = 0 := by
  simp [Ideal.ofBits, Ideal.ieee]
/-- The float one. -/
theorem one_val : Ideal.ofBits .f32 0x3F800000#32 = 1 := by
  simp [Ideal.ofBits, Ideal.ieee, -EReal.coe_mul]; norm_num
/-- The float sixty-three. -/
theorem n63_val : Ideal.ofBits .f32 0x427C0000#32 = ((63 : ℝ) : EReal) := by
  simp [Ideal.ofBits, Ideal.ieee, -EReal.coe_mul]; norm_num
/-- The float 127. -/
theorem n127_val : Ideal.ofBits .f32 0x42FE0000#32 = ((127 : ℝ) : EReal) := by
  simp [Ideal.ofBits, Ideal.ieee, -EReal.coe_mul]; norm_num
/-- The float seven. -/
theorem n7_val : Ideal.ofBits .f32 0x40E00000#32 = ((7 : ℝ) : EReal) := by
  simp [Ideal.ofBits, Ideal.ieee, -EReal.coe_mul]; norm_num
/-- The float 1/64. -/
theorem r64_val : Ideal.ofBits .f32 0x3C800000#32 = ((1 / 64 : ℝ) : EReal) := by
  simp [Ideal.ofBits, Ideal.ieee, -EReal.coe_mul]; norm_num
/-- The float 1/32768. -/
theorem r32768_val : Ideal.ofBits .f32 0x38000000#32 = ((1 / 32768 : ℝ) : EReal) := by
  simp [Ideal.ofBits, Ideal.ieee, -EReal.coe_mul]; norm_num

variable (W : Valuation τ sig (Elt Ideal))

section line0

theorem cst_at (h : Fin 128) (i : Fin 64) :
    (StableHlo.after hostOps0 W (Proc.devRef .tc main_cst) : S128x64.Idx → EReal) (ix2 h i) = if h = lo i then (1 : EReal) else (0 : EReal) := by
  show Ideal.ofBits .f32 (lit0 (S128x64.rowMajor (ix2 h i))) = _
  rw [lit0_bits]; split
  · exact one_val
  · exact zero_val
theorem cst_0_at (h : Fin 128) (i : Fin 64) :
    (StableHlo.after hostOps0 W (Proc.devRef .tc main_cst_0) : S128x64.Idx → EReal) (ix2 h i) = if h = hi i then (1 : EReal) else (0 : EReal) := by
  show Ideal.ofBits .f32 (lit1 (S128x64.rowMajor (ix2 h i))) = _
  rw [lit1_bits]; split
  · exact one_val
  · exact zero_val
theorem cst_1_at (h : Fin 8) (i : Fin 64) :
    (StableHlo.after hostOps0 W (Proc.devRef .tc main_cst_1) : S8x64.Idx → EReal) (ix2 h i) = if h = blk8 i then (1 : EReal) else (0 : EReal) := by
  show Ideal.ofBits .f32 (lit2 (S8x64.rowMajor (ix2 h i))) = _
  rw [lit2_bits]; split
  · exact one_val
  · exact zero_val
theorem cst_2_at (i : Fin 64) (h : Fin 8) :
    (StableHlo.after hostOps0 W (Proc.devRef .tc main_cst_2) : S64x8.Idx → EReal) (ix2 i h) = if h = lo8 i then (1 : EReal) else (0 : EReal) := by
  show Ideal.ofBits .f32 (lit3 (S64x8.rowMajor (ix2 i h))) = _
  rw [lit3_bits]; split
  · exact one_val
  · exact zero_val
theorem cst_3_at (i : Fin 64) (h : Fin 8) :
    (StableHlo.after hostOps0 W (Proc.devRef .tc main_cst_3) : S64x8.Idx → EReal) (ix2 i h) = if h = hi8 i then (1 : EReal) else (0 : EReal) := by
  show Ideal.ofBits .f32 (lit4 (S64x8.rowMajor (ix2 i h))) = _
  rw [lit4_bits]; split
  · exact one_val
  · exact zero_val

theorem v0_at (n : Fin 8) (k : Fin 192) (i j : Fin 64) :
    (StableHlo.after hostOps0 W (Proc.devRef .tc main_v0) : S8x192x4096.Idx → EReal) (ix3 n k ⟨i * 64 + j, by omega⟩)
      = (W (Proc.devRef .tc main_arg0) : S8x192x64x64.Idx → EReal) (ix4 n k i j) := by
  show shapeCast S8x192x4096 (W (Proc.devRef .tc main_arg0) : S8x192x64x64.Idx → EReal) shapeCasts_S8x192x64x64_S8x192x4096 _ = _
  generalize (W (Proc.devRef .tc main_arg0) : S8x192x64x64.Idx → EReal) = v
  pointwise []
theorem v1_at (n : Fin 8) (k : Fin 192) (i j : Fin 128) :
    (StableHlo.after hostOps0 W (Proc.devRef .tc main_v1) : S8x192x16384.Idx → EReal) (ix3 n k ⟨i * 128 + j, by omega⟩)
      = (W (Proc.devRef .tc main_arg1) : S8x192x128x128.Idx → EReal) (ix4 n k i j) := by
  show shapeCast S8x192x16384 (W (Proc.devRef .tc main_arg1) : S8x192x128x128.Idx → EReal) shapeCasts_S8x192x128x128_S8x192x16384 _ = _
  generalize (W (Proc.devRef .tc main_arg1) : S8x192x128x128.Idx → EReal) = v
  pointwise []
theorem v2_at (d : Fin 64) (k : Fin 192) :
    (StableHlo.after hostOps0 W (Proc.devRef .tc main_v2) : S64x192.Idx → EReal) (ix2 d k)
      = (W (Proc.devRef .tc main_arg2) : S64x192x1x1.Idx → EReal) (ix4 d k 0 0) := by
  show shapeCast S64x192 (W (Proc.devRef .tc main_arg2) : S64x192x1x1.Idx → EReal) shapeCasts_S64x192x1x1_S64x192 _ = _
  generalize (W (Proc.devRef .tc main_arg2) : S64x192x1x1.Idx → EReal) = v
  pointwise []
theorem v3_at (d : Fin 64) (k : Fin 192) :
    (StableHlo.after hostOps0 W (Proc.devRef .tc main_v3) : S64x192.Idx → EReal) (ix2 d k)
      = (W (Proc.devRef .tc main_arg4) : S64x192x1x1.Idx → EReal) (ix4 d k 0 0) := by
  show shapeCast S64x192 (W (Proc.devRef .tc main_arg4) : S64x192x1x1.Idx → EReal) shapeCasts_S64x192x1x1_S64x192 _ = _
  generalize (W (Proc.devRef .tc main_arg4) : S64x192x1x1.Idx → EReal) = v
  pointwise []
theorem v7_at (u v : Fin 3) (k : Fin 128) :
    (StableHlo.after hostOps0 W (Proc.devRef .tc main_v7) : S9x128.Idx → EReal) (ix2 ⟨3 * u + v, by omega⟩ k)
      = (W (Proc.devRef .tc main_arg6) : S1x128x3x3.Idx → EReal) (ix4 0 k u v) := by
  show transpose S9x128 [1, 0] (shapeCast S128x9 (W (Proc.devRef .tc main_arg6) : S1x128x3x3.Idx → EReal)
    shapeCasts_S1x128x3x3_S128x9) transposes_S128x9_S9x128_1_0 _ = _
  generalize (W (Proc.devRef .tc main_arg6) : S1x128x3x3.Idx → EReal) = w
  pointwise []
theorem v8_at :
    (StableHlo.after hostOps0 W (Proc.devRef .tc main_v8) : S1x1.Idx → EReal) (ix2 0 0)
      = (W (Proc.devRef .tc main_arg7) : S1.Idx → EReal) (ix1 0) := by
  show shapeCast S1x1 (W (Proc.devRef .tc main_arg7) : S1.Idx → EReal) shapeCasts_S1_S1x1 _ = _
  generalize (W (Proc.devRef .tc main_arg7) : S1.Idx → EReal) = w
  pointwise []
theorem v10_at (u v : Fin 3) (o k : Fin 192) :
    (StableHlo.after hostOps0 W (Proc.devRef .tc main_v10) : S9x192x192.Idx → EReal) (ix3 ⟨3 * u + v, by omega⟩ o k)
      = (W (Proc.devRef .tc main_arg8) : S192x192x3x3.Idx → EReal) (ix4 o k u v) := by
  show shapeCast S9x192x192 (transpose S3x3x192x192 [2, 3, 0, 1] (W (Proc.devRef .tc main_arg8) : S192x192x3x3.Idx → EReal)
    transposes_S192x192x3x3_S3x3x192x192_2_3_0_1) shapeCasts_S3x3x192x192_S9x192x192 _ = _
  generalize (W (Proc.devRef .tc main_arg8) : S192x192x3x3.Idx → EReal) = w
  pointwise []
theorem v12_at (u v : Fin 3) (k : Fin 192) :
    (StableHlo.after hostOps0 W (Proc.devRef .tc main_v12) : S9x192.Idx → EReal) (ix2 ⟨3 * u + v, by omega⟩ k)
      = (W (Proc.devRef .tc main_arg11) : S1x192x3x3.Idx → EReal) (ix4 0 k u v) := by
  show transpose S9x192 [1, 0] (shapeCast S192x9 (W (Proc.devRef .tc main_arg11) : S1x192x3x3.Idx → EReal)
    shapeCasts_S1x192x3x3_S192x9) transposes_S192x9_S9x192_1_0 _ = _
  generalize (W (Proc.devRef .tc main_arg11) : S1x192x3x3.Idx → EReal) = w
  pointwise []
theorem v17_at (o : Fin 192) :
    (StableHlo.after hostOps0 W (Proc.devRef .tc main_v17) : S192x1.Idx → EReal) (ix2 o 0)
      = (W (Proc.devRef .tc main_arg9) : S192.Idx → EReal) (ix1 o) := by
  show shapeCast S192x1 (W (Proc.devRef .tc main_arg9) : S192.Idx → EReal) shapeCasts_S192_S192x1 _ = _
  generalize (W (Proc.devRef .tc main_arg9) : S192.Idx → EReal) = w
  pointwise []
theorem v18_at (o : Fin 192) :
    (StableHlo.after hostOps0 W (Proc.devRef .tc main_v18) : S192x1.Idx → EReal) (ix2 o 0)
      = (W (Proc.devRef .tc main_arg10) : S192.Idx → EReal) (ix1 o) := by
  show shapeCast S192x1 (W (Proc.devRef .tc main_arg10) : S192.Idx → EReal) shapeCasts_S192_S192x1 _ = _
  generalize (W (Proc.devRef .tc main_arg10) : S192.Idx → EReal) = w
  pointwise []

end line0

/-- Sixty-four points from one number to another, evenly spaced. -/
def lin (a b : FVec Ideal S_ .f32) : FVec Ideal S64 .f32 :=
  concatenate S64 0
    [⟨S63, addf
      (mulf (broadcastInDim S63 ![0] bcast_S1_S63_0 (shapeCast S1 a shapeCasts_S_S1))
        (subf (broadcastInDim S63 ![] bcast_S_S63 (constant S_ .f32 0x3F800000#32))
          (Host.divf (sitofp .f32 (iotaInDim S63 32 0)) (broadcastInDim S63 ![] bcast_S_S63 (constant S_ .f32 0x427C0000#32)))))
      (mulf (broadcastInDim S63 ![0] bcast_S1_S63_0 (shapeCast S1 b shapeCasts_S_S1))
        (Host.divf (sitofp .f32 (iotaInDim S63 32 0)) (broadcastInDim S63 ![] bcast_S_S63 (constant S_ .f32 0x427C0000#32))))⟩,
     ⟨S1, broadcastInDim S1 ![] bcast_S_S1 b⟩] concatenates_S63_S1_S64_d0

theorem v19_eq : StableHlo.after hostOps0_1 W (Proc.devRef .tc main_v19)
    = lin (W (Proc.devRef .tc main_cst_5)) (W (Proc.devRef .tc main_cst_6)) := rfl
theorem v25_eq : StableHlo.after hostOps0_3 W (Proc.devRef .tc main_v25)
    = lin (W (Proc.devRef .tc main_cst_8)) (W (Proc.devRef .tc main_cst_9)) := rfl

/-- A small number as a 32-bit word, as a real. -/
theorem word_real (n : ℕ) (h : n < 64) : (FloatOps.sitofp .f32 (BitVec.ofNat 32 n) : Ideal .f32) = (((n : ℕ) : ℝ) : EReal) := by
  show (((BitVec.ofNat 32 n).toInt : ℝ) : EReal) = _
  have : (BitVec.ofNat 32 n).toInt = (n : ℤ) := by
    rw [BitVec.toInt_eq_toNat_of_lt (by simp; omega)]
    simp; omega
  rw [this]; simp

/-- The points from zero to a number. -/
theorem lin_at (r : ℝ) (a b : FVec Ideal S_ .f32) (ha : a ix0 = (0 : EReal)) (hb : b ix0 = (r : EReal)) (i : Fin 64) :
    lin a b (ix1 i) = ((r * (i : ℝ) / 63 : ℝ) : EReal) := by
  pointwise [lin]
  rw [n63_val]
  by_cases h : (i : ℕ) < 63
  · rw [dif_pos h, word_real _ (by omega), ha, hb, zero_mul, zero_add, Ideal.div_coe (by norm_num),
      ← EReal.coe_mul, ← EReal.coe_mul]
    congr 1; ring
  · rw [dif_neg h, hb]
    have : ((i : ℕ) : ℝ) = 63 := by
      have : (i : ℕ) = 63 := by omega
      rw [this]; norm_num
    rw [this]; congr 1; ring

/-- The floor of a point between rows of 128. -/
theorem floor_lo (i : Fin 64) : Ideal.liftRound Int.floor ((127 * (i : ℝ) / 63 : ℝ) : EReal) = (((lo i : ℕ) : ℝ) : EReal) := by
  rw [Ideal.liftRound_coe]
  have : ⌊(127 * (i : ℝ) / 63 : ℝ)⌋ = ((lo i : ℕ) : ℤ) := by
    rw [Int.floor_eq_iff]
    have h1 : 63 * (127 * i.val / 63) ≤ 127 * i.val := Nat.mul_div_le _ _
    have h2 : 127 * i.val < 63 * (127 * i.val / 63) + 63 := by omega
    have h1' : (63 : ℝ) * ((127 * i.val / 63 : ℕ) : ℝ) ≤ 127 * (i : ℝ) := by exact_mod_cast h1
    have h2' : 127 * (i : ℝ) < (63 : ℝ) * ((127 * i.val / 63 : ℕ) : ℝ) + 63 := by exact_mod_cast h2
    show (((127 * i.val / 63 : ℕ) : ℤ) : ℝ) ≤ _ ∧ _ < (((127 * i.val / 63 : ℕ) : ℤ) : ℝ) + 1
    rw [Int.cast_natCast]
    constructor <;> linarith
  rw [this]; simp

/-- The floor of a point between rows of 8. -/
theorem floor_lo8 (i : Fin 64) : Ideal.liftRound Int.floor ((7 * (i : ℝ) / 63 : ℝ) : EReal) = (((lo8 i : ℕ) : ℝ) : EReal) := by
  rw [Ideal.liftRound_coe]
  have : ⌊(7 * (i : ℝ) / 63 : ℝ)⌋ = ((lo8 i : ℕ) : ℤ) := by
    rw [Int.floor_eq_iff]
    have h1 : 9 * (i.val / 9) ≤ i.val := Nat.mul_div_le _ _
    have h2 : i.val < 9 * (i.val / 9) + 9 := by omega
    have h1' : (9 : ℝ) * ((i.val / 9 : ℕ) : ℝ) ≤ (i : ℝ) := by exact_mod_cast h1
    have h2' : (i : ℝ) < (9 : ℝ) * ((i.val / 9 : ℕ) : ℝ) + 9 := by exact_mod_cast h2
    show (((i.val / 9 : ℕ) : ℤ) : ℝ) ≤ _ ∧ _ < (((i.val / 9 : ℕ) : ℤ) : ℝ) + 1
    rw [Int.cast_natCast]
    constructor <;> linarith
  rw [this]; simp

open Cert.Spec

theorem cst_5_at : (StableHlo.after hostOps0 W (Proc.devRef .tc main_cst_5) : S_.Idx → EReal) ix0 = (0 : EReal) := zero_val
theorem cst_6_at : (StableHlo.after hostOps0 W (Proc.devRef .tc main_cst_6) : S_.Idx → EReal) ix0 = ((127 : ℝ) : EReal) := n127_val
theorem cst_8_at : (StableHlo.after hostOps0_2 W (Proc.devRef .tc main_cst_8) : S_.Idx → EReal) ix0 = (0 : EReal) := zero_val
theorem cst_9_at : (StableHlo.after hostOps0_2 W (Proc.devRef .tc main_cst_9) : S_.Idx → EReal) ix0 = ((7 : ℝ) : EReal) := n7_val

theorem v22_at (h : ∀ i : Fin 64, (W (Proc.devRef .tc main_v19) : S64.Idx → EReal) (ix1 i) = ((127 * (i : ℝ) / 63 : ℝ) : EReal)) (i : Fin 64) :
    (StableHlo.after hostOps0_2 W (Proc.devRef .tc main_v22) : S1x64.Idx → EReal) (ix2 0 i) = fr i := by
  show shapeCast S1x64 (subf (F := Ideal) (φ := .f32) (W (Proc.devRef .tc main_v19) : S64.Idx → EReal)
    (Host.floor (W (Proc.devRef .tc main_v19) : S64.Idx → EReal))) shapeCasts_S64_S1x64 _ = _
  revert h
  generalize (W (Proc.devRef .tc main_v19) : S64.Idx → EReal) = w
  intro h
  pointwise []
  rw [h, floor_lo, ← EReal.coe_sub]
  rfl
theorem v24_at (h : ∀ i : Fin 64, (W (Proc.devRef .tc main_v19) : S64.Idx → EReal) (ix1 i) = ((127 * (i : ℝ) / 63 : ℝ) : EReal)) (i : Fin 64) :
    (StableHlo.after hostOps0_2 W (Proc.devRef .tc main_v24) : S1x64.Idx → EReal) (ix2 0 i) = (1 - fr i : EReal) := by
  rw [← v22_at W h]
  show subf (F := Ideal) (φ := .f32) (broadcastInDim S1x64 ![] bcast_S_S1x64 (constant S_ .f32 0x3F800000#32)) (StableHlo.after hostOps0_2 W (Proc.devRef .tc main_v22) : S1x64.Idx → EReal) _ = _
  generalize (StableHlo.after hostOps0_2 W (Proc.devRef .tc main_v22) : S1x64.Idx → EReal) = w
  pointwise []
theorem v28_at (h : ∀ i : Fin 64, (W (Proc.devRef .tc main_v25) : S64.Idx → EReal) (ix1 i) = ((7 * (i : ℝ) / 63 : ℝ) : EReal)) (i : Fin 64) :
    (StableHlo.after hostOps0_4 W (Proc.devRef .tc main_v28) : S64x1.Idx → EReal) (ix2 i 0) = fr8 i := by
  show shapeCast S64x1 (subf (F := Ideal) (φ := .f32) (W (Proc.devRef .tc main_v25) : S64.Idx → EReal)
    (Host.floor (W (Proc.devRef .tc main_v25) : S64.Idx → EReal))) shapeCasts_S64_S64x1 _ = _
  revert h
  generalize (W (Proc.devRef .tc main_v25) : S64.Idx → EReal) = w
  intro h
  pointwise []
  rw [h, floor_lo8, ← EReal.coe_sub]
  rfl
theorem v31_at (h : ∀ i : Fin 64, (W (Proc.devRef .tc main_v25) : S64.Idx → EReal) (ix1 i) = ((7 * (i : ℝ) / 63 : ℝ) : EReal)) (i : Fin 64) :
    (StableHlo.after hostOps0_4 W (Proc.devRef .tc main_v31) : S1x64.Idx → EReal) (ix2 0 i) = fr8 i := by
  show shapeCast S1x64 (subf (F := Ideal) (φ := .f32) (W (Proc.devRef .tc main_v25) : S64.Idx → EReal)
    (Host.floor (W (Proc.devRef .tc main_v25) : S64.Idx → EReal))) shapeCasts_S64_S1x64 _ = _
  revert h
  generalize (W (Proc.devRef .tc main_v25) : S64.Idx → EReal) = w
  intro h
  pointwise []
  rw [h, floor_lo8, ← EReal.coe_sub]
  rfl
theorem v30_at (h : ∀ i : Fin 64, (W (Proc.devRef .tc main_v25) : S64.Idx → EReal) (ix1 i) = ((7 * (i : ℝ) / 63 : ℝ) : EReal)) (i : Fin 64) :
    (StableHlo.after hostOps0_4 W (Proc.devRef .tc main_v30) : S64x1.Idx → EReal) (ix2 i 0) = (1 - fr8 i : EReal) := by
  rw [← v28_at W h]
  show subf (F := Ideal) (φ := .f32) (broadcastInDim S64x1 ![] bcast_S_S64x1 (constant S_ .f32 0x3F800000#32)) (StableHlo.after hostOps0_4 W (Proc.devRef .tc main_v28) : S64x1.Idx → EReal) _ = _
  generalize (StableHlo.after hostOps0_4 W (Proc.devRef .tc main_v28) : S64x1.Idx → EReal) = w
  pointwise []
theorem v33_at (h : ∀ i : Fin 64, (W (Proc.devRef .tc main_v25) : S64.Idx → EReal) (ix1 i) = ((7 * (i : ℝ) / 63 : ℝ) : EReal)) (i : Fin 64) :
    (StableHlo.after hostOps0_4 W (Proc.devRef .tc main_v33) : S1x64.Idx → EReal) (ix2 0 i) = (1 - fr8 i : EReal) := by
  rw [← v31_at W h]
  show subf (F := Ideal) (φ := .f32) (broadcastInDim S1x64 ![] bcast_S_S1x64 (constant S_ .f32 0x3F800000#32)) (StableHlo.after hostOps0_4 W (Proc.devRef .tc main_v31) : S1x64.Idx → EReal) _ = _
  generalize (StableHlo.after hostOps0_4 W (Proc.devRef .tc main_v31) : S1x64.Idx → EReal) = w
  pointwise []

/-- The certainty from the matching convolution. -/
theorem v42_at (n : Fin 8) (i j : Fin 64) (x : EReal)
    (hx : (W (Proc.devRef .tc main_v36_0) : S8x64x64.Idx → EReal) (ix3 n i j) = x) :
    (StableHlo.after hostOps3 W (Proc.devRef .tc main_v42) : S8x64x64.Idx → EReal) (ix3 n i j)
      = Ideal.div 1 (1 + Ideal.exp (-x)) := by
  rw [← hx]
  show Host.divf (F := Ideal) (φ := .f32) (broadcastInDim S8x64x64 ![] bcast_S_S8x64x64 (constant S_ .f32 0x3F800000#32))
    (addf (broadcastInDim S8x64x64 ![] bcast_S_S8x64x64 (constant S_ .f32 0x3F800000#32))
      (Host.exp (Host.negf (W (Proc.devRef .tc main_v36_0) : S8x64x64.Idx → EReal)))) _ = _
  generalize (W (Proc.devRef .tc main_v36_0) : S8x64x64.Idx → EReal) = w
  pointwise []
theorem v43_at (i : Fin 64) (r : Fin 8) :
    (StableHlo.after hostOps3 W (Proc.devRef .tc main_v43) : S64x8.Idx → EReal) (ix2 i r)
      = (W (Proc.devRef .tc main_cst_1) : S8x64.Idx → EReal) (ix2 r i) := by
  show transpose S64x8 [1, 0] (W (Proc.devRef .tc main_cst_1) : S8x64.Idx → EReal) transposes_S8x64_S64x8_1_0 _ = _
  generalize (W (Proc.devRef .tc main_cst_1) : S8x64.Idx → EReal) = w
  pointwise []
theorem v44_at (r : Fin 8) (i : Fin 64) :
    (StableHlo.after hostOps3 W (Proc.devRef .tc main_v44) : S8x64.Idx → EReal) (ix2 r i)
      = (W (Proc.devRef .tc main_cst_2) : S64x8.Idx → EReal) (ix2 i r) := by
  show transpose S8x64 [1, 0] (W (Proc.devRef .tc main_cst_2) : S64x8.Idx → EReal) transposes_S64x8_S8x64_1_0 _ = _
  generalize (W (Proc.devRef .tc main_cst_2) : S64x8.Idx → EReal) = w
  pointwise []
theorem v45_at (r : Fin 8) (i : Fin 64) :
    (StableHlo.after hostOps3 W (Proc.devRef .tc main_v45) : S8x64.Idx → EReal) (ix2 r i)
      = (W (Proc.devRef .tc main_cst_3) : S64x8.Idx → EReal) (ix2 i r) := by
  show transpose S8x64 [1, 0] (W (Proc.devRef .tc main_cst_3) : S64x8.Idx → EReal) transposes_S64x8_S8x64_1_0 _ = _
  generalize (W (Proc.devRef .tc main_cst_3) : S64x8.Idx → EReal) = w
  pointwise []

end Cert.Host

end

end
-- ==== Proof.Down.lean ====
module

public import proofs.«01_k».proof.Proof.Gen.KernelIdeal.Frame.Region0
public import proofs.«01_k».proof.Proof.Gen.KernelIdeal.Frame.Region1
public import Idealize.ShloMosaic.Lib.Pipeline.ValueKit

/-! The two down projections: what the first two calls leave in their result arrays. -/

@[expose] public section

set_option maxRecDepth 16384

noncomputable section

open Idealize.ShloMosaic Idealize.ShloMosaic.TcCoe Idealize.SL.Sem
open Idealize.ShloMosaic.Pipeline (Dat)

namespace Cert.Down

open Cert.KernelIdeal Cert.KernelIdeal.Gen

/-- The projection of the low-resolution-source array: a sum over the 192 channels at each of 16384 positions. -/
def projL (W : FVec Ideal S64x192 .f32) (X : FVec Ideal S8x192x16384 .f32) : FVec Ideal S8x64x16384 .f32 :=
  fun i => ∑ c : Fin 192, W (ix2 (i 1) c) * X (ix3 (i 0) c (i 2))

/-- The same projection at 4096 positions. -/
def projH (W : FVec Ideal S64x192 .f32) (X : FVec Ideal S8x192x4096 .f32) : FVec Ideal S8x64x4096 .f32 :=
  fun i => ∑ c : Fin 192, W (ix2 (i 1) c) * X (ix3 (i 0) c (i 2))

variable (V : (c : Dev nD) → (b : Ref sig .tc) → Buf (Elt Ideal) ((c : Thread nD τ).loc b))

/-- Where the blocks of the first call lie. -/
theorem idx0 : ∀ t : Fin cfg0.N, win0_0.index t = ![t.val / 4, 0, t.val % 4] ∧ win0_1.index t = ![0, 0]
    ∧ win0_2.index t = ![t.val / 4, 0, t.val % 4] :=
  (by decide +kernel : ∀ t : Fin grid0.N, _)

/-- Where the blocks of the second call lie. -/
theorem idx1 : ∀ t : Fin cfg1.N, win1_0.index t = ![t.val, 0, 0] ∧ win1_1.index t = ![0, 0]
    ∧ win1_2.index t = ![t.val, 0, 0] :=
  (by decide +kernel : ∀ t : Fin grid1.N, _)

/-- One block of the first call holds the projection at its place. -/
theorem point0 (c : Dev nD) (t : Fin cfg0.N) (y) : k0_pay1 (F := Ideal) (iblk0 V c 1 t) (iblk0 V c 0 t) y
    = projL (V c main_v3) (V c main_v1) (((cfg0.win 2).blk t).view.emb y) := by
  pointwise [k0_pay1, projL]
  blk_point [iblk0, idx0 t]

/-- The first call's result array is the projection of its operands. -/
theorem final0 (c : Dev nD) : (dat0 V c).arrAt 2 cfg0.N = projL (V c main_v3) (V c main_v1) := by
  refine (dat0 V c).arrAt_eq_of_covers 2 _ (by decide +kernel) fun t _ y => ?_
  blk_simp
  rw [after0_2]; frame_out
  exact point0 V c t y

/-- One block of the second call holds the projection at its place. -/
theorem point1 (c : Dev nD) (t : Fin cfg1.N) (y) : k1_pay1 (F := Ideal) (iblk1 V c 1 t) (iblk1 V c 0 t) y
    = projH (V c main_v2) (V c main_v0) (((cfg1.win 2).blk t).view.emb y) := by
  pointwise [k1_pay1, projH]
  blk_point [iblk1, idx1 t]

/-- The second call's result array is the projection of its operands. -/
theorem final1 (c : Dev nD) : (dat1 V c).arrAt 2 cfg1.N = projH (V c main_v2) (V c main_v0) := by
  refine (dat1 V c).arrAt_eq_of_covers 2 _ (by decide +kernel) fun t _ y => ?_
  blk_simp
  rw [after1_2]; frame_out
  exact point1 V c t y

end Cert.Down

end

end
-- ==== Proof.EdgeCalls.lean ====
module

public import proofs.«01_k».proof.Proof.Gen.KernelIdeal.Frame.Region4
public import proofs.«01_k».proof.Proof.Gen.KernelIdeal.Frame.Region5
public import Idealize.ShloMosaic.Lib.Pipeline.ValueKit

/-! The two calls of the normalization and second edge convolution: their result arrays, block by block. -/

@[expose] public section

set_option maxRecDepth 16384

noncomputable section

open Idealize.ShloMosaic Idealize.ShloMosaic.TcCoe Idealize.SL.Sem
open Idealize.ShloMosaic.Pipeline (Dat)

namespace Cert.Edge

open Cert.KernelIdeal Cert.KernelIdeal.Gen

variable (V : (c : Dev nD) → (b : Ref sig .tc) → Buf (Elt Ideal) ((c : Thread nD τ).loc b))

/-- Where the blocks of the fifth call lie. -/
theorem idx4 : ∀ t : Fin cfg4.N, win4_0.index t = ![t.val, 0, 0] ∧ win4_1.index t = ![0, 0, 0]
    ∧ win4_2.index t = ![t.val, 0, 0] :=
  (by decide +kernel : ∀ t : Fin grid4.N, _)

/-- Where the blocks of the sixth call lie. -/
theorem idx5 : ∀ t : Fin cfg5.N, win5_0.index t = ![t.val, 0, 0] ∧ win5_1.index t = ![0, 0, 0]
    ∧ win5_2.index t = ![0, 0, 0] ∧ win5_3.index t = ![0, 0] ∧ win5_4.index t = ![0, 0] ∧ win5_5.index t = ![0, 0]
    ∧ win5_6.index t = ![t.val, 0, 0, 0] :=
  (by decide +kernel : ∀ t : Fin grid5.N, _)

/-- The mean of a channel over all images and positions, from the images' sums. -/
def meanOf (S : FVec Ideal S8x192x2 .f32) (o : Fin 192) : EReal :=
  (∑ n : Fin 8, S (ix3 n o 0)) * Ideal.ofBits .f32 0x38000000#32

/-- The centred squares summed over an image, from the image and all images' sums. -/
def sqs (H : FVec Ideal S8x192x4096 .f32) (S : FVec Ideal S8x192x2 .f32) : FVec Ideal S8x192x1 .f32 :=
  fun i => out4_2 (F := Ideal) (fun y : S1x192x4096.Idx => H (ix3 (i 0) (y 1) (y 2))) S (ix3 0 (i 1) (i 2))

/-- What one block of the fifth call holds at a channel. -/
theorem pay4_at (S : FVec Ideal S8x192x2 .f32) (X : FVec Ideal S1x192x4096 .f32) (z : Fin 1) (o : Fin 192) (z' : Fin 1) :
    k4_pay1 (F := Ideal) S X (ix3 z o z')
      = ∑ p : Fin 4096, (X (ix3 0 o p) - meanOf S o) * (X (ix3 0 o p) - meanOf S o) := by
  unfold meanOf
  pointwise [k4_pay1]

/-- The image a grid point of the fifth call works on. -/
def img4 (t : Fin cfg4.N) : Fin 8 := ⟨t.val, lt_of_lt_of_eq t.isLt N_4⟩

theorem iblk4_0 (c : Dev nD) (t : Fin cfg4.N) :
    iblk4 V c 0 t = fun y : S1x192x4096.Idx => V c main_v46_0 (ix3 (img4 t) (y 1) (y 2)) := by
  funext y
  blk_ext [iblk4, idx4 t, img4]
theorem iblk4_1 (c : Dev nD) (t : Fin cfg4.N) : iblk4 V c 1 t = V c main_v46_1 := by blk_ext! [iblk4, idx4 t]
theorem emb4 (t : Fin cfg4.N) (y : S1x192x1.Idx) :
    ((cfg4.win 2).blk t).view.emb y = ix3 (img4 t) (y 1) (y 2) := by
  blk_ext [idx4 t, img4]

/-- The fifth call's result array. -/
theorem final4 (c : Dev nD) : (dat4 V c).arrAt 2 cfg4.N = sqs (V c main_v46_0) (V c main_v46_1) := by
  refine (dat4 V c).arrAt_eq_of_covers 2 _ (by decide +kernel) fun t _ y => ?_
  blk_simp
  rw [after4_2, iblk4_0, iblk4_1, sqs]
  have h := emb4 t y
  have h0 : ((cfg4.win 2).blk t).view.emb y 0 = img4 t := by rw [h]; rfl
  have h1 : ((cfg4.win 2).blk t).view.emb y 1 = y 1 := by rw [h]; rfl
  have h2 : ((cfg4.win 2).blk t).view.emb y 2 = y 2 := by rw [h]; rfl
  rw [h0, h1, h2]
  congr 1
  idx_ext

/-- The fifth call's result read at a channel of an image. -/
theorem sqs_at (H : FVec Ideal S8x192x4096 .f32) (S : FVec Ideal S8x192x2 .f32) (n : Fin 8) (o : Fin 192) (z : Fin 1) :
    sqs H S (ix3 n o z)
      = ∑ p : Fin 4096, (H (ix3 n o p) - meanOf S o) * (H (ix3 n o p) - meanOf S o) := by
  refine Eq.trans ?_ (pay4_at S (fun y : S1x192x4096.Idx => H (ix3 n (y 1) (y 2))) 0 o z)
  show out4_2 (F := Ideal) (fun y : S1x192x4096.Idx => H (ix3 n (y 1) (y 2))) S (ix3 0 o z) = _
  frame_out

/-- The image a grid point of the sixth call works on. -/
def img5 (t : Fin cfg5.N) : Fin 8 := ⟨t.val, lt_of_lt_of_eq t.isLt N_5⟩

theorem iblk5_0 (c : Dev nD) (t : Fin cfg5.N) :
    iblk5 V c 0 t = fun y : S1x192x4096.Idx => V c main_v46_0 (ix3 (img5 t) (y 1) (y 2)) := by
  funext y
  blk_ext [iblk5, idx5 t, img5]
theorem iblk5_1 (c : Dev nD) (t : Fin cfg5.N) : iblk5 V c 1 t = V c main_v46_1 := by blk_ext! [iblk5, idx5 t]
theorem iblk5_2 (c : Dev nD) (t : Fin cfg5.N) : iblk5 V c 2 t = V c main_v47 := by blk_ext! [iblk5, idx5 t]
theorem iblk5_3 (c : Dev nD) (t : Fin cfg5.N) : iblk5 V c 3 t = V c main_v17 := by blk_ext! [iblk5, idx5 t]
theorem iblk5_4 (c : Dev nD) (t : Fin cfg5.N) : iblk5 V c 4 t = V c main_v18 := by blk_ext! [iblk5, idx5 t]
theorem iblk5_5 (c : Dev nD) (t : Fin cfg5.N) : iblk5 V c 5 t = V c main_v12 := by blk_ext! [iblk5, idx5 t]

/-- The sixth call's result array, from its operands. -/
def edgeMap (H : FVec Ideal S8x192x4096 .f32) (S : FVec Ideal S8x192x2 .f32) (Q : FVec Ideal S8x192x1 .f32)
    (g b : FVec Ideal S192x1 .f32) (W : FVec Ideal S9x192 .f32) : FVec Ideal S8x1x64x64 .f32 :=
  fun i => out5_6 (F := Ideal) (fun y : S1x192x4096.Idx => H (ix3 (i 0) (y 1) (y 2))) S Q g b W (ix4 0 0 (i 2) (i 3))

theorem emb5 (t : Fin cfg5.N) (y : S1x1x64x64.Idx) :
    ((cfg5.win 6).blk t).view.emb y = ix4 (img5 t) 0 (y 2) (y 3) := by
  blk_ext [idx5 t, img5]

/-- The sixth call's result array. -/
theorem final5 (c : Dev nD) : (dat5 V c).arrAt 6 cfg5.N
    = edgeMap (V c main_v46_0) (V c main_v46_1) (V c main_v47) (V c main_v17) (V c main_v18) (V c main_v12) := by
  refine (dat5 V c).arrAt_eq_of_covers 6 _ (by decide +kernel) fun t _ y => ?_
  blk_simp
  rw [after5_6, iblk5_0, iblk5_1, iblk5_2, iblk5_3, iblk5_4, iblk5_5, edgeMap]
  have h := emb5 t y
  have h0 : ((cfg5.win 6).blk t).view.emb y 0 = img5 t := by rw [h]; rfl
  have h2 : ((cfg5.win 6).blk t).view.emb y 2 = y 2 := by rw [h]; rfl
  have h3 : ((cfg5.win 6).blk t).view.emb y 3 = y 3 := by rw [h]; rfl
  rw [h0, h2, h3]
  congr 1
  idx_ext

end Cert.Edge

end

end
-- ==== Proof.EdgeMath.lean ====
module

public import proofs.«01_k».proof.Proof.EdgeCalls
public import proofs.«01_k».proof.Proof.Pad

/-! The sixth call's block in plain arithmetic. -/

@[expose] public section

set_option maxRecDepth 16384

noncomputable section

namespace Cert.Edge

open Idealize.ShloMosaic Idealize.SL.Sem
open Cert.KernelIdeal Cert.KernelIdeal.Gen Cert.Pad

/-- The block is the stencil of its nine maps. -/
theorem out5_eq (X : FVec Ideal S1x192x4096 .f32) (S : FVec Ideal S8x192x2 .f32) (Q : FVec Ideal S8x192x1 .f32)
    (g b : FVec Ideal S192x1 .f32) (W : FVec Ideal S9x192 .f32) :
    out5_6 (F := Ideal) X S Q g b W
      = shapeCast S1x1x64x64 (stencil (k5_pay2 S Q X g b W)) shapeCasts_S64x64_S1x1x64x64 := by
  have h : k5_pay9 X S Q g b W = k5_pay2 (F := Ideal) S Q X g b W := by
    unfold k5_pay9
    frame_out
  frame_out
  rw [h]
  generalize k5_pay2 (F := Ideal) S Q X g b W = v
  rfl

/-- The variance of a channel over all images and positions, from the images' centred squares. -/
def varOf (Q : FVec Ideal S8x192x1 .f32) (o : Fin 192) : EReal :=
  (∑ n : Fin 8, Q (ix3 n o 0)) * Ideal.ofBits .f32 0x38000000#32

/-- A channel normalized, scaled, shifted and cut at zero. -/
def normed (H : FVec Ideal S8x192x4096 .f32) (S : FVec Ideal S8x192x2 .f32) (Q : FVec Ideal S8x192x1 .f32)
    (g b : FVec Ideal S192x1 .f32) (n : Fin 8) (o : Fin 192) (p : Fin 4096) : EReal :=
  max ((Ideal.div (H (ix3 n o p) - meanOf S o) (Ideal.sqrt (varOf Q o + Ideal.ofBits .f32 0x3727C5AC#32))) * g (ix2 o 0) + b (ix2 o 0)) 0

theorem pay2_at (H : FVec Ideal S8x192x4096 .f32) (S : FVec Ideal S8x192x2 .f32) (Q : FVec Ideal S8x192x1 .f32)
    (g b : FVec Ideal S192x1 .f32) (W : FVec Ideal S9x192 .f32) (n : Fin 8) (t : Fin 9) (i j : Fin 64) :
    k5_pay2 (F := Ideal) S Q (fun y : S1x192x4096.Idx => H (ix3 n (y 1) (y 2))) g b W (ix3 t i j)
      = ∑ o : Fin 192, W (ix2 t o) * normed H S Q g b n o ⟨i * 64 + j, by omega⟩ := by
  unfold normed meanOf varOf
  pointwise [k5_pay2]

/-- The sixth call's result read at a position of an image. -/
theorem edgeMap_at (H : FVec Ideal S8x192x4096 .f32) (S : FVec Ideal S8x192x2 .f32) (Q : FVec Ideal S8x192x1 .f32)
    (g b : FVec Ideal S192x1 .f32) (W : FVec Ideal S9x192 .f32) (n : Fin 8) (z : Fin 1) (i j : Fin 64) :
    edgeMap H S Q g b W (ix4 n z i j)
      = taps (fun u v => zpad (mapOf (k5_pay2 S Q (fun y : S1x192x4096.Idx => H (ix3 n (y 1) (y 2))) g b W) (3 * u + v)) (u + i) (v + j)) := by
  show out5_6 (F := Ideal) (fun y : S1x192x4096.Idx => H (ix3 n (y 1) (y 2))) S Q g b W (ix4 0 0 i j) = _
  rw [out5_eq, ← stencil_at]
  pointwise []

end Cert.Edge

end

end
-- ==== Proof.ConvCall.lean ====
module

public import proofs.«01_k».proof.Proof.Gen.KernelIdeal.Frame.Region3
public import Idealize.ShloMosaic.Lib.Pipeline.ValueKit

/-! The fourth call, the first edge convolution: its two result arrays, block by block. -/

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (V : (c : Dev nD) → (b : Ref sig .tc) → Buf (Elt Ideal) ((c : Thread nD τ).loc b))

/-- Where the blocks of the fourth call lie. -/
theorem idx3 : ∀ t : Fin cfg3.N, win3_0.index t = ![t.val, 0, 0] ∧ win3_1.index t = ![t.val, 0, 0]
    ∧ win3_2.index t = ![0, 0, 0]
    ∧ win3_3.index t = ![0, 0]
    ∧ win3_4.index t = ![0, 0]
    ∧ win3_5.index t = ![0, 0]
    ∧ win3_6.index t = ![0, 0]
    ∧ win3_7.index t = ![0, 0]
    ∧ win3_8.index t = ![0, 0]
    ∧ win3_9.index t = ![0, 0]
    ∧ win3_10.index t = ![0, 0]
    ∧ win3_11.index t = ![0, 0]
    ∧ win3_12.index t = ![0, 0]
    ∧ win3_13.index t = ![t.val, 0, 0] ∧ win3_14.index t = ![t.val, 0, 0] :=
  (by decide +kernel : ∀ t : Fin grid3.N, _)

/-- The image a grid point of the fourth call works on. -/
def img3 (t : Fin cfg3.N) : Fin 8 := ⟨t.val, lt_of_lt_of_eq t.isLt N_3⟩

theorem iblk3_0 (c : Dev nD) (t : Fin cfg3.N) :
    iblk3 V c 0 t = fun y : S1x192x4096.Idx => V c main_v0 (ix3 (img3 t) (y 1) (y 2)) := by
  funext y
  blk_ext [iblk3, idx3 t, img3]
theorem iblk3_1 (c : Dev nD) (t : Fin cfg3.N) :
    iblk3 V c 1 t = fun y : S1x64x64.Idx => V c main_v42 (ix3 (img3 t) (y 1) (y 2)) := by
  funext y
  blk_ext [iblk3, idx3 t, img3]
theorem iblk3_2 (c : Dev nD) (t : Fin cfg3.N) : iblk3 V c 2 t = V c main_v10 := by blk_ext! [iblk3, idx3 t]
theorem iblk3_3 (c : Dev nD) (t : Fin cfg3.N) : iblk3 V c 3 t = V c main_cst_1 := by blk_ext! [iblk3, idx3 t]
theorem iblk3_4 (c : Dev nD) (t : Fin cfg3.N) : iblk3 V c 4 t = V c main_v43 := by blk_ext! [iblk3, idx3 t]
theorem iblk3_5 (c : Dev nD) (t : Fin cfg3.N) : iblk3 V c 5 t = V c main_cst_2 := by blk_ext! [iblk3, idx3 t]
theorem iblk3_6 (c : Dev nD) (t : Fin cfg3.N) : iblk3 V c 6 t = V c main_cst_3 := by blk_ext! [iblk3, idx3 t]
theorem iblk3_7 (c : Dev nD) (t : Fin cfg3.N) : iblk3 V c 7 t = V c main_v44 := by blk_ext! [iblk3, idx3 t]
theorem iblk3_8 (c : Dev nD) (t : Fin cfg3.N) : iblk3 V c 8 t = V c main_v45 := by blk_ext! [iblk3, idx3 t]
theorem iblk3_9 (c : Dev nD) (t : Fin cfg3.N) : iblk3 V c 9 t = V c main_v28 := by blk_ext! [iblk3, idx3 t]
theorem iblk3_10 (c : Dev nD) (t : Fin cfg3.N) : iblk3 V c 10 t = V c main_v30 := by blk_ext! [iblk3, idx3 t]
theorem iblk3_11 (c : Dev nD) (t : Fin cfg3.N) : iblk3 V c 11 t = V c main_v31 := by blk_ext! [iblk3, idx3 t]
theorem iblk3_12 (c : Dev nD) (t : Fin cfg3.N) : iblk3 V c 12 t = V c main_v33 := by blk_ext! [iblk3, idx3 t]
theorem emb3_13 (t : Fin cfg3.N) (y : S1x192x4096.Idx) :
    ((cfg3.win 13).blk t).view.emb y = ix3 (img3 t) (y 1) (y 2) := by
  blk_ext [idx3 t, img3]
theorem emb3_14 (t : Fin cfg3.N) (y : S1x192x2.Idx) :
    ((cfg3.win 14).blk t).view.emb y = ix3 (img3 t) (y 1) (y 2) := by
  blk_ext [idx3 t, img3]

/-- The fourth call's first (the convolution) result array, from its operands. -/
def conv (X : FVec Ideal S8x192x4096 .f32) (P : FVec Ideal S8x64x64 .f32) (W : FVec Ideal S9x192x192 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) : FVec Ideal S8x192x4096 .f32 :=
  fun i => out3_13 (F := Ideal) (fun y : S1x192x4096.Idx => X (ix3 (i 0) (y 1) (y 2)))
    (fun y : S1x64x64.Idx => P (ix3 (i 0) (y 1) (y 2))) W Q Qt G0 G1 G0t G1t w1 w0 u1 u0 (ix3 0 (i 1) (i 2))

/-- The fourth call's first (the convolution) result array. -/
theorem final3_13 (c : Dev nD) : (dat3 V c).arrAt 13 cfg3.N
    = conv (V c main_v0) (V c main_v42) (V c main_v10) (V c main_cst_1) (V c main_v43) (V c main_cst_2) (V c main_cst_3) (V c main_v44) (V c main_v45) (V c main_v28) (V c main_v30) (V c main_v31) (V c main_v33) := by
  refine (dat3 V c).arrAt_eq_of_covers 13 _ (by decide +kernel) fun t _ y => ?_
  blk_simp
  rw [after3_13, iblk3_0, iblk3_1, iblk3_2, iblk3_3, iblk3_4, iblk3_5, iblk3_6, iblk3_7, iblk3_8, iblk3_9, iblk3_10, iblk3_11, iblk3_12, conv]
  have h := emb3_13 t y
  have h0 : ((cfg3.win 13).blk t).view.emb y 0 = img3 t := by rw [h]; rfl
  have h1 : ((cfg3.win 13).blk t).view.emb y 1 = y 1 := by rw [h]; rfl
  have h2 : ((cfg3.win 13).blk t).view.emb y 2 = y 2 := by rw [h]; rfl
  rw [h0, h1, h2]
  congr 1
  idx_ext

/-- The fourth call's second (its sums over an image) result array, from its operands. -/
def sums (X : FVec Ideal S8x192x4096 .f32) (P : FVec Ideal S8x64x64 .f32) (W : FVec Ideal S9x192x192 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) : FVec Ideal S8x192x2 .f32 :=
  fun i => out3_14 (F := Ideal) (fun y : S1x192x4096.Idx => X (ix3 (i 0) (y 1) (y 2)))
    (fun y : S1x64x64.Idx => P (ix3 (i 0) (y 1) (y 2))) W Q Qt G0 G1 G0t G1t w1 w0 u1 u0 (ix3 0 (i 1) (i 2))

/-- The fourth call's second (its sums over an image) result array. -/
theorem final3_14 (c : Dev nD) : (dat3 V c).arrAt 14 cfg3.N
    = sums (V c main_v0) (V c main_v42) (V c main_v10) (V c main_cst_1) (V c main_v43) (V c main_cst_2) (V c main_cst_3) (V c main_v44) (V c main_v45) (V c main_v28) (V c main_v30) (V c main_v31) (V c main_v33) := by
  refine (dat3 V c).arrAt_eq_of_covers 14 _ (by decide +kernel) fun t _ y => ?_
  blk_simp
  rw [after3_14, iblk3_0, iblk3_1, iblk3_2, iblk3_3, iblk3_4, iblk3_5, iblk3_6, iblk3_7, iblk3_8, iblk3_9, iblk3_10, iblk3_11, iblk3_12, sums]
  have h := emb3_14 t y
  have h0 : ((cfg3.win 14).blk t).view.emb y 0 = img3 t := by rw [h]; rfl
  have h1 : ((cfg3.win 14).blk t).view.emb y 1 = y 1 := by rw [h]; rfl
  have h2 : ((cfg3.win 14).blk t).view.emb y 2 = y 2 := by rw [h]; rfl
  rw [h0, h1, h2]
  congr 1
  idx_ext

end Cert.Conv

end

end
-- ==== Proof.ConvMath.lean ====
module

public import proofs.«01_k».proof.Proof.ConvCall
public import proofs.«01_k».proof.Proof.Pad

/-! The fourth call's blocks in plain arithmetic. -/

@[expose] public section

set_option maxRecDepth 16384

noncomputable section

namespace Cert.Conv

open Idealize.ShloMosaic Idealize.SL.Sem
open Cert.KernelIdeal Cert.KernelIdeal.Gen Cert.Pad

/-- The map averaged over 8 by 8 blocks. -/
def down (P : FVec Ideal S1x64x64 .f32) (Q : FVec Ideal S8x64 .f32) (Qt : FVec Ideal S64x8 .f32) (r c : Fin 8) : EReal :=
  (∑ y : Fin 64, (∑ x : Fin 64, Q (ix2 r x) * P (ix3 0 x y)) * Qt (ix2 y c)) * Ideal.ofBits .f32 0x3C800000#32

/-- The block means resampled along rows. -/
def upRows (P : FVec Ideal S1x64x64 .f32) (Q : FVec Ideal S8x64 .f32) (Qt G0 G1 : FVec Ideal S64x8 .f32)
    (w1 w0 : FVec Ideal S64x1 .f32) (i : Fin 64) (c : Fin 8) : EReal :=
  (∑ r : Fin 8, G0 (ix2 i r) * down P Q Qt r c) * w0 (ix2 i 0) + (∑ r : Fin 8, G1 (ix2 i r) * down P Q Qt r c) * w1 (ix2 i 0)

/-- The block means resampled along rows and columns. -/
def up (P : FVec Ideal S1x64x64 .f32) (Q : FVec Ideal S8x64 .f32) (Qt G0 G1 : FVec Ideal S64x8 .f32)
    (G0t G1t : FVec Ideal S8x64 .f32) (w1 w0 : FVec Ideal S64x1 .f32) (u1 u0 : FVec Ideal S1x64 .f32) (i j : Fin 64) : EReal :=
  (∑ c : Fin 8, upRows P Q Qt G0 G1 w1 w0 i c * G0t (ix2 c j)) * u0 (ix2 0 j)
    + (∑ c : Fin 8, upRows P Q Qt G0 G1 w1 w0 i c * G1t (ix2 c j)) * u1 (ix2 0 j)

theorem pay4_at (P : FVec Ideal S1x64x64 .f32) (Q : FVec Ideal S8x64 .f32) (Qt G0 G1 : FVec Ideal S64x8 .f32)
    (w1 w0 : FVec Ideal S64x1 .f32) (i : Fin 64) (c : Fin 8) :
    k3_pay4 (F := Ideal) P Q Qt G0 G1 w0 w1 (ix2 i c) = upRows P Q Qt G0 G1 w1 w0 i c := by
  unfold upRows down
  pointwise [k3_pay4]

set_option maxHeartbeats 2000000 in
theorem pay8_at (v24 v27 : FVec Ideal S64x64 .f32) (u1 u0 : FVec Ideal S1x64 .f32) (X : FVec Ideal S1x192x4096 .f32)
    (o : Fin 192) (r c : Fin 66) :
    k3_pay8 (F := Ideal) v24 v27 (k3_pay7 u0) u1 X (ix3 o r c)
      = zpad (fun i j => X (ix3 0 o ⟨i * 64 + j, by omega⟩)
          - X (ix3 0 o ⟨i * 64 + j, by omega⟩) * (v24 (ix2 i j) * u0 (ix2 0 j) + v27 (ix2 i j) * u1 (ix2 0 j))) r c := by
  have hr := r.isLt
  have hc := c.isLt
  have hz : (((0#32).toInt : ℝ) : EReal) = 0 := by simp
  unfold zpad
  pointwise [k3_pay8, k3_pay7]
  simp only [hz]
  by_cases h1 : (c : ℕ) < 65
  · rw [dif_pos h1]
    by_cases h2 : (c : ℕ) < 1
    · rw [dif_pos h2, dif_neg (by omega)]
    · rw [dif_neg h2]
      by_cases h3 : (r : ℕ) < 65
      · rw [dif_pos h3]
        by_cases h4 : (r : ℕ) < 1
        · rw [dif_pos h4, dif_neg (by omega)]
        · rw [dif_neg h4, dif_pos (by omega)]
      · rw [dif_neg h3, dif_neg (by omega)]
  · rw [dif_neg h1, dif_neg (by omega)]

theorem pay5_at (P : FVec Ideal S1x64x64 .f32) (Q : FVec Ideal S8x64 .f32) (Qt G0 G1 : FVec Ideal S64x8 .f32)
    (w1 w0 : FVec Ideal S64x1 .f32) (G : FVec Ideal S8x64 .f32) (i j : Fin 64) :
    k3_pay5 (F := Ideal) P Q Qt G0 G1 w0 w1 G (ix2 i j) = ∑ c : Fin 8, upRows P Q Qt G0 G1 w1 w0 i c * G (ix2 c j) := by
  simp only [← pay4_at]
  pointwise [k3_pay5]

theorem pay6_at (P : FVec Ideal S1x64x64 .f32) (Q : FVec Ideal S8x64 .f32) (Qt G0 G1 : FVec Ideal S64x8 .f32)
    (w1 w0 : FVec Ideal S64x1 .f32) (G : FVec Ideal S8x64 .f32) (i j : Fin 64) :
    k3_pay6 (F := Ideal) P Q Qt G0 G1 w0 w1 G (ix2 i j) = ∑ c : Fin 8, upRows P Q Qt G0 G1 w1 w0 i c * G (ix2 c j) := by
  simp only [← pay4_at]
  pointwise [k3_pay6]

/-- The image with its resampled block means taken out. -/
def high (X : FVec Ideal S1x192x4096 .f32) (P : FVec Ideal S1x64x64 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) (k : Fin 192) (i j : Fin 64) : EReal :=
  X (ix3 0 k ⟨i * 64 + j, by omega⟩)
    - X (ix3 0 k ⟨i * 64 + j, by omega⟩) * up P Q Qt G0 G1 G0t G1t w1 w0 u1 u0 i j

/-- The image with its block means taken out, bordered by zeros. -/
def highPad (X : FVec Ideal S1x192x4096 .f32) (P : FVec Ideal S1x64x64 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) : FVec Ideal S192x66x66 .f32 :=
  k3_pay8 (F := Ideal) (k3_pay5 P Q Qt G0 G1 w0 w1 G0t) (k3_pay6 P Q Qt G0 G1 w0 w1 G1t) (k3_pay7 u0) u1 X

theorem highPad_at (X : FVec Ideal S1x192x4096 .f32) (P : FVec Ideal S1x64x64 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) (k : Fin 192) (r c : Fin 66) :
    highPad X P Q Qt G0 G1 G0t G1t w1 w0 u1 u0 (ix3 k r c)
      = zpad (high X P Q Qt G0 G1 G0t G1t w1 w0 u1 u0 k) r c := by
  unfold highPad
  rw [pay8_at]
  congr 1
  funext i j
  rw [pay5_at, pay6_at, high, up]

/-- One product of a 192 by 192 matrix with a shifted window of a bordered image. -/
def tap (a b : ℕ) (h : S192x66x66.Slices ![0, a, b] S192x64x64) (W : FVec Ideal S1x192x192 .f32)
    (v : FVec Ideal S192x66x66 .f32) : FVec Ideal S192x4096 .f32 :=
  matmul dot_S192x192_S192x4096_S192x4096_1_0_0_1_n_n none
    (truncf .bf16 (shapeCast S192x192 W shapeCasts_S1x192x192_S192x192) bitsLt_bf16_f32)
    (truncf .bf16 (shapeCast S192x4096 (extractStridedSlice S192x64x64 ![0, a, b] v h) shapeCasts_S192x64x64_S192x4096)
      bitsLt_bf16_f32) (constant S192x4096 .f32 0x00000000#32)

theorem tap_at (a b : ℕ) (ha : a ≤ 2) (hb : b ≤ 2) (h : S192x66x66.Slices ![0, a, b] S192x64x64)
    (W : FVec Ideal S1x192x192 .f32) (v : FVec Ideal S192x66x66 .f32) (o : Fin 192) (i j : Fin 64) :
    tap a b h W v (ix2 o ⟨i * 64 + j, by omega⟩)
      = ∑ k : Fin 192, W (ix3 0 o k) * v (ix3 k ⟨a + i, by omega⟩ ⟨b + j, by omega⟩) := by
  pointwise [tap]

/-- Nine products of 192 by 192 matrices with shifted windows of a bordered image, added up. -/
def acc (W : FVec Ideal S9x192x192 .f32) (v : FVec Ideal S192x66x66 .f32) : FVec Ideal S192x4096 .f32 :=
  (addf (addf (addf (addf (addf (addf (addf (addf (addf (broadcast S192x4096 (Scalar.ofBits .f32 0x00000000#32)) (tap 0 0 slices_S192x66x66_o0_0_0_S192x64x64 (View.ld (Val := Elt Ideal) (e' := .f32) W r3_6) v)) (tap 0 1 slices_S192x66x66_o0_0_1_S192x64x64 (View.ld (Val := Elt Ideal) (e' := .f32) W r3_7) v))
     (tap 0 2 slices_S192x66x66_o0_0_2_S192x64x64 (View.ld (Val := Elt Ideal) (e' := .f32) W r3_8) v)) (tap 1 0 slices_S192x66x66_o0_1_0_S192x64x64 (View.ld (Val := Elt Ideal) (e' := .f32) W r3_9) v))
     (tap 1 1 slices_S192x66x66_o0_1_1_S192x64x64 (View.ld (Val := Elt Ideal) (e' := .f32) W r3_10) v)) (tap 1 2 slices_S192x66x66_o0_1_2_S192x64x64 (View.ld (Val := Elt Ideal) (e' := .f32) W r3_11) v))
     (tap 2 0 slices_S192x66x66_o0_2_0_S192x64x64 (View.ld (Val := Elt Ideal) (e' := .f32) W r3_12) v)) (tap 2 1 slices_S192x66x66_o0_2_1_S192x64x64 (View.ld (Val := Elt Ideal) (e' := .f32) W r3_13) v))
     (tap 2 2 slices_S192x66x66_o0_2_2_S192x64x64 (View.ld (Val := Elt Ideal) (e' := .f32) W r3_14) v))

theorem acc_eq (W : FVec Ideal S9x192x192 .f32) (v24 v27 v30 : FVec Ideal S64x64 .f32) (v32 : FVec Ideal S1x64 .f32)
    (v37 : FVec Ideal S1x192x4096 .f32) :
    k3_pay1 (F := Ideal) (k3_pay8 v24 v27 v30 v32 v37)
      (k3_pay11 (k3_pay8 v24 v27 v30 v32 v37) (k3_pay9 v24 v27 v30 v32 v37 (View.ld W r3_6) (View.ld W r3_7))
        (k3_pay10 v24 v27 v30 v32 v37) (View.ld W r3_8) (View.ld W r3_9) (View.ld W r3_10) (View.ld W r3_11) (View.ld W r3_12))
      (k3_pay12 (k3_pay8 v24 v27 v30 v32 v37)) (View.ld W r3_13) (View.ld W r3_14)
      = acc W (k3_pay8 v24 v27 v30 v32 v37) := by
  unfold k3_pay9 k3_pay10
  generalize k3_pay8 (F := Ideal) v24 v27 v30 v32 v37 = v
  unfold k3_pay1 k3_pay11 k3_pay12 acc tap
  rfl

theorem out13_eq (X : FVec Ideal S1x192x4096 .f32) (P : FVec Ideal S1x64x64 .f32) (W : FVec Ideal S9x192x192 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) (z : Fin 1) (o : Fin 192) (p : Fin 4096) :
    out3_13 (F := Ideal) X P W Q Qt G0 G1 G0t G1t w1 w0 u1 u0 (ix3 z o p)
      = acc W (highPad X P Q Qt G0 G1 G0t G1t w1 w0 u1 u0) (ix2 o p) := by
  frame_out
  unfold k3_pay17 k3_pay18 k3_pay16 k3_pay13 k3_pay14 k3_pay15
  frame_out
  unfold k3_pay2
  rw [acc_eq]
  unfold highPad
  pointwise []

/-- The sum of a block over its positions. -/
theorem pay3_at (v52 : FVec Ideal S192x66x66 .f32) (v109 v111 : FVec Ideal S192x4096 .f32) (v112 v120 : FVec Ideal S1x192x192 .f32)
    (o : Fin 192) : k3_pay3 (F := Ideal) v52 v109 v111 v112 v120 (ix3 0 o 0)
      = ∑ p : Fin 4096, k3_pay1 (F := Ideal) v52 v109 v111 v112 v120 (ix2 o p) := by
  pointwise [k3_pay3]

theorem out14_eq (X : FVec Ideal S1x192x4096 .f32) (P : FVec Ideal S1x64x64 .f32) (W : FVec Ideal S9x192x192 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) (o : Fin 192) :
    out3_14 (F := Ideal) X P W Q Qt G0 G1 G0t G1t w1 w0 u1 u0 (ix3 0 o 0)
      = ∑ p : Fin 4096, acc W (highPad X P Q Qt G0 G1 G0t G1t w1 w0 u1 u0) (ix2 o p) := by
  frame_out
  unfold k3_pay17 k3_pay18 k3_pay16 k3_pay13 k3_pay14 k3_pay15
  frame_out
  rw [pay3_at, acc_eq]
  rfl

/-- Matrix `t` of nine, and zero beyond. -/
def wAt (W : FVec Ideal S9x192x192 .f32) (t : ℕ) (o k : Fin 192) : EReal :=
  if h : t < 9 then W (ix3 ⟨t, h⟩ o k) else 0

theorem acc_at (W : FVec Ideal S9x192x192 .f32) (X : FVec Ideal S1x192x4096 .f32) (P : FVec Ideal S1x64x64 .f32)
    (Q : FVec Ideal S8x64 .f32) (Qt G0 G1 : FVec Ideal S64x8 .f32) (G0t G1t : FVec Ideal S8x64 .f32)
    (w1 w0 : FVec Ideal S64x1 .f32) (u1 u0 : FVec Ideal S1x64 .f32) (o : Fin 192) (i j : Fin 64) :
    acc W (highPad X P Q Qt G0 G1 G0t G1t w1 w0 u1 u0) (ix2 o ⟨i * 64 + j, by omega⟩)
      = taps (fun a b => ∑ k : Fin 192, wAt W (3 * a + b) o k
          * zpad (high X P Q Qt G0 G1 G0t G1t w1 w0 u1 u0 k) (a + i) (b + j)) := by
  unfold acc taps
  have hz : (Scalar.ofBits .f32 0x00000000#32 : Ideal .f32) = (0 : EReal) := word_zero
  rw [hz]
  simp only [← highPad_at]
  pointwise []
  have g0 : ∀ k : Fin 192, View.ld (Val := Elt Ideal) (e' := .f32) W r3_6 (ix3 0 o k) = wAt W 0 o k := fun k => by
    unfold wAt
    pointwise []
  have g1 : ∀ k : Fin 192, View.ld (Val := Elt Ideal) (e' := .f32) W r3_7 (ix3 0 o k) = wAt W 1 o k := fun k => by
    unfold wAt
    pointwise []
  have g2 : ∀ k : Fin 192, View.ld (Val := Elt Ideal) (e' := .f32) W r3_8 (ix3 0 o k) = wAt W 2 o k := fun k => by
    unfold wAt
    pointwise []
  have g3 : ∀ k : Fin 192, View.ld (Val := Elt Ideal) (e' := .f32) W r3_9 (ix3 0 o k) = wAt W 3 o k := fun k => by
    unfold wAt
    pointwise []
  have g4 : ∀ k : Fin 192, View.ld (Val := Elt Ideal) (e' := .f32) W r3_10 (ix3 0 o k) = wAt W 4 o k := fun k => by
    unfold wAt
    pointwise []
  have g5 : ∀ k : Fin 192, View.ld (Val := Elt Ideal) (e' := .f32) W r3_11 (ix3 0 o k) = wAt W 5 o k := fun k => by
    unfold wAt
    pointwise []
  have g6 : ∀ k : Fin 192, View.ld (Val := Elt Ideal) (e' := .f32) W r3_12 (ix3 0 o k) = wAt W 6 o k := fun k => by
    unfold wAt
    pointwise []
  have g7 : ∀ k : Fin 192, View.ld (Val := Elt Ideal) (e' := .f32) W r3_13 (ix3 0 o k) = wAt W 7 o k := fun k => by
    unfold wAt
    pointwise []
  have g8 : ∀ k : Fin 192, View.ld (Val := Elt Ideal) (e' := .f32) W r3_14 (ix3 0 o k) = wAt W 8 o k := fun k => by
    unfold wAt
    pointwise []
  rw [tap_at 0 0 (by decide) (by decide)]
  rw [tap_at 0 1 (by decide) (by decide)]
  rw [tap_at 0 2 (by decide) (by decide)]
  rw [tap_at 1 0 (by decide) (by decide)]
  rw [tap_at 1 1 (by decide) (by decide)]
  rw [tap_at 1 2 (by decide) (by decide)]
  rw [tap_at 2 0 (by decide) (by decide)]
  rw [tap_at 2 1 (by decide) (by decide)]
  rw [tap_at 2 2 (by decide) (by decide)]
  simp only [g0, g1, g2, g3, g4, g5, g6, g7, g8, highPad_at, Nat.zero_add]

end Cert.Conv

end

end
-- ==== Proof.MatchCall.lean ====
module

public import proofs.«01_k».proof.Proof.Gen.KernelIdeal.Frame.Region2
public import Idealize.ShloMosaic.Lib.Pipeline.ValueKit

/-! The third call: what it leaves in its first result array, the map before the sigmoid. -/

@[expose] public section

set_option maxRecDepth 16384

noncomputable section

open Idealize.ShloMosaic Idealize.ShloMosaic.TcCoe Idealize.SL.Sem
open Idealize.ShloMosaic.Pipeline (Dat)

namespace Cert.Match

open Cert.KernelIdeal Cert.KernelIdeal.Gen

variable (V : (c : Dev nD) → (b : Ref sig .tc) → Buf (Elt Ideal) ((c : Thread nD τ).loc b))

/-- Where the blocks of the third call lie. -/
theorem idx2 : ∀ t : Fin cfg2.N, win2_1.index t = ![t.val / 4, 0, 0] ∧ win2_2.index t = ![t.val / 4, 0, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_10.index t = ![t.val / 4, 0, 0] :=
  (by decide +kernel : ∀ t : Fin grid2.N, _)

/-- The image a grid point of the third call works on. -/
def img2 (t : Fin cfg2.N) : Fin 8 := ⟨t.val / 4, by have := lt_of_lt_of_eq t.isLt N_2; omega⟩

theorem iblk2_1 (c : Dev nD) (t : Fin cfg2.N) :
    iblk2 V c 1 t = fun y : S1x64x16384.Idx => V c main_v34 (ix3 (img2 t) (y 1) (y 2)) := by
  funext y
  blk_ext [iblk2, idx2 t, img2]
theorem iblk2_2 (c : Dev nD) (t : Fin cfg2.N) :
    iblk2 V c 2 t = fun y : S1x64x4096.Idx => V c main_v35 (ix3 (img2 t) (y 1) (y 2)) := by
  funext y
  blk_ext [iblk2, idx2 t, img2]
theorem iblk2_3 (c : Dev nD) (t : Fin cfg2.N) : iblk2 V c 3 t = V c main_v7 := by blk_ext! [iblk2, idx2 t]
theorem iblk2_4 (c : Dev nD) (t : Fin cfg2.N) : iblk2 V c 4 t = V c main_v8 := by blk_ext! [iblk2, idx2 t]
theorem iblk2_5 (c : Dev nD) (t : Fin cfg2.N) : iblk2 V c 5 t = V c main_cst := by blk_ext! [iblk2, idx2 t]
theorem iblk2_6 (c : Dev nD) (t : Fin cfg2.N) : iblk2 V c 6 t = V c main_cst_0 := by blk_ext! [iblk2, idx2 t]
theorem iblk2_7 (c : Dev nD) (t : Fin cfg2.N) : iblk2 V c 7 t = V c main_v22 := by blk_ext! [iblk2, idx2 t]
theorem iblk2_8 (c : Dev nD) (t : Fin cfg2.N) : iblk2 V c 8 t = V c main_v24 := by blk_ext! [iblk2, idx2 t]
theorem emb2 (t : Fin cfg2.N) (y : S1x64x64.Idx) :
    ((cfg2.win 10).blk t).view.emb y = ix3 (img2 t) (y 1) (y 2) := by
  blk_ext [idx2 t, img2]

/-- Nine channels of one image: the contraction of the two projected arrays, the first one resampled. -/
def nine (A : FVec Ideal S1x64x16384 .f32) (B : FVec Ideal S1x64x4096 .f32) (W : FVec Ideal S9x128 .f32)
    (G0 G1 : FVec Ideal S128x64 .f32) (w1 w0 : FVec Ideal S1x64 .f32) : FVec Ideal S9x64x64 .f32 :=
  k2_pay9 (k2_pay3 B) (k2_pay7 A w1 w0 G0 G1 G0) (k2_pay8 A w1 w0 G0 G1 G1) W

/-- The nine channels of one image, padded, shifted and added up. -/
def matchBlk (A : FVec Ideal S1x64x16384 .f32) (B : FVec Ideal S1x64x4096 .f32) (W : FVec Ideal S9x128 .f32)
    (bm : FVec Ideal S1x1 .f32) (G0 G1 : FVec Ideal S128x64 .f32) (w1 w0 : FVec Ideal S1x64 .f32) :
    FVec Ideal S1x64x64 .f32 :=
  k2_pay2 (nine A B W G0 G1 w1 w0)
    (k2_pay13 (nine A B W G0 G1 w1 w0)
      (k2_pay10 (k2_pay3 B) (k2_pay7 A w1 w0 G0 G1 G0) (k2_pay8 A w1 w0 G0 G1 G1) W)
      (k2_pay11 (k2_pay3 B) (k2_pay7 A w1 w0 G0 G1 G0) (k2_pay8 A w1 w0 G0 G1 G1) W) k2_pay12)
    k2_pay14 (k2_pay15 (nine A B W G0 G1 w1 w0)) bm

/-- The third call's first result array, from its operands. -/
def matchMap (A : FVec Ideal S8x64x16384 .f32) (B : FVec Ideal S8x64x4096 .f32) (W : FVec Ideal S9x128 .f32)
    (bm : FVec Ideal S1x1 .f32) (G0 G1 : FVec Ideal S128x64 .f32) (w1 w0 : FVec Ideal S1x64 .f32) :
    FVec Ideal S8x64x64 .f32 :=
  fun i => matchBlk (fun y : S1x64x16384.Idx => A (ix3 (i 0) (y 1) (y 2)))
    (fun y : S1x64x4096.Idx => B (ix3 (i 0) (y 1) (y 2))) W bm G0 G1 w1 w0 (ix3 0 (i 1) (i 2))

/-- What the third call leaves in a block it writes back. -/
theorem after2_flush (c : Dev nD) (t : Fin cfg2.N) (h : t.val % 4 = 3) : (outsAt2 V c t.val t.isLt).1
    = matchBlk (iblk2 V c 1 t) (iblk2 V c 2 t) (iblk2 V c 3 t) (iblk2 V c 4 t) (iblk2 V c 5 t) (iblk2 V c 6 t)
        (iblk2 V c 7 t) (iblk2 V c 8 t) := by
  rw [outsAt2_B V c t h]
  frame_out
  unfold matchBlk nine
  rfl

/-- The third call's first result array. -/
theorem final2 (c : Dev nD) : (dat2 V c).arrAt 10 cfg2.N
    = matchMap (V c main_v34) (V c main_v35) (V c main_v7) (V c main_v8) (V c main_cst) (V c main_cst_0)
        (V c main_v22) (V c main_v24) := by
  refine (dat2 V c).arrAt_eq_of_covers 10 _ (by decide +kernel) fun t hf y => ?_
  blk_simp
  rw [after2_10, after2_flush V c t ((flush2_10 t).mp hf), iblk2_1, iblk2_2, iblk2_3, iblk2_4, iblk2_5, iblk2_6, iblk2_7, iblk2_8, matchMap]
  have h := emb2 t y
  have h0 : ((cfg2.win 10).blk t).view.emb y 0 = img2 t := by rw [h]; rfl
  have h1 : ((cfg2.win 10).blk t).view.emb y 1 = y 1 := by rw [h]; rfl
  have h2 : ((cfg2.win 10).blk t).view.emb y 2 = y 2 := by rw [h]; rfl
  rw [h0, h1, h2]
  congr 1
  idx_ext

end Cert.Match

end

end
-- ==== Proof.MatchMath.lean ====
module

public import proofs.«01_k».proof.Proof.MatchCall
public import proofs.«01_k».proof.Proof.Pad

/-! The third call's block in plain arithmetic. -/

@[expose] public section

set_option maxRecDepth 16384

noncomputable section

namespace Cert.Match

open Idealize.ShloMosaic Idealize.SL.Sem
open Cert.KernelIdeal Cert.KernelIdeal.Gen Cert.Pad

/-- The block is the stencil of the nine maps plus the bias. -/
theorem matchBlk_eq (A : FVec Ideal S1x64x16384 .f32) (B : FVec Ideal S1x64x4096 .f32) (W : FVec Ideal S9x128 .f32)
    (bm : FVec Ideal S1x1 .f32) (G0 G1 : FVec Ideal S128x64 .f32) (w1 w0 : FVec Ideal S1x64 .f32) :
    matchBlk A B W bm G0 G1 w1 w0
      = shapeCast S1x64x64 (addf (stencil (nine A B W G0 G1 w1 w0)) (broadcast S64x64 (extractAt ![0, 0] bm inpos_S1x1_p0_0)))
          shapeCasts_S64x64_S1x64x64 := rfl

theorem matchBlk_at (A : FVec Ideal S1x64x16384 .f32) (B : FVec Ideal S1x64x4096 .f32) (W : FVec Ideal S9x128 .f32)
    (bm : FVec Ideal S1x1 .f32) (G0 G1 : FVec Ideal S128x64 .f32) (w1 w0 : FVec Ideal S1x64 .f32) (z : Fin 1) (i j : Fin 64) :
    matchBlk A B W bm G0 G1 w1 w0 (ix3 z i j)
      = taps (fun a b => zpad (mapOf (nine A B W G0 G1 w1 w0) (3 * a + b)) (a + i) (b + j)) + bm (ix2 0 0) := by
  rw [matchBlk_eq, ← stencil_at]
  pointwise []

/-- The first array resampled along its rows. -/
def rows (A : FVec Ideal S1x64x16384 .f32) (w1 w0 : FVec Ideal S1x64 .f32) (G0 G1 : FVec Ideal S128x64 .f32)
    (d i : Fin 64) (x : Fin 128) : EReal :=
  (∑ h : Fin 128, A (ix3 0 d ⟨h * 128 + x, by omega⟩) * G0 (ix2 h i)) * w0 (ix2 0 i)
    + (∑ h : Fin 128, A (ix3 0 d ⟨h * 128 + x, by omega⟩) * G1 (ix2 h i)) * w1 (ix2 0 i)

theorem pay6_at (A : FVec Ideal S1x64x16384 .f32) (w1 w0 : FVec Ideal S1x64 .f32) (G0 G1 : FVec Ideal S128x64 .f32)
    (d i : Fin 64) (x : Fin 128) :
    k2_pay6 (F := Ideal) A w1 w0 G0 G1 (ix2 ⟨d * 64 + i, by omega⟩ x) = rows A w1 w0 G0 G1 d i x := by
  unfold rows
  pointwise [k2_pay6, k2_pay5, k2_pay4]

/-- The lower half of the resampling along columns. -/
theorem pay7_at (A : FVec Ideal S1x64x16384 .f32) (w1 w0 : FVec Ideal S1x64 .f32) (G0 G1 G : FVec Ideal S128x64 .f32)
    (d i j : Fin 64) :
    k2_pay7 (F := Ideal) A w1 w0 G0 G1 G (ix3 d i j)
      = (∑ x : Fin 128, rows A w1 w0 G0 G1 d i x * G (ix2 x j)) * w0 (ix2 0 j) := by
  simp only [← pay6_at]
  pointwise [k2_pay7, k2_pay5]

/-- The upper half of the resampling along columns. -/
theorem pay8_at (A : FVec Ideal S1x64x16384 .f32) (w1 w0 : FVec Ideal S1x64 .f32) (G0 G1 G : FVec Ideal S128x64 .f32)
    (d i j : Fin 64) :
    k2_pay8 (F := Ideal) A w1 w0 G0 G1 G (ix3 d i j)
      = (∑ x : Fin 128, rows A w1 w0 G0 G1 d i x * G (ix2 x j)) * w1 (ix2 0 j) := by
  simp only [← pay6_at]
  pointwise [k2_pay8, k2_pay4]

/-- The first array resampled along rows and columns. -/
def both (A : FVec Ideal S1x64x16384 .f32) (w1 w0 : FVec Ideal S1x64 .f32) (G0 G1 : FVec Ideal S128x64 .f32)
    (d i j : Fin 64) : EReal :=
  (∑ x : Fin 128, rows A w1 w0 G0 G1 d i x * G0 (ix2 x j)) * w0 (ix2 0 j)
    + (∑ x : Fin 128, rows A w1 w0 G0 G1 d i x * G1 (ix2 x j)) * w1 (ix2 0 j)

/-- The 128 channels: the second array, then the first one resampled. -/
def chan (A : FVec Ideal S1x64x16384 .f32) (B : FVec Ideal S1x64x4096 .f32)
    (G0 G1 : FVec Ideal S128x64 .f32) (w1 w0 : FVec Ideal S1x64 .f32) (k : Fin 128) (i j : Fin 64) : EReal :=
  if h : (k : ℕ) < 64 then B (ix3 0 ⟨k, h⟩ ⟨i * 64 + j, by omega⟩) else both A w1 w0 G0 G1 ⟨k - 64, by omega⟩ i j

/-- The nine maps: each a weighted sum of the 128 channels. -/
theorem nine_at (A : FVec Ideal S1x64x16384 .f32) (B : FVec Ideal S1x64x4096 .f32) (W : FVec Ideal S9x128 .f32)
    (G0 G1 : FVec Ideal S128x64 .f32) (w1 w0 : FVec Ideal S1x64 .f32) (t : Fin 9) (i j : Fin 64) :
    nine A B W G0 G1 w1 w0 (ix3 t i j) = ∑ k : Fin 128, W (ix2 t k) * chan A B G0 G1 w1 w0 k i j := by
  unfold chan both
  simp only [← pay7_at, ← pay8_at]
  pointwise [nine, k2_pay9, k2_pay3]

end Cert.Match

end

end
-- ==== Proof.MatchSpec.lean ====
module

public import proofs.«01_k».proof.Proof.MatchMath
public import proofs.«01_k».proof.Proof.Spec

/-! The matching convolution of the third call, with its tables' products carried out. -/

@[expose] public section

set_option maxRecDepth 16384

noncomputable section

namespace Cert.Match

open Idealize.ShloMosaic Idealize.SL.Sem
open Cert.KernelIdeal Cert.KernelIdeal.Gen Cert.Pad Cert.Tables

/-- A sum against a zero-one row with a single one is the entry at that one. -/
theorem pick {n : ℕ} (f g : Fin n → EReal) (k : Fin n) (h : ∀ x, g x = if x = k then 1 else 0) : ∑ x, f x * g x = f k := by
  simp only [h, mul_ite, mul_one, mul_zero, Finset.sum_ite_eq', Finset.mem_univ, if_true]

theorem pick' {n : ℕ} (f g : Fin n → EReal) (k : Fin n) (h : ∀ x, g x = if x = k then 1 else 0) : ∑ x, g x * f x = f k := by
  simp only [h, ite_mul, one_mul, zero_mul, Finset.sum_ite_eq', Finset.mem_univ, if_true]

variable (a : Spec.Args)

/-- The resampled channel, from the tables' values and the weights. -/
theorem both_spec (A : FVec Ideal S1x64x16384 .f32) (w1 w0 : FVec Ideal S1x64 .f32) (G0 G1 : FVec Ideal S128x64 .f32)
    (h0 : ∀ h i, G0 (ix2 h i) = if h = lo i then (1 : EReal) else 0) (h1 : ∀ h i, G1 (ix2 h i) = if h = hi i then (1 : EReal) else 0)
    (hw1 : ∀ i, w1 (ix2 0 i) = Spec.fr i) (hw0 : ∀ i, w0 (ix2 0 i) = 1 - Spec.fr i)
    (d : Fin 64) (f : Fin 128 → Fin 128 → EReal) (hf : ∀ h x : Fin 128, A (ix3 0 d ⟨h * 128 + x, by omega⟩) = f h x) (i j : Fin 64) :
    both A w1 w0 G0 G1 d i j = Spec.shrink f i j := by
  unfold both rows Spec.shrink
  simp only [hf]
  rw [pick _ _ (lo j) (fun x => h0 x j), pick _ _ (hi j) (fun x => h1 x j)]
  simp only [hw1, hw0]
  rw [pick _ _ (lo i) (fun x => h0 x i), pick _ _ (hi i) (fun x => h1 x i),
    pick _ _ (lo i) (fun x => h0 x i), pick _ _ (hi i) (fun x => h1 x i)]

/-- The third call's array, at an image and a position. -/
theorem match_spec (A : FVec Ideal S8x64x16384 .f32) (B : FVec Ideal S8x64x4096 .f32) (W : FVec Ideal S9x128 .f32)
    (bm : FVec Ideal S1x1 .f32) (G0 G1 : FVec Ideal S128x64 .f32) (w1 w0 : FVec Ideal S1x64 .f32)
    (hA : ∀ (n : Fin 8) (d : Fin 64) (h x : Fin 128), A (ix3 n d ⟨h * 128 + x, by omega⟩) = Spec.low a n d h x)
    (hB : ∀ (n : Fin 8) (d i j : Fin 64), B (ix3 n d ⟨i * 64 + j, by omega⟩) = Spec.high a n d i j)
    (hW : ∀ (u v : Fin 3) (k : Fin 128), W (ix2 ⟨3 * u + v, by omega⟩ k) = a.wm k u v)
    (hb : bm (ix2 0 0) = a.bm)
    (h0 : ∀ h i, G0 (ix2 h i) = if h = lo i then (1 : EReal) else 0) (h1 : ∀ h i, G1 (ix2 h i) = if h = hi i then (1 : EReal) else 0)
    (hw1 : ∀ i, w1 (ix2 0 i) = Spec.fr i) (hw0 : ∀ i, w0 (ix2 0 i) = 1 - Spec.fr i)
    (n : Fin 8) (i j : Fin 64) :
    matchMap A B W bm G0 G1 w1 w0 (ix3 n i j) = Spec.mtch a n i j := by
  show matchBlk (fun y : S1x64x16384.Idx => A (ix3 n (y 1) (y 2))) (fun y : S1x64x4096.Idx => B (ix3 n (y 1) (y 2))) W bm G0 G1 w1 w0 (ix3 0 i j) = _
  rw [matchBlk_at, hb, Spec.mtch]
  congr 1
  refine Spec.taps_eq _ _ fun u v => ?_
  rw [← sum_zpad]
  congr 1
  funext i j
  have ht : 3 * (u : ℕ) + v < 9 := by omega
  rw [mapOf, dif_pos ht, nine_at]
  refine Finset.sum_congr rfl fun k _ => ?_
  rw [hW]
  congr 1
  unfold chan Spec.chan
  split
  · exact hB n _ i j
  · exact both_spec _ w1 w0 G0 G1 h0 h1 hw1 hw0 _ _ (fun h x => hA n _ h x) i j

end Cert.Match

end

end
-- ==== Proof.ConvSpec.lean ====
module

public import proofs.«01_k».proof.Proof.ConvMath
public import proofs.«01_k».proof.Proof.MatchSpec

/-! The first edge convolution of the fourth call, with its tables' products carried out. -/

@[expose] public section

set_option maxRecDepth 16384

noncomputable section

namespace Cert.Conv

open Idealize.ShloMosaic Idealize.SL.Sem
open Cert.KernelIdeal Cert.KernelIdeal.Gen Cert.Pad Cert.Tables Cert.Match

/-- A sum over 4096 positions, row by row. -/
theorem sum_rows (f : Fin 4096 → EReal) :
    ∑ p, f p = ∑ i : Fin 64, ∑ j : Fin 64, f ⟨i * 64 + j, by omega⟩ := by
  rw [← (finProdFinEquiv (m := 64) (n := 64)).sum_comp, Fintype.sum_prod_type]
  refine Finset.sum_congr rfl fun i _ => Finset.sum_congr rfl fun j _ => ?_
  congr 1
  ext
  simp only [finProdFinEquiv_apply_val]
  omega

/-- A sum against the indicator of a block of eight is the sum over that block. -/
theorem sum_blk (f g : Fin 64 → EReal) (r : Fin 8) (h : ∀ x, g x = if r = blk8 x then 1 else 0) :
    ∑ x, g x * f x = ∑ x : Fin 8, f ⟨r * 8 + x, by omega⟩ := by
  rw [← (finProdFinEquiv (m := 8) (n := 8)).sum_comp, Fintype.sum_prod_type, Finset.sum_eq_single r]
  · refine Finset.sum_congr rfl fun y _ => ?_
    have e : blk8 (finProdFinEquiv (r, y)) = r := by
      ext
      simp only [blk8, finProdFinEquiv_apply_val]
      omega
    rw [h, e, if_pos rfl, one_mul]
    congr 1
    ext
    simp only [finProdFinEquiv_apply_val]
    omega
  · intro b _ hb
    refine Finset.sum_eq_zero fun y _ => ?_
    have e : blk8 (finProdFinEquiv (b, y)) = b := by
      ext
      simp only [blk8, finProdFinEquiv_apply_val]
      omega
    rw [h, e, if_neg (fun h => hb h.symm), zero_mul]
  · intro h
    exact absurd (Finset.mem_univ r) h

variable (a : Spec.Args)

/-- What the tables hold that the fourth call reads. -/
structure Tabs (Q : FVec Ideal S8x64 .f32) (Qt G0 G1 : FVec Ideal S64x8 .f32) (G0t G1t : FVec Ideal S8x64 .f32)
    (w1 w0 : FVec Ideal S64x1 .f32) (u1 u0 : FVec Ideal S1x64 .f32) : Prop where
  q : ∀ (r : Fin 8) (x : Fin 64), Q (ix2 r x) = if r = blk8 x then (1 : EReal) else 0
  qt : ∀ (r : Fin 8) (x : Fin 64), Qt (ix2 x r) = if r = blk8 x then (1 : EReal) else 0
  g0 : ∀ (r : Fin 8) (x : Fin 64), G0 (ix2 x r) = if r = lo8 x then (1 : EReal) else 0
  g1 : ∀ (r : Fin 8) (x : Fin 64), G1 (ix2 x r) = if r = hi8 x then (1 : EReal) else 0
  g0t : ∀ (r : Fin 8) (x : Fin 64), G0t (ix2 r x) = if r = lo8 x then (1 : EReal) else 0
  g1t : ∀ (r : Fin 8) (x : Fin 64), G1t (ix2 r x) = if r = hi8 x then (1 : EReal) else 0
  w1 : ∀ i, w1 (ix2 i 0) = Spec.fr8 i
  w0 : ∀ i, w0 (ix2 i 0) = 1 - Spec.fr8 i
  u1 : ∀ i, u1 (ix2 0 i) = Spec.fr8 i
  u0 : ∀ i, u0 (ix2 0 i) = 1 - Spec.fr8 i

section

variable {Q : FVec Ideal S8x64 .f32} {Qt G0 G1 : FVec Ideal S64x8 .f32} {G0t G1t : FVec Ideal S8x64 .f32}
    {w1 w0 : FVec Ideal S64x1 .f32} {u1 u0 : FVec Ideal S1x64 .f32} (T : Tabs Q Qt G0 G1 G0t G1t w1 w0 u1 u0)

include T

theorem down_spec (P : FVec Ideal S1x64x64 .f32) (n : Fin 8) (hP : ∀ i j, P (ix3 0 i j) = Spec.cert a n i j) (r c : Fin 8) :
    down P Q Qt r c = Spec.avg a n r c := by
  have hr : Ideal.ofBits .f32 0x3C800000#32 = ((1 / 64 : ℝ) : EReal) := by
    simp [Ideal.ofBits, Ideal.ieee, -EReal.coe_mul]; norm_num
  unfold down Spec.avg
  rw [hr]
  congr 1
  have h1 : ∀ y : Fin 64, (∑ x : Fin 64, Q (ix2 r x) * P (ix3 0 x y)) = ∑ x : Fin 8, P (ix3 0 ⟨r * 8 + x, by omega⟩ y) :=
    fun y => sum_blk (fun x => P (ix3 0 x y)) (fun x => Q (ix2 r x)) r (T.q r)
  simp only [h1]
  have h2 := sum_blk (fun y => ∑ x : Fin 8, P (ix3 0 ⟨r * 8 + x, by omega⟩ y)) (fun y => Qt (ix2 y c)) c (T.qt c)
  simp only [mul_comm (Qt _)] at h2
  rw [h2, Finset.sum_comm]
  simp only [hP]

theorem up_spec (P : FVec Ideal S1x64x64 .f32) (n : Fin 8) (hP : ∀ i j, P (ix3 0 i j) = Spec.cert a n i j) (i j : Fin 64) :
    up P Q Qt G0 G1 G0t G1t w1 w0 u1 u0 i j = Spec.grow (Spec.avg a n) i j := by
  unfold up Spec.grow
  rw [pick _ _ (lo8 j) (fun x => T.g0t x j), pick _ _ (hi8 j) (fun x => T.g1t x j), T.u1, T.u0]
  unfold upRows
  rw [pick' _ _ (lo8 i) (fun x => T.g0 x i), pick' _ _ (hi8 i) (fun x => T.g1 x i),
    pick' _ _ (lo8 i) (fun x => T.g0 x i), pick' _ _ (hi8 i) (fun x => T.g1 x i), T.w1, T.w0]
  simp only [down_spec a T P n hP]

theorem acc_spec (W : FVec Ideal S9x192x192 .f32) (X : FVec Ideal S1x192x4096 .f32) (P : FVec Ideal S1x64x64 .f32) (n : Fin 8)
    (hP : ∀ i j, P (ix3 0 i j) = Spec.cert a n i j)
    (hX : ∀ (k : Fin 192) (i j : Fin 64), X (ix3 0 k ⟨i * 64 + j, by omega⟩) = a.xh n k i j)
    (hW : ∀ (u v : Fin 3) (o k : Fin 192), W (ix3 ⟨3 * u + v, by omega⟩ o k) = a.we o k u v) (o : Fin 192) (i j : Fin 64) :
    acc W (highPad X P Q Qt G0 G1 G0t G1t w1 w0 u1 u0) (ix2 o ⟨i * 64 + j, by omega⟩) = Spec.conv a n o i j := by
  rw [acc_at]
  refine Spec.taps_eq _ _ fun u v => ?_
  refine Finset.sum_congr rfl fun k _ => ?_
  have ht : 3 * (u : ℕ) + v < 9 := by omega
  rw [wAt, dif_pos ht, hW]
  congr 2
  funext i j
  rw [high, hX, up_spec a T P n hP]
  rfl

theorem conv_spec (W : FVec Ideal S9x192x192 .f32) (X : FVec Ideal S8x192x4096 .f32) (P : FVec Ideal S8x64x64 .f32)
    (hP : ∀ (n : Fin 8) (i j : Fin 64), P (ix3 n i j) = Spec.cert a n i j)
    (hX : ∀ (n : Fin 8) (k : Fin 192) (i j : Fin 64), X (ix3 n k ⟨i * 64 + j, by omega⟩) = a.xh n k i j)
    (hW : ∀ (u v : Fin 3) (o k : Fin 192), W (ix3 ⟨3 * u + v, by omega⟩ o k) = a.we o k u v)
    (n : Fin 8) (o : Fin 192) (i j : Fin 64) :
    conv X P W Q Qt G0 G1 G0t G1t w1 w0 u1 u0 (ix3 n o ⟨i * 64 + j, by omega⟩) = Spec.conv a n o i j := by
  show out3_13 (F := Ideal) (fun y : S1x192x4096.Idx => X (ix3 n (y 1) (y 2)))
    (fun y : S1x64x64.Idx => P (ix3 n (y 1) (y 2))) W Q Qt G0 G1 G0t G1t w1 w0 u1 u0 (ix3 0 o ⟨i * 64 + j, by omega⟩) = _
  rw [out13_eq]
  exact acc_spec a T W _ _ n (hP n) (hX n) hW o i j

theorem sums_spec (W : FVec Ideal S9x192x192 .f32) (X : FVec Ideal S8x192x4096 .f32) (P : FVec Ideal S8x64x64 .f32)
    (hP : ∀ (n : Fin 8) (i j : Fin 64), P (ix3 n i j) = Spec.cert a n i j)
    (hX : ∀ (n : Fin 8) (k : Fin 192) (i j : Fin 64), X (ix3 n k ⟨i * 64 + j, by omega⟩) = a.xh n k i j)
    (hW : ∀ (u v : Fin 3) (o k : Fin 192), W (ix3 ⟨3 * u + v, by omega⟩ o k) = a.we o k u v)
    (n : Fin 8) (o : Fin 192) :
    sums X P W Q Qt G0 G1 G0t G1t w1 w0 u1 u0 (ix3 n o 0) = ∑ i : Fin 64, ∑ j : Fin 64, Spec.conv a n o i j := by
  show out3_14 (F := Ideal) (fun y : S1x192x4096.Idx => X (ix3 n (y 1) (y 2)))
    (fun y : S1x64x64.Idx => P (ix3 n (y 1) (y 2))) W Q Qt G0 G1 G0t G1t w1 w0 u1 u0 (ix3 0 o 0) = _
  rw [out14_eq, sum_rows]
  refine Finset.sum_congr rfl fun i _ => Finset.sum_congr rfl fun j _ => ?_
  exact acc_spec a T W _ _ n (hP n) (hX n) hW o i j

end

end Cert.Conv

end

end
-- ==== Proof.EdgeSpec.lean ====
module

public import proofs.«01_k».proof.Proof.EdgeMath
public import proofs.«01_k».proof.Proof.ConvSpec

/-! The normalization and the second edge convolution of the fifth and sixth calls. -/

@[expose] public section

set_option maxRecDepth 16384

noncomputable section

namespace Cert.Edge

open Idealize.ShloMosaic Idealize.SL.Sem
open Cert.KernelIdeal Cert.KernelIdeal.Gen Cert.Pad Cert.Tables Cert.Conv

theorem r32768 : Ideal.ofBits .f32 0x38000000#32 = ((1 / 32768 : ℝ) : EReal) := by
  simp [Ideal.ofBits, Ideal.ieee, -EReal.coe_mul]; norm_num

variable (a : Spec.Args)

/-- A channel's mean from its images' sums. -/
theorem mean_spec (S : FVec Ideal S8x192x2 .f32)
    (hS : ∀ (n : Fin 8) (o : Fin 192), S (ix3 n o 0) = ∑ i : Fin 64, ∑ j : Fin 64, Spec.conv a n o i j) (o : Fin 192) : meanOf S o = Spec.mean a o := by
  unfold meanOf Spec.mean
  rw [r32768]
  simp only [hS]

/-- A channel's variance from its images' centred squares. -/
theorem var_spec (H : FVec Ideal S8x192x4096 .f32) (S : FVec Ideal S8x192x2 .f32)
    (hH : ∀ (n : Fin 8) (o : Fin 192) (i j : Fin 64), H (ix3 n o ⟨i * 64 + j, by omega⟩) = Spec.conv a n o i j)
    (hS : ∀ (n : Fin 8) (o : Fin 192), S (ix3 n o 0) = ∑ i : Fin 64, ∑ j : Fin 64, Spec.conv a n o i j) (o : Fin 192) : varOf (sqs H S) o = Spec.var a o := by
  unfold varOf Spec.var
  rw [r32768]
  simp only [sqs_at, sum_rows, mean_spec a S hS, hH]

/-- The sixth call's array, at an image and a position. -/
theorem edge_spec (H : FVec Ideal S8x192x4096 .f32) (S : FVec Ideal S8x192x2 .f32)
    (hH : ∀ (n : Fin 8) (o : Fin 192) (i j : Fin 64), H (ix3 n o ⟨i * 64 + j, by omega⟩) = Spec.conv a n o i j)
    (hS : ∀ (n : Fin 8) (o : Fin 192), S (ix3 n o 0) = ∑ i : Fin 64, ∑ j : Fin 64, Spec.conv a n o i j)
    (g b : FVec Ideal S192x1 .f32) (W : FVec Ideal S9x192 .f32)
    (hg : ∀ o, g (ix2 o 0) = a.g o) (hb : ∀ o, b (ix2 o 0) = a.b o)
    (hW : ∀ (u v : Fin 3) (k : Fin 192), W (ix2 ⟨3 * u + v, by omega⟩ k) = a.wo k u v) (n : Fin 8) (z : Fin 1) (i j : Fin 64) :
    edgeMap H S (sqs H S) g b W (ix4 n z i j) = Spec.out a n i j := by
  rw [edgeMap_at, Spec.out]
  refine Spec.taps_eq _ _ fun u v => ?_
  rw [← sum_zpad]
  congr 1
  funext i j
  have ht : 3 * (u : ℕ) + v < 9 := by omega
  rw [mapOf, dif_pos ht, pay2_at]
  refine Finset.sum_congr rfl fun o _ => ?_
  rw [hW, normed, mean_spec a S hS, var_spec a H S hH hS, hH, hg, hb]
  rfl

end Cert.Edge

end

end
-- ==== Proof.KernelValue.lean ====
module

public import proofs.«01_k».proof.Proof.Host
public import proofs.«01_k».proof.Proof.Down
public import proofs.«01_k».proof.Proof.EdgeSpec

/-! The kernel's edge map: its calls and host operations put together. -/

@[expose] public section

set_option maxRecDepth 16384

noncomputable section

open Idealize.ShloMosaic Idealize.ShloMosaic.TcCoe Idealize.SL.Sem

namespace Cert.Whole

open Cert.KernelIdeal Cert.KernelIdeal.Gen Cert.Tables Cert.Host

variable (m : (ℓ : Loc nD τ sig) → Buf (Elt Ideal) ℓ) (ρ : Dev nD → PrngReg) (c : Dev nD)

/-- The kernel's arguments at one device, read at their coordinates. -/
def args : Spec.Args where
  xh n k i j := (m ((c : Thread nD τ).loc main_arg0) : S8x192x64x64.Idx → EReal) (ix4 n k i j)
  xl n k i j := (m ((c : Thread nD τ).loc main_arg1) : S8x192x128x128.Idx → EReal) (ix4 n k i j)
  wh d k := (m ((c : Thread nD τ).loc main_arg2) : S64x192x1x1.Idx → EReal) (ix4 d k 0 0)
  wl d k := (m ((c : Thread nD τ).loc main_arg4) : S64x192x1x1.Idx → EReal) (ix4 d k 0 0)
  wm k u v := (m ((c : Thread nD τ).loc main_arg6) : S1x128x3x3.Idx → EReal) (ix4 0 k u v)
  bm := (m ((c : Thread nD τ).loc main_arg7) : S1.Idx → EReal) (ix1 0)
  we o k u v := (m ((c : Thread nD τ).loc main_arg8) : S192x192x3x3.Idx → EReal) (ix4 o k u v)
  g o := (m ((c : Thread nD τ).loc main_arg9) : S192.Idx → EReal) (ix1 o)
  b o := (m ((c : Thread nD τ).loc main_arg10) : S192.Idx → EReal) (ix1 o)
  wo k u v := (m ((c : Thread nD τ).loc main_arg11) : S1x192x3x3.Idx → EReal) (ix4 0 k u v)

/-- A buffer that the sample-point lines do not write reaches the first call as the first line left it. -/
theorem to5 (r : Ref sig .tc) (h1 : r ∉ hostOps0_1_W) (h2 : r ∉ hostOps0_2_W) (h3 : r ∉ hostOps0_3_W) (h4 : r ∉ hostOps0_4_W) :
    W5 m ρ c (Proc.devRef .tc r) = W1 m ρ c (Proc.devRef .tc r) :=
  (W5_of m ρ c r h4).trans ((W4_of m ρ c r h3).trans ((W3_of m ρ c r h2).trans (W2_of m ρ c r h1)))

/-- A buffer that is no result of the first two calls reaches the third as the first found it. -/
theorem to7 (r : Ref sig .tc) (h0 : ∀ w : Fin cfg0.W, Pipeline.arrRef spec0 w = r → (cfg0.win w).isOut = false)
    (h1 : ∀ w : Fin cfg1.W, Pipeline.arrRef spec1 w = r → (cfg1.win w).isOut = false) :
    W7 m ρ c (Proc.devRef .tc r) = W5 m ρ c (Proc.devRef .tc r) :=
  (W7_of m ρ c r h1).trans (W6_of m ρ c r h0)

/-- A buffer that neither the third call nor the certainty's line writes reaches the fourth call as the third found it. -/
theorem to9 (r : Ref sig .tc) (h2 : ∀ w : Fin cfg2.W, Pipeline.arrRef spec2 w = r → (cfg2.win w).isOut = false)
    (h : r ∉ hostOps3_W) :
    W9 m ρ c (Proc.devRef .tc r) = W7 m ρ c (Proc.devRef .tc r) :=
  (W9_of m ρ c r h).trans (W8_of m ρ c r h2)

/-- A buffer that is no result of the fourth and fifth calls reaches the sixth as the fourth found it. -/
theorem to11 (r : Ref sig .tc) (h3 : ∀ w : Fin cfg3.W, Pipeline.arrRef spec3 w = r → (cfg3.win w).isOut = false)
    (h4 : ∀ w : Fin cfg4.W, Pipeline.arrRef spec4 w = r → (cfg4.win w).isOut = false) :
    W11 m ρ c (Proc.devRef .tc r) = W9 m ρ c (Proc.devRef .tc r) :=
  (W11_of m ρ c r h4).trans (W10_of m ρ c r h3)

theorem ys : ∀ i : Fin 64, (W2 m ρ c (Proc.devRef .tc main_v19) : S64.Idx → EReal) (ix1 i) = ((127 * (i : ℝ) / 63 : ℝ) : EReal) := by
  intro i
  have h := v19_eq (W1 m ρ c)
  rw [show W2 m ρ c (Proc.devRef .tc main_v19) = _ from h]
  exact lin_at 127 _ _ (cst_5_at (W0 m ρ c)) (cst_6_at (W0 m ρ c)) i

theorem ys8 : ∀ i : Fin 64, (W4 m ρ c (Proc.devRef .tc main_v25) : S64.Idx → EReal) (ix1 i) = ((7 * (i : ℝ) / 63 : ℝ) : EReal) := by
  intro i
  have h := v25_eq (W3 m ρ c)
  rw [show W4 m ρ c (Proc.devRef .tc main_v25) = _ from h]
  exact lin_at 7 _ _ (cst_8_at (W2 m ρ c)) (cst_9_at (W2 m ρ c)) i

/-- The low-level projection from its operands' values. -/
theorem low_spec (a : Spec.Args) (W : FVec Ideal S64x192 .f32) (X : FVec Ideal S8x192x16384 .f32)
    (hW : ∀ d k, W (ix2 d k) = a.wl d k)
    (hX : ∀ (n : Fin 8) (k : Fin 192) (h x : Fin 128), X (ix3 n k ⟨h * 128 + x, by omega⟩) = a.xl n k h x)
    (n : Fin 8) (d : Fin 64) (h x : Fin 128) :
    Down.projL W X (ix3 n d ⟨h * 128 + x, by omega⟩) = Spec.low a n d h x := by
  show (∑ k : Fin 192, W (ix2 d k) * X (ix3 n k ⟨h * 128 + x, by omega⟩)) = _
  simp only [hW, hX, Spec.low]

/-- The high-level projection from its operands' values. -/
theorem high_spec (a : Spec.Args) (W : FVec Ideal S64x192 .f32) (X : FVec Ideal S8x192x4096 .f32)
    (hW : ∀ d k, W (ix2 d k) = a.wh d k)
    (hX : ∀ (n : Fin 8) (k : Fin 192) (i j : Fin 64), X (ix3 n k ⟨i * 64 + j, by omega⟩) = a.xh n k i j)
    (n : Fin 8) (d i j : Fin 64) :
    Down.projH W X (ix3 n d ⟨i * 64 + j, by omega⟩) = Spec.high a n d i j := by
  show (∑ k : Fin 192, W (ix2 d k) * X (ix3 n k ⟨i * 64 + j, by omega⟩)) = _
  simp only [hW, hX, Spec.high]

/-- The first call's result. -/
theorem v34_at (n : Fin 8) (d : Fin 64) (h x : Fin 128) :
    (W7 m ρ c (Proc.devRef .tc main_v34) : S8x64x16384.Idx → EReal) (ix3 n d ⟨h * 128 + x, by omega⟩) = Spec.low (args m c) n d h x := by
  rw [W7_of m ρ c main_v34 (by decide +kernel)]
  rw [show W6 m ρ c (Proc.devRef .tc main_v34) = _ from (W6_arr m ρ c 2).trans (Down.final0 (V5 m ρ) c)]
  refine low_spec (args m c) _ _ ?_ ?_ n d h x
  · intro d k
    show (W5 m ρ c (Proc.devRef .tc main_v3) : S64x192.Idx → EReal) _ = _
    rw [to5 m ρ c main_v3 (by decide) (by decide) (by decide) (by decide)]
    exact v3_at (W0 m ρ c) d k
  · intro n k h x
    show (W5 m ρ c (Proc.devRef .tc main_v1) : S8x192x16384.Idx → EReal) _ = _
    rw [to5 m ρ c main_v1 (by decide) (by decide) (by decide) (by decide)]
    exact v1_at (W0 m ρ c) n k h x

/-- The second call's result. -/
theorem v35_at (n : Fin 8) (d i j : Fin 64) :
    (W7 m ρ c (Proc.devRef .tc main_v35) : S8x64x4096.Idx → EReal) (ix3 n d ⟨i * 64 + j, by omega⟩) = Spec.high (args m c) n d i j := by
  rw [show W7 m ρ c (Proc.devRef .tc main_v35) = _ from (W7_arr m ρ c 2).trans (Down.final1 (V6 m ρ) c)]
  refine high_spec (args m c) _ _ ?_ ?_ n d i j
  · intro d k
    show (W6 m ρ c (Proc.devRef .tc main_v2) : S64x192.Idx → EReal) _ = _
    rw [W6_of m ρ c main_v2 (by decide +kernel), to5 m ρ c main_v2 (by decide) (by decide) (by decide) (by decide)]
    exact v2_at (W0 m ρ c) d k
  · intro n k i j
    show (W6 m ρ c (Proc.devRef .tc main_v0) : S8x192x4096.Idx → EReal) _ = _
    rw [W6_of m ρ c main_v0 (by decide +kernel), to5 m ρ c main_v0 (by decide) (by decide) (by decide) (by decide)]
    exact v0_at (W0 m ρ c) n k i j

/-- A buffer of the first line, at the third call. -/
theorem line7 (r : Ref sig .tc) (h1 : r ∉ hostOps0_1_W) (h2 : r ∉ hostOps0_2_W) (h3 : r ∉ hostOps0_3_W) (h4 : r ∉ hostOps0_4_W)
    (h5 : ∀ w : Fin cfg0.W, Pipeline.arrRef spec0 w = r → (cfg0.win w).isOut = false)
    (h6 : ∀ w : Fin cfg1.W, Pipeline.arrRef spec1 w = r → (cfg1.win w).isOut = false) :
    W7 m ρ c (Proc.devRef .tc r) = W1 m ρ c (Proc.devRef .tc r) :=
  (to7 m ρ c r h5 h6).trans (to5 m ρ c r h1 h2 h3 h4)

/-- The third call's result. -/
theorem v36_at (n : Fin 8) (i j : Fin 64) :
    (W8 m ρ c (Proc.devRef .tc main_v36_0) : S8x64x64.Idx → EReal) (ix3 n i j) = Spec.mtch (args m c) n i j := by
  rw [show W8 m ρ c (Proc.devRef .tc main_v36_0) = _ from (W8_arr m ρ c 10).trans (Match.final2 (V7 m ρ) c)]
  have w3 : ∀ r : Ref sig .tc, r ∉ hostOps0_3_W → r ∉ hostOps0_4_W → W5 m ρ c (Proc.devRef .tc r) = W3 m ρ c (Proc.devRef .tc r) :=
    fun r h h' => (W5_of m ρ c r h').trans (W4_of m ρ c r h)
  refine Match.match_spec (args m c) _ _ _ _ _ _ _ _ (v34_at m ρ c) (v35_at m ρ c) ?_ ?_ ?_ ?_ ?_ ?_ n i j
  · intro u v k
    show (W7 m ρ c (Proc.devRef .tc main_v7) : S9x128.Idx → EReal) _ = _
    rw [line7 m ρ c main_v7 (by decide) (by decide) (by decide) (by decide) (by decide +kernel) (by decide +kernel)]
    exact v7_at (W0 m ρ c) u v k
  · show (W7 m ρ c (Proc.devRef .tc main_v8) : S1x1.Idx → EReal) _ = _
    rw [line7 m ρ c main_v8 (by decide) (by decide) (by decide) (by decide) (by decide +kernel) (by decide +kernel)]
    exact v8_at (W0 m ρ c)
  · intro h x
    show (W7 m ρ c (Proc.devRef .tc main_cst) : S128x64.Idx → EReal) _ = _
    rw [line7 m ρ c main_cst (by decide) (by decide) (by decide) (by decide) (by decide +kernel) (by decide +kernel)]
    exact cst_at (W0 m ρ c) h x
  · intro h x
    show (W7 m ρ c (Proc.devRef .tc main_cst_0) : S128x64.Idx → EReal) _ = _
    rw [line7 m ρ c main_cst_0 (by decide) (by decide) (by decide) (by decide) (by decide +kernel) (by decide +kernel)]
    exact cst_0_at (W0 m ρ c) h x
  · intro x
    show (W7 m ρ c (Proc.devRef .tc main_v22) : S1x64.Idx → EReal) _ = _
    rw [to7 m ρ c main_v22 (by decide +kernel) (by decide +kernel), w3 main_v22 (by decide) (by decide)]
    exact v22_at (W2 m ρ c) (ys m ρ c) x
  · intro x
    show (W7 m ρ c (Proc.devRef .tc main_v24) : S1x64.Idx → EReal) _ = _
    rw [to7 m ρ c main_v24 (by decide +kernel) (by decide +kernel), w3 main_v24 (by decide) (by decide)]
    exact v24_at (W2 m ρ c) (ys m ρ c) x

/-- A buffer of the first line, at the certainty's line and the fourth call. -/
theorem line8 (r : Ref sig .tc) (h1 : r ∉ hostOps0_1_W) (h2 : r ∉ hostOps0_2_W) (h3 : r ∉ hostOps0_3_W) (h4 : r ∉ hostOps0_4_W)
    (h5 : ∀ w : Fin cfg0.W, Pipeline.arrRef spec0 w = r → (cfg0.win w).isOut = false)
    (h6 : ∀ w : Fin cfg1.W, Pipeline.arrRef spec1 w = r → (cfg1.win w).isOut = false)
    (h7 : ∀ w : Fin cfg2.W, Pipeline.arrRef spec2 w = r → (cfg2.win w).isOut = false) :
    W8 m ρ c (Proc.devRef .tc r) = W1 m ρ c (Proc.devRef .tc r) :=
  (W8_of m ρ c r h7).trans (line7 m ρ c r h1 h2 h3 h4 h5 h6)

/-- A buffer of the last sample-point line, at the fourth call. -/
theorem pts9 (r : Ref sig .tc)
    (h5 : ∀ w : Fin cfg0.W, Pipeline.arrRef spec0 w = r → (cfg0.win w).isOut = false)
    (h6 : ∀ w : Fin cfg1.W, Pipeline.arrRef spec1 w = r → (cfg1.win w).isOut = false)
    (h7 : ∀ w : Fin cfg2.W, Pipeline.arrRef spec2 w = r → (cfg2.win w).isOut = false) (h : r ∉ hostOps3_W) :
    W9 m ρ c (Proc.devRef .tc r) = W5 m ρ c (Proc.devRef .tc r) :=
  (to9 m ρ c r h7 h).trans (to7 m ρ c r h5 h6)

/-- The tables and sample points that the fourth call reads. -/
theorem tabs : Conv.Tabs (V9 m ρ c main_cst_1) (V9 m ρ c main_v43) (V9 m ρ c main_cst_2) (V9 m ρ c main_cst_3)
    (V9 m ρ c main_v44) (V9 m ρ c main_v45) (V9 m ρ c main_v28) (V9 m ρ c main_v30) (V9 m ρ c main_v31) (V9 m ρ c main_v33) where
  q r x := by
    show (W9 m ρ c (Proc.devRef .tc main_cst_1) : S8x64.Idx → EReal) _ = _
    rw [W9_of m ρ c main_cst_1 (by decide), line8 m ρ c main_cst_1 (by decide) (by decide) (by decide) (by decide) (by decide +kernel) (by decide +kernel) (by decide +kernel)]
    exact cst_1_at (W0 m ρ c) r x
  qt r x := by
    refine (v43_at (W8 m ρ c) x r).trans ?_
    rw [line8 m ρ c main_cst_1 (by decide) (by decide) (by decide) (by decide) (by decide +kernel) (by decide +kernel) (by decide +kernel)]
    exact cst_1_at (W0 m ρ c) r x
  g0 r x := by
    show (W9 m ρ c (Proc.devRef .tc main_cst_2) : S64x8.Idx → EReal) _ = _
    rw [W9_of m ρ c main_cst_2 (by decide), line8 m ρ c main_cst_2 (by decide) (by decide) (by decide) (by decide) (by decide +kernel) (by decide +kernel) (by decide +kernel)]
    exact cst_2_at (W0 m ρ c) x r
  g1 r x := by
    show (W9 m ρ c (Proc.devRef .tc main_cst_3) : S64x8.Idx → EReal) _ = _
    rw [W9_of m ρ c main_cst_3 (by decide), line8 m ρ c main_cst_3 (by decide) (by decide) (by decide) (by decide) (by decide +kernel) (by decide +kernel) (by decide +kernel)]
    exact cst_3_at (W0 m ρ c) x r
  g0t r x := by
    refine (v44_at (W8 m ρ c) r x).trans ?_
    rw [line8 m ρ c main_cst_2 (by decide) (by decide) (by decide) (by decide) (by decide +kernel) (by decide +kernel) (by decide +kernel)]
    exact cst_2_at (W0 m ρ c) x r
  g1t r x := by
    refine (v45_at (W8 m ρ c) r x).trans ?_
    rw [line8 m ρ c main_cst_3 (by decide) (by decide) (by decide) (by decide) (by decide +kernel) (by decide +kernel) (by decide +kernel)]
    exact cst_3_at (W0 m ρ c) x r
  w1 i := by
    show (W9 m ρ c (Proc.devRef .tc main_v28) : S64x1.Idx → EReal) _ = _
    rw [pts9 m ρ c main_v28 (by decide +kernel) (by decide +kernel) (by decide +kernel) (by decide)]
    exact v28_at (W4 m ρ c) (ys8 m ρ c) i
  w0 i := by
    show (W9 m ρ c (Proc.devRef .tc main_v30) : S64x1.Idx → EReal) _ = _
    rw [pts9 m ρ c main_v30 (by decide +kernel) (by decide +kernel) (by decide +kernel) (by decide)]
    exact v30_at (W4 m ρ c) (ys8 m ρ c) i
  u1 i := by
    show (W9 m ρ c (Proc.devRef .tc main_v31) : S1x64.Idx → EReal) _ = _
    rw [pts9 m ρ c main_v31 (by decide +kernel) (by decide +kernel) (by decide +kernel) (by decide)]
    exact v31_at (W4 m ρ c) (ys8 m ρ c) i
  u0 i := by
    show (W9 m ρ c (Proc.devRef .tc main_v33) : S1x64.Idx → EReal) _ = _
    rw [pts9 m ρ c main_v33 (by decide +kernel) (by decide +kernel) (by decide +kernel) (by decide)]
    exact v33_at (W4 m ρ c) (ys8 m ρ c) i

theorem cert_at (n : Fin 8) (i j : Fin 64) :
    (V9 m ρ c main_v42 : S8x64x64.Idx → EReal) (ix3 n i j) = Spec.cert (args m c) n i j :=
  v42_at (W8 m ρ c) n i j _ (v36_at m ρ c n i j)

theorem xh_at (n : Fin 8) (k : Fin 192) (i j : Fin 64) :
    (V9 m ρ c main_v0 : S8x192x4096.Idx → EReal) (ix3 n k ⟨i * 64 + j, by omega⟩) = (args m c).xh n k i j := by
  show (W9 m ρ c (Proc.devRef .tc main_v0) : S8x192x4096.Idx → EReal) _ = _
  rw [W9_of m ρ c main_v0 (by decide), line8 m ρ c main_v0 (by decide) (by decide) (by decide) (by decide) (by decide +kernel) (by decide +kernel) (by decide +kernel)]
  exact v0_at (W0 m ρ c) n k i j

theorem we_at (u v : Fin 3) (o k : Fin 192) :
    (V9 m ρ c main_v10 : S9x192x192.Idx → EReal) (ix3 ⟨3 * u + v, by omega⟩ o k) = (args m c).we o k u v := by
  show (W9 m ρ c (Proc.devRef .tc main_v10) : S9x192x192.Idx → EReal) _ = _
  rw [W9_of m ρ c main_v10 (by decide), line8 m ρ c main_v10 (by decide) (by decide) (by decide) (by decide) (by decide +kernel) (by decide +kernel) (by decide +kernel)]
  exact v10_at (W0 m ρ c) u v o k

/-- The fourth call's convolution. -/
theorem conv_at (n : Fin 8) (o : Fin 192) (i j : Fin 64) :
    (V10 m ρ c main_v46_0 : S8x192x4096.Idx → EReal) (ix3 n o ⟨i * 64 + j, by omega⟩) = Spec.conv (args m c) n o i j := by
  show (W10 m ρ c (Proc.devRef .tc main_v46_0) : S8x192x4096.Idx → EReal) _ = _
  rw [show W10 m ρ c (Proc.devRef .tc main_v46_0) = _ from (W10_arr m ρ c 13).trans (Conv.final3_13 (V9 m ρ) c)]
  exact Conv.conv_spec (args m c) (tabs m ρ c) _ _ _ (cert_at m ρ c) (xh_at m ρ c) (we_at m ρ c) n o i j

/-- The fourth call's sums. -/
theorem sums_at (n : Fin 8) (o : Fin 192) :
    (V10 m ρ c main_v46_1 : S8x192x2.Idx → EReal) (ix3 n o 0) = ∑ i : Fin 64, ∑ j : Fin 64, Spec.conv (args m c) n o i j := by
  show (W10 m ρ c (Proc.devRef .tc main_v46_1) : S8x192x2.Idx → EReal) _ = _
  rw [show W10 m ρ c (Proc.devRef .tc main_v46_1) = _ from (W10_arr m ρ c 14).trans (Conv.final3_14 (V9 m ρ) c)]
  exact Conv.sums_spec (args m c) (tabs m ρ c) _ _ _ (cert_at m ρ c) (xh_at m ρ c) (we_at m ρ c) n o

/-- A buffer of the first line, at the sixth call. -/
theorem line11 (r : Ref sig .tc) (h1 : r ∉ hostOps0_1_W) (h2 : r ∉ hostOps0_2_W) (h3 : r ∉ hostOps0_3_W) (h4 : r ∉ hostOps0_4_W)
    (h5 : ∀ w : Fin cfg0.W, Pipeline.arrRef spec0 w = r → (cfg0.win w).isOut = false)
    (h6 : ∀ w : Fin cfg1.W, Pipeline.arrRef spec1 w = r → (cfg1.win w).isOut = false)
    (h7 : ∀ w : Fin cfg2.W, Pipeline.arrRef spec2 w = r → (cfg2.win w).isOut = false) (h8 : r ∉ hostOps3_W)
    (h9 : ∀ w : Fin cfg3.W, Pipeline.arrRef spec3 w = r → (cfg3.win w).isOut = false)
    (h10 : ∀ w : Fin cfg4.W, Pipeline.arrRef spec4 w = r → (cfg4.win w).isOut = false) :
    W11 m ρ c (Proc.devRef .tc r) = W1 m ρ c (Proc.devRef .tc r) :=
  (to11 m ρ c r h9 h10).trans ((W9_of m ρ c r h8).trans (line8 m ρ c r h1 h2 h3 h4 h5 h6 h7))

/-- The kernel's edge map, where the sixth call leaves it. -/
theorem edge12 (n : Fin 8) (z : Fin 1) (i j : Fin 64) :
    (W12 m ρ c (Proc.devRef .tc main_v48) : S8x1x64x64.Idx → EReal) (ix4 n z i j) = Spec.out (args m c) n i j := by
  rw [show W12 m ρ c (Proc.devRef .tc main_v48) = _ from (W12_arr m ρ c 6).trans (Edge.final5 (V11 m ρ) c)]
  have e0 : V11 m ρ c main_v46_0 = V10 m ρ c main_v46_0 := W11_of m ρ c main_v46_0 (by decide +kernel)
  have e1 : V11 m ρ c main_v46_1 = V10 m ρ c main_v46_1 := W11_of m ρ c main_v46_1 (by decide +kernel)
  have e2 : V11 m ρ c main_v47 = Edge.sqs (V10 m ρ c main_v46_0) (V10 m ρ c main_v46_1) :=
    (W11_arr m ρ c 2).trans (Edge.final4 (V10 m ρ) c)
  rw [e0, e1, e2]
  refine Edge.edge_spec (args m c) _ _ (conv_at m ρ c) (sums_at m ρ c) _ _ _ ?_ ?_ ?_ n z i j
  · intro o
    show (W11 m ρ c (Proc.devRef .tc main_v17) : S192x1.Idx → EReal) _ = _
    rw [line11 m ρ c main_v17 (by decide) (by decide) (by decide) (by decide) (by decide +kernel) (by decide +kernel) (by decide +kernel) (by decide) (by decide +kernel) (by decide +kernel)]
    exact v17_at (W0 m ρ c) o
  · intro o
    show (W11 m ρ c (Proc.devRef .tc main_v18) : S192x1.Idx → EReal) _ = _
    rw [line11 m ρ c main_v18 (by decide) (by decide) (by decide) (by decide) (by decide +kernel) (by decide +kernel) (by decide +kernel) (by decide) (by decide +kernel) (by decide +kernel)]
    exact v18_at (W0 m ρ c) o
  · intro u v k
    show (W11 m ρ c (Proc.devRef .tc main_v12) : S9x192.Idx → EReal) _ = _
    rw [line11 m ρ c main_v12 (by decide) (by decide) (by decide) (by decide) (by decide +kernel) (by decide +kernel) (by decide +kernel) (by decide) (by decide +kernel) (by decide +kernel)]
    exact v12_at (W0 m ρ c) u v k

/-- The kernel's edge map at the end of its run. -/
theorem edge21 (n : Fin 8) (z : Fin 1) (i j : Fin 64) :
    (W21 m ρ c (Proc.devRef .tc main_v48) : S8x1x64x64.Idx → EReal) (ix4 n z i j) = Spec.out (args m c) n i j := by
  rw [W21_of m ρ c main_v48 (by decide), W20_of m ρ c main_v48 (by decide +kernel), W19_of m ρ c main_v48 (by decide),
    W18_of m ρ c main_v48 (by decide +kernel), W17_of m ρ c main_v48 (by decide), W16_of m ρ c main_v48 (by decide +kernel),
    W15_of m ρ c main_v48 (by decide), W14_of m ρ c main_v48 (by decide +kernel), W13_of m ρ c main_v48 (by decide)]
  exact edge12 m ρ c n z i j

end Cert.Whole

end

end
-- ==== Proof.TopMath.lean ====
module

public import Idealize.ShloMosaic.Lib.SortPrefix
public import Idealize.ShloMosaic.PureOps.Ideal.Laws
public import Mathlib.Data.EReal.Basic

/-!
Picking the greatest values one at a time.

`pick v` is the least position at which `v` is greatest, and a round replaces the value there by −∞.
Where no value is −∞ to begin with, the positions of the rounds are those that a stable sort by
decreasing value puts first.
-/

@[expose] public section

set_option maxRecDepth 16384

noncomputable section

namespace Cert.TopMath

open Idealize.ShloMosaic

/-- A property that every step of a fold over the numbers below `m` carries on. -/
theorem fold_ind {α : Type} : ∀ (m : ℕ) (f : α → Fin m → α) (P : ℕ → α → Prop) (s : α), P 0 s →
    (∀ (i : Fin m) (s : α), P i.val s → P (i.val + 1) (f s i)) → P m ((List.finRange m).foldl f s)
  | 0, _, _, _, h0, _ => by simpa using h0
  | m + 1, f, P, s, h0, h => by
    rw [List.finRange_succ, List.foldl_cons, List.foldl_map]
    exact fold_ind m (fun s i => f s i.succ) (fun k => P (k + 1)) _ (h 0 s h0)
      fun i s hs => by simpa using h i.succ s (by simpa using hs)

variable {m : ℕ}

theorem tops_nonempty [NeZero m] (v : Fin m → EReal) :
    (Finset.univ.filter fun x => ∀ y, v y ≤ v x).Nonempty := by
  obtain ⟨x, hx⟩ := Finite.exists_max v
  exact ⟨x, by simpa using hx⟩

/-- The least position of a greatest value. -/
def pick [NeZero m] (v : Fin m → EReal) : Fin m :=
  (Finset.univ.filter fun x => ∀ y, v y ≤ v x).min' (tops_nonempty v)

theorem pick_max [NeZero m] (v : Fin m → EReal) (y : Fin m) : v y ≤ v (pick v) := by
  have h := Finset.min'_mem _ (tops_nonempty v)
  rw [Finset.mem_filter] at h
  exact h.2 y

theorem pick_le [NeZero m] (v : Fin m → EReal) (x : Fin m) (h : ∀ y, v y ≤ v x) : pick v ≤ x :=
  Finset.min'_le _ _ (by simpa using h)

/-- The values after one is taken out. -/
def drop (p : Fin m) (v : Fin m → EReal) (q : Fin m) : EReal := if q = p then ⊥ else v q

/-- The values left after some rounds. -/
def rounds [NeZero m] (v : Fin m → EReal) : ℕ → Fin m → EReal
  | 0 => v
  | i + 1 => drop (pick (rounds v i)) (rounds v i)

/-- The position a round picks. -/
def sel [NeZero m] (v : Fin m → EReal) (i : ℕ) : Fin m := pick (rounds v i)

theorem rounds_at [NeZero m] (v : Fin m → EReal) (i : ℕ) (q : Fin m) :
    rounds v i q = if ∃ j < i, sel v j = q then ⊥ else v q := by
  induction i with
  | zero => simp [rounds]
  | succ i ih =>
    show (if q = sel v i then ⊥ else rounds v i q) = _
    rw [ih]
    by_cases h1 : q = sel v i
    · rw [if_pos h1, if_pos ⟨i, Nat.lt_succ_self i, h1.symm⟩]
    · rw [if_neg h1]
      refine if_congr ⟨fun ⟨j, hj, e⟩ => ⟨j, by omega, e⟩, fun ⟨j, hj, e⟩ => ⟨j, ?_, e⟩⟩ rfl rfl
      rcases Nat.lt_succ_iff_lt_or_eq.mp hj with h | h
      · exact h
      · exact absurd (h ▸ e).symm h1

theorem sel_new [NeZero m] (v : Fin m → EReal) (hv : ∀ q, v q ≠ ⊥) (i : ℕ) (hi : i < m) :
    ∀ j < i, sel v j ≠ sel v i := by
  intro j hj e
  have hcard : ((Finset.range i).image (sel v)).card < (Finset.univ : Finset (Fin m)).card := by
    refine lt_of_le_of_lt Finset.card_image_le ?_
    simpa using hi
  obtain ⟨q, -, hq⟩ := Finset.exists_mem_notMem_of_card_lt_card hcard
  have hq' : ¬∃ j < i, sel v j = q := fun ⟨j, hj, e⟩ =>
    hq (Finset.mem_image.mpr ⟨j, Finset.mem_range.mpr hj, e⟩)
  have h1 := pick_max (rounds v i) q
  have h2 : rounds v i (pick (rounds v i)) = ⊥ := by
    rw [rounds_at, if_pos ⟨j, hj, e⟩]
  rw [h2, rounds_at, if_neg hq', le_bot_iff] at h1
  exact hv q h1

theorem sel_inj [NeZero m] (v : Fin m → EReal) (hv : ∀ q, v q ≠ ⊥) (i j : ℕ) (hi : i < m) (hj : j < m)
    (e : sel v i = sel v j) : i = j := by
  rcases lt_trichotomy i j with h | h | h
  · exact absurd e (sel_new v hv j hj i h)
  · exact h
  · exact absurd e.symm (sel_new v hv i hi j h)

/-- A position not yet picked does not come before the one a round picks. -/
theorem sel_first [NeZero m] (v : Fin m → EReal) (hv : ∀ q, v q ≠ ⊥) (i : ℕ) (hi : i < m) (q : Fin m)
    (hq : ∀ j < i, sel v j ≠ q) : v q ≤ v (sel v i) ∧ (v q = v (sel v i) → sel v i ≤ q) := by
  have hr : rounds v i q = v q := by rw [rounds_at, if_neg fun ⟨j, hj, e⟩ => hq j hj e]
  have hs : rounds v i (sel v i) = v (sel v i) := by
    rw [rounds_at, if_neg fun ⟨j, hj, e⟩ => sel_new v hv i hi j hj e]
  have hm := pick_max (rounds v i)
  constructor
  · rw [← hr, ← hs]; exact hm q
  · intro e
    refine pick_le _ q fun y => ?_
    rw [hr, e, ← hs]; exact hm y

/-- Sorting by decreasing value, then by position. -/
def ahead (v : Fin m → EReal) (k k' : Fin m) : Bool :=
  decide (v k' < v k) || (decide (v k = v k') && decide (k < k'))

theorem ahead_total (v : Fin m → EReal) : StrictTotalBefore (ahead v) :=
  StrictTotalBefore.of_key_then_position (fun a b => decide (b < a)) v (by simp)
    (fun a b c h h' => by
      simp only [decide_eq_true_eq] at h h' ⊢
      exact h'.trans h)
    fun a b => by
      simp only [decide_eq_true_eq]
      rcases lt_trichotomy a b with h | h | h
      · exact .inr (.inr h)
      · exact .inr (.inl h)
      · exact .inl h

theorem sorted_ahead [NeZero m] (v : Fin m → EReal) (hv : ∀ q, v q ≠ ⊥) {k : ℕ} (hk : k ≤ m) (i : Fin k) :
    sortedFrom (ahead v) (i.castLE hk) = sel v i := by
  have key : ∀ (i : Fin k) (q : Fin m), (∀ j < i.val, sel v j ≠ q) → ahead v q (sel v i) = false := by
    intro i q hq
    obtain ⟨h1, h2⟩ := sel_first v hv i (lt_of_lt_of_le i.isLt hk) q hq
    unfold ahead
    simp only [Bool.or_eq_false_iff, decide_eq_false_iff_not, not_lt, Bool.and_eq_false_iff]
    refine ⟨h1, ?_⟩
    by_cases e : v q = v (sel v i)
    · exact .inr (h2 e)
    · exact .inl e
  refine (ahead_total v).sortedFrom_eq_of_prefix hk (fun i : Fin k => sel v i) (fun i j e => Fin.ext ?_) ?_ ?_ i
  · exact sel_inj v hv i j (lt_of_lt_of_le i.isLt hk) (lt_of_lt_of_le j.isLt hk) e
  · intro i j hij
    exact key i _ fun l hl e => absurd (sel_inj v hv l j
      (lt_trans hl (lt_of_lt_of_le i.isLt hk)) (lt_of_lt_of_le j.isLt hk) e) (by have := Fin.lt_def.mp hij; omega)
  · intro i p hp
    exact key i p fun j hj => hp ⟨j, lt_trans hj i.isLt⟩

/-! ## The plain stable sort breaks ties by position -/

theorem insert_ahead (v : Fin m → EReal) (a : Fin m) : ∀ l : List (Fin m), (∀ b ∈ l, a < b) →
    insertBefore (fun k k' => decide (v k' < v k)) a l = insertBefore (ahead v) a l
  | [], _ => rfl
  | b :: l, h => by
    unfold insertBefore
    have hb : ahead v b a = decide (v a < v b) := by
      unfold ahead
      have : ¬ b < a := not_lt.mpr (h b List.mem_cons_self).le
      simp [this]
    rw [hb, insert_ahead v a l fun c hc => h c (List.mem_cons_of_mem b hc)]

theorem sort_ahead (v : Fin m → EReal) : ∀ l : List (Fin m), l.Pairwise (· < ·) →
    stableSort (fun k k' => decide (v k' < v k)) l = stableSort (ahead v) l
  | [], _ => rfl
  | a :: l, h => by
    rw [List.pairwise_cons] at h
    unfold stableSort
    rw [sort_ahead v l h.2, insert_ahead v a _ fun b hb => h.1 b ((perm_stableSort _ l).mem_iff.mp hb)]

/-- **The rounds pick what a stable sort by decreasing value puts first.** -/
theorem sorted_sel [NeZero m] (v : Fin m → EReal) (hv : ∀ q, v q ≠ ⊥) {k : ℕ} (hk : k ≤ m) (i : Fin k) :
    sortedFrom (fun k k' => decide (v k' < v k)) (i.castLE hk) = sel v i := by
  rw [← sorted_ahead v hv hk i]
  unfold sortedFrom
  have e : sortPositions m (fun k k' => decide (v k' < v k)) = sortPositions m (ahead v) :=
    sort_ahead v _ (List.pairwise_lt_finRange m)
  rw [List.get_of_eq e]
  rfl

end Cert.TopMath

end

end
-- ==== Proof.FuseSpec.lean ====
module

public import proofs.«01_k».proof.Proof.Spec
public import proofs.«01_k».proof.Proof.TopMath

/-! The fused map as a plain function: the picked positions, the picked features, the attention between them, and
the positions of the large map that the result is written to. -/

@[expose] public section

noncomputable section

open Idealize.ShloMosaic

namespace Cert.Fuse

open Cert.Spec Cert.TopMath

/-! ### One image: from the picked high-level features `h` and low-level features `l` -/

section image
variable (h l : Fin 192 → Fin 128 → EReal)

/-- The product of two channels over the picked positions. -/
def logit (i j : Fin 192) : EReal := ∑ p : Fin 128, l i p * h j p

/-- The greatest product of a channel. -/
def best (i : Fin 192) : EReal := Finset.univ.fold max ⊥ fun j => logit h l i j

/-- The weight that a channel gives another. -/
def prob (i j : Fin 192) : EReal :=
  Ideal.div (Ideal.exp (logit h l i j - best h l i)) (∑ k : Fin 192, Ideal.exp (logit h l i k - best h l i))

/-- A channel with a zero on either side, read `s - 1` positions on. -/
def near (k : Fin 192) (s : Fin 3) (p : Fin 128) : EReal :=
  if e : 1 ≤ p.val + s.val ∧ p.val + s.val < 129 then h k ⟨p.val + s.val - 1, by omega⟩ else 0

/-- The convolution with three taps along the picked positions. -/
def lepe (wg : Fin 192 → Fin 192 → Fin 3 → EReal) (bg : Fin 192 → EReal) (o : Fin 192) (p : Fin 128) : EReal :=
  ((bg o + ∑ k : Fin 192, wg o k 0 * near h k 0 p) + ∑ k : Fin 192, wg o k 1 * near h k 1 p)
    + ∑ k : Fin 192, wg o k 2 * near h k 2 p

/-- The `192·128` entries in row order, laid out position by position. -/
def spread (k : Fin 192) (p : Fin 128) : EReal :=
  h ⟨(p.val * 192 + k.val) / 128, by omega⟩ ⟨(p.val * 192 + k.val) % 128, Nat.mod_lt _ (by decide)⟩

/-- The `128·192` entries laid out position by position, back in row order. -/
def gather (k : Fin 192) (p : Fin 128) : EReal :=
  h ⟨(k.val * 128 + p.val) % 192, Nat.mod_lt _ (by decide)⟩ ⟨(k.val * 128 + p.val) / 192, by omega⟩

/-- The weighted features plus the convolution. -/
def attn (wg : Fin 192 → Fin 192 → Fin 3 → EReal) (bg : Fin 192 → EReal) (k : Fin 192) (p : Fin 128) : EReal :=
  (∑ j : Fin 192, prob h l k j * spread h j p) + spread (lepe h wg bg) k p

/-- What is written at a picked position. -/
def fused (wg : Fin 192 → Fin 192 → Fin 3 → EReal) (bg : Fin 192 → EReal) (k : Fin 192) (p : Fin 128) : EReal :=
  gather (attn h l wg bg) k p + l k p

end image

/-! ### All images -/

/-- The row of a position of the small map. -/
def row (q : Fin 4096) : Fin 64 := ⟨q.val / 64, by omega⟩
/-- The column of a position of the small map. -/
def col (q : Fin 4096) : Fin 64 := ⟨q.val % 64, Nat.mod_lt _ (by decide)⟩

/-- The position of the large map that a position of the small one lies at. -/
def place (q : Fin 4096) : Fin 16384 := ⟨2 * (q.val % 64) + 256 * (q.val / 64), by omega⟩

theorem place_inj {q r : Fin 4096} (e : place q = place r) : q = r := by
  have := Fin.mk.inj_iff.mp e
  exact Fin.ext (by omega)

variable (a : Args)

/-- The picked positions of an image, the greatest entries of its edge map first. -/
def top (n : Fin 8) (p : Fin 128) : Fin 4096 := sel (fun q : Fin 4096 => out a n (row q) (col q)) p.val

/-- The mean of four neighbours of the large map. -/
def pool (n : Fin 8) (k : Fin 192) (i j : Fin 64) : EReal :=
  (a.xl n k ⟨2 * i.val, by omega⟩ ⟨2 * j.val, by omega⟩ + a.xl n k ⟨2 * i.val + 1, by omega⟩ ⟨2 * j.val, by omega⟩)
      * ((1 / 4 : ℝ) : EReal)
    + (a.xl n k ⟨2 * i.val, by omega⟩ ⟨2 * j.val + 1, by omega⟩ + a.xl n k ⟨2 * i.val + 1, by omega⟩ ⟨2 * j.val + 1, by omega⟩)
      * ((1 / 4 : ℝ) : EReal)

/-- The picked high-level features. -/
def hi (n : Fin 8) (k : Fin 192) (p : Fin 128) : EReal := a.xh n k (row (top a n p)) (col (top a n p))
/-- The picked low-level features. -/
def lo (n : Fin 8) (k : Fin 192) (p : Fin 128) : EReal := pool a n k (row (top a n p)) (col (top a n p))

variable (wg : Fin 192 → Fin 192 → Fin 3 → EReal) (bg : Fin 192 → EReal)

/-- The fused map: the low-level features, but the fused ones at the places of the picked positions. -/
def fin (n : Fin 8) (k : Fin 192) (y : Fin 16384) : EReal :=
  open Classical in
  if e : ∃ p : Fin 128, place (top a n p) = y then fused (hi a n) (lo a n) wg bg k e.choose
  else a.xl n k ⟨y.val / 128, by omega⟩ ⟨y.val % 128, Nat.mod_lt _ (by decide)⟩

/-- At the place of a picked position. -/
theorem fin_place (ha : ∀ n i j, out a n i j ≠ ⊥) (n : Fin 8) (k : Fin 192) (p : Fin 128) :
    fin a wg bg n k (place (top a n p)) = fused (hi a n) (lo a n) wg bg k p := by
  have e : ∃ r : Fin 128, place (top a n r) = place (top a n p) := ⟨p, rfl⟩
  rw [fin, dif_pos e]
  congr 1
  exact Fin.ext (sel_inj _ (fun q => ha n _ _) _ _ (by have := e.choose.isLt; omega) (by omega) (place_inj e.choose_spec))

/-- Away from the places of the picked positions. -/
theorem fin_off (n : Fin 8) (k : Fin 192) (y : Fin 16384) (h : ∀ p, place (top a n p) ≠ y) :
    fin a wg bg n k y = a.xl n k ⟨y.val / 128, by omega⟩ ⟨y.val % 128, Nat.mod_lt _ (by decide)⟩ := by
  rw [fin, dif_neg (fun ⟨p, e⟩ => h p e)]

/-- Different picked positions have different places. -/
theorem top_inj (ha : ∀ n i j, out a n i j ≠ ⊥) (n : Fin 8) {p r : Fin 128} (e : place (top a n p) = place (top a n r)) : p = r :=
  Fin.ext (sel_inj _ (fun q => ha n _ _) _ _ (by omega) (by omega) (place_inj e))

end Cert.Fuse

end

end
-- ==== Proof.FuseHost.lean ====
module

public import proofs.«01_k».proof.Proof.FuseSpec
public import proofs.«01_k».proof.Proof.Host

/-! The kernel's host operations between its last calls: changes of layout. -/

@[expose] public section

set_option maxRecDepth 16384

noncomputable section

open Idealize.ShloMosaic Idealize.ShloMosaic.TcCoe Idealize.SL.Sem

namespace Cert.Host

open Cert.KernelIdeal Cert.KernelIdeal.Gen

variable (W : Valuation τ sig (Elt Ideal))

theorem v15_at (s : Fin 3) (o k : Fin 192) :
    (StableHlo.after hostOps0 W (Proc.devRef .tc main_v15) : S3x192x192.Idx → EReal) (ix3 s o k)
      = (W (Proc.devRef .tc main_arg12) : S192x192x3x3.Idx → EReal) (ix4 o k 1 s) := by
  show transpose S3x192x192 [2, 0, 1] (shapeCast S192x192x3 (extractStridedSlice S192x192x1x3 ![0, 0, 1, 0]
    (W (Proc.devRef .tc main_arg12) : S192x192x3x3.Idx → EReal) slices_S192x192x3x3_S192x192x1x3_0_0_1_0)
    shapeCasts_S192x192x1x3_S192x192x3) transposes_S192x192x3_S3x192x192_2_0_1 _ = _
  generalize (W (Proc.devRef .tc main_arg12) : S192x192x3x3.Idx → EReal) = v
  pointwise []
theorem v16_at (o : Fin 192) :
    (StableHlo.after hostOps0 W (Proc.devRef .tc main_v16) : S192x1.Idx → EReal) (ix2 o 0)
      = (W (Proc.devRef .tc main_arg13) : S192.Idx → EReal) (ix1 o) := by
  show shapeCast S192x1 (W (Proc.devRef .tc main_arg13) : S192.Idx → EReal) shapeCasts_S192_S192x1 _ = _
  generalize (W (Proc.devRef .tc main_arg13) : S192.Idx → EReal) = v
  pointwise []
theorem v49_at (n : Fin 8) (q : Fin 4096) :
    (StableHlo.after hostOps6 W (Proc.devRef .tc main_v49) : S8x4096.Idx → EReal) (ix2 n q)
      = (W (Proc.devRef .tc main_v48) : S8x1x64x64.Idx → EReal) (ix4 n 0 (Fuse.row q) (Fuse.col q)) := by
  show shapeCast S8x4096 (W (Proc.devRef .tc main_v48) : S8x1x64x64.Idx → EReal) shapeCasts_S8x1x64x64_S8x4096 _ = _
  generalize (W (Proc.devRef .tc main_v48) : S8x1x64x64.Idx → EReal) = v
  pointwise []
  rfl
theorem v51_at (n : Fin 8) (z : Fin 1) (p : Fin 128) :
    (StableHlo.after hostOps7 W (Proc.devRef .tc main_v51) : S8x1x128.Idx → BitVec 32) (ix3 n z p)
      = (W (Proc.devRef .tc main_v50) : S8x128.Idx → BitVec 32) (ix2 n p) := by
  show shapeCast S8x1x128 (W (Proc.devRef .tc main_v50) : S8x128.Idx → BitVec 32) shapeCasts_S8x128_S8x1x128 _ = _
  generalize (W (Proc.devRef .tc main_v50) : S8x128.Idx → BitVec 32) = v
  pointwise []
theorem v54_at (n : Fin 8) (k : Fin 192) (p : Fin 128) :
    (StableHlo.after hostOps8 W (Proc.devRef .tc main_v54) : S8x192x128.Idx → EReal) (ix3 n k p)
      = Fuse.spread (fun k p => (W (Proc.devRef .tc main_v52_0) : S8x192x128.Idx → EReal) (ix3 n k p)) k p := by
  show transpose S8x192x128 [0, 2, 1] (shapeCast S8x128x192 (W (Proc.devRef .tc main_v52_0) : S8x192x128.Idx → EReal)
    shapeCasts_S8x192x128_S8x128x192) transposes_S8x128x192_S8x192x128_0_2_1 _ = _
  generalize (W (Proc.devRef .tc main_v52_0) : S8x192x128.Idx → EReal) = v
  pointwise []
  unfold Fuse.spread
  have h1 := n.isLt
  have h2 := k.isLt
  have h3 := p.isLt
  exact congrArg₂ (fun a b => v (ix3 n a b)) (Fin.ext (by dsimp only; omega)) (Fin.ext (by dsimp only; omega))
theorem v56_at (n : Fin 8) (k : Fin 192) (p : Fin 128) :
    (StableHlo.after hostOps8 W (Proc.devRef .tc main_v56) : S8x192x128.Idx → EReal) (ix3 n k p)
      = Fuse.spread (fun k p => (W (Proc.devRef .tc main_v52_3) : S8x192x128.Idx → EReal) (ix3 n k p)) k p := by
  show transpose S8x192x128 [0, 2, 1] (shapeCast S8x128x192 (W (Proc.devRef .tc main_v52_3) : S8x192x128.Idx → EReal)
    shapeCasts_S8x192x128_S8x128x192) transposes_S8x128x192_S8x192x128_0_2_1 _ = _
  generalize (W (Proc.devRef .tc main_v52_3) : S8x192x128.Idx → EReal) = v
  pointwise []
  unfold Fuse.spread
  have h1 := n.isLt
  have h2 := k.isLt
  have h3 := p.isLt
  exact congrArg₂ (fun a b => v (ix3 n a b)) (Fin.ext (by dsimp only; omega)) (Fin.ext (by dsimp only; omega))
theorem v59_at (n : Fin 8) (k : Fin 192) (p : Fin 128) :
    (StableHlo.after hostOps9 W (Proc.devRef .tc main_v59) : S8x192x128.Idx → EReal) (ix3 n k p)
      = Fuse.gather (fun k p => (W (Proc.devRef .tc main_v57) : S8x192x128.Idx → EReal) (ix3 n k p)) k p := by
  show shapeCast S8x192x128 (transpose S8x128x192 [0, 2, 1] (W (Proc.devRef .tc main_v57) : S8x192x128.Idx → EReal)
    transposes_S8x192x128_S8x128x192_0_2_1) shapeCasts_S8x128x192_S8x192x128 _ = _
  generalize (W (Proc.devRef .tc main_v57) : S8x192x128.Idx → EReal) = v
  pointwise []
  unfold Fuse.gather
  have h1 := n.isLt
  have h2 := k.isLt
  have h3 := p.isLt
  exact congrArg₂ (fun a b => v (ix3 n a b)) (Fin.ext (by dsimp only; omega)) (Fin.ext (by dsimp only; omega))
theorem v61_at (n : Fin 8) (k : Fin 192) (i j : Fin 128) :
    (StableHlo.after hostOps10 W (Proc.devRef .tc main_v61) : S8x192x128x128.Idx → EReal) (ix4 n k i j)
      = (W (Proc.devRef .tc main_v60) : S8x192x16384.Idx → EReal) (ix3 n k ⟨i * 128 + j, by omega⟩) := by
  show shapeCast S8x192x128x128 (W (Proc.devRef .tc main_v60) : S8x192x16384.Idx → EReal) shapeCasts_S8x192x16384_S8x192x128x128 _ = _
  generalize (W (Proc.devRef .tc main_v60) : S8x192x16384.Idx → EReal) = v
  pointwise []

end Cert.Host

end

end
-- ==== Proof.TopCall.lean ====
module

public import proofs.«01_k».proof.Proof.TopMath
public import proofs.«01_k».proof.Proof.Gen.KernelIdeal.Frame.Region6
public import Idealize.ShloMosaic.Lib.Pipeline.ValueKit
public import Idealize.ShloMosaic.Lib.Pointwise
public import Idealize.ShloMosaic.Lib.WordArith
public import Idealize.ShloMosaic.Lib.WordCmp

/-! The seventh call: it picks the 128 greatest entries of every image's edge map, one a round. -/

@[expose] public section

set_option maxRecDepth 16384

noncomputable section

open Idealize.ShloMosaic Idealize.ShloMosaic.TcCoe Idealize.SL.Sem
open Idealize.ShloMosaic.Pipeline (Dat)

namespace Cert.Top

open Cert.KernelIdeal Cert.KernelIdeal.Gen
open Cert.TopMath

variable (V : (c : Dev nD) → (b : Ref sig .tc) → Buf (Elt Ideal) ((c : Thread nD τ).loc b))

/-- A fold of the signed minimum over words below `2³¹` is the minimum of their values. -/
theorem fold_least {m : ℕ} (f : Fin m → BitVec 32) (hf : ∀ x, (f x).toNat < 2 ^ 31) (s : Finset (Fin m)) :
    (s.fold IntOp.minsi 2147483647#32 f).toNat = s.fold min 2147483647 (fun x => (f x).toNat)
      ∧ (s.fold IntOp.minsi 2147483647#32 f).toNat < 2 ^ 31 := by
  classical
  induction s using Finset.induction_on with
  | empty => simp
  | insert a s ha ih =>
    rw [Finset.fold_insert ha, Finset.fold_insert ha, WordArith.toNat_minsi_of_lt _ _ (hf a) ih.2, ih.1]
    exact ⟨rfl, lt_of_le_of_lt (min_le_left _ _) (hf a)⟩

theorem low_val : (Ideal.ofBits .f32 4286578688#32 : Ideal .f32) = (⊥ : EReal) := by
  simp [Ideal.ofBits, Ideal.ieee]

/-- One round's pick. -/
theorem pick_at (v : FVec Ideal S8x4096 .f32) (n : Fin 8) (z : Fin 1) :
    k6_pay3 (F := Ideal) v (ix2 n z) = BitVec.ofNat 32 (pick fun q : Fin 4096 => (v (ix2 n q) : EReal)) := by
  pointwise [k6_pay3]
  set w : Fin 4096 → EReal := fun q => v (ix2 n q) with hw
  have hM : (Finset.univ.fold max (Ideal.ofBits .f32 4286578688#32) fun x => v (ix2 n x)) = w (pick w) := by
    rw [low_val]
    refine le_antisymm (Finset.fold_max_le _ |>.mpr ⟨bot_le, fun x _ => pick_max w x⟩) ?_
    exact Finset.le_fold_max _ |>.mpr (.inr ⟨pick w, Finset.mem_univ _, le_rfl⟩)
  rw [hM]
  have hlt : ∀ x : Fin 4096, (if (v (ix2 n x) : EReal) = w (pick w) then BitVec.ofNat 32 x.val else 4096#32).toNat
      = if (v (ix2 n x) : EReal) = w (pick w) then x.val else 4096 := by
    intro x
    split
    · rw [BitVec.toNat_ofNat]; have := x.isLt; omega
    · rfl
  apply BitVec.eq_of_toNat_eq
  rw [(fold_least _ (fun x => by rw [hlt]; have := x.isLt; split <;> omega) _).1, BitVec.toNat_ofNat]
  simp only [hlt]
  have hp := (pick w).isLt
  rw [show (pick w).val % 2 ^ 32 = (pick w).val by omega]
  refine le_antisymm (Finset.fold_min_le _ |>.mpr (.inr ⟨pick w, Finset.mem_univ _, ?_⟩))
    (Finset.le_fold_min _ |>.mpr ⟨by omega, fun x _ => ?_⟩)
  · rw [if_pos rfl]
  · split
    · rename_i h
      exact Fin.le_def.mp (pick_le w x fun y => by
        have := pick_max w y
        rw [← h] at this
        exact this)
    · omega

/-- What a round leaves of the values. -/
theorem left_at (v : FVec Ideal S8x4096 .f32) (n : Fin 8) (q : Fin 4096) :
    (k6_pay5 (F := Ideal) v (ix2 n q) : EReal)
      = drop (pick fun q : Fin 4096 => (v (ix2 n q) : EReal)) (fun q => v (ix2 n q)) q := by
  pointwise [k6_pay5]
  rw [pick_at, low_val, WordCmp.cmpi_eq_ofNat (by have := q.isLt; omega) (by
    have := (pick fun q : Fin 4096 => (v (ix2 n q) : EReal)).isLt; omega), WordCmp.select_ofBool]
  simp only [drop, Fin.ext_iff, decide_eq_true_eq]

theorem step_word (k : ℕ) : Scf.iv 0#32 1#32 k = BitVec.ofNat 32 k := by
  rw [Scf.iv_eq_ofInt]
  simp

theorem trips_eq : k6_t1_loop.trips = 128 := by decide +kernel

/-- What a round writes. -/
theorem word_at (t : Fin k6_t1_loop.trips) (v : FVec Ideal S8x4096 .f32) (o : IVec S8x128 32) (n : Fin 8) (q : Fin 128) :
    k6_pay4 (F := Ideal) t v o (ix2 n q)
      = if q.val = t.val then BitVec.ofNat 32 (pick fun q : Fin 4096 => (v (ix2 n q) : EReal)) else o (ix2 n q) := by
  have ht := lt_of_lt_of_eq t.isLt trips_eq
  pointwise [k6_pay4]
  rw [pick_at, step_word, WordCmp.cmpi_eq_ofNat (by have := q.isLt; omega) (by omega), WordCmp.select_ofBool]
  simp only [decide_eq_true_eq]

/-- The picked positions as words. -/
def picked (E : FVec Ideal S8x4096 .f32) : IVec S8x128 32 :=
  fun i => BitVec.ofNat 32 (sel (fun q : Fin 4096 => (E (ix2 (i 0) q) : EReal)) (i 1))

/-- What holds of an image's values and words after some rounds. -/
structure After (w : Fin 4096 → EReal) (n : Fin 8) (i : ℕ) (v : FVec Ideal S8x4096 .f32) (o : IVec S8x128 32) : Prop where
  vals : (fun p : Fin 4096 => (v (ix2 n p) : EReal)) = rounds w i
  words : ∀ r : Fin 128, r.val < i → o (ix2 n r) = BitVec.ofNat 32 (sel w r)

theorem after_step (w : Fin 4096 → EReal) (n : Fin 8) (t : Fin k6_t1_loop.trips) (v : FVec Ideal S8x4096 .f32)
    (o : IVec S8x128 32) (h : After w n t.val v o) :
    After w n (t.val + 1) (k6_pay5 (F := Ideal) v) (k6_pay4 (F := Ideal) t v o) := by
  constructor
  · funext p
    rw [left_at, h.vals, rounds]
  · intro r hr
    rw [word_at, h.vals]
    split
    · rename_i e; rw [e, sel]
    · exact h.words r (by omega)

theorem rounds_out (E : FVec Ideal S8x4096 .f32) (n : Fin 8) (q : Fin 128) :
    (Scf.fold (fun (t : Fin k6_t1_loop.trips) (s : FVec Ideal S8x4096 .f32 × IVec S8x128 32) =>
        (k6_pay5 (F := Ideal) s.1, k6_pay4 (F := Ideal) t s.1 s.2)) (k6_pay1 (F := Ideal) E, k6_pay2)).2 (ix2 n q)
      = BitVec.ofNat 32 (sel (fun q : Fin 4096 => (E (ix2 n q) : EReal)) q) := by
  rw [Scf.fold_eq]
  refine (fold_ind k6_t1_loop.trips _
    (fun i (s : FVec Ideal S8x4096 .f32 × IVec S8x128 32) => After (fun q : Fin 4096 => (E (ix2 n q) : EReal)) n i s.1 s.2) _ ⟨?_, ?_⟩ ?_).words q ?_
  · funext p
    pointwise [k6_pay1]
    rw [rounds]
  · exact fun r h => absurd h (Nat.not_lt_zero _)
  · intro t s h
    dsimp only at h ⊢
    exact after_step _ n t s.1 s.2 h
  · rw [trips_eq]; exact q.isLt

/-! The call has no grid: its blocks are the whole arrays. -/

theorem emb6 (t : Fin cfg6.N) (y : S8x128.Idx) : ((cfg6.win 1).blk t).view.emb y = y := by
  funext a
  apply Fin.ext
  show (((cfg6.win 1).rect t).emb y a : ℕ) = _
  rw [Rect.emb_apply]
  show 0 * S8x128.size a + 1 * (y a).val = _
  rw [zero_mul, one_mul, zero_add]
theorem iblk6_0 (c : Dev nD) (t : Fin cfg6.N) : iblk6 V c 0 t = V c main_v49 := by
  funext y
  show V c main_v49 (((cfg6.win 0).rect t).emb y) = _
  refine congrArg (V c main_v49) ?_
  funext a
  apply Fin.ext
  rw [Rect.emb_apply]
  show 0 * S8x4096.size a + 1 * (y a).val = _
  rw [zero_mul, one_mul, zero_add]

theorem out_eq (c : Dev nD) (arg0 : Memref sig .tc .vmem S8x4096 .f32) (harg0 : arg0.IsWhole)
    (arg1 : Memref sig .tc .vmem S8x128 .i32) (harg1 : arg1.IsWhole) (E : FVec Ideal S8x4096 .f32) :
    out6_A_1 (F := Ideal) c arg0 harg0 arg1 harg1 E = picked E := by
  funext y
  rw [show y = ix2 (y 0) (y 1) by idx_ext]
  frame_out
  exact rounds_out E (y 0) (y 1)

/-- The seventh call's result array. -/
theorem final6 (c : Dev nD) : (dat6 V c).arrAt 1 cfg6.N = picked (V c main_v49) := by
  refine (dat6 V c).arrAt_eq_of_covers 1 _ (by decide +kernel) fun t _ y => ?_
  rw [emb6 t y]
  show outsAt6 V c t y = _
  unfold outsAt6
  rw [iblk6_0, out_eq]

end Cert.Top

end

end
-- ==== Proof.PoolCall.lean ====
module

public import proofs.«01_k».proof.Proof.Gen.KernelIdeal.Frame.Region2
public import proofs.«01_k».proof.Proof.FuseSpec
public import proofs.«01_k».proof.Proof.Host
public import Idealize.ShloMosaic.Lib.Pipeline.ValueKit
public import Idealize.ShloMosaic.Lib.Pointwise

/-! The third call's second result array: the low-level features averaged over two by two blocks. -/

@[expose] public section

set_option maxRecDepth 16384

noncomputable section

open Idealize.ShloMosaic Idealize.ShloMosaic.TcCoe Idealize.SL.Sem
open Idealize.ShloMosaic.Pipeline (Dat)

namespace Cert.Pool

open Cert.KernelIdeal Cert.KernelIdeal.Gen

variable (V : (c : Dev nD) → (b : Ref sig .tc) → Buf (Elt Ideal) ((c : Thread nD τ).loc b))

/-- Where the blocks lie. -/
theorem idx2 : ∀ t : Fin cfg2.N, win2_0.index t = ![t.val / 4, t.val % 4, 0] ∧ win2_9.index t = ![0, 0]
    ∧ win2_11.index t = ![t.val / 4, t.val % 4, 0, 0] :=
  (by decide +kernel : ∀ t : Fin grid2.N, _)

/-- The image a grid point of the third call works on. -/
def img (t : Fin cfg2.N) : Fin 8 := ⟨t.val / 4, by have := lt_of_lt_of_eq t.isLt N_2; omega⟩
/-- The channels a grid point of the third call works on. -/
def grp (t : Fin cfg2.N) : Fin 4 := ⟨t.val % 4, Nat.mod_lt _ (by decide)⟩
/-- A channel of a group. -/
def chan (j : Fin 4) (k : Fin 48) : Fin 192 := ⟨j.val * 48 + k.val, by omega⟩

theorem iblk2_0 (c : Dev nD) (t : Fin cfg2.N) :
    iblk2 V c 0 t = fun y : S1x48x16384.Idx => V c main_v1 (ix3 (img t) (chan (grp t) (y 1)) (y 2)) := by
  funext y
  blk_ext [iblk2, idx2 t, img, chan, grp]
theorem iblk2_9 (c : Dev nD) (t : Fin cfg2.N) : iblk2 V c 9 t = V c main_cst_4 := by blk_ext! [iblk2, idx2 t]
theorem emb (t : Fin cfg2.N) (y : S1x48x64x64.Idx) :
    ((cfg2.win 11).blk t).view.emb y = ix4 (img t) (chan (grp t) (y 1)) (y 2) (y 3) := by
  blk_ext [idx2 t, img, chan, grp]

/-- The averaging matrix: a quarter at the two rows of each block. -/
theorem lit5_bits : ∀ h : Fin 128, ∀ i : Fin 64,
    lit5 (S128x64.rowMajor (ix2 h i)) = if h.val / 2 = i.val then 0x3E800000#32 else 0#32 := by
  decide +kernel

/-- The float 1/4. -/
theorem quarter_val : Ideal.ofBits .f32 0x3E800000#32 = ((1 / 4 : ℝ) : EReal) := by
  simp [Ideal.ofBits, Ideal.ieee, -EReal.coe_mul]; norm_num

variable (W : Valuation τ sig (Elt Ideal))

theorem cst_4_at (h : Fin 128) (i : Fin 64) :
    (StableHlo.after hostOps0 W (Proc.devRef .tc main_cst_4) : S128x64.Idx → EReal) (ix2 h i)
      = if h.val / 2 = i.val then ((1 / 4 : ℝ) : EReal) else (0 : EReal) := by
  show Ideal.ofBits .f32 (lit5 (S128x64.rowMajor (ix2 h i))) = _
  rw [lit5_bits]; split
  · exact quarter_val
  · exact Host.zero_val

/-- What the third call leaves in a block of its second result array. -/
theorem after_11 (c : Dev nD) (t : Fin cfg2.N) : (outsAt2 V c t.val t.isLt).2
    = k2_pay1 (F := Ideal) (iblk2 V c 0 t) (iblk2 V c 9 t) := by
  by_cases h : t.val % 4 = 3
  · rw [outsAt2_B V c t h]
    frame_out
  · rw [outsAt2_A V c t h]
    frame_out

/-- The group of a channel. -/
def part (k : Fin 192) : Fin 4 := ⟨k.val / 48, by omega⟩
/-- A channel within its group. -/
def rest (k : Fin 192) : Fin 48 := ⟨k.val % 48, Nat.mod_lt _ (by decide)⟩
theorem part_chan (j : Fin 4) (k : Fin 48) : part (chan j k) = j := Fin.ext (by show (j.val * 48 + k.val) / 48 = _; omega)
theorem rest_chan (j : Fin 4) (k : Fin 48) : rest (chan j k) = k := Fin.ext (by show (j.val * 48 + k.val) % 48 = _; omega)
theorem chan_part (k : Fin 192) : chan (part k) (rest k) = k := Fin.ext (by show k.val / 48 * 48 + k.val % 48 = _; omega)

/-- One entry of an image's group of channels. -/
def entry (X : FVec Ideal S8x192x16384 .f32) (P : FVec Ideal S128x64 .f32) (n : Fin 8) (j : Fin 4) (y : S1x48x64x64.Idx) : Ideal .f32 :=
  k2_pay1 (F := Ideal) (fun y : S1x48x16384.Idx => X (ix3 n (chan j (y 1)) (y 2))) P y

/-- The second result array, from its operands. -/
def pooled (X : FVec Ideal S8x192x16384 .f32) (P : FVec Ideal S128x64 .f32) : FVec Ideal S8x192x64x64 .f32 :=
  fun i => entry X P (i 0) (part (i 1)) (ix4 0 (rest (i 1)) (i 2) (i 3))

theorem pooled_chan (X : FVec Ideal S8x192x16384 .f32) (P : FVec Ideal S128x64 .f32) (n : Fin 8) (j : Fin 4) (y : S1x48x64x64.Idx) :
    pooled X P (ix4 n (chan j (y 1)) (y 2) (y 3)) = entry X P n j y := by
  have h1 : part (chan j (y 1)) = j := part_chan j (y 1)
  have h2 : (ix4 0 (rest (chan j (y 1))) (y 2) (y 3) : S1x48x64x64.Idx) = y :=
    (congrArg (fun r => (ix4 0 r (y 2) (y 3) : S1x48x64x64.Idx)) (rest_chan j (y 1))).trans (by idx_ext)
  exact congrArg₂ (fun a b => entry X P n a b) h1 h2

/-- The third call's second result array. -/
theorem final2_11 (c : Dev nD) : (dat2 V c).arrAt 11 cfg2.N = pooled (V c main_v1) (V c main_cst_4) := by
  refine (dat2 V c).arrAt_eq_of_covers 11 _ (by decide +kernel) fun t _ y => ?_
  blk_simp
  rw [after2_11, after_11, iblk2_0, iblk2_9, emb t y]
  exact (pooled_chan (V c main_v1) (V c main_cst_4) (img t) (grp t) y).symm

/-- A sum against the averaging matrix. -/
theorem pair_sum (f : Fin 128 → EReal) (q : EReal) (j : Fin 64) :
    (∑ x : Fin 128, f x * if x.val / 2 = j.val then q else 0)
      = f ⟨2 * j.val, by omega⟩ * q + f ⟨2 * j.val + 1, by omega⟩ * q := by
  rw [Finset.sum_eq_add (⟨2 * j.val, by omega⟩ : Fin 128) ⟨2 * j.val + 1, by omega⟩ (by simp) (fun x _ h => ?_)
    (fun h => absurd (Finset.mem_univ _) h) (fun h => absurd (Finset.mem_univ _) h)]
  · rw [if_pos (by show 2 * j.val / 2 = _; omega), if_pos (by show (2 * j.val + 1) / 2 = _; omega)]
  · have h1 : x.val ≠ 2 * j.val := fun e => h.1 (Fin.ext e)
    have h2 : x.val ≠ 2 * j.val + 1 := fun e => h.2 (Fin.ext e)
    rw [if_neg (by omega), mul_zero]

/-- One entry of a block. -/
theorem pay_at (X : FVec Ideal S1x48x16384 .f32) (P : FVec Ideal S128x64 .f32)
    (hP : ∀ (h : Fin 128) (i : Fin 64), (P (ix2 h i) : EReal) = if h.val / 2 = i.val then ((1 / 4 : ℝ) : EReal) else 0)
    (k : Fin 48) (i j : Fin 64) :
    (k2_pay1 (F := Ideal) X P (ix4 0 k i j) : EReal)
      = (X (ix3 0 k ⟨2 * i.val * 128 + 2 * j.val, by omega⟩) + X (ix3 0 k ⟨(2 * i.val + 1) * 128 + 2 * j.val, by omega⟩)) * ((1 / 4 : ℝ) : EReal)
        + (X (ix3 0 k ⟨2 * i.val * 128 + (2 * j.val + 1), by omega⟩) + X (ix3 0 k ⟨(2 * i.val + 1) * 128 + (2 * j.val + 1), by omega⟩))
          * ((1 / 4 : ℝ) : EReal) := by
  pointwise [k2_pay1]
  simp only [hP, pair_sum, Fin.sum_univ_two]
  have e : ∀ r r' : Fin 16384, r.val = r'.val → X (ix3 0 k r) = X (ix3 0 k r') := fun r r' h => by rw [Fin.ext h]
  congr 1
  · congr 1
    exact congrArg₂ (· + ·) (e _ _ (by show i.val * 256 + 0 * 128 + 2 * j.val = 2 * i.val * 128 + 2 * j.val; omega)) (e _ _ (by show i.val * 256 + 1 * 128 + 2 * j.val = (2 * i.val + 1) * 128 + 2 * j.val; omega))
  · congr 1
    exact congrArg₂ (· + ·) (e _ _ (by show i.val * 256 + 0 * 128 + (2 * j.val + 1) = 2 * i.val * 128 + (2 * j.val + 1); omega)) (e _ _ (by show i.val * 256 + 1 * 128 + (2 * j.val + 1) = (2 * i.val + 1) * 128 + (2 * j.val + 1); omega))

/-- The second result array at an entry. -/
theorem pooled_at (a : Spec.Args) (X : FVec Ideal S8x192x16384 .f32) (P : FVec Ideal S128x64 .f32)
    (hP : ∀ (h : Fin 128) (i : Fin 64), (P (ix2 h i) : EReal) = if h.val / 2 = i.val then ((1 / 4 : ℝ) : EReal) else 0)
    (hX : ∀ (n : Fin 8) (k : Fin 192) (i j : Fin 128), (X (ix3 n k ⟨i.val * 128 + j.val, by omega⟩) : EReal) = a.xl n k i j)
    (n : Fin 8) (k : Fin 192) (i j : Fin 64) : (pooled X P (ix4 n k i j) : EReal) = Fuse.pool a n k i j := by
  refine (pay_at (fun y : S1x48x16384.Idx => X (ix3 n (chan (part k) (y 1)) (y 2))) P hP (rest k) i j).trans ?_
  have e : ∀ q : Fin 16384, (fun y : S1x48x16384.Idx => X (ix3 n (chan (part k) (y 1)) (y 2))) (ix3 0 (rest k) q) = X (ix3 n k q) := by
    intro q
    show X (ix3 n (chan (part k) (rest k)) q) = _
    rw [chan_part]
  simp only [e]
  rw [hX n k ⟨2 * i.val, by omega⟩ ⟨2 * j.val, by omega⟩, hX n k ⟨2 * i.val + 1, by omega⟩ ⟨2 * j.val, by omega⟩,
    hX n k ⟨2 * i.val, by omega⟩ ⟨2 * j.val + 1, by omega⟩, hX n k ⟨2 * i.val + 1, by omega⟩ ⟨2 * j.val + 1, by omega⟩]
  rfl

end Cert.Pool

end

end
-- ==== Proof.SampleCall.lean ====
module

public import proofs.«01_k».proof.Proof.Gen.KernelIdeal.Frame.Region7
public import proofs.«01_k».proof.Proof.Host
public import proofs.«01_k».proof.Proof.FuseSpec
public import Idealize.ShloMosaic.Lib.Pipeline.ValueKit
public import Idealize.ShloMosaic.Lib.Pointwise
public import Idealize.ShloMosaic.Lib.WordCmp

/-! The eighth call: the columns of the two feature maps at the picked positions, the attention weights and the
three-tap convolution, block by block. -/

@[expose] public section

set_option maxRecDepth 16384

noncomputable section

open Idealize.ShloMosaic Idealize.ShloMosaic.TcCoe Idealize.SL.Sem
open Idealize.ShloMosaic.Pipeline (Dat)

namespace Cert.Sample

open Cert.KernelIdeal Cert.KernelIdeal.Gen

variable (V : (c : Dev nD) → (b : Ref sig .tc) → Buf (Elt Ideal) ((c : Thread nD τ).loc b))

/-- Where the blocks of the eighth call lie. -/
theorem idx7 : ∀ t : Fin cfg7.N, win7_0.index t = ![t.val, 0, 0] ∧ win7_1.index t = ![t.val, 0, 0, 0]
    ∧ win7_2.index t = ![t.val, 0, 0] ∧ win7_3.index t = ![0, 0, 0] ∧ win7_4.index t = ![0, 0]
    ∧ win7_5.index t = ![t.val, 0, 0] ∧ win7_6.index t = ![t.val, 0, 0] ∧ win7_7.index t = ![t.val, 0, 0]
    ∧ win7_8.index t = ![t.val, 0, 0] :=
  (by decide +kernel : ∀ t : Fin grid7.N, _)

/-- The image a grid point of the eighth call works on. -/
def img7 (t : Fin cfg7.N) : Fin 8 := ⟨t.val, lt_of_lt_of_eq t.isLt N_7⟩

theorem iblk7_0 (c : Dev nD) (t : Fin cfg7.N) :
    iblk7 V c 0 t = fun y : S1x192x4096.Idx => V c main_v0 (ix3 (img7 t) (y 1) (y 2)) := by
  funext y
  blk_ext [iblk7, idx7 t, img7]
theorem iblk7_1 (c : Dev nD) (t : Fin cfg7.N) :
    iblk7 V c 1 t = fun y : S1x192x64x64.Idx => V c main_v36_1 (ix4 (img7 t) (y 1) (y 2) (y 3)) := by
  funext y
  blk_ext [iblk7, idx7 t, img7]
theorem iblk7_2 (c : Dev nD) (t : Fin cfg7.N) :
    iblk7 V c 2 t = fun y : S1x1x128.Idx => V c main_v51 (ix3 (img7 t) (y 1) (y 2)) := by
  funext y
  blk_ext [iblk7, idx7 t, img7]
theorem iblk7_3 (c : Dev nD) (t : Fin cfg7.N) : iblk7 V c 3 t = V c main_v15 := by blk_ext! [iblk7, idx7 t]
theorem iblk7_4 (c : Dev nD) (t : Fin cfg7.N) : iblk7 V c 4 t = V c main_v16 := by blk_ext! [iblk7, idx7 t]
theorem emb7_5 (t : Fin cfg7.N) (y : S1x192x128.Idx) : ((cfg7.win 5).blk t).view.emb y = ix3 (img7 t) (y 1) (y 2) := by
  blk_ext [idx7 t, img7]
theorem emb7_6 (t : Fin cfg7.N) (y : S1x192x128.Idx) : ((cfg7.win 6).blk t).view.emb y = ix3 (img7 t) (y 1) (y 2) := by
  blk_ext [idx7 t, img7]
theorem emb7_7 (t : Fin cfg7.N) (y : S1x192x192.Idx) : ((cfg7.win 7).blk t).view.emb y = ix3 (img7 t) (y 1) (y 2) := by
  blk_ext [idx7 t, img7]
theorem emb7_8 (t : Fin cfg7.N) (y : S1x192x128.Idx) : ((cfg7.win 8).blk t).view.emb y = ix3 (img7 t) (y 1) (y 2) := by
  blk_ext [idx7 t, img7]

/-! ### What one image's block holds -/

theorem real_one : (FloatOps.sitofp .f32 1#32 : Ideal .f32) = (1 : EReal) := by
  show (((1#32).toInt : ℝ) : EReal) = _
  simp
theorem real_zero : (FloatOps.sitofp .f32 0#32 : Ideal .f32) = (0 : EReal) := by
  show (((0#32).toInt : ℝ) : EReal) = _
  simp
theorem low_val : (Ideal.ofBits .f32 4286578688#32 : Ideal .f32) = (⊥ : EReal) := by
  simp [Ideal.ofBits, Ideal.ieee]

section block
variable (w : IVec S1x1x128 32) (π : Fin 128 → Fin 4096) (hw : ∀ p, w (ix3 0 0 p) = BitVec.ofNat 32 (π p))
include hw

/-- The picking matrix. -/
theorem hot_at (q : Fin 4096) (p : Fin 128) :
    (k7_pay3 (F := Ideal) w (ix2 q p) : EReal) = if q = π p then 1 else 0 := by
  pointwise [k7_pay3]
  rw [hw p, WordCmp.cmpi_eq_ofNat (by have := q.isLt; omega) (by have := (π p).isLt; omega)]
  by_cases h : q = π p
  · subst h
    simp
    exact real_one
  · have : q.val ≠ (π p).val := fun e => h (Fin.ext e)
    simp [this, h]
    exact real_zero

/-- The high-level features at the picked positions. -/
theorem high_at (x : FVec Ideal S1x192x4096 .f32) (k : Fin 192) (p : Fin 128) :
    (k7_pay4 (F := Ideal) w x (ix2 k p) : EReal) = x (ix3 0 k (π p)) := by
  pointwise [k7_pay4]
  rw [Finset.sum_eq_single (π p)]
  · rw [hot_at w π hw, if_pos rfl, mul_one]
  · intro q _ hq
    rw [hot_at w π hw, if_neg hq, mul_zero]
  · exact fun h => absurd (Finset.mem_univ _) h

/-- The pooled low-level features at the picked positions. -/
theorem low_at (x : FVec Ideal S1x192x64x64 .f32) (k : Fin 192) (p : Fin 128) :
    (k7_pay5 (F := Ideal) w x (ix2 k p) : EReal)
      = x (ix4 0 k ⟨(π p).val / 64, by have := (π p).isLt; omega⟩ ⟨(π p).val % 64, Nat.mod_lt _ (by decide)⟩) := by
  pointwise [k7_pay5]
  rw [Finset.sum_eq_single (π p)]
  · rw [hot_at w π hw, if_pos rfl, mul_one]
  · intro q _ hq
    rw [hot_at w π hw, if_neg hq, mul_zero]
  · exact fun h => absurd (Finset.mem_univ _) h

end block

/-- The attention weights of one block, from the two picked arrays. -/
theorem prob_at (w : IVec S1x1x128 32) (x : FVec Ideal S1x192x4096 .f32) (y : FVec Ideal S1x192x64x64 .f32)
    (h l : Fin 192 → Fin 128 → EReal) (hx : ∀ k p, (k7_pay4 (F := Ideal) w x (ix2 k p) : EReal) = h k p)
    (hy : ∀ k p, (k7_pay5 (F := Ideal) w y (ix2 k p) : EReal) = l k p) (i j : Fin 192) :
    (k7_pay8 (F := Ideal) w x y (ix2 i j) : EReal) = Fuse.prob h l i j := by
  pointwise [k7_pay8]
  simp only [hx, hy, low_val]
  rfl

/-- The three-tap convolution of one block, from the picked high-level features. -/
theorem lepe_at (H : FVec Ideal S192x128 .f32) (B : FVec Ideal S192x1 .f32) (w0 w1 w2 : FVec Ideal S1x192x192 .f32)
    (h : Fin 192 → Fin 128 → EReal) (hh : ∀ k p, (H (ix2 k p) : EReal) = h k p)
    (wg : Fin 192 → Fin 192 → Fin 3 → EReal) (bg : Fin 192 → EReal) (hb : ∀ o, (B (ix2 o 0) : EReal) = bg o)
    (h0 : ∀ o k, (w0 (ix3 0 o k) : EReal) = wg o k 0) (h1 : ∀ o k, (w1 (ix3 0 o k) : EReal) = wg o k 1)
    (h2 : ∀ o k, (w2 (ix3 0 o k) : EReal) = wg o k 2) (o : Fin 192) (p : Fin 128) :
    (k7_pay2 (F := Ideal) H B w0 w1 w2 (ix3 0 o p) : EReal) = Fuse.lepe h wg bg o p := by
  pointwise [k7_pay2]
  have z : (((0#32).toInt : ℝ) : EReal) = 0 := by simp
  have hp := p.isLt
  simp only [hh, hb, h0, h1, h2, z, Fuse.lepe]
  congr 1
  · congr 1
    · congr 1
      refine Finset.sum_congr rfl fun k _ => congrArg _ ?_
      unfold Fuse.near
      by_cases e : p.val < 1
      · rw [dif_pos (by omega), dif_pos e, dif_neg (by show ¬ (1 ≤ p.val + 0 ∧ _); omega)]
      · rw [dif_pos (by omega), dif_neg e, dif_pos (by show (1 ≤ p.val + 0 ∧ p.val + 0 < 129); omega)]
        rfl
    · refine Finset.sum_congr rfl fun k _ => congrArg _ ?_
      unfold Fuse.near
      rw [dif_pos (by omega), dif_pos (by show (1 ≤ p.val + 1 ∧ p.val + 1 < 129); omega)]
      rfl
  · refine Finset.sum_congr rfl fun k _ => congrArg _ ?_
    unfold Fuse.near
    by_cases e : 2 + p.val < 129
    · rw [dif_pos e, dif_neg (by omega), dif_pos (by show (1 ≤ p.val + 2 ∧ p.val + 2 < 129); omega)]
      congr 1
      exact Fin.ext (by show 2 + p.val - 1 = p.val + 2 - 1; omega)
    · rw [dif_neg e, dif_neg (by show ¬ (1 ≤ p.val + 2 ∧ p.val + 2 < 129); omega)]

/-! ### The four result arrays -/

/-- The words of one image. -/
abbrev words (w : IVec S8x1x128 32) (n : Fin 8) : IVec S1x1x128 32 := fun y => w (ix3 n (y 1) (y 2))
/-- One image of the high-level features. -/
abbrev highs (X : FVec Ideal S8x192x4096 .f32) (n : Fin 8) : FVec Ideal S1x192x4096 .f32 := fun y => X (ix3 n (y 1) (y 2))
/-- One image of the pooled low-level features. -/
abbrev lows (Q : FVec Ideal S8x192x64x64 .f32) (n : Fin 8) : FVec Ideal S1x192x64x64 .f32 := fun y => Q (ix4 n (y 1) (y 2) (y 3))

variable (X : FVec Ideal S8x192x4096 .f32) (Q : FVec Ideal S8x192x64x64 .f32) (w : IVec S8x1x128 32)
  (W : FVec Ideal S3x192x192 .f32) (B : FVec Ideal S192x1 .f32)

/-- The first result array: the picked high-level features. -/
def arr5 : FVec Ideal S8x192x128 .f32 :=
  fun i => out7_5 (F := Ideal) (highs X (i 0)) (lows Q (i 0)) (words w (i 0)) W B (ix3 0 (i 1) (i 2))
/-- The second result array: the picked low-level features. -/
def arr6 : FVec Ideal S8x192x128 .f32 :=
  fun i => out7_6 (F := Ideal) (highs X (i 0)) (lows Q (i 0)) (words w (i 0)) W B (ix3 0 (i 1) (i 2))
/-- The third result array: the attention weights. -/
def arr7 : FVec Ideal S8x192x192 .f32 :=
  fun i => out7_7 (F := Ideal) (highs X (i 0)) (lows Q (i 0)) (words w (i 0)) W B (ix3 0 (i 1) (i 2))
/-- The fourth result array: the three-tap convolution. -/
def arr8 : FVec Ideal S8x192x128 .f32 :=
  fun i => out7_8 (F := Ideal) (highs X (i 0)) (lows Q (i 0)) (words w (i 0)) W B (ix3 0 (i 1) (i 2))

/-- The first result array. -/
theorem final7_5 (c : Dev nD) : (dat7 V c).arrAt 5 cfg7.N
    = arr5 (V c main_v0) (V c main_v36_1) (V c main_v51) (V c main_v15) (V c main_v16) := by
  refine (dat7 V c).arrAt_eq_of_covers 5 _ (by decide +kernel) fun t _ y => ?_
  blk_simp
  rw [after7_5, iblk7_0, iblk7_1, iblk7_2, iblk7_3, iblk7_4, arr5]
  have h := emb7_5 t y
  have h0 : ((cfg7.win 5).blk t).view.emb y 0 = img7 t := by rw [h]; rfl
  have h1 : ((cfg7.win 5).blk t).view.emb y 1 = y 1 := by rw [h]; rfl
  have h2 : ((cfg7.win 5).blk t).view.emb y 2 = y 2 := by rw [h]; rfl
  rw [h0, h1, h2]
  congr 1
  idx_ext

/-- The second result array. -/
theorem final7_6 (c : Dev nD) : (dat7 V c).arrAt 6 cfg7.N
    = arr6 (V c main_v0) (V c main_v36_1) (V c main_v51) (V c main_v15) (V c main_v16) := by
  refine (dat7 V c).arrAt_eq_of_covers 6 _ (by decide +kernel) fun t _ y => ?_
  blk_simp
  rw [after7_6, iblk7_0, iblk7_1, iblk7_2, iblk7_3, iblk7_4, arr6]
  have h := emb7_6 t y
  have h0 : ((cfg7.win 6).blk t).view.emb y 0 = img7 t := by rw [h]; rfl
  have h1 : ((cfg7.win 6).blk t).view.emb y 1 = y 1 := by rw [h]; rfl
  have h2 : ((cfg7.win 6).blk t).view.emb y 2 = y 2 := by rw [h]; rfl
  rw [h0, h1, h2]
  congr 1
  idx_ext

/-- The third result array. -/
theorem final7_7 (c : Dev nD) : (dat7 V c).arrAt 7 cfg7.N
    = arr7 (V c main_v0) (V c main_v36_1) (V c main_v51) (V c main_v15) (V c main_v16) := by
  refine (dat7 V c).arrAt_eq_of_covers 7 _ (by decide +kernel) fun t _ y => ?_
  blk_simp
  rw [after7_7, iblk7_0, iblk7_1, iblk7_2, iblk7_3, iblk7_4, arr7]
  have h := emb7_7 t y
  have h0 : ((cfg7.win 7).blk t).view.emb y 0 = img7 t := by rw [h]; rfl
  have h1 : ((cfg7.win 7).blk t).view.emb y 1 = y 1 := by rw [h]; rfl
  have h2 : ((cfg7.win 7).blk t).view.emb y 2 = y 2 := by rw [h]; rfl
  rw [h0, h1, h2]
  congr 1
  idx_ext

/-- The fourth result array. -/
theorem final7_8 (c : Dev nD) : (dat7 V c).arrAt 8 cfg7.N
    = arr8 (V c main_v0) (V c main_v36_1) (V c main_v51) (V c main_v15) (V c main_v16) := by
  refine (dat7 V c).arrAt_eq_of_covers 8 _ (by decide +kernel) fun t _ y => ?_
  blk_simp
  rw [after7_8, iblk7_0, iblk7_1, iblk7_2, iblk7_3, iblk7_4, arr8]
  have h := emb7_8 t y
  have h0 : ((cfg7.win 8).blk t).view.emb y 0 = img7 t := by rw [h]; rfl
  have h1 : ((cfg7.win 8).blk t).view.emb y 1 = y 1 := by rw [h]; rfl
  have h2 : ((cfg7.win 8).blk t).view.emb y 2 = y 2 := by rw [h]; rfl
  rw [h0, h1, h2]
  congr 1
  idx_ext

theorem slab0 (o k : Fin 192) : r7_6.emb (ix3 0 o k : S1x192x192.Idx) = ix3 0 o k := by idx_ext
theorem slab1 (o k : Fin 192) : r7_7.emb (ix3 0 o k : S1x192x192.Idx) = ix3 1 o k := by idx_ext
theorem slab2 (o k : Fin 192) : r7_8.emb (ix3 0 o k : S1x192x192.Idx) = ix3 2 o k := by idx_ext

section read
variable (n : Fin 8) (π : Fin 128 → Fin 4096) (hw : ∀ p, w (ix3 n 0 p) = BitVec.ofNat 32 (π p))
include hw

theorem arr5_at (k : Fin 192) (p : Fin 128) : (arr5 X Q w W B (ix3 n k p) : EReal) = X (ix3 n k (π p)) := by
  refine Eq.trans ?_ (high_at (words w n) π hw (highs X n) k p)
  show out7_5 (F := Ideal) (highs X n) (lows Q n) (words w n) W B (ix3 0 k p) = _
  frame_out
  pointwise [k7_pay6]

theorem arr6_at (k : Fin 192) (p : Fin 128) : (arr6 X Q w W B (ix3 n k p) : EReal)
    = Q (ix4 n k (Fuse.row (π p)) (Fuse.col (π p))) := by
  refine Eq.trans ?_ (low_at (words w n) π hw (lows Q n) k p)
  show out7_6 (F := Ideal) (highs X n) (lows Q n) (words w n) W B (ix3 0 k p) = _
  frame_out
  pointwise [k7_pay7]

theorem arr7_at (i j : Fin 192) : (arr7 X Q w W B (ix3 n i j) : EReal)
    = Fuse.prob (fun k p => X (ix3 n k (π p))) (fun k p => Q (ix4 n k (Fuse.row (π p)) (Fuse.col (π p)))) i j := by
  refine Eq.trans ?_ (prob_at (words w n) (highs X n) (lows Q n) _ _ (high_at (words w n) π hw (highs X n))
    (low_at (words w n) π hw (lows Q n)) i j)
  show out7_7 (F := Ideal) (highs X n) (lows Q n) (words w n) W B (ix3 0 i j) = _
  frame_out
  pointwise [k7_pay1]

theorem arr8_at (wg : Fin 192 → Fin 192 → Fin 3 → EReal) (bg : Fin 192 → EReal) (hb : ∀ o, (B (ix2 o 0) : EReal) = bg o)
    (hg : ∀ s o k, (W (ix3 s o k) : EReal) = wg o k s) (o : Fin 192) (p : Fin 128) : (arr8 X Q w W B (ix3 n o p) : EReal)
      = Fuse.lepe (fun k p => X (ix3 n k (π p))) wg bg o p := by
  show out7_8 (F := Ideal) (highs X n) (lows Q n) (words w n) W B (ix3 0 o p) = _
  frame_out
  refine lepe_at _ _ _ _ _ _ (high_at (words w n) π hw (highs X n)) wg bg ?_ ?_ ?_ ?_ o p
  · intro o; exact hb o
  · intro o k; exact (congrArg W (slab0 o k)).trans (hg 0 o k)
  · intro o k; exact (congrArg W (slab1 o k)).trans (hg 1 o k)
  · intro o k; exact (congrArg W (slab2 o k)).trans (hg 2 o k)

end read

end Cert.Sample

end

end
-- ==== Proof.AttnCall.lean ====
module

public import proofs.«01_k».proof.Proof.Gen.KernelIdeal.Frame.Region8
public import proofs.«01_k».proof.Proof.Host
public import Idealize.ShloMosaic.Lib.Pipeline.ValueKit
public import Idealize.ShloMosaic.Lib.Pointwise

/-! The ninth call: the attention weights applied to the picked features, plus the three-tap convolution. -/

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (V : (c : Dev nD) → (b : Ref sig .tc) → Buf (Elt Ideal) ((c : Thread nD τ).loc b))

/-- Where the blocks of the ninth call lie. -/
theorem idx8 : ∀ t : Fin cfg8.N, win8_0.index t = ![t.val, 0, 0] ∧ win8_1.index t = ![t.val, 0, 0]
    ∧ win8_2.index t = ![t.val, 0, 0] ∧ win8_3.index t = ![t.val, 0, 0] :=
  (by decide +kernel : ∀ t : Fin grid8.N, _)

/-- The image a grid point of the ninth call works on. -/
def img8 (t : Fin cfg8.N) : Fin 8 := ⟨t.val, lt_of_lt_of_eq t.isLt N_8⟩

theorem iblk8_0 (c : Dev nD) (t : Fin cfg8.N) :
    iblk8 V c 0 t = fun y : S1x192x192.Idx => V c main_v52_2 (ix3 (img8 t) (y 1) (y 2)) := by
  funext y
  blk_ext [iblk8, idx8 t, img8]
theorem iblk8_1 (c : Dev nD) (t : Fin cfg8.N) :
    iblk8 V c 1 t = fun y : S1x192x128.Idx => V c main_v54 (ix3 (img8 t) (y 1) (y 2)) := by
  funext y
  blk_ext [iblk8, idx8 t, img8]
theorem iblk8_2 (c : Dev nD) (t : Fin cfg8.N) :
    iblk8 V c 2 t = fun y : S1x192x128.Idx => V c main_v56 (ix3 (img8 t) (y 1) (y 2)) := by
  funext y
  blk_ext [iblk8, idx8 t, img8]
theorem emb8 (t : Fin cfg8.N) (y : S1x192x128.Idx) : ((cfg8.win 3).blk t).view.emb y = ix3 (img8 t) (y 1) (y 2) := by
  blk_ext [idx8 t, img8]

/-- The ninth call's result array, from its operands. -/
def attended (P : FVec Ideal S8x192x192 .f32) (H L : FVec Ideal S8x192x128 .f32) : FVec Ideal S8x192x128 .f32 :=
  fun i => out8_3 (F := Ideal) (fun y : S1x192x192.Idx => P (ix3 (i 0) (y 1) (y 2)))
    (fun y : S1x192x128.Idx => H (ix3 (i 0) (y 1) (y 2))) (fun y : S1x192x128.Idx => L (ix3 (i 0) (y 1) (y 2))) (ix3 0 (i 1) (i 2))

/-- The ninth call's result array. -/
theorem final8 (c : Dev nD) : (dat8 V c).arrAt 3 cfg8.N = attended (V c main_v52_2) (V c main_v54) (V c main_v56) := by
  refine (dat8 V c).arrAt_eq_of_covers 3 _ (by decide +kernel) fun t _ y => ?_
  blk_simp
  rw [after8_3, iblk8_0, iblk8_1, iblk8_2, attended]
  have h := emb8 t y
  have h0 : ((cfg8.win 3).blk t).view.emb y 0 = img8 t := by rw [h]; rfl
  have h1 : ((cfg8.win 3).blk t).view.emb y 1 = y 1 := by rw [h]; rfl
  have h2 : ((cfg8.win 3).blk t).view.emb y 2 = y 2 := by rw [h]; rfl
  rw [h0, h1, h2]
  congr 1
  idx_ext

/-- What one block holds. -/
theorem pay8_at (P : FVec Ideal S1x192x192 .f32) (H L : FVec Ideal S1x192x128 .f32) (k : Fin 192) (p : Fin 128) :
    (k8_pay1 (F := Ideal) P H L (ix3 0 k p) : EReal)
      = (∑ j : Fin 192, P (ix3 0 k j) * H (ix3 0 j p)) + L (ix3 0 k p) := by
  pointwise [k8_pay1]

/-- The ninth call's result at an entry. -/
theorem attended_at (P : FVec Ideal S8x192x192 .f32) (H L : FVec Ideal S8x192x128 .f32) (n : Fin 8) (k : Fin 192) (p : Fin 128) :
    (attended P H L (ix3 n k p) : EReal) = (∑ j : Fin 192, P (ix3 n k j) * H (ix3 n j p)) + L (ix3 n k p) := by
  refine Eq.trans ?_ (pay8_at (fun y : S1x192x192.Idx => P (ix3 n (y 1) (y 2))) (fun y : S1x192x128.Idx => H (ix3 n (y 1) (y 2)))
    (fun y : S1x192x128.Idx => L (ix3 n (y 1) (y 2))) k p)
  show out8_3 (F := Ideal) _ _ _ (ix3 0 k p) = _
  frame_out
  rfl

end Cert.Attn

end

end
-- ==== Proof.WriteMath.lean ====
module

public import proofs.«01_k».proof.Proof.Gen.KernelIdeal.Frame.Region9
public import proofs.«01_k».proof.Proof.FuseSpec
public import proofs.«01_k».proof.Proof.Host
public import Idealize.ShloMosaic.Lib.Pipeline.ValueKit
public import Idealize.ShloMosaic.Lib.Pointwise
public import Idealize.ShloMosaic.Lib.WordCmp

/-! The arithmetic of the tenth call: the words it computes and one entry of a block it writes. -/

@[expose] public section

set_option maxRecDepth 16384

noncomputable section

open Idealize.ShloMosaic Idealize.ShloMosaic.TcCoe Idealize.SL.Sem
open Idealize.ShloMosaic.Pipeline (Dat)

namespace Cert.Write

open Cert.KernelIdeal Cert.KernelIdeal.Gen

/-! ### Words -/

/-- Twice the remainder of a position by 64, as the kernel computes it. -/
theorem mod_word : ∀ a b : Fin 64,
    IntOp.muli (2#32)
      (Scalar.select
        (IntOp.andi
          (IntOp.xori
            (IntOp.cmpi CmpIPredicate.slt
              (IntOp.remsi ArithUnit.vector (BitVec.ofNat 32 (a.val * 64 + b.val))
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 (a.val * 64 + b.val))
              (Scalar.select (Scalar.cmpi CmpIPredicate.eq 64#32 0#32) 1#32 64#32))
            0#32))
        (IntOp.addi
          (IntOp.remsi ArithUnit.vector (BitVec.ofNat 32 (a.val * 64 + b.val))
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 (a.val * 64 + b.val))
          (Scalar.select (Scalar.cmpi CmpIPredicate.eq 64#32 0#32) 1#32 64#32))) =
    BitVec.ofNat 32 (2 * b.val) := by decide +kernel

/-- The quotient of a position by 64, as the kernel computes it. -/
theorem div_word : ∀ a b : Fin 64,
    Scalar.select
      (IntOp.andi
        (IntOp.cmpi CmpIPredicate.ne
          (IntOp.subi (BitVec.setWidth 32 (IntOp.cmpi CmpIPredicate.sgt (BitVec.ofNat 32 (a.val * 64 + b.val)) 0#32))
            (BitVec.setWidth 32 (IntOp.cmpi CmpIPredicate.slt (BitVec.ofNat 32 (a.val * 64 + b.val)) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 (a.val * 64 + b.val)) 64#32) 0#32))
      (IntOp.subi (IntOp.divsi ArithUnit.vector (BitVec.ofNat 32 (a.val * 64 + b.val)) 64#32) 1#32)
      (IntOp.divsi ArithUnit.vector (BitVec.ofNat 32 (a.val * 64 + b.val)) 64#32)
      = BitVec.ofNat 32 a.val := by decide +kernel

/-- Whether a position of a part is a given position of the map. -/
theorem here_word (y P J : ℕ) (hy : y < 2048) (hP : P < 16384) (hJ : J < 8) :
    (FloatOps.sitofp .f32 (BitVec.setWidth 32 (IntOp.cmpi CmpIPredicate.eq (BitVec.ofNat 32 y)
      (IntOp.subi (BitVec.ofNat 32 P) (BitVec.ofNat 32 (J * 2048))))) : Ideal .f32) = if J * 2048 + y = P then (1 : EReal) else 0 := by
  have e : (BitVec.ofNat 32 y = BitVec.ofNat 32 P - BitVec.ofNat 32 (J * 2048)) ↔ J * 2048 + y = P := by
    rw [← BitVec.toNat_inj, BitVec.toNat_sub, BitVec.toNat_ofNat, BitVec.toNat_ofNat, BitVec.toNat_ofNat]
    omega
  show (((BitVec.setWidth 32 (BitVec.ofBool (BitVec.ofNat 32 y == BitVec.ofNat 32 P - BitVec.ofNat 32 (J * 2048)))).toInt : ℝ) : EReal) = _
  by_cases h : J * 2048 + y = P
  · rw [if_pos h, beq_iff_eq.mpr (e.mpr h)]; simp
  · rw [if_neg h, beq_eq_false_iff_ne.mpr (fun q => h (e.mp q))]; simp

/-! ### What one block holds -/

section block
variable (w : IVec S1x1x128 32) (π : Fin 128 → Fin 4096) (hw : ∀ p, w (ix3 0 0 p) = BitVec.ofNat 32 (π p))
include hw

theorem twice_at (p : Fin 128) : k9_pay3 (F := Ideal) w (ix2 0 p) = BitVec.ofNat 32 (2 * ((π p).val % 64)) := by
  pointwise [k9_pay3, k9_pay2]
  rw [hw p]
  have h := mod_word ⟨(π p).val / 64, by have := (π p).isLt; omega⟩ ⟨(π p).val % 64, Nat.mod_lt _ (by decide)⟩
  dsimp only at h
  rw [show (π p).val / 64 * 64 + (π p).val % 64 = (π p).val by omega] at h
  exact h

theorem quot_at (p : Fin 128) :
    Scalar.select (k9_pay5 (F := Ideal) w (ix2 0 p)) (IntOp.subi (k9_pay4 (F := Ideal) w (ix2 0 p)) 1#32) (k9_pay4 (F := Ideal) w (ix2 0 p))
      = BitVec.ofNat 32 ((π p).val / 64) := by
  pointwise [k9_pay5, k9_pay4, k9_pay2]
  rw [hw p]
  have h := div_word ⟨(π p).val / 64, by have := (π p).isLt; omega⟩ ⟨(π p).val % 64, Nat.mod_lt _ (by decide)⟩
  dsimp only at h
  rw [show (π p).val / 64 * 64 + (π p).val % 64 = (π p).val by omega] at h
  exact h

/-- The position that a picked position is written to, as a word. -/
theorem place_at (p : Fin 128) :
    IntOp.addi (k9_pay3 (F := Ideal) w (ix2 0 p)) (IntOp.muli (256#32)
      (Scalar.select (k9_pay5 (F := Ideal) w (ix2 0 p)) (IntOp.subi (k9_pay4 (F := Ideal) w (ix2 0 p)) 1#32) (k9_pay4 (F := Ideal) w (ix2 0 p))))
      = BitVec.ofNat 32 (Fuse.place (π p)).val := by
  rw [quot_at w π hw, twice_at w π hw]
  have := (π p).isLt
  apply BitVec.eq_of_toNat_eq
  show (BitVec.ofNat 32 _ + 256#32 * BitVec.ofNat 32 _).toNat = _
  simp only [BitVec.toNat_add, BitVec.toNat_mul, BitVec.toNat_ofNat, Fuse.place]
  omega

/-- One entry of a block. -/
theorem pay9_at (J : ℕ) (hJ : J < 8) (o l : FVec Ideal S1x192x128 .f32) (x : FVec Ideal S1x192x2048 .f32) (k : Fin 192) (y : Fin 2048) :
    (k9_pay1 (F := Ideal) (BitVec.ofNat 32 J) (k9_pay3 (F := Ideal) w) (k9_pay4 (F := Ideal) w) (k9_pay5 (F := Ideal) w) 1#32 o l x (ix3 0 k y) : EReal)
      = x (ix3 0 k y) * (1 - ∑ p : Fin 128, if J * 2048 + y.val = (Fuse.place (π p)).val then (1 : EReal) else 0)
        + ∑ p : Fin 128, (o (ix3 0 k p) + l (ix3 0 k p)) * if J * 2048 + y.val = (Fuse.place (π p)).val then (1 : EReal) else 0 := by
  pointwise [k9_pay1]
  have e : Scalar.muli (BitVec.ofNat 32 J) 2048#32 = BitVec.ofNat 32 (J * 2048) := by
    apply BitVec.eq_of_toNat_eq
    show (BitVec.ofNat 32 J * 2048#32).toNat = _
    simp only [BitVec.toNat_mul, BitVec.toNat_ofNat]
    omega
  simp only [e, place_at w π hw, here_word y.val _ J y.isLt (Fuse.place _).isLt hJ]

/-- An entry that no picked position lies at. -/
theorem off_at (J : ℕ) (hJ : J < 8) (o l : FVec Ideal S1x192x128 .f32) (x : FVec Ideal S1x192x2048 .f32) (k : Fin 192) (y : Fin 2048)
    (h : ∀ p, (Fuse.place (π p)).val ≠ J * 2048 + y.val) :
    (k9_pay1 (F := Ideal) (BitVec.ofNat 32 J) (k9_pay3 (F := Ideal) w) (k9_pay4 (F := Ideal) w) (k9_pay5 (F := Ideal) w) 1#32 o l x (ix3 0 k y) : EReal)
      = x (ix3 0 k y) := by
  rw [pay9_at w π hw J hJ]
  rw [Finset.sum_eq_zero (fun p _ => if_neg (Ne.symm (h p))),
    Finset.sum_eq_zero (fun p _ => by rw [if_neg (Ne.symm (h p)), mul_zero]), sub_zero, mul_one, add_zero]

/-- An entry that a picked position lies at. -/
theorem on_at (J : ℕ) (hJ : J < 8) (o l : FVec Ideal S1x192x128 .f32) (x : FVec Ideal S1x192x2048 .f32) (k : Fin 192) (y : Fin 2048)
    (p : Fin 128) (h : (Fuse.place (π p)).val = J * 2048 + y.val) (hi : ∀ r, Fuse.place (π r) = Fuse.place (π p) → r = p) :
    (k9_pay1 (F := Ideal) (BitVec.ofNat 32 J) (k9_pay3 (F := Ideal) w) (k9_pay4 (F := Ideal) w) (k9_pay5 (F := Ideal) w) 1#32 o l x (ix3 0 k y) : EReal)
      = o (ix3 0 k p) + l (ix3 0 k p) := by
  rw [pay9_at w π hw J hJ, ← h]
  have e : ∀ r, ((Fuse.place (π p)).val = (Fuse.place (π r)).val) ↔ r = p :=
    fun r => ⟨fun q => hi r (Fin.ext q.symm), fun q => by rw [q]⟩
  simp only [e]
  rw [Finset.sum_ite_eq' Finset.univ p (fun _ => (1 : EReal)), if_pos (Finset.mem_univ _),
    Finset.sum_eq_single p (fun r _ hr => by rw [if_neg hr, mul_zero]) (fun q => absurd (Finset.mem_univ _) q), if_pos rfl, mul_one,
    show (1 : EReal) - 1 = 0 from by rw [← EReal.coe_one, ← EReal.coe_sub, sub_self, EReal.coe_zero], mul_zero, zero_add]

end block

end Cert.Write

end

end
-- ==== Proof.WriteCall.lean ====
module

public import proofs.«01_k».proof.Proof.Gen.KernelIdeal.Frame.Region9
public import proofs.«01_k».proof.Proof.WriteMath
public import Idealize.ShloMosaic.Lib.Pipeline.ValueKit
public import Idealize.ShloMosaic.Lib.Pointwise
public import Idealize.ShloMosaic.Lib.WordCmp

/-! The tenth call: it writes the fused features into the low-level map at the picked positions. -/

@[expose] public section

set_option maxRecDepth 16384

noncomputable section

open Idealize.ShloMosaic Idealize.ShloMosaic.TcCoe Idealize.SL.Sem
open Idealize.ShloMosaic.Pipeline (Dat)

namespace Cert.Write

open Cert.KernelIdeal Cert.KernelIdeal.Gen

variable (V : (c : Dev nD) → (b : Ref sig .tc) → Buf (Elt Ideal) ((c : Thread nD τ).loc b))

/-- Where the blocks of the tenth call lie. -/
theorem idx9 : ∀ t : Fin cfg9.N, win9_0.index t = ![t.val / 8, 0, t.val % 8] ∧ win9_1.index t = ![t.val / 8, 0, 0]
    ∧ win9_2.index t = ![t.val / 8, 0, 0] ∧ win9_3.index t = ![t.val / 8, 0, 0] ∧ win9_4.index t = ![t.val / 8, 0, t.val % 8] :=
  (by decide +kernel : ∀ t : Fin grid9.N, _)

/-- The part of the map a grid point works on. -/
theorem part9 : ∀ t : Fin cfg9.N, (grid9.coords t 1).val = t.val % 8 :=
  (by decide +kernel : ∀ t : Fin grid9.N, _)

/-- The image a grid point of the tenth call works on. -/
def img9 (t : Fin cfg9.N) : Fin 8 := ⟨t.val / 8, by have := lt_of_lt_of_eq t.isLt N_9; omega⟩
/-- The part of the map that a position lies in. -/
def part (y : Fin 16384) : Fin 8 := ⟨y.val / 2048, by omega⟩
/-- The position within its part. -/
def rest (y : Fin 16384) : Fin 2048 := ⟨y.val % 2048, Nat.mod_lt _ (by decide)⟩
/-- A position of a part as a position of the map. -/
def whole (j : Fin 8) (y : Fin 2048) : Fin 16384 := ⟨j.val * 2048 + y.val, by omega⟩
theorem part_whole (j : Fin 8) (y : Fin 2048) : part (whole j y) = j := Fin.ext (by show (j.val * 2048 + y.val) / 2048 = _; omega)
theorem rest_whole (j : Fin 8) (y : Fin 2048) : rest (whole j y) = y := Fin.ext (by show (j.val * 2048 + y.val) % 2048 = _; omega)
theorem whole_part (y : Fin 16384) : whole (part y) (rest y) = y := Fin.ext (by show y.val / 2048 * 2048 + y.val % 2048 = _; omega)
/-- The part a grid point works on. -/
def par9 (t : Fin cfg9.N) : Fin 8 := ⟨t.val % 8, Nat.mod_lt _ (by decide)⟩

theorem iblk9_0 (c : Dev nD) (t : Fin cfg9.N) :
    iblk9 V c 0 t = fun y : S1x192x2048.Idx => V c main_v1 (ix3 (img9 t) (y 1) (whole (par9 t) (y 2))) := by
  funext y
  blk_ext [iblk9, idx9 t, img9, whole, par9]
theorem iblk9_1 (c : Dev nD) (t : Fin cfg9.N) :
    iblk9 V c 1 t = fun y : S1x192x128.Idx => V c main_v59 (ix3 (img9 t) (y 1) (y 2)) := by
  funext y
  blk_ext [iblk9, idx9 t, img9]
theorem iblk9_2 (c : Dev nD) (t : Fin cfg9.N) :
    iblk9 V c 2 t = fun y : S1x192x128.Idx => V c main_v52_1 (ix3 (img9 t) (y 1) (y 2)) := by
  funext y
  blk_ext [iblk9, idx9 t, img9]
theorem iblk9_3 (c : Dev nD) (t : Fin cfg9.N) :
    iblk9 V c 3 t = fun y : S1x1x128.Idx => V c main_v51 (ix3 (img9 t) (y 1) (y 2)) := by
  funext y
  blk_ext [iblk9, idx9 t, img9]
theorem emb9 (t : Fin cfg9.N) (y : S1x192x2048.Idx) :
    ((cfg9.win 4).blk t).view.emb y = ix3 (img9 t) (y 1) (whole (par9 t) (y 2)) := by
  blk_ext [idx9 t, img9, whole, par9]

/-- One entry of an image's result, from the image's operands. -/
def entry (X : FVec Ideal S8x192x16384 .f32) (o l : FVec Ideal S8x192x128 .f32) (w : IVec S8x1x128 32) (n : Fin 8) (j : Fin 8)
    (y : S1x192x2048.Idx) : Ideal .f32 :=
  k9_pay1 (F := Ideal) (BitVec.ofNat 32 j.val) (k9_pay3 (F := Ideal) fun y : S1x1x128.Idx => w (ix3 n (y 1) (y 2)))
    (k9_pay4 (F := Ideal) fun y : S1x1x128.Idx => w (ix3 n (y 1) (y 2))) (k9_pay5 (F := Ideal) fun y : S1x1x128.Idx => w (ix3 n (y 1) (y 2))) 1#32
    (fun y : S1x192x128.Idx => o (ix3 n (y 1) (y 2))) (fun y : S1x192x128.Idx => l (ix3 n (y 1) (y 2)))
    (fun y : S1x192x2048.Idx => X (ix3 n (y 1) (whole j (y 2)))) y

/-- The tenth call's result array, from its operands. -/
def written (X : FVec Ideal S8x192x16384 .f32) (o l : FVec Ideal S8x192x128 .f32) (w : IVec S8x1x128 32) : FVec Ideal S8x192x16384 .f32 :=
  fun i => entry X o l w (i 0) (part (i 2)) (ix3 0 (i 1) (rest (i 2)))

theorem written_whole (X : FVec Ideal S8x192x16384 .f32) (o l : FVec Ideal S8x192x128 .f32) (w : IVec S8x1x128 32) (n : Fin 8) (j : Fin 8)
    (y : S1x192x2048.Idx) : written X o l w (ix3 n (y 1) (whole j (y 2))) = entry X o l w n j y := by
  have h1 : part (whole j (y 2)) = j := part_whole j (y 2)
  have h2 : (ix3 0 (y 1) (rest (whole j (y 2))) : S1x192x2048.Idx) = y :=
    (congrArg (fun r => (ix3 0 (y 1) r : S1x192x2048.Idx)) (rest_whole j (y 2))).trans (by idx_ext)
  exact congrArg₂ (fun a b => entry X o l w n a b) h1 h2

/-- The block a grid point writes. -/
theorem out9_at (i : grid9.Coords) (J : ℕ) (hJ : (i 1).val = J) (x0 : FVec Ideal S1x192x2048 .f32) (x1 x2 : FVec Ideal S1x192x128 .f32)
    (x3 : IVec S1x1x128 32) (y : S1x192x2048.Idx) :
    out9_4 (F := Ideal) i x0 x1 x2 x3 y
      = k9_pay1 (F := Ideal) (BitVec.ofNat 32 J) (k9_pay3 (F := Ideal) x3) (k9_pay4 (F := Ideal) x3) (k9_pay5 (F := Ideal) x3) 1#32 x1 x2 x0 y := by
  rw [show y = ix3 0 (y 1) (y 2) by idx_ext]
  subst hJ
  frame_out

/-- The tenth call's result array. -/
theorem final9 (c : Dev nD) : (dat9 V c).arrAt 4 cfg9.N = written (V c main_v1) (V c main_v59) (V c main_v52_1) (V c main_v51) := by
  refine (dat9 V c).arrAt_eq_of_covers 4 _ (by decide +kernel) fun t _ y => ?_
  blk_simp
  rw [after9_4, iblk9_0, iblk9_1, iblk9_2, iblk9_3]
  refine (out9_at (grid9.coords t) (par9 t).val (part9 t) _ _ _ _ y).trans ?_
  rw [emb9 t y]
  exact (written_whole (V c main_v1) (V c main_v59) (V c main_v52_1) (V c main_v51) (img9 t) (par9 t) y).symm

/-- The result away from the places of an image's picked positions. -/
theorem written_off (X : FVec Ideal S8x192x16384 .f32) (o l : FVec Ideal S8x192x128 .f32) (w : IVec S8x1x128 32) (n : Fin 8)
    (π : Fin 128 → Fin 4096) (hw : ∀ p, w (ix3 n 0 p) = BitVec.ofNat 32 (π p)) (k : Fin 192) (y : Fin 16384)
    (h : ∀ p, Fuse.place (π p) ≠ y) : (written X o l w (ix3 n k y) : EReal) = X (ix3 n k y) := by
  refine (off_at (fun z : S1x1x128.Idx => w (ix3 n (z 1) (z 2))) π hw (part y).val (part y).isLt _ _ _ k (rest y)
    (fun p q => h p (Fin.ext (q.trans (congrArg Fin.val (whole_part y)))))).trans ?_
  show X (ix3 n k (whole (part y) (rest y))) = _
  rw [whole_part]

/-- The result at the place of a picked position. -/
theorem written_on (X : FVec Ideal S8x192x16384 .f32) (o l : FVec Ideal S8x192x128 .f32) (w : IVec S8x1x128 32) (n : Fin 8)
    (π : Fin 128 → Fin 4096) (hw : ∀ p, w (ix3 n 0 p) = BitVec.ofNat 32 (π p)) (k : Fin 192) (p : Fin 128)
    (hi : ∀ r, Fuse.place (π r) = Fuse.place (π p) → r = p) :
    (written X o l w (ix3 n k (Fuse.place (π p))) : EReal) = o (ix3 n k p) + l (ix3 n k p) :=
  on_at (fun z : S1x1x128.Idx => w (ix3 n (z 1) (z 2))) π hw (part (Fuse.place (π p))).val (part _).isLt _ _ _ k
    (rest (Fuse.place (π p))) p (congrArg Fin.val (whole_part (Fuse.place (π p)))).symm hi

end Cert.Write

end

end
-- ==== Proof.FuseValue.lean ====
module

public import proofs.«01_k».proof.Proof.KernelValue
public import proofs.«01_k».proof.Proof.FuseHost
public import proofs.«01_k».proof.Proof.TopCall
public import proofs.«01_k».proof.Proof.PoolCall
public import proofs.«01_k».proof.Proof.SampleCall
public import proofs.«01_k».proof.Proof.AttnCall
public import proofs.«01_k».proof.Proof.WriteCall

/-! The kernel's fused map: its last calls and host operations put together. -/

@[expose] public section

set_option maxRecDepth 16384

noncomputable section

open Idealize.ShloMosaic Idealize.ShloMosaic.TcCoe Idealize.SL.Sem

namespace Cert.Whole

open Cert.KernelIdeal Cert.KernelIdeal.Gen Cert.Tables Cert.Host

variable (m : (ℓ : Loc nD τ sig) → Buf (Elt Ideal) ℓ) (ρ : Dev nD → PrngReg) (c : Dev nD)

/-- The middle row of the last convolution's weights. -/
def wg (o k : Fin 192) (s : Fin 3) : EReal := (m ((c : Thread nD τ).loc main_arg12) : S192x192x3x3.Idx → EReal) (ix4 o k 1 s)
/-- The last convolution's bias. -/
def bg (o : Fin 192) : EReal := (m ((c : Thread nD τ).loc main_arg13) : S192.Idx → EReal) (ix1 o)

/-- A buffer of the first line, at the eighth call. -/
theorem line15 (r : Ref sig .tc) (h1 : r ∉ hostOps0_1_W) (h2 : r ∉ hostOps0_2_W) (h3 : r ∉ hostOps0_3_W) (h4 : r ∉ hostOps0_4_W)
    (h5 : ∀ w : Fin cfg0.W, Pipeline.arrRef spec0 w = r → (cfg0.win w).isOut = false)
    (h6 : ∀ w : Fin cfg1.W, Pipeline.arrRef spec1 w = r → (cfg1.win w).isOut = false)
    (h7 : ∀ w : Fin cfg2.W, Pipeline.arrRef spec2 w = r → (cfg2.win w).isOut = false) (h8 : r ∉ hostOps3_W)
    (h9 : ∀ w : Fin cfg3.W, Pipeline.arrRef spec3 w = r → (cfg3.win w).isOut = false)
    (h10 : ∀ w : Fin cfg4.W, Pipeline.arrRef spec4 w = r → (cfg4.win w).isOut = false)
    (h11 : ∀ w : Fin cfg5.W, Pipeline.arrRef spec5 w = r → (cfg5.win w).isOut = false) (h12 : r ∉ hostOps6_W)
    (h13 : ∀ w : Fin cfg6.W, Pipeline.arrRef spec6 w = r → (cfg6.win w).isOut = false) (h14 : r ∉ hostOps7_W) :
    W15 m ρ c (Proc.devRef .tc r) = W1 m ρ c (Proc.devRef .tc r) :=
  (W15_of m ρ c r h14).trans ((W14_of m ρ c r h13).trans ((W13_of m ρ c r h12).trans ((W12_of m ρ c r h11).trans
    (line11 m ρ c r h1 h2 h3 h4 h5 h6 h7 h8 h9 h10))))

/-- The picked positions, as the seventh call leaves them. -/
theorem picked14 (n : Fin 8) (p : Fin 128) :
    (W14 m ρ c (Proc.devRef .tc main_v50) : S8x128.Idx → BitVec 32) (ix2 n p) = BitVec.ofNat 32 (Fuse.top (args m c) n p) := by
  rw [show W14 m ρ c (Proc.devRef .tc main_v50) = _ from (W14_arr m ρ c 1).trans (Top.final6 (V13 m ρ) c)]
  have e : ∀ q : Fin 4096, (V13 m ρ c main_v49 : S8x4096.Idx → EReal) (ix2 n q) = Spec.out (args m c) n (Fuse.row q) (Fuse.col q) :=
    fun q => (v49_at (W12 m ρ c) n q).trans (edge12 m ρ c n 0 _ _)
  exact congrArg (fun v : Fin 4096 → EReal => BitVec.ofNat 32 (TopMath.sel v p.val).val) (funext e)

/-- The picked positions, as the eighth call reads them. -/
theorem idx15 (n : Fin 8) (p : Fin 128) :
    (V15 m ρ c main_v51 : S8x1x128.Idx → BitVec 32) (ix3 n 0 p) = BitVec.ofNat 32 (Fuse.top (args m c) n p) :=
  (v51_at (W14 m ρ c) n 0 p).trans (picked14 m ρ c n p)

/-- The mean map, as the third call leaves it. -/
theorem pool8 (n : Fin 8) (k : Fin 192) (i j : Fin 64) :
    (W8 m ρ c (Proc.devRef .tc main_v36_1) : S8x192x64x64.Idx → EReal) (ix4 n k i j) = Fuse.pool (args m c) n k i j := by
  rw [show W8 m ρ c (Proc.devRef .tc main_v36_1) = _ from (W8_arr m ρ c 11).trans (Pool.final2_11 (V7 m ρ) c)]
  refine Pool.pooled_at (args m c) _ _ ?_ ?_ n k i j
  · intro h i
    show (W7 m ρ c (Proc.devRef .tc main_cst_4) : S128x64.Idx → EReal) _ = _
    rw [line7 m ρ c main_cst_4 (by decide) (by decide) (by decide) (by decide) (by decide +kernel) (by decide +kernel)]
    exact Pool.cst_4_at (W0 m ρ c) h i
  · intro n k i j
    show (W7 m ρ c (Proc.devRef .tc main_v1) : S8x192x16384.Idx → EReal) _ = _
    rw [line7 m ρ c main_v1 (by decide) (by decide) (by decide) (by decide) (by decide +kernel) (by decide +kernel)]
    exact v1_at (W0 m ρ c) n k i j

/-- The mean map, as the eighth call reads it. -/
theorem pool15 (n : Fin 8) (k : Fin 192) (i j : Fin 64) :
    (V15 m ρ c main_v36_1 : S8x192x64x64.Idx → EReal) (ix4 n k i j) = Fuse.pool (args m c) n k i j := by
  show (W15 m ρ c (Proc.devRef .tc main_v36_1) : S8x192x64x64.Idx → EReal) _ = _
  rw [W15_of m ρ c main_v36_1 (by decide), W14_of m ρ c main_v36_1 (by decide +kernel), W13_of m ρ c main_v36_1 (by decide),
    W12_of m ρ c main_v36_1 (by decide +kernel), W11_of m ρ c main_v36_1 (by decide +kernel), W10_of m ρ c main_v36_1 (by decide +kernel),
    W9_of m ρ c main_v36_1 (by decide)]
  exact pool8 m ρ c n k i j

/-- The high-level features, as the eighth call reads them. -/
theorem xh15 (n : Fin 8) (k : Fin 192) (q : Fin 4096) :
    (V15 m ρ c main_v0 : S8x192x4096.Idx → EReal) (ix3 n k q) = (args m c).xh n k (Fuse.row q) (Fuse.col q) := by
  show (W15 m ρ c (Proc.devRef .tc main_v0) : S8x192x4096.Idx → EReal) _ = _
  rw [line15 m ρ c main_v0 (by decide) (by decide) (by decide) (by decide) (by decide +kernel) (by decide +kernel) (by decide +kernel) (by decide)
    (by decide +kernel) (by decide +kernel) (by decide +kernel) (by decide) (by decide +kernel) (by decide)]
  have e : q = ⟨(Fuse.row q).val * 64 + (Fuse.col q).val, by have := (Fuse.row q).isLt; have := (Fuse.col q).isLt; omega⟩ :=
    Fin.ext (by show q.val = q.val / 64 * 64 + q.val % 64; omega)
  refine (congrArg (fun r => (W1 m ρ c (Proc.devRef .tc main_v0) : S8x192x4096.Idx → EReal) (ix3 n k r)) e).trans ?_
  exact v0_at (W0 m ρ c) n k (Fuse.row q) (Fuse.col q)

/-- The last convolution's weights, as the eighth call reads them. -/
theorem wg15 (s : Fin 3) (o k : Fin 192) :
    (V15 m ρ c main_v15 : S3x192x192.Idx → EReal) (ix3 s o k) = wg m c o k s := by
  show (W15 m ρ c (Proc.devRef .tc main_v15) : S3x192x192.Idx → EReal) _ = _
  rw [line15 m ρ c main_v15 (by decide) (by decide) (by decide) (by decide) (by decide +kernel) (by decide +kernel) (by decide +kernel) (by decide)
    (by decide +kernel) (by decide +kernel) (by decide +kernel) (by decide) (by decide +kernel) (by decide)]
  exact v15_at (W0 m ρ c) s o k

/-- The last convolution's bias, as the eighth call reads it. -/
theorem bg15 (o : Fin 192) :
    (V15 m ρ c main_v16 : S192x1.Idx → EReal) (ix2 o 0) = bg m c o := by
  show (W15 m ρ c (Proc.devRef .tc main_v16) : S192x1.Idx → EReal) _ = _
  rw [line15 m ρ c main_v16 (by decide) (by decide) (by decide) (by decide) (by decide +kernel) (by decide +kernel) (by decide +kernel) (by decide)
    (by decide +kernel) (by decide +kernel) (by decide +kernel) (by decide) (by decide +kernel) (by decide)]
  exact v16_at (W0 m ρ c) o

/-- The picked high-level features. -/
theorem hi_eq (n : Fin 8) :
    (fun (k : Fin 192) (p : Fin 128) => (V15 m ρ c main_v0 : S8x192x4096.Idx → EReal) (ix3 n k (Fuse.top (args m c) n p))) = Fuse.hi (args m c) n :=
  funext fun k => funext fun p => xh15 m ρ c n k _

/-- The picked low-level features. -/
theorem lo_eq (n : Fin 8) :
    (fun (k : Fin 192) (p : Fin 128) => (V15 m ρ c main_v36_1 : S8x192x64x64.Idx → EReal)
      (ix4 n k (Fuse.row (Fuse.top (args m c) n p)) (Fuse.col (Fuse.top (args m c) n p)))) = Fuse.lo (args m c) n :=
  funext fun k => funext fun p => pool15 m ρ c n k _ _

/-- The eighth call's first result. -/
theorem hef16 (n : Fin 8) (k : Fin 192) (p : Fin 128) :
    (W16 m ρ c (Proc.devRef .tc main_v52_0) : S8x192x128.Idx → EReal) (ix3 n k p) = Fuse.hi (args m c) n k p := by
  rw [show W16 m ρ c (Proc.devRef .tc main_v52_0) = _ from (W16_arr m ρ c 5).trans (Sample.final7_5 (V15 m ρ) c)]
  exact (Sample.arr5_at _ _ _ _ _ n (Fuse.top (args m c) n) (idx15 m ρ c n) k p).trans (xh15 m ρ c n k _)

/-- The eighth call's second result. -/
theorem lef16 (n : Fin 8) (k : Fin 192) (p : Fin 128) :
    (W16 m ρ c (Proc.devRef .tc main_v52_1) : S8x192x128.Idx → EReal) (ix3 n k p) = Fuse.lo (args m c) n k p := by
  rw [show W16 m ρ c (Proc.devRef .tc main_v52_1) = _ from (W16_arr m ρ c 6).trans (Sample.final7_6 (V15 m ρ) c)]
  exact (Sample.arr6_at _ _ _ _ _ n (Fuse.top (args m c) n) (idx15 m ρ c n) k p).trans (pool15 m ρ c n k _ _)

/-- The eighth call's third result. -/
theorem prob16 (n : Fin 8) (i j : Fin 192) :
    (W16 m ρ c (Proc.devRef .tc main_v52_2) : S8x192x192.Idx → EReal) (ix3 n i j) = Fuse.prob (Fuse.hi (args m c) n) (Fuse.lo (args m c) n) i j := by
  rw [show W16 m ρ c (Proc.devRef .tc main_v52_2) = _ from (W16_arr m ρ c 7).trans (Sample.final7_7 (V15 m ρ) c)]
  refine (Sample.arr7_at _ _ _ _ _ n (Fuse.top (args m c) n) (idx15 m ρ c n) i j).trans ?_
  rw [hi_eq, lo_eq]

/-- The eighth call's fourth result. -/
theorem lepe16 (n : Fin 8) (o : Fin 192) (p : Fin 128) :
    (W16 m ρ c (Proc.devRef .tc main_v52_3) : S8x192x128.Idx → EReal) (ix3 n o p) = Fuse.lepe (Fuse.hi (args m c) n) (wg m c) (bg m c) o p := by
  rw [show W16 m ρ c (Proc.devRef .tc main_v52_3) = _ from (W16_arr m ρ c 8).trans (Sample.final7_8 (V15 m ρ) c)]
  refine (Sample.arr8_at _ _ _ _ _ n (Fuse.top (args m c) n) (idx15 m ρ c n) (wg m c) (bg m c) (bg15 m ρ c) (wg15 m ρ c) o p).trans ?_
  rw [hi_eq]

/-- The ninth call's result. -/
theorem attn18 (n : Fin 8) (k : Fin 192) (p : Fin 128) :
    (W18 m ρ c (Proc.devRef .tc main_v57) : S8x192x128.Idx → EReal) (ix3 n k p)
      = Fuse.attn (Fuse.hi (args m c) n) (Fuse.lo (args m c) n) (wg m c) (bg m c) k p := by
  rw [show W18 m ρ c (Proc.devRef .tc main_v57) = _ from (W18_arr m ρ c 3).trans (Attn.final8 (V17 m ρ) c)]
  refine (Attn.attended_at _ _ _ n k p).trans ?_
  have e1 : ∀ j, (V17 m ρ c main_v52_2 : S8x192x192.Idx → EReal) (ix3 n k j) = Fuse.prob (Fuse.hi (args m c) n) (Fuse.lo (args m c) n) k j := by
    intro j
    show (W17 m ρ c (Proc.devRef .tc main_v52_2) : S8x192x192.Idx → EReal) _ = _
    rw [W17_of m ρ c main_v52_2 (by decide)]
    exact prob16 m ρ c n k j
  have e2 : ∀ j, (V17 m ρ c main_v54 : S8x192x128.Idx → EReal) (ix3 n j p) = Fuse.spread (Fuse.hi (args m c) n) j p := by
    intro j
    refine (v54_at (W16 m ρ c) n j p).trans ?_
    exact hef16 m ρ c n _ _
  have e3 : (V17 m ρ c main_v56 : S8x192x128.Idx → EReal) (ix3 n k p)
      = Fuse.spread (Fuse.lepe (Fuse.hi (args m c) n) (wg m c) (bg m c)) k p := by
    refine (v56_at (W16 m ρ c) n k p).trans ?_
    exact lepe16 m ρ c n _ _
  rw [e3]
  simp only [e1, e2]
  rfl

/-- The back-ordered features, as the last call reads them. -/
theorem o19 (n : Fin 8) (k : Fin 192) (p : Fin 128) :
    (V19 m ρ c main_v59 : S8x192x128.Idx → EReal) (ix3 n k p)
      = Fuse.gather (Fuse.attn (Fuse.hi (args m c) n) (Fuse.lo (args m c) n) (wg m c) (bg m c)) k p :=
  (v59_at (W18 m ρ c) n k p).trans (attn18 m ρ c n _ _)

theorem l19 (n : Fin 8) (k : Fin 192) (p : Fin 128) :
    (V19 m ρ c main_v52_1 : S8x192x128.Idx → EReal) (ix3 n k p) = Fuse.lo (args m c) n k p := by
  show (W19 m ρ c (Proc.devRef .tc main_v52_1) : S8x192x128.Idx → EReal) _ = _
  rw [W19_of m ρ c main_v52_1 (by decide), W18_of m ρ c main_v52_1 (by decide +kernel), W17_of m ρ c main_v52_1 (by decide)]
  exact lef16 m ρ c n k p

theorem w19 (n : Fin 8) (p : Fin 128) :
    (V19 m ρ c main_v51 : S8x1x128.Idx → BitVec 32) (ix3 n 0 p) = BitVec.ofNat 32 (Fuse.top (args m c) n p) := by
  show (W19 m ρ c (Proc.devRef .tc main_v51) : S8x1x128.Idx → BitVec 32) _ = _
  rw [W19_of m ρ c main_v51 (by decide), W18_of m ρ c main_v51 (by decide +kernel), W17_of m ρ c main_v51 (by decide),
    W16_of m ρ c main_v51 (by decide +kernel)]
  exact idx15 m ρ c n p

theorem x19 (n : Fin 8) (k : Fin 192) (y : Fin 16384) :
    (V19 m ρ c main_v1 : S8x192x16384.Idx → EReal) (ix3 n k y)
      = (args m c).xl n k ⟨y.val / 128, by omega⟩ ⟨y.val % 128, Nat.mod_lt _ (by decide)⟩ := by
  show (W19 m ρ c (Proc.devRef .tc main_v1) : S8x192x16384.Idx → EReal) _ = _
  rw [W19_of m ρ c main_v1 (by decide), W18_of m ρ c main_v1 (by decide +kernel), W17_of m ρ c main_v1 (by decide),
    W16_of m ρ c main_v1 (by decide +kernel),
    line15 m ρ c main_v1 (by decide) (by decide) (by decide) (by decide) (by decide +kernel) (by decide +kernel) (by decide +kernel) (by decide)
    (by decide +kernel) (by decide +kernel) (by decide +kernel) (by decide) (by decide +kernel) (by decide)]
  have e : y = ⟨y.val / 128 * 128 + y.val % 128, by omega⟩ := Fin.ext (by show y.val = y.val / 128 * 128 + y.val % 128; omega)
  refine (congrArg (fun r => (W1 m ρ c (Proc.devRef .tc main_v1) : S8x192x16384.Idx → EReal) (ix3 n k r)) e).trans ?_
  exact v1_at (W0 m ρ c) n k ⟨y.val / 128, by omega⟩ ⟨y.val % 128, Nat.mod_lt _ (by decide)⟩

/-- The kernel's fused map at the end of its run. -/
theorem fused21 (ha : ∀ n i j, Spec.out (args m c) n i j ≠ ⊥) (n : Fin 8) (k : Fin 192) (i j : Fin 128) :
    (W21 m ρ c (Proc.devRef .tc main_v61) : S8x192x128x128.Idx → EReal) (ix4 n k i j)
      = Fuse.fin (args m c) (wg m c) (bg m c) n k ⟨i.val * 128 + j.val, by omega⟩ := by
  refine (v61_at (W20 m ρ c) n k i j).trans ?_
  rw [show W20 m ρ c (Proc.devRef .tc main_v60) = _ from (W20_arr m ρ c 4).trans (Write.final9 (V19 m ρ) c)]
  generalize (⟨i.val * 128 + j.val, by omega⟩ : Fin 16384) = y
  by_cases h : ∃ p, Fuse.place (Fuse.top (args m c) n p) = y
  · obtain ⟨p, rfl⟩ := h
    rw [Fuse.fin_place _ _ _ ha]
    refine (Write.written_on _ _ _ _ n (Fuse.top (args m c) n) (w19 m ρ c n) k p (fun r e => Fuse.top_inj _ ha n e)).trans ?_
    exact congrArg₂ (· + ·) (o19 m ρ c n k p) (l19 m ρ c n k p)
  · have h' : ∀ p, Fuse.place (Fuse.top (args m c) n p) ≠ y := fun p e => h ⟨p, e⟩
    rw [Fuse.fin_off _ _ _ n k y h']
    exact (Write.written_off _ _ _ _ n (Fuse.top (args m c) n) (w19 m ρ c n) k y h').trans (x19 m ρ c n k y)

end Cert.Whole

end

end
-- ==== Proof.RefGather.lean ====
module

public import proofs.«01_k».proof.Proof.Gen.ReferenceIdeal.Read
public import proofs.«01_k».proof.Proof.Host

/-! Rows and columns of a rank-4 array picked by a list of positions, and the positions the reference picks by. -/

@[expose] public section

set_option maxRecDepth 16384

noncomputable section

namespace Cert.Ref

open Idealize.ShloMosaic Idealize.SL.Sem
open Cert.Tables

section pick
variable {α : Type} {A B N D M : ℕ}

/-- Picking along the third axis. -/
abbrev rowDims (A B N D M : ℕ)
    (wf : GatherDims.WF ⟨4, ![A, B, N, D]⟩ ⟨2, ![M, 1]⟩ ⟨4, ![A, B, M, D]⟩ [0, 1, 3] [2] [] [2] [] 1 ![A, B, 1, D]) :
    GatherDims ⟨4, ![A, B, N, D]⟩ ⟨2, ![M, 1]⟩ ⟨4, ![A, B, M, D]⟩ where
  offsetDims := [0, 1, 3]
  collapsedSliceDims := [2]
  operandBatchingDims := []
  startIndicesBatchingDims := []
  startIndexMap := [2]
  indexVectorDim := 1
  sliceSizes := ![A, B, 1, D]
  wf := wf

/-- Picking along the fourth axis. -/
abbrev colDims (A B N D M : ℕ)
    (wf : GatherDims.WF ⟨4, ![A, B, D, N]⟩ ⟨2, ![M, 1]⟩ ⟨4, ![A, B, D, M]⟩ [0, 1, 2] [3] [] [3] [] 1 ![A, B, D, 1]) :
    GatherDims ⟨4, ![A, B, D, N]⟩ ⟨2, ![M, 1]⟩ ⟨4, ![A, B, D, M]⟩ where
  offsetDims := [0, 1, 2]
  collapsedSliceDims := [3]
  operandBatchingDims := []
  startIndicesBatchingDims := []
  startIndexMap := [3]
  indexVectorDim := 1
  sliceSizes := ![A, B, D, 1]
  wf := wf

theorem row_at
    (wf : GatherDims.WF ⟨4, ![A, B, N, D]⟩ ⟨2, ![M, 1]⟩ ⟨4, ![A, B, M, D]⟩ [0, 1, 3] [2] [] [2] [] 1 ![A, B, 1, D])
    (x : (⟨4, ![A, B, N, D]⟩ : Shape).Idx → α) (idx : IVec ⟨2, ![M, 1]⟩ 32) (k : Fin N)
    (a : Fin A) (b : Fin B) (i : Fin M) (d : Fin D) (h : (idx (ix2 i 0)).toInt.toNat = k) :
    Host.gather (rowDims A B N D M wf) x idx (ix4 a b i d) = x (ix4 a b k d) := by
  unfold Host.gather
  congr 1
  funext q
  refine Fin.ext ?_
  show (rowDims A B N D M wf).start (ix4 a b i d) idx q + (rowDims A B N D M wf).batchCoord (ix4 a b i d) q
    + (rowDims A B N D M wf).offCoord (ix4 a b i d) q = _
  rw [GatherDims.batchCoord_eq_zero _ _ _ List.not_mem_nil, Nat.add_zero]
  match q with
  | ⟨0, _⟩ =>
    unfold GatherDims.start
    rw [dif_neg (by simp), Nat.zero_add]
    rfl
  | ⟨1, _⟩ =>
    unfold GatherDims.start
    rw [dif_neg (by simp), Nat.zero_add]
    rfl
  | ⟨2, _⟩ =>
    show (rowDims A B N D M wf).start (ix4 a b i d) idx (2 : Fin 4) + (rowDims A B N D M wf).offCoord (ix4 a b i d) (2 : Fin 4) = _
    rw [GatherDims.offCoord_eq_zero _ _ _ (fun h => ((GatherDims.mem_sKept _ _).mp h).1 (List.mem_singleton.mpr rfl))]
    unfold GatherDims.start
    rw [dif_pos (show (2 : Fin 4) ∈ (rowDims A B N D M wf).startIndexMap from List.mem_singleton.mpr rfl)]
    have hs : (rowDims A B N D M wf).siIdx (ix4 a b i d) ⟨List.idxOf (2 : Fin 4) (rowDims A B N D M wf).startIndexMap,
        List.idxOf_lt_length_iff.2 (List.mem_singleton.mpr rfl)⟩ = ix2 i 0 := by
      funext b; refine Fin.ext ?_
      match b with
      | ⟨0, _⟩ => rfl
      | ⟨1, _⟩ => rfl
    have hk := k.isLt
    show min (idx _).toInt.toNat (N - 1) + 0 = (k : ℕ)
    rw [hs, h]
    omega
  | ⟨3, _⟩ =>
    unfold GatherDims.start
    rw [dif_neg (by simp), Nat.zero_add]
    rfl

theorem col_at
    (wf : GatherDims.WF ⟨4, ![A, B, D, N]⟩ ⟨2, ![M, 1]⟩ ⟨4, ![A, B, D, M]⟩ [0, 1, 2] [3] [] [3] [] 1 ![A, B, D, 1])
    (x : (⟨4, ![A, B, D, N]⟩ : Shape).Idx → α) (idx : IVec ⟨2, ![M, 1]⟩ 32) (k : Fin N)
    (a : Fin A) (b : Fin B) (d : Fin D) (i : Fin M) (h : (idx (ix2 i 0)).toInt.toNat = k) :
    Host.gather (colDims A B N D M wf) x idx (ix4 a b d i) = x (ix4 a b d k) := by
  unfold Host.gather
  congr 1
  funext q
  refine Fin.ext ?_
  show (colDims A B N D M wf).start (ix4 a b d i) idx q + (colDims A B N D M wf).batchCoord (ix4 a b d i) q
    + (colDims A B N D M wf).offCoord (ix4 a b d i) q = _
  rw [GatherDims.batchCoord_eq_zero _ _ _ List.not_mem_nil, Nat.add_zero]
  match q with
  | ⟨0, _⟩ =>
    unfold GatherDims.start
    rw [dif_neg (by simp), Nat.zero_add]
    rfl
  | ⟨1, _⟩ =>
    unfold GatherDims.start
    rw [dif_neg (by simp), Nat.zero_add]
    rfl
  | ⟨2, _⟩ =>
    unfold GatherDims.start
    rw [dif_neg (by simp), Nat.zero_add]
    rfl
  | ⟨3, _⟩ =>
    show (colDims A B N D M wf).start (ix4 a b d i) idx (3 : Fin 4) + (colDims A B N D M wf).offCoord (ix4 a b d i) (3 : Fin 4) = _
    rw [GatherDims.offCoord_eq_zero _ _ _ (fun h => ((GatherDims.mem_sKept _ _).mp h).1 (List.mem_singleton.mpr rfl))]
    unfold GatherDims.start
    rw [dif_pos (show (3 : Fin 4) ∈ (colDims A B N D M wf).startIndexMap from List.mem_singleton.mpr rfl)]
    have hs : (colDims A B N D M wf).siIdx (ix4 a b d i) ⟨List.idxOf (3 : Fin 4) (colDims A B N D M wf).startIndexMap,
        List.idxOf_lt_length_iff.2 (List.mem_singleton.mpr rfl)⟩ = ix2 i 0 := by
      funext b; refine Fin.ext ?_
      match b with
      | ⟨0, _⟩ => rfl
      | ⟨1, _⟩ => rfl
    have hk := k.isLt
    show min (idx _).toInt.toNat (N - 1) + 0 = (k : ℕ)
    rw [hs, h]
    omega

end pick

/-- A small whole number turned into a word. -/
theorem word_of (n : ℕ) (h : n < 2147483648) : Ideal.fptosi 32 (((n : ℕ) : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  have : max (-((2 ^ (32 - 1) : ℕ) : ℤ)) (min (((2 ^ (32 - 1) : ℕ) : ℤ) - 1) (n : ℤ)) = (n : ℤ) := by
    norm_num
    omega
  rw [this]
  simp

/-- A word read back as a number. -/
theorem of_word (n : ℕ) (h : n < 2147483648) : (BitVec.ofNat 32 n).toInt = (n : ℤ) := by
  rw [BitVec.toInt_eq_toNat_of_lt (by simp; omega)]
  simp; omega

/-- A position, where negative ones count from the end. -/
def wrap (p n : BitVec 32) : BitVec 32 := Scalar.select (IntOp.cmpi .slt p 0#32) (IntOp.addi p n) p

theorem lo_word : ∀ i : Fin 64, wrap (BitVec.ofNat 32 (lo i)) 128#32 = BitVec.ofNat 32 (lo i) := by decide +kernel
theorem hi_word : ∀ i : Fin 64, IntOp.minsi (IntOp.addi (BitVec.ofNat 32 (lo i)) 1#32) 127#32 = BitVec.ofNat 32 (hi i) := by decide +kernel
theorem hi_wrap : ∀ i : Fin 64, wrap (BitVec.ofNat 32 (hi i)) 128#32 = BitVec.ofNat 32 (hi i) := by decide +kernel
theorem lo8_word : ∀ i : Fin 64, wrap (BitVec.ofNat 32 (lo8 i)) 8#32 = BitVec.ofNat 32 (lo8 i) := by decide +kernel
theorem hi8_word : ∀ i : Fin 64, IntOp.minsi (IntOp.addi (BitVec.ofNat 32 (lo8 i)) 1#32) 7#32 = BitVec.ofNat 32 (hi8 i) := by decide +kernel
theorem hi8_wrap : ∀ i : Fin 64, wrap (BitVec.ofNat 32 (hi8 i)) 8#32 = BitVec.ofNat 32 (hi8 i) := by decide +kernel

end Cert.Ref

end

end
-- ==== Proof.RefResize.lean ====
module

public import proofs.«01_k».proof.Proof.RefGather
public import proofs.«01_k».proof.Proof.Spec

/-! The reference's two bilinear resamplings, read at an index. -/

@[expose] public section

set_option maxRecDepth 16384

noncomputable section

namespace Cert.Ref

open Idealize.ShloMosaic Idealize.SL.Sem
open Cert.ReferenceIdeal Cert.ReferenceIdeal.Gen Cert.ReferenceIdeal.Read
open Cert.Host Cert.Tables Cert.Spec

theorem word_fold (x : EReal) : (FloatOps.fptosi (F := Ideal) (φ := .f32) 32 x : BitVec 32) = Ideal.fptosi 32 x := rfl

/-- A small number as a 32-bit word, as a real. -/
theorem real_of (n : ℕ) (h : n < 2147483648) : (FloatOps.sitofp .f32 (BitVec.ofNat 32 n) : Ideal .f32) = (((n : ℕ) : ℝ) : EReal) := by
  show (((BitVec.ofNat 32 n).toInt : ℝ) : EReal) = _
  rw [of_word n h]
  simp

/-! ### From 128 by 128 -/

theorem v18_at (i : Fin 64) : val_main_v18 (F := Ideal) (ix1 i) = ((127 * (i : ℝ) / 63 : ℝ) : EReal) :=
  Cert.Host.lin_at 127 (val_main_cst_2 (F := Ideal)) (val_main_cst_3 (F := Ideal)) zero_val n127_val i
theorem v19_at (i : Fin 64) : val_main_v19 (F := Ideal) (ix1 i) = ((127 * (i : ℝ) / 63 : ℝ) : EReal) :=
  Cert.Host.lin_at 127 (val_main_cst_4 (F := Ideal)) (val_main_cst_5 (F := Ideal)) zero_val n127_val i
theorem v27_at (i : Fin 64) : val_main_v27 (F := Ideal) (ix1 i) = fr i := by
  pointwise [val_main_v27, val_main_v26, val_main_v21, val_main_v20]
  rw [v18_at, floor_lo, word_fold, word_of _ (by have := (lo i).isLt; omega), real_of _ (by have := (lo i).isLt; omega), ← EReal.coe_sub]
  rfl
theorem v35_at (i : Fin 64) : val_main_v35 (F := Ideal) (ix1 i) = fr i := by
  pointwise [val_main_v35, val_main_v34, val_main_v29, val_main_v28]
  rw [v19_at, floor_lo, word_fold, word_of _ (by have := (lo i).isLt; omega), real_of _ (by have := (lo i).isLt; omega), ← EReal.coe_sub]
  rfl
theorem v41_at (i : Fin 64) : (val_main_v41 (F := Ideal) (ix2 i 0)).toInt.toNat = lo i := by
  have e : val_main_v41 (F := Ideal) (ix2 i 0) = BitVec.ofNat 32 (lo i) := by
    pointwise [val_main_v41, val_main_v40, val_main_v37, val_main_v39, val_main_v21, val_main_v36, val_main_v38, val_main_v20, val_main_c_10, val_main_c_11]
    rw [v18_at, floor_lo, word_fold, word_of _ (by have := (lo i).isLt; omega)]
    exact lo_word i
  rw [e, of_word _ (by have := (lo i).isLt; omega)]
  rfl
theorem v64_at (i : Fin 64) : (val_main_v64 (F := Ideal) (ix2 i 0)).toInt.toNat = lo i := by
  have e : val_main_v64 (F := Ideal) (ix2 i 0) = BitVec.ofNat 32 (lo i) := by
    pointwise [val_main_v64, val_main_v63, val_main_v60, val_main_v62, val_main_v29, val_main_v59, val_main_v61, val_main_v28, val_main_c_15, val_main_c_16]
    rw [v19_at, floor_lo, word_fold, word_of _ (by have := (lo i).isLt; omega)]
    exact lo_word i
  rw [e, of_word _ (by have := (lo i).isLt; omega)]
  rfl
theorem v48_at (i : Fin 64) : (val_main_v48 (F := Ideal) (ix2 i 0)).toInt.toNat = hi i := by
  have e : val_main_v48 (F := Ideal) (ix2 i 0) = BitVec.ofNat 32 (hi i) := by
    pointwise [val_main_v48, val_main_v47, val_main_v44, val_main_v46, val_main_v25, val_main_v43, val_main_v45, val_main_v23, val_main_v24, val_main_c_12, val_main_c_13, val_main_v21, val_main_v22, val_main_c_7, val_main_v20, val_main_c_6]
    rw [v18_at, floor_lo, word_fold, word_of _ (by have := (lo i).isLt; omega), hi_word]
    exact hi_wrap i
  rw [e, of_word _ (by have := (hi i).isLt; omega)]
  rfl
theorem v71_at (i : Fin 64) : (val_main_v71 (F := Ideal) (ix2 i 0)).toInt.toNat = hi i := by
  have e : val_main_v71 (F := Ideal) (ix2 i 0) = BitVec.ofNat 32 (hi i) := by
    pointwise [val_main_v71, val_main_v70, val_main_v67, val_main_v69, val_main_v33, val_main_v66, val_main_v68, val_main_v31, val_main_v32, val_main_c_17, val_main_c_18, val_main_v29, val_main_v30, val_main_c_9, val_main_v28, val_main_c_8]
    rw [v19_at, floor_lo, word_fold, word_of _ (by have := (lo i).isLt; omega), hi_word]
    exact hi_wrap i
  rw [e, of_word _ (by have := (hi i).isLt; omega)]
  rfl

/-- The rows of the resampled low-level projection. -/
theorem v58_at (x1 : FVec Ideal S8x192x128x128 .f32) (x4 : FVec Ideal S64x192x1x1 .f32) (x5 : FVec Ideal S64 .f32)
    (n : Fin 8) (d i : Fin 64) (j : Fin 128) :
    val_main_v58 (F := Ideal) x1 x4 x5 (ix4 n d i j)
      = (val_main_v17 (F := Ideal) x1 x4 x5 (ix4 n d (lo i) j) * (1 - fr i)
          + val_main_v17 (F := Ideal) x1 x4 x5 (ix4 n d (hi i) j) * fr i : EReal) := by
  pointwise [val_main_v58, val_main_v54, val_main_v57, val_main_v53, val_main_v56, val_main_v52, val_main_v55, val_main_v51, val_main_v50, val_main_cst_14]
  have e1 : val_main_v42 (F := Ideal) x1 x4 x5 (ix4 n d i j) = val_main_v17 (F := Ideal) x1 x4 x5 (ix4 n d (lo i) j) :=
    row_at _ _ _ (lo i) n d i j (v41_at i)
  have e2 : val_main_v49 (F := Ideal) x1 x4 x5 (ix4 n d i j) = val_main_v17 (F := Ideal) x1 x4 x5 (ix4 n d (hi i) j) :=
    row_at _ _ _ (hi i) n d i j (v48_at i)
  rw [e1, e2, v27_at]

/-- The resampled low-level projection. -/
theorem v81_at (x1 : FVec Ideal S8x192x128x128 .f32) (x4 : FVec Ideal S64x192x1x1 .f32) (x5 : FVec Ideal S64 .f32)
    (n : Fin 8) (d i j : Fin 64) :
    val_main_v81 (F := Ideal) x1 x4 x5 (ix4 n d i j)
      = shrink (fun h x => val_main_v17 (F := Ideal) x1 x4 x5 (ix4 n d h x)) i j := by
  pointwise [val_main_v81, val_main_v77, val_main_v80, val_main_v76, val_main_v79, val_main_v75, val_main_v78, val_main_v74, val_main_v73, val_main_cst_19]
  have e1 : val_main_v65 (F := Ideal) x1 x4 x5 (ix4 n d i j) = val_main_v58 (F := Ideal) x1 x4 x5 (ix4 n d i (lo j)) :=
    col_at _ _ _ (lo j) n d i j (v64_at j)
  have e2 : val_main_v72 (F := Ideal) x1 x4 x5 (ix4 n d i j) = val_main_v58 (F := Ideal) x1 x4 x5 (ix4 n d i (hi j)) :=
    col_at _ _ _ (hi j) n d i j (v71_at j)
  rw [e1, e2, v58_at, v58_at, v35_at]
  rfl

/-! ### From 8 by 8 -/

theorem v152_at (i : Fin 64) : val_main_v152 (F := Ideal) (ix1 i) = ((7 * (i : ℝ) / 63 : ℝ) : EReal) :=
  Cert.Host.lin_at 7 (val_main_cst_26 (F := Ideal)) (val_main_cst_27 (F := Ideal)) zero_val n7_val i
theorem v153_at (i : Fin 64) : val_main_v153 (F := Ideal) (ix1 i) = ((7 * (i : ℝ) / 63 : ℝ) : EReal) :=
  Cert.Host.lin_at 7 (val_main_cst_28 (F := Ideal)) (val_main_cst_29 (F := Ideal)) zero_val n7_val i
theorem v161_at (i : Fin 64) : val_main_v161 (F := Ideal) (ix1 i) = fr8 i := by
  pointwise [val_main_v161, val_main_v160, val_main_v155, val_main_v154]
  rw [v152_at, floor_lo8, word_fold, word_of _ (by have := (lo8 i).isLt; omega), real_of _ (by have := (lo8 i).isLt; omega), ← EReal.coe_sub]
  rfl
theorem v169_at (i : Fin 64) : val_main_v169 (F := Ideal) (ix1 i) = fr8 i := by
  pointwise [val_main_v169, val_main_v168, val_main_v163, val_main_v162]
  rw [v153_at, floor_lo8, word_fold, word_of _ (by have := (lo8 i).isLt; omega), real_of _ (by have := (lo8 i).isLt; omega), ← EReal.coe_sub]
  rfl
theorem v175_at (i : Fin 64) : (val_main_v175 (F := Ideal) (ix2 i 0)).toInt.toNat = lo8 i := by
  have e : val_main_v175 (F := Ideal) (ix2 i 0) = BitVec.ofNat 32 (lo8 i) := by
    pointwise [val_main_v175, val_main_v174, val_main_v171, val_main_v173, val_main_v155, val_main_v170, val_main_v172, val_main_v154, val_main_c_34, val_main_c_35]
    rw [v152_at, floor_lo8, word_fold, word_of _ (by have := (lo8 i).isLt; omega)]
    exact lo8_word i
  rw [e, of_word _ (by have := (lo8 i).isLt; omega)]
  rfl
theorem v198_at (i : Fin 64) : (val_main_v198 (F := Ideal) (ix2 i 0)).toInt.toNat = lo8 i := by
  have e : val_main_v198 (F := Ideal) (ix2 i 0) = BitVec.ofNat 32 (lo8 i) := by
    pointwise [val_main_v198, val_main_v197, val_main_v194, val_main_v196, val_main_v163, val_main_v193, val_main_v195, val_main_v162, val_main_c_39, val_main_c_40]
    rw [v153_at, floor_lo8, word_fold, word_of _ (by have := (lo8 i).isLt; omega)]
    exact lo8_word i
  rw [e, of_word _ (by have := (lo8 i).isLt; omega)]
  rfl
theorem v182_at (i : Fin 64) : (val_main_v182 (F := Ideal) (ix2 i 0)).toInt.toNat = hi8 i := by
  have e : val_main_v182 (F := Ideal) (ix2 i 0) = BitVec.ofNat 32 (hi8 i) := by
    pointwise [val_main_v182, val_main_v181, val_main_v178, val_main_v180, val_main_v159, val_main_v177, val_main_v179, val_main_v157, val_main_v158, val_main_c_36, val_main_c_37, val_main_v155, val_main_v156, val_main_c_31, val_main_v154, val_main_c_30]
    rw [v152_at, floor_lo8, word_fold, word_of _ (by have := (lo8 i).isLt; omega), hi8_word]
    exact hi8_wrap i
  rw [e, of_word _ (by have := (hi8 i).isLt; omega)]
  rfl
theorem v205_at (i : Fin 64) : (val_main_v205 (F := Ideal) (ix2 i 0)).toInt.toNat = hi8 i := by
  have e : val_main_v205 (F := Ideal) (ix2 i 0) = BitVec.ofNat 32 (hi8 i) := by
    pointwise [val_main_v205, val_main_v204, val_main_v201, val_main_v203, val_main_v167, val_main_v200, val_main_v202, val_main_v165, val_main_v166, val_main_c_41, val_main_c_42, val_main_v163, val_main_v164, val_main_c_33, val_main_v162, val_main_c_32]
    rw [v153_at, floor_lo8, word_fold, word_of _ (by have := (lo8 i).isLt; omega), hi8_word]
    exact hi8_wrap i
  rw [e, of_word _ (by have := (hi8 i).isLt; omega)]
  rfl

/-- The rows of the resampled mean certainty. -/
theorem v192_at (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32)
    (n : Fin 8) (d : Fin 1) (i : Fin 64) (j : Fin 8) :
    val_main_v192 (F := Ideal) x0 x1 x2 x3 x4 x5 x6 x7 (ix4 n d i j)
      = (val_main_v151 (F := Ideal) x0 x1 x2 x3 x4 x5 x6 x7 (ix4 n d (lo8 i) j) * (1 - fr8 i)
          + val_main_v151 (F := Ideal) x0 x1 x2 x3 x4 x5 x6 x7 (ix4 n d (hi8 i) j) * fr8 i : EReal) := by
  pointwise [val_main_v192, val_main_v188, val_main_v191, val_main_v187, val_main_v190, val_main_v186, val_main_v189, val_main_v185, val_main_v184, val_main_cst_38]
  have e1 : val_main_v176 (F := Ideal) x0 x1 x2 x3 x4 x5 x6 x7 (ix4 n d i j) = val_main_v151 (F := Ideal) x0 x1 x2 x3 x4 x5 x6 x7 (ix4 n d (lo8 i) j) :=
    row_at _ _ _ (lo8 i) n d i j (v175_at i)
  have e2 : val_main_v183 (F := Ideal) x0 x1 x2 x3 x4 x5 x6 x7 (ix4 n d i j) = val_main_v151 (F := Ideal) x0 x1 x2 x3 x4 x5 x6 x7 (ix4 n d (hi8 i) j) :=
    row_at _ _ _ (hi8 i) n d i j (v182_at i)
  rw [e1, e2, v161_at]

/-- The resampled mean certainty. -/
theorem v215_at (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32)
    (n : Fin 8) (d : Fin 1) (i j : Fin 64) :
    val_main_v215 (F := Ideal) x0 x1 x2 x3 x4 x5 x6 x7 (ix4 n d i j)
      = grow (fun h x => val_main_v151 (F := Ideal) x0 x1 x2 x3 x4 x5 x6 x7 (ix4 n d h x)) i j := by
  pointwise [val_main_v215, val_main_v211, val_main_v214, val_main_v210, val_main_v213, val_main_v209, val_main_v212, val_main_v208, val_main_v207, val_main_cst_43]
  have e1 : val_main_v199 (F := Ideal) x0 x1 x2 x3 x4 x5 x6 x7 (ix4 n d i j) = val_main_v192 (F := Ideal) x0 x1 x2 x3 x4 x5 x6 x7 (ix4 n d i (lo8 j)) :=
    col_at _ _ _ (lo8 j) n d i j (v198_at j)
  have e2 : val_main_v206 (F := Ideal) x0 x1 x2 x3 x4 x5 x6 x7 (ix4 n d i j) = val_main_v192 (F := Ideal) x0 x1 x2 x3 x4 x5 x6 x7 (ix4 n d i (hi8 j)) :=
    col_at _ _ _ (hi8 j) n d i j (v205_at j)
  rw [e1, e2, v192_at, v192_at, v169_at]
  rfl

end Cert.Ref

end

end
-- ==== Proof.RefConv.lean ====
module

public import proofs.«01_k».proof.Proof.Gen.ReferenceIdeal.Read
public import proofs.«01_k».proof.Proof.Host

/-! The reference's two projections to 64 channels, read at an index. -/

@[expose] public section

set_option maxRecDepth 16384

noncomputable section

namespace Cert.Ref

open Idealize.ShloMosaic Idealize.SL.Sem
open Cert.ReferenceIdeal Cert.ReferenceIdeal.Gen Cert.ReferenceIdeal.Read
open Cert.Host (zero_val)

/-- The projected high-level image. -/
theorem v8_at (x0 : FVec Ideal S8x192x64x64 .f32) (x2 : FVec Ideal S64x192x1x1 .f32) (x3 : FVec Ideal S64 .f32)
    (h3 : ∀ d : Fin 64, x3 (ix1 d) = (0 : EReal)) (n : Fin 8) (d i j : Fin 64) :
    val_main_v8 (F := Ideal) x0 x2 x3 (ix4 n d i j)
      = ∑ c : Fin 192, (x2 (ix4 d c 0 0) : EReal) * (x0 (ix4 n c i j) : EReal) := by
  pointwise [val_main_v8, val_main_v7, val_main_v6, val_main_v5, val_main_v4, val_main_v3, val_main_v2, val_main_v1,
    val_main_v0, val_main_cst]
  rw [h3, add_zero]
  exact Finset.sum_congr rfl fun c _ => mul_comm _ _

/-- The projected low-level image. -/
theorem v17_at (x1 : FVec Ideal S8x192x128x128 .f32) (x4 : FVec Ideal S64x192x1x1 .f32) (x5 : FVec Ideal S64 .f32)
    (h5 : ∀ d : Fin 64, x5 (ix1 d) = (0 : EReal)) (n : Fin 8) (d : Fin 64) (i j : Fin 128) :
    val_main_v17 (F := Ideal) x1 x4 x5 (ix4 n d i j)
      = ∑ c : Fin 192, (x4 (ix4 d c 0 0) : EReal) * (x1 (ix4 n c i j) : EReal) := by
  pointwise [val_main_v17, val_main_v16, val_main_v15, val_main_v14, val_main_v13, val_main_v12, val_main_v11,
    val_main_v10, val_main_v9, val_main_cst_1]
  rw [h5, add_zero]
  exact Finset.sum_congr rfl fun c _ => mul_comm _ _

end Cert.Ref

end

end
-- ==== Proof.RefMatch.lean ====
module

public import proofs.«01_k».proof.Proof.RefResize
public import proofs.«01_k».proof.Proof.RefConv

/-! The reference's certainty map and its block means, read at an index. -/

@[expose] public section

set_option maxRecDepth 16384

noncomputable section

namespace Cert.Ref

open Idealize.ShloMosaic Idealize.SL.Sem
open Cert.ReferenceIdeal Cert.ReferenceIdeal.Gen Cert.ReferenceIdeal.Read
open Cert.Host Cert.Tables Cert.Spec Cert.Pad

/-- A sum over the first, third and fourth axis. -/
theorem sum3_at (h : S8x192x64x64.ReducesTo [0, 2, 3] S192) (v : S8x192x64x64.Idx → EReal) (z : EReal) (o : Fin 192) :
    Ideal.hostReduceAdd h v z (ix1 o) = z + ∑ n : Fin 8, ∑ i : Fin 64, ∑ j : Fin 64, v (ix4 n o i j) := by
  unfold Ideal.hostReduceAdd
  rw [Finset.sum_filter_eq_sum_of_fiber (fun i => h.drop i = ix1 o)
    (fun k : Fin 8 × Fin 64 × Fin 64 => (ix4 k.1 o k.2.1 k.2.2 : S8x192x64x64.Idx))
    (fun a b e => Prod.ext (congrFun e 0) (Prod.ext (congrFun e 2) (congrFun e 3))) ?_ v]
  · rw [Fintype.sum_prod_type]
    refine congrArg (z + ·) (Finset.sum_congr rfl fun n _ => ?_)
    rw [Fintype.sum_prod_type]
  · intro i
    constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨k, rfl⟩
      funext b; apply Fin.ext
      match b with
      | ⟨0, _⟩ => rfl

/-- A sum over the fourth and sixth axis. -/
theorem sum2_at (h : S8x1x8x8x8x8.ReducesTo [3, 5] S8x1x8x8) (v : S8x1x8x8x8x8.Idx → EReal) (z : EReal)
    (n : Fin 8) (k : Fin 1) (r c : Fin 8) :
    Ideal.hostReduceAdd h v z (ix4 n k r c) = z + ∑ x : Fin 8, ∑ y : Fin 8, v (ix6 n k r x c y) := by
  unfold Ideal.hostReduceAdd
  rw [Finset.sum_filter_eq_sum_of_fiber (fun i => h.drop i = ix4 n k r c)
    (fun q : Fin 8 × Fin 8 => (ix6 n k r q.1 c q.2 : S8x1x8x8x8x8.Idx))
    (fun a b e => Prod.ext (congrFun e 3) (congrFun e 5)) ?_ v]
  · rw [Fintype.sum_prod_type]
  · intro i
    constructor
    · intro e
      refine ⟨(i 3, i 5), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext b; apply Fin.ext
      match b with
      | ⟨0, _⟩ => rfl
      | ⟨1, _⟩ => rfl
      | ⟨2, _⟩ => rfl
      | ⟨3, _⟩ => rfl

/-- Cutting rows and columns in blocks of eight. -/
theorem blocks_at (v : S8x1x64x64.Idx → EReal) (h : S8x1x64x64.ShapeCasts S8x1x8x8x8x8)
    (n : Fin 8) (k : Fin 1) (r x c y : Fin 8) :
    shapeCast S8x1x8x8x8x8 v h (ix6 n k r x c y) = v (ix4 n k ⟨r * 8 + x, by omega⟩ ⟨c * 8 + y, by omega⟩) := by
  obtain rfl : k = 0 := Subsingleton.elim _ _
  pointwise []

theorem n64_val : Ideal.ofBits .f32 0x42800000#32 = ((64 : ℝ) : EReal) := by
  simp [Ideal.ofBits, Ideal.ieee, -EReal.coe_mul]; norm_num
theorem n32768_val : Ideal.ofBits .f32 0x47000000#32 = ((32768 : ℝ) : EReal) := by
  simp [Ideal.ofBits, Ideal.ieee, -EReal.coe_mul]; norm_num

/-- A padded value times a weight, the weight first. -/
theorem zpad_comm (f : Fin 64 → Fin 64 → EReal) (r c : ℕ) (y : EReal) : zpad f r c * y = y * zpad f r c := mul_comm _ _

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32)
  (x9 x10 : FVec Ideal S192 .f32) (x11 : FVec Ideal S1x192x3x3 .f32)

/-- The arguments that the edge map depends on. -/
def argsOf (x0 : FVec Ideal S8x192x64x64 .f32) (x1 : FVec Ideal S8x192x128x128 .f32) (x2 : FVec Ideal S64x192x1x1 .f32)
    (x4 : FVec Ideal S64x192x1x1 .f32) (x6 : FVec Ideal S1x128x3x3 .f32) (x7 : FVec Ideal S1 .f32)
    (x8 : FVec Ideal S192x192x3x3 .f32) (x9 x10 : FVec Ideal S192 .f32) (x11 : FVec Ideal S1x192x3x3 .f32) : Spec.Args where
  xh n k i j := x0 (ix4 n k i j)
  xl n k i j := x1 (ix4 n k i j)
  wh d k := x2 (ix4 d k 0 0)
  wl d k := x4 (ix4 d k 0 0)
  wm k u v := x6 (ix4 0 k u v)
  bm := x7 (ix1 0)
  we o k u v := x8 (ix4 o k u v)
  g o := x9 (ix1 o)
  b o := x10 (ix1 o)
  wo k u v := x11 (ix4 0 k u v)

theorem v83_at (n : Fin 8) (k : Fin 128) (r c : ℕ) (hr : r < 66) (hc : c < 66) :
    val_main_v83 (F := Ideal) x0 x1 x2 x3 x4 x5 (ix4 n k ⟨r, hr⟩ ⟨c, hc⟩)
      = zpad (fun i j => val_main_v82 (F := Ideal) x0 x1 x2 x3 x4 x5 (ix4 n k i j)) r c := by
  pointwise [val_main_v83, val_main_call4_v0, val_main_c_20]
  unfold zpad
  by_cases h : (1 ≤ r ∧ r ≤ 64) ∧ (1 ≤ c ∧ c ≤ 64)
  · rw [dif_pos h, dif_pos (by omega)]
  · rw [dif_neg h, dif_neg (by omega)]
    exact fill_zero

/-- The matching convolution, before its bias. -/
theorem v138_at (n : Fin 8) (z : Fin 1) (i j : Fin 64) :
    val_main_v138 (F := Ideal) x0 x1 x2 x3 x4 x5 x6 (ix4 n z i j)
      = taps9 (fun u v => ∑ k : Fin 128, (x6 (ix4 0 k u v) : EReal)
          * zpad (fun i j => val_main_v82 (F := Ideal) x0 x1 x2 x3 x4 x5 (ix4 n k i j)) (u + i) (v + j)) := by
  pointwise [val_main_v138, val_main_v132, val_main_v137, val_main_v126, val_main_v131, val_main_v136, val_main_v120, val_main_v125, val_main_v130, val_main_v135, val_main_v134, val_main_v114, val_main_v119, val_main_v124, val_main_v129, val_main_v128, val_main_v133, val_main_v108, val_main_v113, val_main_v118, val_main_v123, val_main_v122, val_main_v127, val_main_v102, val_main_v107, val_main_v112, val_main_v117, val_main_v116, val_main_v121, val_main_v96, val_main_v101, val_main_v106, val_main_v111, val_main_v110, val_main_v115, val_main_v90, val_main_v95, val_main_v100, val_main_v105, val_main_v104, val_main_v109, val_main_v84, val_main_v89, val_main_v94, val_main_v99, val_main_v98, val_main_v103, val_main_cst_21, val_main_v88, val_main_v93, val_main_v92, val_main_v97, val_main_v87, val_main_v86, val_main_v91, val_main_v85]
  simp only [v83_at, zpad_comm]
  unfold taps9
  simp only [zero_add, Fin.val_zero, Fin.val_one, Fin.val_two]

/-- The matched channels. -/
theorem v82_at (h3 : ∀ d : Fin 64, x3 (ix1 d) = (0 : EReal)) (h5 : ∀ d : Fin 64, x5 (ix1 d) = (0 : EReal))
    (n : Fin 8) (k : Fin 128) (i j : Fin 64) :
    val_main_v82 (F := Ideal) x0 x1 x2 x3 x4 x5 (ix4 n k i j) = chan (argsOf x0 x1 x2 x4 x6 x7 x8 x9 x10 x11) n k i j := by
  pointwise [val_main_v82]
  unfold chan
  by_cases h : (k : ℕ) < 64
  · rw [dif_pos h, dif_pos h]
    exact v8_at x0 x2 x3 h3 n _ i j
  · rw [dif_neg h, dif_neg h, v81_at]
    refine congrArg (fun f => shrink f i j) (funext fun a => funext fun b => ?_)
    exact v17_at x1 x4 x5 h5 n _ a b

/-- The certainty map. -/
theorem v147_at (h3 : ∀ d : Fin 64, x3 (ix1 d) = (0 : EReal)) (h5 : ∀ d : Fin 64, x5 (ix1 d) = (0 : EReal))
    (n : Fin 8) (z : Fin 1) (i j : Fin 64) :
    val_main_v147 (F := Ideal) x0 x1 x2 x3 x4 x5 x6 x7 (ix4 n z i j) = cert (argsOf x0 x1 x2 x4 x6 x7 x8 x9 x10 x11) n i j := by
  pointwise [val_main_v147, val_main_v146, val_main_v145, val_main_cst_23, val_main_v144, val_main_v143, val_main_cst_22, val_main_v142, val_main_v141, val_main_v140, val_main_v139]
  rw [v138_at]
  simp only [v82_at x0 x1 x2 x3 x4 x5 x6 x7 x8 x9 x10 x11 h3 h5]
  rfl

/-- The mean certainty of a block. -/
theorem v151_at (h3 : ∀ d : Fin 64, x3 (ix1 d) = (0 : EReal)) (h5 : ∀ d : Fin 64, x5 (ix1 d) = (0 : EReal))
    (n : Fin 8) (z : Fin 1) (r c : Fin 8) :
    val_main_v151 (F := Ideal) x0 x1 x2 x3 x4 x5 x6 x7 (ix4 n z r c) = avg (argsOf x0 x1 x2 x4 x6 x7 x8 x9 x10 x11) n r c := by
  pointwise [val_main_v151, val_main_v149, val_main_v150, val_main_v148, val_main_cst_24, val_main_cst_25]
  rw [sum2_at, n64_val, Ideal.div_coe (by norm_num), zero_add]
  simp only [blocks_at, v147_at x0 x1 x2 x3 x4 x5 x6 x7 x8 x9 x10 x11 h3 h5]
  rfl

end

end Cert.Ref

end

end
-- ==== Proof.RefEdge.lean ====
module

public import proofs.«01_k».proof.Proof.RefMatch

/-! The reference's edge map, read at an index. -/

@[expose] public section

set_option maxRecDepth 16384

noncomputable section

namespace Cert.Ref

open Idealize.ShloMosaic Idealize.SL.Sem
open Cert.ReferenceIdeal Cert.ReferenceIdeal.Gen Cert.ReferenceIdeal.Read
open Cert.Host Cert.Tables Cert.Spec Cert.Pad

variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32)
  (x9 x10 : FVec Ideal S192 .f32) (x11 : FVec Ideal S1x192x3x3 .f32)

/-- The high-level image with its resampled mean certainty taken out. -/
theorem v218_at (h3 : ∀ d : Fin 64, x3 (ix1 d) = (0 : EReal)) (h5 : ∀ d : Fin 64, x5 (ix1 d) = (0 : EReal))
    (n : Fin 8) (k : Fin 192) (i j : Fin 64) :
    val_main_v218 (F := Ideal) x0 x1 x2 x3 x4 x5 x6 x7 (ix4 n k i j) = edge (argsOf x0 x1 x2 x4 x6 x7 x8 x9 x10 x11) n k i j := by
  pointwise [val_main_v218, val_main_v217, val_main_v216]
  rw [v215_at]
  simp only [v151_at x0 x1 x2 x3 x4 x5 x6 x7 x8 x9 x10 x11 h3 h5]
  rfl

theorem v219_at (n : Fin 8) (k : Fin 192) (r c : ℕ) (hr : r < 66) (hc : c < 66) :
    val_main_v219 (F := Ideal) x0 x1 x2 x3 x4 x5 x6 x7 (ix4 n k ⟨r, hr⟩ ⟨c, hc⟩)
      = zpad (fun i j => val_main_v218 (F := Ideal) x0 x1 x2 x3 x4 x5 x6 x7 (ix4 n k i j)) r c := by
  pointwise [val_main_v219, val_main_call7_v0, val_main_c_44]
  unfold zpad
  by_cases h : (1 ≤ r ∧ r ≤ 64) ∧ (1 ≤ c ∧ c ≤ 64)
  · rw [dif_pos h, dif_pos (by omega)]
  · rw [dif_neg h, dif_neg (by omega)]
    exact fill_zero

/-- The first edge convolution. -/
theorem v274_at (h3 : ∀ d : Fin 64, x3 (ix1 d) = (0 : EReal)) (h5 : ∀ d : Fin 64, x5 (ix1 d) = (0 : EReal))
    (n : Fin 8) (o : Fin 192) (i j : Fin 64) :
    val_main_v274 (F := Ideal) x0 x1 x2 x3 x4 x5 x6 x7 x8 (ix4 n o i j) = conv (argsOf x0 x1 x2 x4 x6 x7 x8 x9 x10 x11) n o i j := by
  pointwise [val_main_v274, val_main_v268, val_main_v273, val_main_v262, val_main_v267, val_main_v272, val_main_v256, val_main_v261, val_main_v266, val_main_v271, val_main_v270, val_main_v250, val_main_v255, val_main_v260, val_main_v265, val_main_v264, val_main_v269, val_main_v244, val_main_v249, val_main_v254, val_main_v259, val_main_v258, val_main_v263, val_main_v238, val_main_v243, val_main_v248, val_main_v253, val_main_v252, val_main_v257, val_main_v232, val_main_v237, val_main_v242, val_main_v247, val_main_v246, val_main_v251, val_main_v226, val_main_v231, val_main_v236, val_main_v241, val_main_v240, val_main_v245, val_main_v220, val_main_v225, val_main_v230, val_main_v235, val_main_v234, val_main_v239, val_main_cst_45, val_main_v224, val_main_v229, val_main_v228, val_main_v233, val_main_v223, val_main_v222, val_main_v227, val_main_v221]
  simp only [v219_at, zpad_comm, v218_at x0 x1 x2 x3 x4 x5 x6 x7 x8 x9 x10 x11 h3 h5]
  unfold conv taps9
  simp only [zero_add, Fin.val_zero, Fin.val_one, Fin.val_two]
  rfl

/-- The channel means. -/
theorem v278_at (h3 : ∀ d : Fin 64, x3 (ix1 d) = (0 : EReal)) (h5 : ∀ d : Fin 64, x5 (ix1 d) = (0 : EReal)) (o : Fin 192) :
    val_main_v278 (F := Ideal) x0 x1 x2 x3 x4 x5 x6 x7 x8 (ix4 0 o 0 0) = mean (argsOf x0 x1 x2 x4 x6 x7 x8 x9 x10 x11) o := by
  pointwise [val_main_v278, val_main_v276, val_main_v277, val_main_v275, val_main_cst_47, val_main_cst_46]
  rw [sum3_at, n32768_val, Ideal.div_coe (by norm_num), zero_add]
  simp only [v274_at x0 x1 x2 x3 x4 x5 x6 x7 x8 x9 x10 x11 h3 h5]
  rfl

/-- The channel means, as the variance computes them. -/
theorem call8_v3_at (h3 : ∀ d : Fin 64, x3 (ix1 d) = (0 : EReal)) (h5 : ∀ d : Fin 64, x5 (ix1 d) = (0 : EReal)) (o : Fin 192) :
    val_main_call8_v3 (F := Ideal) x0 x1 x2 x3 x4 x5 x6 x7 x8 (ix4 0 o 0 0) = mean (argsOf x0 x1 x2 x4 x6 x7 x8 x9 x10 x11) o := by
  pointwise [val_main_call8_v3, val_main_call8_v1, val_main_call8_v2, val_main_call8_v0, val_main_call8_cst_0, val_main_call8_cst]
  rw [sum3_at, n32768_val, Ideal.div_coe (by norm_num), zero_add]
  simp only [v274_at x0 x1 x2 x3 x4 x5 x6 x7 x8 x9 x10 x11 h3 h5]
  rfl

/-- The squared distances from the mean. -/
theorem call8_v6_at (h3 : ∀ d : Fin 64, x3 (ix1 d) = (0 : EReal)) (h5 : ∀ d : Fin 64, x5 (ix1 d) = (0 : EReal))
    (n : Fin 8) (o : Fin 192) (i j : Fin 64) :
    val_main_call8_v6 (F := Ideal) x0 x1 x2 x3 x4 x5 x6 x7 x8 (ix4 n o i j)
      = ((conv (argsOf x0 x1 x2 x4 x6 x7 x8 x9 x10 x11) n o i j - mean (argsOf x0 x1 x2 x4 x6 x7 x8 x9 x10 x11) o) * (conv (argsOf x0 x1 x2 x4 x6 x7 x8 x9 x10 x11) n o i j - mean (argsOf x0 x1 x2 x4 x6 x7 x8 x9 x10 x11) o) : EReal) := by
  pointwise [val_main_call8_v6, val_main_call8_v5, val_main_call8_v4]
  rw [call8_v3_at x0 x1 x2 x3 x4 x5 x6 x7 x8 x9 x10 x11 h3 h5, v274_at x0 x1 x2 x3 x4 x5 x6 x7 x8 x9 x10 x11 h3 h5]

/-- The channel variances. -/
theorem v279_at (h3 : ∀ d : Fin 64, x3 (ix1 d) = (0 : EReal)) (h5 : ∀ d : Fin 64, x5 (ix1 d) = (0 : EReal)) (o : Fin 192) :
    val_main_v279 (F := Ideal) x0 x1 x2 x3 x4 x5 x6 x7 x8 (ix4 0 o 0 0) = var (argsOf x0 x1 x2 x4 x6 x7 x8 x9 x10 x11) o := by
  pointwise [val_main_v279, val_main_call8_v13, val_main_call8_v12, val_main_call8_call0_v1, val_main_call8_v8, val_main_call8_cst_3, val_main_call8_v10, val_main_call8_v11, val_main_call8_call0_v0, val_main_call8_cst_1, val_main_call8_v7, val_main_call8_v9, val_main_call8_cst_4, val_main_c_48, val_main_call8_cst_2]
  have e : (Ideal.ofBits .f32 0x47000000#32 - (FloatOps.sitofp .f32 0#32 : Ideal .f32) : EReal) = ((32768 : ℝ) : EReal) := by
    rw [n32768_val]
    have z : (FloatOps.sitofp .f32 0#32 : Ideal .f32) = (0 : EReal) := fill_zero
    rw [z]
    exact sub_zero _
  rw [e, if_pos (by exact_mod_cast (by norm_num : (0 : ℝ) < 32768)), sum3_at, Ideal.div_coe (by norm_num), zero_add]
  simp only [call8_v6_at x0 x1 x2 x3 x4 x5 x6 x7 x8 x9 x10 x11 h3 h5]
  rfl

/-- The normalized channels. -/
theorem v293_at (h3 : ∀ d : Fin 64, x3 (ix1 d) = (0 : EReal)) (h5 : ∀ d : Fin 64, x5 (ix1 d) = (0 : EReal))
    (n : Fin 8) (o : Fin 192) (i j : Fin 64) :
    val_main_v293 (F := Ideal) x0 x1 x2 x3 x4 x5 x6 x7 x8 x9 x10 (ix4 n o i j) = nrm (argsOf x0 x1 x2 x4 x6 x7 x8 x9 x10 x11) n o i j := by
  pointwise [val_main_v293, val_main_v292, val_main_call9_v0, val_main_v289, val_main_v291, val_main_call9_cst, val_main_v286, val_main_v288, val_main_v290, val_main_v281, val_main_v285, val_main_v287, val_main_v280, val_main_v284, val_main_v283, val_main_v282, val_main_cst_49]
  rw [v274_at x0 x1 x2 x3 x4 x5 x6 x7 x8 x9 x10 x11 h3 h5, v278_at x0 x1 x2 x3 x4 x5 x6 x7 x8 x9 x10 x11 h3 h5, v279_at x0 x1 x2 x3 x4 x5 x6 x7 x8 x9 x10 x11 h3 h5]
  rfl

theorem v294_at (n : Fin 8) (k : Fin 192) (r c : ℕ) (hr : r < 66) (hc : c < 66) :
    val_main_v294 (F := Ideal) x0 x1 x2 x3 x4 x5 x6 x7 x8 x9 x10 (ix4 n k ⟨r, hr⟩ ⟨c, hc⟩)
      = zpad (fun i j => val_main_v293 (F := Ideal) x0 x1 x2 x3 x4 x5 x6 x7 x8 x9 x10 (ix4 n k i j)) r c := by
  pointwise [val_main_v294, val_main_call10_v0, val_main_c_50]
  unfold zpad
  by_cases h : (1 ≤ r ∧ r ≤ 64) ∧ (1 ≤ c ∧ c ≤ 64)
  · rw [dif_pos h, dif_pos (by omega)]
  · rw [dif_neg h, dif_neg (by omega)]
    exact fill_zero

/-- The edge map. -/
theorem v349_at (h3 : ∀ d : Fin 64, x3 (ix1 d) = (0 : EReal)) (h5 : ∀ d : Fin 64, x5 (ix1 d) = (0 : EReal))
    (n : Fin 8) (z : Fin 1) (i j : Fin 64) :
    val_main_v349 (F := Ideal) x0 x1 x2 x3 x4 x5 x6 x7 x8 x9 x10 x11 (ix4 n z i j) = out (argsOf x0 x1 x2 x4 x6 x7 x8 x9 x10 x11) n i j := by
  pointwise [val_main_v349, val_main_v343, val_main_v348, val_main_v337, val_main_v342, val_main_v347, val_main_v331, val_main_v336, val_main_v341, val_main_v346, val_main_v345, val_main_v325, val_main_v330, val_main_v335, val_main_v340, val_main_v339, val_main_v344, val_main_v319, val_main_v324, val_main_v329, val_main_v334, val_main_v333, val_main_v338, val_main_v313, val_main_v318, val_main_v323, val_main_v328, val_main_v327, val_main_v332, val_main_v307, val_main_v312, val_main_v317, val_main_v322, val_main_v321, val_main_v326, val_main_v301, val_main_v306, val_main_v311, val_main_v316, val_main_v315, val_main_v320, val_main_v295, val_main_v300, val_main_v305, val_main_v310, val_main_v309, val_main_v314, val_main_cst_51, val_main_v299, val_main_v304, val_main_v303, val_main_v308, val_main_v298, val_main_v297, val_main_v302, val_main_v296]
  simp only [v294_at, zpad_comm, v293_at x0 x1 x2 x3 x4 x5 x6 x7 x8 x9 x10 x11 h3 h5]
  unfold out taps9
  simp only [zero_add, Fin.val_zero, Fin.val_one, Fin.val_two]
  rfl

end Cert.Ref

end

end
-- ==== Proof.RefTake.lean ====
module

public import proofs.«01_k».proof.Proof.RefEdge
public import proofs.«01_k».proof.Proof.FuseSpec

/-! The reference's picks by a list of coordinates. -/

@[expose] public section

set_option maxRecDepth 16384

noncomputable section

open Idealize.ShloMosaic Idealize.SL.Sem

namespace Cert.Ref

open Cert.ReferenceIdeal Cert.ReferenceIdeal.Gen Cert.ReferenceIdeal.Read
open Cert.Host Cert.Tables Cert.Spec

section pick
variable {α : Type} {A B N M : ℕ}

/-- Picking along the third axis, each channel by its own list. -/
abbrev takeDims (A B N M : ℕ)
    (wf : GatherDims.WF ⟨3, ![A, B, N]⟩ ⟨4, ![A, B, M, 1]⟩ ⟨3, ![A, B, M]⟩ [] [2] [0, 1] [2] [0, 1] 3 ![1, 1, 1]) :
    GatherDims ⟨3, ![A, B, N]⟩ ⟨4, ![A, B, M, 1]⟩ ⟨3, ![A, B, M]⟩ where
  offsetDims := []
  collapsedSliceDims := [2]
  operandBatchingDims := [0, 1]
  startIndicesBatchingDims := [0, 1]
  startIndexMap := [2]
  indexVectorDim := 3
  sliceSizes := ![1, 1, 1]
  wf := wf

theorem take_at
    (wf : GatherDims.WF ⟨3, ![A, B, N]⟩ ⟨4, ![A, B, M, 1]⟩ ⟨3, ![A, B, M]⟩ [] [2] [0, 1] [2] [0, 1] 3 ![1, 1, 1])
    (x : (⟨3, ![A, B, N]⟩ : Shape).Idx → α) (idx : IVec ⟨4, ![A, B, M, 1]⟩ 32) (k : Fin N)
    (a : Fin A) (b : Fin B) (i : Fin M) (h : (idx (ix4 a b i 0)).toInt.toNat = k) :
    Host.gather (takeDims A B N M wf) x idx (ix3 a b i) = x (ix3 a b k) := by
  unfold Host.gather
  congr 1
  funext q
  refine Fin.ext ?_
  show (takeDims A B N M wf).start (ix3 a b i) idx q + (takeDims A B N M wf).batchCoord (ix3 a b i) q
    + (takeDims A B N M wf).offCoord (ix3 a b i) q = _
  match q with
  | ⟨0, _⟩ =>
    rw [GatherDims.start_batching _ _ _ _ (by simp), Nat.zero_add,
      GatherDims.offCoord_eq_zero _ _ _ (fun h => ((GatherDims.mem_sKept _ _).mp h).2 (by simp)), Nat.add_zero]
    rfl
  | ⟨1, _⟩ =>
    rw [GatherDims.start_batching _ _ _ _ (by simp), Nat.zero_add,
      GatherDims.offCoord_eq_zero _ _ _ (fun h => ((GatherDims.mem_sKept _ _).mp h).2 (by simp)), Nat.add_zero]
    rfl
  | ⟨2, _⟩ =>
    show (takeDims A B N M wf).start (ix3 a b i) idx (2 : Fin 3) + (takeDims A B N M wf).batchCoord (ix3 a b i) (2 : Fin 3)
      + (takeDims A B N M wf).offCoord (ix3 a b i) (2 : Fin 3) = _
    rw [GatherDims.batchCoord_eq_zero _ _ _ (by simp), Nat.add_zero,
      GatherDims.offCoord_eq_zero _ _ _ (fun h => ((GatherDims.mem_sKept _ _).mp h).1 (List.mem_singleton.mpr rfl))]
    unfold GatherDims.start
    rw [dif_pos (show (2 : Fin 3) ∈ (takeDims A B N M wf).startIndexMap from List.mem_singleton.mpr rfl)]
    have hs : (takeDims A B N M wf).siIdx (ix3 a b i) ⟨List.idxOf (2 : Fin 3) (takeDims A B N M wf).startIndexMap,
        List.idxOf_lt_length_iff.2 (List.mem_singleton.mpr rfl)⟩ = ix4 a b i 0 := by
      funext b; refine Fin.ext ?_
      match b with
      | ⟨0, _⟩ => rfl
      | ⟨1, _⟩ => rfl
      | ⟨2, _⟩ => rfl
      | ⟨3, _⟩ => rfl
    have hk := k.isLt
    show min (idx _).toInt.toNat (N - 1) + 0 = (k : ℕ)
    rw [hs, h]
    omega

end pick

/-- A small number is no negative word. -/
theorem not_neg (m : ℕ) (h : m < 2147483648) (q : BitVec 32) :
    Scalar.select (IntOp.cmpi .slt (BitVec.ofNat 32 m) 0#32) q (BitVec.ofNat 32 m) = BitVec.ofNat 32 m := by
  have e : IntOp.cmpi .slt (BitVec.ofNat 32 m) 0#32 = 0#1 := by
    show BitVec.ofBool ((BitVec.ofNat 32 m).slt 0#32) = _
    rw [BitVec.slt_iff_toInt_lt.not.mpr (by rw [of_word m h]; simp) |> Bool.eq_false_iff.mpr]
    rfl
  rw [e]
  rfl

/-- A small number lies between words. -/
theorem in_range (m t : ℕ) (h : m ≤ t) (ht : t < 2147483648) :
    IntOp.andi (IntOp.cmpi .sge (BitVec.ofNat 32 m) 0#32) (IntOp.cmpi .sle (BitVec.ofNat 32 m) (BitVec.ofNat 32 t)) = 1#1 := by
  have e1 : IntOp.cmpi .sge (BitVec.ofNat 32 m) 0#32 = 1#1 := by
    show BitVec.ofBool ((0#32 : BitVec 32).sle (BitVec.ofNat 32 m)) = _
    rw [BitVec.sle_iff_toInt_le.mpr (by rw [of_word m (by omega)]; simp)]
    rfl
  have e2 : IntOp.cmpi .sle (BitVec.ofNat 32 m) (BitVec.ofNat 32 t) = 1#1 := by
    show BitVec.ofBool ((BitVec.ofNat 32 m).sle (BitVec.ofNat 32 t)) = _
    rw [BitVec.sle_iff_toInt_le.mpr (by rw [of_word m (by omega), of_word t ht]; omega)]
    rfl
  rw [e1, e2]
  rfl

theorem true_val : (FloatOps.uitofp .f32 (1#1 : BitVec 1) : Ideal .f32) = (1 : EReal) := by
  show (((1#1 : BitVec 1).toNat : ℝ) : EReal) = 1
  simp

theorem clip64 (x : Fin 64) : min (FloatOps.sitofp .f32 63#32 : Ideal .f32) (max (FloatOps.sitofp .f32 0#32 : Ideal .f32) (((x.val : ℕ) : ℝ) : EReal))
    = (((x.val : ℕ) : ℝ) : EReal) := by
  have e1 : (FloatOps.sitofp .f32 63#32 : Ideal .f32) = (((63 : ℕ) : ℝ) : EReal) := real_of 63 (by decide)
  have e0 : (FloatOps.sitofp .f32 0#32 : Ideal .f32) = (0 : EReal) := by
    show (((0#32 : BitVec 32).toInt : ℝ) : EReal) = 0
    simp
  rw [e1, e0]
  have h0 : (0 : EReal) ≤ (((x.val : ℕ) : ℝ) : EReal) := EReal.coe_nonneg.mpr (Nat.cast_nonneg _)
  have h1 : (((x.val : ℕ) : ℝ) : EReal) ≤ (((63 : ℕ) : ℝ) : EReal) := EReal.coe_le_coe_iff.mpr (Nat.cast_le.mpr (by omega))
  rw [max_eq_right h0, min_eq_right h1]

theorem flat64 (y x : Fin 64) : IntOp.addi (IntOp.muli (BitVec.ofNat 32 y.val) 64#32) (BitVec.ofNat 32 x.val) = BitVec.ofNat 32 (y.val * 64 + x.val) := by
  show BitVec.ofNat 32 y.val * BitVec.ofNat 32 64 + BitVec.ofNat 32 x.val = _
  rw [← BitVec.ofNat_mul, ← BitVec.ofNat_add]

theorem unit64 (x : Fin 64) : BitVec.ofBool (decide ((0 : EReal) ≤ (((x.val : ℕ) : ℝ) : EReal))) = 1#1
    ∧ BitVec.ofBool (decide ((((x.val : ℕ) : ℝ) : EReal) ≤ ((63 : ℝ) : EReal))) = 1#1 := by
  have h0 : (0 : EReal) ≤ (((x.val : ℕ) : ℝ) : EReal) := EReal.coe_nonneg.mpr (Nat.cast_nonneg _)
  have h1 : (((x.val : ℕ) : ℝ) : EReal) ≤ ((63 : ℝ) : EReal) := by
    have : (((x.val : ℕ) : ℝ)) ≤ ((63 : ℕ) : ℝ) := Nat.cast_le.mpr (by omega)
    exact_mod_cast this
  exact ⟨by rw [decide_eq_true h0]; rfl, by rw [decide_eq_true h1]; rfl⟩

theorem clip128 (x : Fin 128) : min (FloatOps.sitofp .f32 127#32 : Ideal .f32) (max (FloatOps.sitofp .f32 0#32 : Ideal .f32) (((x.val : ℕ) : ℝ) : EReal))
    = (((x.val : ℕ) : ℝ) : EReal) := by
  have e1 : (FloatOps.sitofp .f32 127#32 : Ideal .f32) = (((127 : ℕ) : ℝ) : EReal) := real_of 127 (by decide)
  have e0 : (FloatOps.sitofp .f32 0#32 : Ideal .f32) = (0 : EReal) := by
    show (((0#32 : BitVec 32).toInt : ℝ) : EReal) = 0
    simp
  rw [e1, e0]
  have h0 : (0 : EReal) ≤ (((x.val : ℕ) : ℝ) : EReal) := EReal.coe_nonneg.mpr (Nat.cast_nonneg _)
  have h1 : (((x.val : ℕ) : ℝ) : EReal) ≤ (((127 : ℕ) : ℝ) : EReal) := EReal.coe_le_coe_iff.mpr (Nat.cast_le.mpr (by omega))
  rw [max_eq_right h0, min_eq_right h1]

theorem flat128 (y x : Fin 128) : IntOp.addi (IntOp.muli (BitVec.ofNat 32 y.val) 128#32) (BitVec.ofNat 32 x.val) = BitVec.ofNat 32 (y.val * 128 + x.val) := by
  show BitVec.ofNat 32 y.val * BitVec.ofNat 32 128 + BitVec.ofNat 32 x.val = _
  rw [← BitVec.ofNat_mul, ← BitVec.ofNat_add]

theorem unit128 (x : Fin 128) : BitVec.ofBool (decide ((0 : EReal) ≤ (((x.val : ℕ) : ℝ) : EReal))) = 1#1
    ∧ BitVec.ofBool (decide ((((x.val : ℕ) : ℝ) : EReal) ≤ ((127 : ℝ) : EReal))) = 1#1 := by
  have h0 : (0 : EReal) ≤ (((x.val : ℕ) : ℝ) : EReal) := EReal.coe_nonneg.mpr (Nat.cast_nonneg _)
  have h1 : (((x.val : ℕ) : ℝ) : EReal) ≤ ((127 : ℝ) : EReal) := by
    have : (((x.val : ℕ) : ℝ)) ≤ ((127 : ℕ) : ℝ) := Nat.cast_le.mpr (by omega)
    exact_mod_cast this
  exact ⟨by rw [decide_eq_true h0]; rfl, by rw [decide_eq_true h1]; rfl⟩

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32) (x9 x10 : FVec Ideal S192 .f32) (x11 : FVec Ideal S1x192x3x3 .f32)

theorem v433_at (x y : Fin 64) (n : Fin 8) (k : Fin 192) (p : Fin 128)
    (hx : val_main_v404 (F := Ideal) x0 x1 x2 x3 x4 x5 x6 x7 x8 x9 x10 x11 (ix2 n p) = (((x.val : ℕ) : ℝ) : EReal)) (hy : val_main_v405 (F := Ideal) x0 x1 x2 x3 x4 x5 x6 x7 x8 x9 x10 x11 (ix2 n p) = (((y.val : ℕ) : ℝ) : EReal)) :
    val_main_v433 (F := Ideal) x0 x1 x2 x3 x4 x5 x6 x7 x8 x9 x10 x11 (ix3 n k p) = x0 (ix4 n k y x) := by
  have c5 : val_main_call17_v5 (F := Ideal) x0 x1 x2 x3 x4 x5 x6 x7 x8 x9 x10 x11 (ix4 n k p 0) = BitVec.ofNat 32 (y.val * 64 + x.val) := by
    pointwise [val_main_call17_v5, val_main_call17_v4, val_main_call17_v1, val_main_call17_v3, val_main_v428, val_main_call17_v0, val_main_call17_v2, val_main_v427, val_main_call17_c, val_main_call17_c_0, val_main_v426, val_main_v425, val_main_v421, val_main_v423, val_main_v424, val_main_v420, val_main_v422, val_main_c_81, val_main_call15_v4, val_main_call15_v2, val_main_call16_v4, val_main_call16_v2, val_main_call15_v3, val_main_call15_v1, val_main_call16_v3, val_main_call16_v1, val_main_c_78, val_main_call15_v0, val_main_c_80, val_main_call16_v0, val_main_c_77, val_main_c_79]
    rw [hx, hy, clip64, clip64, word_fold, word_fold, word_of _ (by omega), word_of _ (by omega), flat64, not_neg _ (by omega)]
  have c12 : val_main_call17_v12 (F := Ideal) x0 x1 x2 x3 x4 x5 x6 x7 x8 x9 x10 x11 (ix3 n k p) = 1#1 := by
    pointwise [val_main_call17_v12, val_main_call17_c_3]
    rw [show (Finset.univ : Finset (Fin 1)) = {0} from rfl, Finset.fold_singleton]
    pointwise [val_main_call17_v11, val_main_call17_v7, val_main_call17_v10, val_main_call17_v6, val_main_call17_v9, val_main_call17_c_2, val_main_call17_v8, val_main_call17_c_1]
    rw [c5]
    exact congrArg (fun t => IntOp.andi t 1#1) (in_range (y.val * 64 + x.val) 4095 (by omega) (by decide))
  have c13 : val_main_call17_v13 (F := Ideal) x0 x1 x2 x3 x4 x5 x6 x7 x8 x9 x10 x11 (ix3 n k p) = x0 (ix4 n k y x) := by
    refine (take_at _ _ _ (⟨y.val * 64 + x.val, by omega⟩ : Fin 4096) n k p (by rw [c5, of_word _ (by omega)]; rfl)).trans ?_
    pointwise [val_main_v408]
  pointwise [val_main_v433, val_main_v429, val_main_v432, val_main_call17_v14, val_main_v431, val_main_call17_cst, val_main_v430, val_main_v419, val_main_v416, val_main_v418, val_main_v413, val_main_v415, val_main_v417, val_main_v410, val_main_v412, val_main_v414, val_main_cst_76, val_main_v409, val_main_v411, val_main_cst_75, val_main_cst_73, val_main_cst_74]
  rw [c12, c13, hx, hy, n63_val, (unit64 x).1, (unit64 x).2, (unit64 y).1, (unit64 y).2]
  refine Eq.trans (congrArg (fun t : EReal => x0 (ix4 n k y x) * t) true_val) ?_
  exact mul_one _

theorem v599_at (x y : Fin 128) (n : Fin 8) (k : Fin 192) (p : Fin 128)
    (hx : val_main_v570 (F := Ideal) x0 x1 x2 x3 x4 x5 x6 x7 x8 x9 x10 x11 (ix2 n p) = (((x.val : ℕ) : ℝ) : EReal)) (hy : val_main_v571 (F := Ideal) x0 x1 x2 x3 x4 x5 x6 x7 x8 x9 x10 x11 (ix2 n p) = (((y.val : ℕ) : ℝ) : EReal)) :
    val_main_v599 (F := Ideal) x0 x1 x2 x3 x4 x5 x6 x7 x8 x9 x10 x11 (ix3 n k p) = x1 (ix4 n k y x) := by
  have c5 : val_main_call29_v5 (F := Ideal) x0 x1 x2 x3 x4 x5 x6 x7 x8 x9 x10 x11 (ix4 n k p 0) = BitVec.ofNat 32 (y.val * 128 + x.val) := by
    pointwise [val_main_call29_v5, val_main_call29_v4, val_main_call29_v1, val_main_call29_v3, val_main_v594, val_main_call29_v0, val_main_call29_v2, val_main_v593, val_main_call29_c, val_main_call29_c_0, val_main_v592, val_main_v591, val_main_v587, val_main_v589, val_main_v590, val_main_v586, val_main_v588, val_main_c_135, val_main_call27_v4, val_main_call27_v2, val_main_call28_v4, val_main_call28_v2, val_main_call27_v3, val_main_call27_v1, val_main_call28_v3, val_main_call28_v1, val_main_c_132, val_main_call27_v0, val_main_c_134, val_main_call28_v0, val_main_c_131, val_main_c_133]
    rw [hx, hy, clip128, clip128, word_fold, word_fold, word_of _ (by omega), word_of _ (by omega), flat128, not_neg _ (by omega)]
  have c12 : val_main_call29_v12 (F := Ideal) x0 x1 x2 x3 x4 x5 x6 x7 x8 x9 x10 x11 (ix3 n k p) = 1#1 := by
    pointwise [val_main_call29_v12, val_main_call29_c_3]
    rw [show (Finset.univ : Finset (Fin 1)) = {0} from rfl, Finset.fold_singleton]
    pointwise [val_main_call29_v11, val_main_call29_v7, val_main_call29_v10, val_main_call29_v6, val_main_call29_v9, val_main_call29_c_2, val_main_call29_v8, val_main_call29_c_1]
    rw [c5]
    exact congrArg (fun t => IntOp.andi t 1#1) (in_range (y.val * 128 + x.val) 16383 (by omega) (by decide))
  have c13 : val_main_call29_v13 (F := Ideal) x0 x1 x2 x3 x4 x5 x6 x7 x8 x9 x10 x11 (ix3 n k p) = x1 (ix4 n k y x) := by
    refine (take_at _ _ _ (⟨y.val * 128 + x.val, by omega⟩ : Fin 16384) n k p (by rw [c5, of_word _ (by omega)]; rfl)).trans ?_
    pointwise [val_main_v574]
  pointwise [val_main_v599, val_main_v595, val_main_v598, val_main_call29_v14, val_main_v597, val_main_call29_cst, val_main_v596, val_main_v585, val_main_v582, val_main_v584, val_main_v579, val_main_v581, val_main_v583, val_main_v576, val_main_v578, val_main_v580, val_main_cst_130, val_main_v575, val_main_v577, val_main_cst_129, val_main_cst_127, val_main_cst_128]
  rw [c12, c13, hx, hy, n127_val, (unit128 x).1, (unit128 x).2, (unit128 y).1, (unit128 y).2]
  refine Eq.trans (congrArg (fun t : EReal => x1 (ix4 n k y x) * t) true_val) ?_
  exact mul_one _

theorem v626_at (x y : Fin 128) (n : Fin 8) (k : Fin 192) (p : Fin 128)
    (hx : val_main_v601 (F := Ideal) x0 x1 x2 x3 x4 x5 x6 x7 x8 x9 x10 x11 (ix2 n p) = (((x.val : ℕ) : ℝ) : EReal)) (hy : val_main_v571 (F := Ideal) x0 x1 x2 x3 x4 x5 x6 x7 x8 x9 x10 x11 (ix2 n p) = (((y.val : ℕ) : ℝ) : EReal)) :
    val_main_v626 (F := Ideal) x0 x1 x2 x3 x4 x5 x6 x7 x8 x9 x10 x11 (ix3 n k p) = x1 (ix4 n k y x) := by
  have c5 : val_main_call32_v5 (F := Ideal) x0 x1 x2 x3 x4 x5 x6 x7 x8 x9 x10 x11 (ix4 n k p 0) = BitVec.ofNat 32 (y.val * 128 + x.val) := by
    pointwise [val_main_call32_v5, val_main_call32_v4, val_main_call32_v1, val_main_call32_v3, val_main_v621, val_main_call32_v0, val_main_call32_v2, val_main_v620, val_main_call32_c, val_main_call32_c_0, val_main_v619, val_main_v618, val_main_v614, val_main_v616, val_main_v617, val_main_v613, val_main_v615, val_main_c_145, val_main_call30_v4, val_main_call30_v2, val_main_call31_v4, val_main_call31_v2, val_main_call30_v3, val_main_call30_v1, val_main_call31_v3, val_main_call31_v1, val_main_c_142, val_main_call30_v0, val_main_c_144, val_main_call31_v0, val_main_c_141, val_main_c_143]
    rw [hx, hy, clip128, clip128, word_fold, word_fold, word_of _ (by omega), word_of _ (by omega), flat128, not_neg _ (by omega)]
  have c12 : val_main_call32_v12 (F := Ideal) x0 x1 x2 x3 x4 x5 x6 x7 x8 x9 x10 x11 (ix3 n k p) = 1#1 := by
    pointwise [val_main_call32_v12, val_main_call32_c_3]
    rw [show (Finset.univ : Finset (Fin 1)) = {0} from rfl, Finset.fold_singleton]
    pointwise [val_main_call32_v11, val_main_call32_v7, val_main_call32_v10, val_main_call32_v6, val_main_call32_v9, val_main_call32_c_2, val_main_call32_v8, val_main_call32_c_1]
    rw [c5]
    exact congrArg (fun t => IntOp.andi t 1#1) (in_range (y.val * 128 + x.val) 16383 (by omega) (by decide))
  have c13 : val_main_call32_v13 (F := Ideal) x0 x1 x2 x3 x4 x5 x6 x7 x8 x9 x10 x11 (ix3 n k p) = x1 (ix4 n k y x) := by
    refine (take_at _ _ _ (⟨y.val * 128 + x.val, by omega⟩ : Fin 16384) n k p (by rw [c5, of_word _ (by omega)]; rfl)).trans ?_
    pointwise [val_main_v574]
  pointwise [val_main_v626, val_main_v622, val_main_v625, val_main_call32_v14, val_main_v624, val_main_call32_cst, val_main_v623, val_main_v612, val_main_v609, val_main_v611, val_main_v606, val_main_v608, val_main_v610, val_main_v603, val_main_v605, val_main_v607, val_main_cst_140, val_main_v602, val_main_v604, val_main_cst_139, val_main_cst_137, val_main_cst_138]
  rw [c12, c13, hx, hy, n127_val, (unit128 x).1, (unit128 x).2, (unit128 y).1, (unit128 y).2]
  refine Eq.trans (congrArg (fun t : EReal => x1 (ix4 n k y x) * t) true_val) ?_
  exact mul_one _

theorem v653_at (x y : Fin 128) (n : Fin 8) (k : Fin 192) (p : Fin 128)
    (hx : val_main_v570 (F := Ideal) x0 x1 x2 x3 x4 x5 x6 x7 x8 x9 x10 x11 (ix2 n p) = (((x.val : ℕ) : ℝ) : EReal)) (hy : val_main_v628 (F := Ideal) x0 x1 x2 x3 x4 x5 x6 x7 x8 x9 x10 x11 (ix2 n p) = (((y.val : ℕ) : ℝ) : EReal)) :
    val_main_v653 (F := Ideal) x0 x1 x2 x3 x4 x5 x6 x7 x8 x9 x10 x11 (ix3 n k p) = x1 (ix4 n k y x) := by
  have c5 : val_main_call35_v5 (F := Ideal) x0 x1 x2 x3 x4 x5 x6 x7 x8 x9 x10 x11 (ix4 n k p 0) = BitVec.ofNat 32 (y.val * 128 + x.val) := by
    pointwise [val_main_call35_v5, val_main_call35_v4, val_main_call35_v1, val_main_call35_v3, val_main_v648, val_main_call35_v0, val_main_call35_v2, val_main_v647, val_main_call35_c, val_main_call35_c_0, val_main_v646, val_main_v645, val_main_v641, val_main_v643, val_main_v644, val_main_v640, val_main_v642, val_main_c_155, val_main_call33_v4, val_main_call33_v2, val_main_call34_v4, val_main_call34_v2, val_main_call33_v3, val_main_call33_v1, val_main_call34_v3, val_main_call34_v1, val_main_c_152, val_main_call33_v0, val_main_c_154, val_main_call34_v0, val_main_c_151, val_main_c_153]
    rw [hx, hy, clip128, clip128, word_fold, word_fold, word_of _ (by omega), word_of _ (by omega), flat128, not_neg _ (by omega)]
  have c12 : val_main_call35_v12 (F := Ideal) x0 x1 x2 x3 x4 x5 x6 x7 x8 x9 x10 x11 (ix3 n k p) = 1#1 := by
    pointwise [val_main_call35_v12, val_main_call35_c_3]
    rw [show (Finset.univ : Finset (Fin 1)) = {0} from rfl, Finset.fold_singleton]
    pointwise [val_main_call35_v11, val_main_call35_v7, val_main_call35_v10, val_main_call35_v6, val_main_call35_v9, val_main_call35_c_2, val_main_call35_v8, val_main_call35_c_1]
    rw [c5]
    exact congrArg (fun t => IntOp.andi t 1#1) (in_range (y.val * 128 + x.val) 16383 (by omega) (by decide))
  have c13 : val_main_call35_v13 (F := Ideal) x0 x1 x2 x3 x4 x5 x6 x7 x8 x9 x10 x11 (ix3 n k p) = x1 (ix4 n k y x) := by
    refine (take_at _ _ _ (⟨y.val * 128 + x.val, by omega⟩ : Fin 16384) n k p (by rw [c5, of_word _ (by omega)]; rfl)).trans ?_
    pointwise [val_main_v574]
  pointwise [val_main_v653, val_main_v649, val_main_v652, val_main_call35_v14, val_main_v651, val_main_call35_cst, val_main_v650, val_main_v639, val_main_v636, val_main_v638, val_main_v633, val_main_v635, val_main_v637, val_main_v630, val_main_v632, val_main_v634, val_main_cst_150, val_main_v629, val_main_v631, val_main_cst_149, val_main_cst_147, val_main_cst_148]
  rw [c12, c13, hx, hy, n127_val, (unit128 x).1, (unit128 x).2, (unit128 y).1, (unit128 y).2]
  refine Eq.trans (congrArg (fun t : EReal => x1 (ix4 n k y x) * t) true_val) ?_
  exact mul_one _

theorem v682_at (x y : Fin 128) (n : Fin 8) (k : Fin 192) (p : Fin 128)
    (hx : val_main_v655 (F := Ideal) x0 x1 x2 x3 x4 x5 x6 x7 x8 x9 x10 x11 (ix2 n p) = (((x.val : ℕ) : ℝ) : EReal)) (hy : val_main_v657 (F := Ideal) x0 x1 x2 x3 x4 x5 x6 x7 x8 x9 x10 x11 (ix2 n p) = (((y.val : ℕ) : ℝ) : EReal)) :
    val_main_v682 (F := Ideal) x0 x1 x2 x3 x4 x5 x6 x7 x8 x9 x10 x11 (ix3 n k p) = x1 (ix4 n k y x) := by
  have c5 : val_main_call38_v5 (F := Ideal) x0 x1 x2 x3 x4 x5 x6 x7 x8 x9 x10 x11 (ix4 n k p 0) = BitVec.ofNat 32 (y.val * 128 + x.val) := by
    pointwise [val_main_call38_v5, val_main_call38_v4, val_main_call38_v1, val_main_call38_v3, val_main_v677, val_main_call38_v0, val_main_call38_v2, val_main_v676, val_main_call38_c, val_main_call38_c_0, val_main_v675, val_main_v674, val_main_v670, val_main_v672, val_main_v673, val_main_v669, val_main_v671, val_main_c_166, val_main_call36_v4, val_main_call36_v2, val_main_call37_v4, val_main_call37_v2, val_main_call36_v3, val_main_call36_v1, val_main_call37_v3, val_main_call37_v1, val_main_c_163, val_main_call36_v0, val_main_c_165, val_main_call37_v0, val_main_c_162, val_main_c_164]
    rw [hx, hy, clip128, clip128, word_fold, word_fold, word_of _ (by omega), word_of _ (by omega), flat128, not_neg _ (by omega)]
  have c12 : val_main_call38_v12 (F := Ideal) x0 x1 x2 x3 x4 x5 x6 x7 x8 x9 x10 x11 (ix3 n k p) = 1#1 := by
    pointwise [val_main_call38_v12, val_main_call38_c_3]
    rw [show (Finset.univ : Finset (Fin 1)) = {0} from rfl, Finset.fold_singleton]
    pointwise [val_main_call38_v11, val_main_call38_v7, val_main_call38_v10, val_main_call38_v6, val_main_call38_v9, val_main_call38_c_2, val_main_call38_v8, val_main_call38_c_1]
    rw [c5]
    exact congrArg (fun t => IntOp.andi t 1#1) (in_range (y.val * 128 + x.val) 16383 (by omega) (by decide))
  have c13 : val_main_call38_v13 (F := Ideal) x0 x1 x2 x3 x4 x5 x6 x7 x8 x9 x10 x11 (ix3 n k p) = x1 (ix4 n k y x) := by
    refine (take_at _ _ _ (⟨y.val * 128 + x.val, by omega⟩ : Fin 16384) n k p (by rw [c5, of_word _ (by omega)]; rfl)).trans ?_
    pointwise [val_main_v574]
  pointwise [val_main_v682, val_main_v678, val_main_v681, val_main_call38_v14, val_main_v680, val_main_call38_cst, val_main_v679, val_main_v668, val_main_v665, val_main_v667, val_main_v662, val_main_v664, val_main_v666, val_main_v659, val_main_v661, val_main_v663, val_main_cst_161, val_main_v658, val_main_v660, val_main_cst_160, val_main_cst_158, val_main_cst_159]
  rw [c12, c13, hx, hy, n127_val, (unit128 x).1, (unit128 x).2, (unit128 y).1, (unit128 y).2]
  refine Eq.trans (congrArg (fun t : EReal => x1 (ix4 n k y x) * t) true_val) ?_
  exact mul_one _

end

end Cert.Ref

end

end
-- ==== Proof.RefTop.lean ====
module

public import proofs.«01_k».proof.Proof.RefEdge
public import proofs.«01_k».proof.Proof.FuseSpec

/-! The reference's picked positions, and the coordinates it makes from them. -/

@[expose] public section

set_option maxRecDepth 16384

noncomputable section

open Idealize.ShloMosaic Idealize.SL.Sem

namespace Cert.Ref

open Cert.ReferenceIdeal Cert.ReferenceIdeal.Gen Cert.ReferenceIdeal.Read
open Cert.Host Cert.Tables Cert.Spec

/-- The second array of a stable sort of two, along the second axis. -/
theorem sort2_at {A N : ℕ} {α β : Type} (cmp : α × β → α × β → BitVec 1) (x : (⟨2, ![A, N]⟩ : Shape).Idx → α)
    (y : (⟨2, ![A, N]⟩ : Shape).Idx → β) (j : (⟨2, ![A, N]⟩ : Shape).Idx) :
    (Host.sort2 ⟨2, ![A, N]⟩ 1 cmp x y).2 j = y (j.along (1 : Fin 2) (sortedFrom (fun k k' =>
      cmp (x (j.along (1 : Fin 2) k), y (j.along (1 : Fin 2) k)) (x (j.along (1 : Fin 2) k'), y (j.along (1 : Fin 2) k')) == 1#1) (j 1))) := rfl

theorem head_at (y : S8x4096.Idx → BitVec 32) (n : Fin 8) (p : Fin 128) :
    extractStridedSlice S8x128 (fun _ => 0) y sliceFits_S8x4096_S8x128 (ix2 n p) = y (ix2 n (p.castLE (by decide))) := by
  unfold extractStridedSlice
  refine congrArg y (funext fun a => Fin.ext ?_)
  match a with
  | ⟨0, _⟩ => exact Nat.zero_add _
  | ⟨1, _⟩ => exact Nat.zero_add _

/-- The stable sort of an image's entries, the greatest first, gives the picked positions. -/
theorem topK_at (v : FVec Ideal S8x4096 .f32) (n : Fin 8) (hv : ∀ q : Fin 4096, (v (ix2 n q) : EReal) ≠ ⊥) (p : Fin 128) :
    (Host.topK S8x128 1 (FloatOps.cmpfTotal (F := Ideal) (φ := .f32) .gt) v sliceFits_S8x4096_S8x128).2 (ix2 n p)
      = BitVec.ofNat 32 (TopMath.sel (fun q : Fin 4096 => (v (ix2 n q) : EReal)) p.val) := by
  rw [← TopMath.sorted_sel (fun q : Fin 4096 => (v (ix2 n q) : EReal)) hv (by decide : 128 ≤ 4096) p]
  unfold Host.topK
  dsimp only
  rw [head_at]
  refine (sort2_at _ _ _ _).trans ?_
  have e : ∀ k : Fin 4096, (ix2 n (p.castLE (by decide) : Fin 4096) : S8x4096.Idx).along (1 : Fin 2) k = ix2 n k := fun k => by idx_ext
  have h : (fun k k' : Fin 4096 => FloatOps.cmpfTotal (F := Ideal) (φ := .f32) .gt
        (v ((ix2 n (p.castLE (by decide) : Fin 4096) : S8x4096.Idx).along (1 : Fin 2) k))
        (v ((ix2 n (p.castLE (by decide) : Fin 4096) : S8x4096.Idx).along (1 : Fin 2) k')) == 1#1)
      = fun k k' => decide ((v (ix2 n k') : EReal) < v (ix2 n k)) := by
    funext k k'
    rw [e, e]
    show (BitVec.ofBool (decide ((v (ix2 n k') : EReal) < v (ix2 n k))) == 1#1) = _
    cases decide ((v (ix2 n k') : EReal) < v (ix2 n k)) <;> rfl
  have g : ∀ s : Fin 4096, (if hd : 1 < S8x4096.rank then iotaInDim S8x4096 32 ⟨1, hd⟩
      ((ix2 n (p.castLE (by decide) : Fin 4096) : S8x4096.Idx).along (1 : Fin 2) s) else 0#32) = BitVec.ofNat 32 s.val := by
    intro s
    rw [e]
    rfl
  refine (g _).trans ?_
  exact congrArg (fun f : Fin 4096 → Fin 4096 → Bool => BitVec.ofNat 32 (sortedFrom f (p.castLE (by decide) : Fin 4096)).val) h

/-- The remainder by 64, with the divisor's sign. -/
theorem mod_word : ∀ a b : Fin 64,
    (let w := BitVec.ofNat 32 (a.val * 64 + b.val)
     Scalar.select (IntOp.andi (IntOp.cmpi .ne (IntOp.cmpi .slt (IntOp.remsi .host w 64#32) 0#32) (IntOp.cmpi .slt (64#32 : BitVec 32) 0#32))
        (IntOp.cmpi .ne (IntOp.remsi .host w 64#32) 0#32)) (IntOp.addi (IntOp.remsi .host w 64#32) 64#32) (IntOp.remsi .host w 64#32))
      = BitVec.ofNat 32 b.val := by decide +kernel

/-- The quotient by 64, rounded down. -/
theorem div_word : ∀ a b : Fin 64,
    (let w := BitVec.ofNat 32 (a.val * 64 + b.val)
     Scalar.select (IntOp.andi (IntOp.cmpi .ne (if w = 0 then (0 : BitVec 32) else if BitVec.msb w = true then -1 else 1) (1 : BitVec 32))
        (IntOp.cmpi .ne (IntOp.remsi .host w 64#32) 0#32)) (IntOp.subi (IntOp.divsi .host w 64#32) 1#32) (IntOp.divsi .host w 64#32))
      = BitVec.ofNat 32 a.val := by decide +kernel

theorem two_val : (Ideal.ofBits .f32 1073741824#32 : EReal) = ((2 : ℝ) : EReal) := by
  simp [Ideal.ofBits, Ideal.ieee, -EReal.coe_mul]; norm_num
theorem r128_val : (Ideal.ofBits .f32 1006632960#32 : EReal) = ((1 / 128 : ℝ) : EReal) := by
  simp [Ideal.ofBits, Ideal.ieee, -EReal.coe_mul]; norm_num
theorem n128_val : (Ideal.ofBits .f32 1124073472#32 : EReal) = ((128 : ℝ) : EReal) := by
  simp [Ideal.ofBits, Ideal.ieee, -EReal.coe_mul]; norm_num

/-- The middle of a cell of the unit interval, as a place among 64 cells. -/
theorem cell64 (k : ℕ) : Ideal.div
      ((Ideal.ofBits FTy.f32 1073741824#32 * (Ideal.ofBits FTy.f32 1006632960#32 + ((k : ℝ) : EReal) * Ideal.ofBits FTy.f32 1015021568#32) - 1 + 1)
        * Ideal.ofBits FTy.f32 1115684864#32 - 1) (Ideal.ofBits FTy.f32 1073741824#32) = ((k : ℝ) : EReal) := by
  rw [two_val, r128_val, n64_val, r64_val, Ideal.div_coe (by norm_num), ← EReal.coe_one]
  norm_cast
  push_cast
  ring

/-- The same place among 128 cells. -/
theorem cell128 (k : ℕ) : Ideal.div
      ((Ideal.ofBits FTy.f32 1073741824#32 * (Ideal.ofBits FTy.f32 1006632960#32 + ((k : ℝ) : EReal) * Ideal.ofBits FTy.f32 1015021568#32) - 1 + 1)
        * Ideal.ofBits FTy.f32 1124073472#32 - 1) (Ideal.ofBits FTy.f32 1073741824#32) = (((2 * k : ℕ) + 1 / 2 : ℝ) : EReal) := by
  rw [two_val, r128_val, n128_val, r64_val, Ideal.div_coe (by norm_num), ← EReal.coe_one]
  norm_cast
  push_cast
  ring

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32) (x9 x10 : FVec Ideal S192 .f32) (x11 : FVec Ideal S1x192x3x3 .f32)

/-- The picked positions. -/
theorem indices_at (h3 : ∀ d : Fin 64, x3 (ix1 d) = (0 : EReal)) (h5 : ∀ d : Fin 64, x5 (ix1 d) = (0 : EReal))
    (ha : ∀ n i j, out (argsOf x0 x1 x2 x4 x6 x7 x8 x9 x10 x11) n i j ≠ ⊥) (n : Fin 8) (p : Fin 128) :
    val_main_indices (F := Ideal) x0 x1 x2 x3 x4 x5 x6 x7 x8 x9 x10 x11 (ix2 n p)
      = BitVec.ofNat 32 (Fuse.top (argsOf x0 x1 x2 x4 x6 x7 x8 x9 x10 x11) n p) := by
  have e : ∀ q : Fin 4096, (val_main_v350 (F := Ideal) x0 x1 x2 x3 x4 x5 x6 x7 x8 x9 x10 x11 (ix2 n q) : EReal)
      = out (argsOf x0 x1 x2 x4 x6 x7 x8 x9 x10 x11) n (Fuse.row q) (Fuse.col q) := by
    intro q
    refine Eq.trans ?_ (v349_at x0 x1 x2 x3 x4 x5 x6 x7 x8 x9 x10 x11 h3 h5 n 0 (Fuse.row q) (Fuse.col q))
    pointwise [val_main_v350]
    rfl
  refine (topK_at _ n (fun q => by rw [e]; exact ha n _ _) p).trans ?_
  exact congrArg (fun v : Fin 4096 → EReal => BitVec.ofNat 32 (TopMath.sel v p.val).val) (funext e)

variable (T : Fin 4096) (n : Fin 8) (p : Fin 128) (h : val_main_indices (F := Ideal) x0 x1 x2 x3 x4 x5 x6 x7 x8 x9 x10 x11 (ix2 n p) = BitVec.ofNat 32 T)
include h

theorem split_word : val_main_indices (F := Ideal) x0 x1 x2 x3 x4 x5 x6 x7 x8 x9 x10 x11 (ix2 n p) = BitVec.ofNat 32 ((Fuse.row T).val * 64 + (Fuse.col T).val) := by
  rw [h]
  exact congrArg (BitVec.ofNat 32) (by show T.val = T.val / 64 * 64 + T.val % 64; omega)

theorem v351_at : val_main_v351 (F := Ideal) x0 x1 x2 x3 x4 x5 x6 x7 x8 x9 x10 x11 (ix2 n p) = BitVec.ofNat 32 (Fuse.col T).val := by
  pointwise [val_main_v351, val_main_call11_v12, val_main_call11_v14, val_main_call11_v4, val_main_call11_v11, val_main_call11_v6, val_main_call11_v13, val_main_call11_v3, val_main_call11_v8, val_main_call11_v10, val_main_call11_v5, val_main_call11_v2, val_main_call11_v7, val_main_call11_v9, val_main_call11_c_1, val_main_call11_v1, val_main_call11_c_0, val_main_call11_v0, val_main_call11_c_2, val_main_call11_c_3, val_main_call11_c, val_main_c_52]
  rw [split_word x0 x1 x2 x3 x4 x5 x6 x7 x8 x9 x10 x11 T n p h]
  exact mod_word (Fuse.row T) (Fuse.col T)
theorem v366_at : val_main_v366 (F := Ideal) x0 x1 x2 x3 x4 x5 x6 x7 x8 x9 x10 x11 (ix2 n p) = BitVec.ofNat 32 (Fuse.col T).val := by
  pointwise [val_main_v366, val_main_call13_v12, val_main_call13_v14, val_main_call13_v4, val_main_call13_v11, val_main_call13_v6, val_main_call13_v13, val_main_call13_v3, val_main_call13_v8, val_main_call13_v10, val_main_call13_v5, val_main_call13_v2, val_main_call13_v7, val_main_call13_v9, val_main_call13_c_1, val_main_call13_v1, val_main_call13_c_0, val_main_call13_v0, val_main_call13_c_2, val_main_call13_c_3, val_main_call13_c, val_main_c_58]
  rw [split_word x0 x1 x2 x3 x4 x5 x6 x7 x8 x9 x10 x11 T n p h]
  exact mod_word (Fuse.row T) (Fuse.col T)
theorem v357_at : val_main_v357 (F := Ideal) x0 x1 x2 x3 x4 x5 x6 x7 x8 x9 x10 x11 (ix2 n p) = BitVec.ofNat 32 (Fuse.row T).val := by
  pointwise [val_main_v357, val_main_call12_v11, val_main_call12_v13, val_main_call12_v2, val_main_call12_v6, val_main_call12_v10, val_main_call12_v12, val_main_call12_v1, val_main_call12_v3, val_main_call12_v5, val_main_call12_v8, val_main_call12_v9, val_main_call12_c_0, val_main_call12_v0, val_main_call12_v4, val_main_call12_v7, val_main_call12_c, val_main_c_55]
  rw [split_word x0 x1 x2 x3 x4 x5 x6 x7 x8 x9 x10 x11 T n p h]
  exact div_word (Fuse.row T) (Fuse.col T)
theorem v370_at : val_main_v370 (F := Ideal) x0 x1 x2 x3 x4 x5 x6 x7 x8 x9 x10 x11 (ix2 n p) = BitVec.ofNat 32 (Fuse.row T).val := by
  pointwise [val_main_v370, val_main_call14_v11, val_main_call14_v13, val_main_call14_v2, val_main_call14_v6, val_main_call14_v10, val_main_call14_v12, val_main_call14_v1, val_main_call14_v3, val_main_call14_v5, val_main_call14_v8, val_main_call14_v9, val_main_call14_c_0, val_main_call14_v0, val_main_call14_v4, val_main_call14_v7, val_main_call14_c, val_main_c_60]
  rw [split_word x0 x1 x2 x3 x4 x5 x6 x7 x8 x9 x10 x11 T n p h]
  exact div_word (Fuse.row T) (Fuse.col T)

/-- The picked column among the 64 of the small map. -/
theorem v393_at : val_main_v393 (F := Ideal) x0 x1 x2 x3 x4 x5 x6 x7 x8 x9 x10 x11 (ix2 n p) = (((Fuse.col T).val : ℝ) : EReal) := by
  pointwise [val_main_v393, val_main_v391, val_main_v392, val_main_v389, val_main_v390, val_main_cst_68, val_main_v387, val_main_v388, val_main_cst_67, val_main_v385, val_main_v386, val_main_cst_66, val_main_v384, val_main_cst_65, val_main_v383, val_main_v381, val_main_v382, val_main_v380, val_main_v365, val_main_cst_64, val_main_cst_63, val_main_v363, val_main_v364, val_main_v356, val_main_v362, val_main_v355, val_main_v354, val_main_v361, val_main_v360, val_main_cst_54, val_main_v352, val_main_v353, val_main_cst_57, val_main_v358, val_main_v359, val_main_cst_53, val_main_cst_56]
  rw [v351_at x0 x1 x2 x3 x4 x5 x6 x7 x8 x9 x10 x11 T n p h, real_of _ (by have := (Fuse.col T).isLt; omega)]
  exact cell64 _
/-- The picked row among the 64 of the small map. -/
theorem v403_at : val_main_v403 (F := Ideal) x0 x1 x2 x3 x4 x5 x6 x7 x8 x9 x10 x11 (ix2 n p) = (((Fuse.row T).val : ℝ) : EReal) := by
  pointwise [val_main_v403, val_main_v401, val_main_v402, val_main_v399, val_main_v400, val_main_cst_72, val_main_v397, val_main_v398, val_main_cst_71, val_main_v395, val_main_v396, val_main_cst_70, val_main_v394, val_main_cst_69, val_main_v383, val_main_v381, val_main_v382, val_main_v380, val_main_v365, val_main_cst_64, val_main_cst_63, val_main_v363, val_main_v364, val_main_v356, val_main_v362, val_main_v355, val_main_v354, val_main_v361, val_main_v360, val_main_cst_54, val_main_v352, val_main_v353, val_main_cst_57, val_main_v358, val_main_v359, val_main_cst_53, val_main_cst_56]
  rw [v357_at x0 x1 x2 x3 x4 x5 x6 x7 x8 x9 x10 x11 T n p h, real_of _ (by have := (Fuse.row T).isLt; omega)]
  exact cell64 _
/-- The picked column among the 128 of the large map. -/
theorem v559_at : val_main_v559 (F := Ideal) x0 x1 x2 x3 x4 x5 x6 x7 x8 x9 x10 x11 (ix2 n p) = (((2 * (Fuse.col T).val : ℕ) + 1 / 2 : ℝ) : EReal) := by
  pointwise [val_main_v559, val_main_v557, val_main_v558, val_main_v555, val_main_v556, val_main_cst_122, val_main_v553, val_main_v554, val_main_cst_121, val_main_v551, val_main_v552, val_main_cst_120, val_main_v550, val_main_cst_119, val_main_v549, val_main_v547, val_main_v548, val_main_v546, val_main_v365, val_main_cst_118, val_main_cst_117, val_main_v363, val_main_v364, val_main_v356, val_main_v362, val_main_v355, val_main_v354, val_main_v361, val_main_v360, val_main_cst_54, val_main_v352, val_main_v353, val_main_cst_57, val_main_v358, val_main_v359, val_main_cst_53, val_main_cst_56]
  rw [v351_at x0 x1 x2 x3 x4 x5 x6 x7 x8 x9 x10 x11 T n p h, real_of _ (by have := (Fuse.col T).isLt; omega)]
  exact cell128 _
/-- The picked row among the 128 of the large map. -/
theorem v569_at : val_main_v569 (F := Ideal) x0 x1 x2 x3 x4 x5 x6 x7 x8 x9 x10 x11 (ix2 n p) = (((2 * (Fuse.row T).val : ℕ) + 1 / 2 : ℝ) : EReal) := by
  pointwise [val_main_v569, val_main_v567, val_main_v568, val_main_v565, val_main_v566, val_main_cst_126, val_main_v563, val_main_v564, val_main_cst_125, val_main_v561, val_main_v562, val_main_cst_124, val_main_v560, val_main_cst_123, val_main_v549, val_main_v547, val_main_v548, val_main_v546, val_main_v365, val_main_cst_118, val_main_cst_117, val_main_v363, val_main_v364, val_main_v356, val_main_v362, val_main_v355, val_main_v354, val_main_v361, val_main_v360, val_main_cst_54, val_main_v352, val_main_v353, val_main_cst_57, val_main_v358, val_main_v359, val_main_cst_53, val_main_cst_56]
  rw [v357_at x0 x1 x2 x3 x4 x5 x6 x7 x8 x9 x10 x11 T n p h, real_of _ (by have := (Fuse.row T).isLt; omega)]
  exact cell128 _
/-- The position of the large map that is written. -/
theorem v379_at (k : Fin 192) : val_main_v379 (F := Ideal) x0 x1 x2 x3 x4 x5 x6 x7 x8 x9 x10 x11 (ix3 n k p) = BitVec.ofNat 32 (Fuse.place T).val := by
  pointwise [val_main_v379, val_main_v378, val_main_v377, val_main_v376, val_main_v369, val_main_v375, val_main_v367, val_main_v368, val_main_v373, val_main_v374, val_main_cst_59, val_main_v371, val_main_v372, val_main_cst_62, val_main_cst_61]
  rw [v366_at x0 x1 x2 x3 x4 x5 x6 x7 x8 x9 x10 x11 T n p h, v370_at x0 x1 x2 x3 x4 x5 x6 x7 x8 x9 x10 x11 T n p h, real_of _ (by have := (Fuse.col T).isLt; omega), real_of _ (by have := (Fuse.row T).isLt; omega),
    two_val, n128_val, word_fold]
  refine Eq.trans ?_ (word_of (Fuse.place T).val (by have := (Fuse.place T).isLt; omega))
  congr 1
  show _ = (((2 * (T.val % 64) + 256 * (T.val / 64) : ℕ) : ℝ) : EReal)
  rw [← EReal.coe_mul, ← EReal.coe_mul, ← EReal.coe_mul, ← EReal.coe_add]
  congr 1
  show ((T.val % 64 : ℕ) : ℝ) * 2 + ((T.val / 64 : ℕ) : ℝ) * 2 * 128 = _
  push_cast
  ring
end
end Cert.Ref
end
end
-- ==== Proof.RefSample.lean ====
module

public import proofs.«01_k».proof.Proof.RefTake
public import proofs.«01_k».proof.Proof.RefTop

/-! The reference's two samplings. -/

@[expose] public section

set_option maxRecDepth 16384

noncomputable section

open Idealize.ShloMosaic Idealize.SL.Sem

namespace Cert.Ref

open Cert.ReferenceIdeal Cert.ReferenceIdeal.Gen Cert.ReferenceIdeal.Read
open Cert.Host Cert.Tables Cert.Spec

theorem floor_nat (k : ℕ) : Ideal.liftRound Int.floor (((k : ℕ) : ℝ) : EReal) = (((k : ℕ) : ℝ) : EReal) := by
  rw [Ideal.liftRound_coe]
  rw [Int.floor_natCast]
  simp
theorem floor_half (k : ℕ) : Ideal.liftRound Int.floor ((((k : ℕ) : ℝ) + 1 / 2 : ℝ) : EReal) = (((k : ℕ) : ℝ) : EReal) := by
  rw [Ideal.liftRound_coe]
  rw [Int.floor_eq_iff.mpr (show (((k : ℕ) : ℤ) : ℝ) ≤ ((k : ℕ) : ℝ) + 1 / 2 ∧ ((k : ℕ) : ℝ) + 1 / 2 < (((k : ℕ) : ℤ) : ℝ) + 1 by
    constructor <;> push_cast <;> linarith)]
  simp

/-- With no distance to the first corner the other corners have no weight. -/
theorem mix_zero (a b c d : EReal) : a * (1 - 0) * (1 - 0) + b * 0 * (1 - 0) + c * (1 - 0) * 0 + d * 0 * 0 = a := by
  simp

/-- Halfway between the corners all have the same weight. -/
theorem mix_half (a b c d : EReal) :
    a * (1 - ((1 / 2 : ℝ) : EReal)) * (1 - ((1 / 2 : ℝ) : EReal)) + b * ((1 / 2 : ℝ) : EReal) * (1 - ((1 / 2 : ℝ) : EReal))
      + c * (1 - ((1 / 2 : ℝ) : EReal)) * ((1 / 2 : ℝ) : EReal) + d * ((1 / 2 : ℝ) : EReal) * ((1 / 2 : ℝ) : EReal)
    = (a + c) * ((1 / 4 : ℝ) : EReal) + (b + d) * ((1 / 4 : ℝ) : EReal) := by
  have e : (1 - ((1 / 2 : ℝ) : EReal)) = ((1 / 2 : ℝ) : EReal) := by
    rw [← EReal.coe_one, ← EReal.coe_sub]
    norm_num
  have q : ((1 / 2 : ℝ) : EReal) * ((1 / 2 : ℝ) : EReal) = ((1 / 4 : ℝ) : EReal) := by
    rw [← EReal.coe_mul]
    norm_num
  have hq : (0 : EReal) ≤ ((1 / 4 : ℝ) : EReal) := EReal.coe_nonneg.mpr (by norm_num)
  rw [e, mul_assoc, mul_assoc, mul_assoc, mul_assoc, q, EReal.right_distrib_of_nonneg_of_ne_top hq (EReal.coe_ne_top _),
    EReal.right_distrib_of_nonneg_of_ne_top hq (EReal.coe_ne_top _)]
  ac_rfl

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32) (x9 x10 : FVec Ideal S192 .f32) (x11 : FVec Ideal S1x192x3x3 .f32)

variable (T : Fin 4096) (n : Fin 8) (p : Fin 128) (h : val_main_indices (F := Ideal) x0 x1 x2 x3 x4 x5 x6 x7 x8 x9 x10 x11 (ix2 n p) = BitVec.ofNat 32 T)
include h

theorem v404_at : val_main_v404 (F := Ideal) x0 x1 x2 x3 x4 x5 x6 x7 x8 x9 x10 x11 (ix2 n p) = (((Fuse.col T).val : ℝ) : EReal) := by
  pointwise [val_main_v404]
  rw [v393_at x0 x1 x2 x3 x4 x5 x6 x7 x8 x9 x10 x11 T n p h]
  exact floor_nat _
theorem v405_at : val_main_v405 (F := Ideal) x0 x1 x2 x3 x4 x5 x6 x7 x8 x9 x10 x11 (ix2 n p) = (((Fuse.row T).val : ℝ) : EReal) := by
  pointwise [val_main_v405]
  rw [v403_at x0 x1 x2 x3 x4 x5 x6 x7 x8 x9 x10 x11 T n p h]
  exact floor_nat _
theorem v406_at : val_main_v406 (F := Ideal) x0 x1 x2 x3 x4 x5 x6 x7 x8 x9 x10 x11 (ix2 n p) = (0 : EReal) := by
  pointwise [val_main_v406]
  rw [v393_at x0 x1 x2 x3 x4 x5 x6 x7 x8 x9 x10 x11 T n p h, v404_at x0 x1 x2 x3 x4 x5 x6 x7 x8 x9 x10 x11 T n p h, ← EReal.coe_sub, sub_self, EReal.coe_zero]
theorem v407_at : val_main_v407 (F := Ideal) x0 x1 x2 x3 x4 x5 x6 x7 x8 x9 x10 x11 (ix2 n p) = (0 : EReal) := by
  pointwise [val_main_v407]
  rw [v403_at x0 x1 x2 x3 x4 x5 x6 x7 x8 x9 x10 x11 T n p h, v405_at x0 x1 x2 x3 x4 x5 x6 x7 x8 x9 x10 x11 T n p h, ← EReal.coe_sub, sub_self, EReal.coe_zero]

/-- The sampled high-level features. -/
theorem v545_at (k : Fin 192) : val_main_v545 (F := Ideal) x0 x1 x2 x3 x4 x5 x6 x7 x8 x9 x10 x11 (ix3 n k p) = x0 (ix4 n k (Fuse.row T) (Fuse.col T)) := by
  pointwise [val_main_v545, val_main_v540, val_main_v544, val_main_v533, val_main_v539, val_main_v542, val_main_v543, val_main_v526, val_main_v532, val_main_v537, val_main_v538, val_main_v541, val_main_v518, val_main_v522, val_main_v525, val_main_v528, val_main_v531, val_main_v536, val_main_v517, val_main_v521, val_main_v524, val_main_v527, val_main_v530, val_main_v535, val_main_v520, val_main_v523, val_main_v529, val_main_v534, val_main_v519, val_main_cst_114, val_main_cst_115, val_main_cst_116, val_main_cst_113]
  rw [v406_at x0 x1 x2 x3 x4 x5 x6 x7 x8 x9 x10 x11 T n p h, v407_at x0 x1 x2 x3 x4 x5 x6 x7 x8 x9 x10 x11 T n p h,
    v433_at x0 x1 x2 x3 x4 x5 x6 x7 x8 x9 x10 x11 (Fuse.col T) (Fuse.row T) n k p (v404_at x0 x1 x2 x3 x4 x5 x6 x7 x8 x9 x10 x11 T n p h) (v405_at x0 x1 x2 x3 x4 x5 x6 x7 x8 x9 x10 x11 T n p h)]
  exact mix_zero _ _ _ _

theorem v570_at : val_main_v570 (F := Ideal) x0 x1 x2 x3 x4 x5 x6 x7 x8 x9 x10 x11 (ix2 n p) = (((2 * (Fuse.col T).val : ℕ) : ℝ) : EReal) := by
  pointwise [val_main_v570]
  rw [v559_at x0 x1 x2 x3 x4 x5 x6 x7 x8 x9 x10 x11 T n p h]
  exact floor_half _
theorem v571_at : val_main_v571 (F := Ideal) x0 x1 x2 x3 x4 x5 x6 x7 x8 x9 x10 x11 (ix2 n p) = (((2 * (Fuse.row T).val : ℕ) : ℝ) : EReal) := by
  pointwise [val_main_v571]
  rw [v569_at x0 x1 x2 x3 x4 x5 x6 x7 x8 x9 x10 x11 T n p h]
  exact floor_half _
theorem v572_at : val_main_v572 (F := Ideal) x0 x1 x2 x3 x4 x5 x6 x7 x8 x9 x10 x11 (ix2 n p) = ((1 / 2 : ℝ) : EReal) := by
  pointwise [val_main_v572]
  rw [v559_at x0 x1 x2 x3 x4 x5 x6 x7 x8 x9 x10 x11 T n p h, v570_at x0 x1 x2 x3 x4 x5 x6 x7 x8 x9 x10 x11 T n p h, ← EReal.coe_sub, add_sub_cancel_left]
theorem v573_at : val_main_v573 (F := Ideal) x0 x1 x2 x3 x4 x5 x6 x7 x8 x9 x10 x11 (ix2 n p) = ((1 / 2 : ℝ) : EReal) := by
  pointwise [val_main_v573]
  rw [v569_at x0 x1 x2 x3 x4 x5 x6 x7 x8 x9 x10 x11 T n p h, v571_at x0 x1 x2 x3 x4 x5 x6 x7 x8 x9 x10 x11 T n p h, ← EReal.coe_sub, add_sub_cancel_left]
theorem v601_at : val_main_v601 (F := Ideal) x0 x1 x2 x3 x4 x5 x6 x7 x8 x9 x10 x11 (ix2 n p) = (((2 * (Fuse.col T).val + 1 : ℕ) : ℝ) : EReal) := by
  pointwise [val_main_v601, val_main_v600, val_main_cst_136]
  rw [v570_at x0 x1 x2 x3 x4 x5 x6 x7 x8 x9 x10 x11 T n p h, ← EReal.coe_one, ← EReal.coe_add]
  exact congrArg _ (Nat.cast_succ _).symm
theorem v628_at : val_main_v628 (F := Ideal) x0 x1 x2 x3 x4 x5 x6 x7 x8 x9 x10 x11 (ix2 n p) = (((2 * (Fuse.row T).val + 1 : ℕ) : ℝ) : EReal) := by
  pointwise [val_main_v628, val_main_v627, val_main_cst_146]
  rw [v571_at x0 x1 x2 x3 x4 x5 x6 x7 x8 x9 x10 x11 T n p h, ← EReal.coe_one, ← EReal.coe_add]
  exact congrArg _ (Nat.cast_succ _).symm
theorem v655_at : val_main_v655 (F := Ideal) x0 x1 x2 x3 x4 x5 x6 x7 x8 x9 x10 x11 (ix2 n p) = (((2 * (Fuse.col T).val + 1 : ℕ) : ℝ) : EReal) := by
  pointwise [val_main_v655, val_main_v654, val_main_cst_156]
  rw [v570_at x0 x1 x2 x3 x4 x5 x6 x7 x8 x9 x10 x11 T n p h, ← EReal.coe_one, ← EReal.coe_add]
  exact congrArg _ (Nat.cast_succ _).symm
theorem v657_at : val_main_v657 (F := Ideal) x0 x1 x2 x3 x4 x5 x6 x7 x8 x9 x10 x11 (ix2 n p) = (((2 * (Fuse.row T).val + 1 : ℕ) : ℝ) : EReal) := by
  pointwise [val_main_v657, val_main_v656, val_main_cst_157]
  rw [v571_at x0 x1 x2 x3 x4 x5 x6 x7 x8 x9 x10 x11 T n p h, ← EReal.coe_one, ← EReal.coe_add]
  exact congrArg _ (Nat.cast_succ _).symm

/-- The sampled low-level features. -/
theorem v711_at (k : Fin 192) : val_main_v711 (F := Ideal) x0 x1 x2 x3 x4 x5 x6 x7 x8 x9 x10 x11 (ix3 n k p)
    = Fuse.pool (argsOf x0 x1 x2 x4 x6 x7 x8 x9 x10 x11) n k (Fuse.row T) (Fuse.col T) := by
  have hc := (Fuse.col T).isLt
  have hr := (Fuse.row T).isLt
  pointwise [val_main_v711, val_main_v706, val_main_v710, val_main_v699, val_main_v705, val_main_v708, val_main_v709, val_main_v692, val_main_v698, val_main_v703, val_main_v704, val_main_v707, val_main_v684, val_main_v688, val_main_v691, val_main_v694, val_main_v697, val_main_v702, val_main_v683, val_main_v687, val_main_v690, val_main_v693, val_main_v696, val_main_v701, val_main_v686, val_main_v689, val_main_v695, val_main_v700, val_main_v685, val_main_cst_168, val_main_cst_169, val_main_cst_170, val_main_cst_167]
  rw [v572_at x0 x1 x2 x3 x4 x5 x6 x7 x8 x9 x10 x11 T n p h, v573_at x0 x1 x2 x3 x4 x5 x6 x7 x8 x9 x10 x11 T n p h,
    v599_at x0 x1 x2 x3 x4 x5 x6 x7 x8 x9 x10 x11 ⟨2 * (Fuse.col T).val, by omega⟩ ⟨2 * (Fuse.row T).val, by omega⟩ n k p (v570_at x0 x1 x2 x3 x4 x5 x6 x7 x8 x9 x10 x11 T n p h) (v571_at x0 x1 x2 x3 x4 x5 x6 x7 x8 x9 x10 x11 T n p h),
    v626_at x0 x1 x2 x3 x4 x5 x6 x7 x8 x9 x10 x11 ⟨2 * (Fuse.col T).val + 1, by omega⟩ ⟨2 * (Fuse.row T).val, by omega⟩ n k p (v601_at x0 x1 x2 x3 x4 x5 x6 x7 x8 x9 x10 x11 T n p h) (v571_at x0 x1 x2 x3 x4 x5 x6 x7 x8 x9 x10 x11 T n p h),
    v653_at x0 x1 x2 x3 x4 x5 x6 x7 x8 x9 x10 x11 ⟨2 * (Fuse.col T).val, by omega⟩ ⟨2 * (Fuse.row T).val + 1, by omega⟩ n k p (v570_at x0 x1 x2 x3 x4 x5 x6 x7 x8 x9 x10 x11 T n p h) (v628_at x0 x1 x2 x3 x4 x5 x6 x7 x8 x9 x10 x11 T n p h),
    v682_at x0 x1 x2 x3 x4 x5 x6 x7 x8 x9 x10 x11 ⟨2 * (Fuse.col T).val + 1, by omega⟩ ⟨2 * (Fuse.row T).val + 1, by omega⟩ n k p (v655_at x0 x1 x2 x3 x4 x5 x6 x7 x8 x9 x10 x11 T n p h) (v657_at x0 x1 x2 x3 x4 x5 x6 x7 x8 x9 x10 x11 T n p h)]
  exact mix_half _ _ _ _

end

end Cert.Ref

end

end
-- ==== Proof.RefAttn.lean ====
module

public import proofs.«01_k».proof.Proof.RefEdge
public import proofs.«01_k».proof.Proof.FuseSpec

/-! The reference's attention between the picked features. -/

@[expose] public section

set_option maxRecDepth 16384

noncomputable section

open Idealize.ShloMosaic Idealize.SL.Sem

namespace Cert.Ref

open Cert.ReferenceIdeal Cert.ReferenceIdeal.Gen Cert.ReferenceIdeal.Read
open Cert.Host Cert.Tables Cert.Spec

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32) (x9 x10 : FVec Ideal S192 .f32) (x11 : FVec Ideal S1x192x3x3 .f32)
    (x12 : FVec Ideal S192x192x3x3 .f32) (x13 : FVec Ideal S192 .f32)

theorem v713_at (n : Fin 8) (k : Fin 192) (r c : ℕ) (hr : r < 3) (hc : c < 130) :
    val_main_v713 (F := Ideal) x0 x1 x2 x3 x4 x5 x6 x7 x8 x9 x10 x11 (ix4 n k ⟨r, hr⟩ ⟨c, hc⟩)
      = if e : r = 1 ∧ 1 ≤ c ∧ c < 129 then val_main_v545 (F := Ideal) x0 x1 x2 x3 x4 x5 x6 x7 x8 x9 x10 x11 (ix3 n k ⟨c - 1, by omega⟩) else 0 := by
  pointwise [val_main_v713, val_main_v712, val_main_call39_v0, val_main_c_171]
  by_cases e : r = 1 ∧ 1 ≤ c ∧ c < 129
  · rw [dif_pos e, dif_pos (by omega)]
  · rw [dif_neg e, dif_neg (by omega)]
    exact Cert.Pad.fill_zero

theorem v713_row0 (n : Fin 8) (k : Fin 192) (c : ℕ) (hc : c < 130) : (val_main_v713 (F := Ideal) x0 x1 x2 x3 x4 x5 x6 x7 x8 x9 x10 x11 (ix4 n k 0 ⟨c, hc⟩) : EReal) = 0 :=
  (v713_at x0 x1 x2 x3 x4 x5 x6 x7 x8 x9 x10 x11 n k 0 c (by decide) hc).trans (dif_neg (by omega))
theorem v713_row2 (n : Fin 8) (k : Fin 192) (c : ℕ) (hc : c < 130) : (val_main_v713 (F := Ideal) x0 x1 x2 x3 x4 x5 x6 x7 x8 x9 x10 x11 (ix4 n k 2 ⟨c, hc⟩) : EReal) = 0 :=
  (v713_at x0 x1 x2 x3 x4 x5 x6 x7 x8 x9 x10 x11 n k 2 c (by decide) hc).trans (dif_neg (by omega))
theorem v713_tap (n : Fin 8) (h : Fin 192 → Fin 128 → EReal) (hh : ∀ k p, val_main_v545 (F := Ideal) x0 x1 x2 x3 x4 x5 x6 x7 x8 x9 x10 x11 (ix3 n k p) = h k p)
    (k : Fin 192) (s : Fin 3) (p : Fin 128) (c : ℕ) (hc : c < 130) (e : c = p.val + s.val) :
    (val_main_v713 (F := Ideal) x0 x1 x2 x3 x4 x5 x6 x7 x8 x9 x10 x11 (ix4 n k 1 ⟨c, hc⟩) : EReal) = Fuse.near h k s p := by
  subst e
  refine (v713_at x0 x1 x2 x3 x4 x5 x6 x7 x8 x9 x10 x11 n k 1 _ (by decide) hc).trans ?_
  unfold Fuse.near
  by_cases e : 1 ≤ p.val + s.val ∧ p.val + s.val < 129
  · rw [dif_pos e, dif_pos ⟨rfl, e⟩, hh]
  · rw [dif_neg e, dif_neg (fun q => e q.2)]

variable (n : Fin 8) (h l : Fin 192 → Fin 128 → EReal)
    (hh : ∀ k p, val_main_v545 (F := Ideal) x0 x1 x2 x3 x4 x5 x6 x7 x8 x9 x10 x11 (ix3 n k p) = h k p) (hl : ∀ k p, val_main_v711 (F := Ideal) x0 x1 x2 x3 x4 x5 x6 x7 x8 x9 x10 x11 (ix3 n k p) = l k p)
include hh hl

theorem v777_at (i j : Fin 192) : val_main_v777 (F := Ideal) x0 x1 x2 x3 x4 x5 x6 x7 x8 x9 x10 x11 (ix3 n i j) = Fuse.logit h l i j := by
  pointwise [val_main_v777, val_main_v776]
  simp only [hh, hl]
  rfl

theorem v780_at (i : Fin 192) : val_main_v780 (F := Ideal) x0 x1 x2 x3 x4 x5 x6 x7 x8 x9 x10 x11 (ix2 n i) = Fuse.best h l i := by
  pointwise [val_main_v780, val_main_v779, val_main_v778, val_main_cst_174, val_main_cst_173]
  simp only [v777_at x0 x1 x2 x3 x4 x5 x6 x7 x8 x9 x10 x11 n h l hh hl]
  have e : (Ideal.ofBits .f32 4286578688#32 : EReal) = ⊥ := by simp [Ideal.ofBits, Ideal.ieee]
  rw [e]
  exact max_eq_right bot_le

theorem v784_at (i j : Fin 192) : val_main_v784 (F := Ideal) x0 x1 x2 x3 x4 x5 x6 x7 x8 x9 x10 x11 (ix3 n i j) = Ideal.exp (Fuse.logit h l i j - Fuse.best h l i) := by
  pointwise [val_main_v784, val_main_v783, val_main_v782, val_main_v781]
  rw [v777_at x0 x1 x2 x3 x4 x5 x6 x7 x8 x9 x10 x11 n h l hh hl, v780_at x0 x1 x2 x3 x4 x5 x6 x7 x8 x9 x10 x11 n h l hh hl]

theorem v788_at (i j : Fin 192) : val_main_v788 (F := Ideal) x0 x1 x2 x3 x4 x5 x6 x7 x8 x9 x10 x11 (ix3 n i j) = Fuse.prob h l i j := by
  pointwise [val_main_v788, val_main_v787, val_main_v786, val_main_v785, val_main_cst_175]
  simp only [v784_at x0 x1 x2 x3 x4 x5 x6 x7 x8 x9 x10 x11 n h l hh hl]
  rfl

theorem v771_at (o : Fin 192) (p : Fin 128) : val_main_v771 (F := Ideal) x0 x1 x2 x3 x4 x5 x6 x7 x8 x9 x10 x11 x12 x13 (ix4 n o 0 p) = Fuse.lepe h (fun o k s => x12 (ix4 o k 1 s)) (fun o => x13 (ix1 o)) o p := by
  pointwise [val_main_v771, val_main_v768, val_main_v770, val_main_v762, val_main_v767, val_main_v769, val_main_v756, val_main_v761, val_main_v766, val_main_v750, val_main_v755, val_main_v760, val_main_v765, val_main_v764, val_main_v744, val_main_v749, val_main_v754, val_main_v759, val_main_v758, val_main_v763, val_main_v738, val_main_v743, val_main_v748, val_main_v753, val_main_v752, val_main_v757, val_main_v732, val_main_v737, val_main_v742, val_main_v747, val_main_v746, val_main_v751, val_main_v726, val_main_v731, val_main_v736, val_main_v741, val_main_v740, val_main_v745, val_main_v720, val_main_v725, val_main_v730, val_main_v735, val_main_v734, val_main_v739, val_main_v714, val_main_v719, val_main_v724, val_main_v729, val_main_v728, val_main_v733, val_main_cst_172, val_main_v718, val_main_v723, val_main_v722, val_main_v727, val_main_v717, val_main_v716, val_main_v721, val_main_v715]
  simp only [v713_row0, v713_row2, zero_mul, Finset.sum_const_zero, zero_add, add_zero]
  have e0 := fun k => v713_tap x0 x1 x2 x3 x4 x5 x6 x7 x8 x9 x10 x11 n h hh k 0 p p.val (by omega) (Nat.add_zero _).symm
  have e1 := fun k => v713_tap x0 x1 x2 x3 x4 x5 x6 x7 x8 x9 x10 x11 n h hh k 1 p (1 + p.val) (by omega) (Nat.add_comm _ _)
  have e2 := fun k => v713_tap x0 x1 x2 x3 x4 x5 x6 x7 x8 x9 x10 x11 n h hh k 2 p (2 + p.val) (by omega) (Nat.add_comm _ _)
  simp only [e0, e1, e2]
  unfold Fuse.lepe
  simp only [mul_comm (Fuse.near _ _ _ _)]
  rw [add_comm _ (x13 (ix1 o)), ← add_assoc, ← add_assoc]

theorem v773_at (k : Fin 192) (p : Fin 128) : val_main_v773 (F := Ideal) x0 x1 x2 x3 x4 x5 x6 x7 x8 x9 x10 x11 x12 x13 (ix3 n k p)
    = Fuse.spread (Fuse.lepe h (fun o k s => x12 (ix4 o k 1 s)) (fun o => x13 (ix1 o))) k p := by
  pointwise [val_main_v773, val_main_v772]
  have h1 := n.isLt
  have h2 := k.isLt
  have h3 := p.isLt
  unfold Fuse.spread
  rw [← v771_at x0 x1 x2 x3 x4 x5 x6 x7 x8 x9 x10 x11 x12 x13 n h l hh hl]
  exact congrArg₂ (fun a b => val_main_v771 (F := Ideal) x0 x1 x2 x3 x4 x5 x6 x7 x8 x9 x10 x11 x12 x13 (ix4 n a 0 b)) (Fin.ext (by dsimp only; omega)) (Fin.ext (by dsimp only; omega))

theorem v775_at (k : Fin 192) (p : Fin 128) : val_main_v775 (F := Ideal) x0 x1 x2 x3 x4 x5 x6 x7 x8 x9 x10 x11 (ix3 n k p) = Fuse.spread h k p := by
  pointwise [val_main_v775, val_main_v774, val_main_v712]
  have h1 := n.isLt
  have h2 := k.isLt
  have h3 := p.isLt
  unfold Fuse.spread
  rw [← hh]
  exact congrArg₂ (fun a b => val_main_v545 (F := Ideal) x0 x1 x2 x3 x4 x5 x6 x7 x8 x9 x10 x11 (ix3 n a b)) (Fin.ext (by dsimp only; omega)) (Fin.ext (by dsimp only; omega))

theorem v790_at (k : Fin 192) (p : Fin 128) : val_main_v790 (F := Ideal) x0 x1 x2 x3 x4 x5 x6 x7 x8 x9 x10 x11 x12 x13 (ix3 n k p)
    = Fuse.attn h l (fun o k s => x12 (ix4 o k 1 s)) (fun o => x13 (ix1 o)) k p := by
  pointwise [val_main_v790, val_main_v789]
  simp only [v788_at x0 x1 x2 x3 x4 x5 x6 x7 x8 x9 x10 x11 n h l hh hl, v775_at x0 x1 x2 x3 x4 x5 x6 x7 x8 x9 x10 x11 n h l hh hl, v773_at x0 x1 x2 x3 x4 x5 x6 x7 x8 x9 x10 x11 x12 x13 n h l hh hl]
  rfl

/-- What the reference writes at a picked position. -/
theorem v793_at (k : Fin 192) (p : Fin 128) : val_main_v793 (F := Ideal) x0 x1 x2 x3 x4 x5 x6 x7 x8 x9 x10 x11 x12 x13 (ix3 n k p)
    = Fuse.fused h l (fun o k s => x12 (ix4 o k 1 s)) (fun o => x13 (ix1 o)) k p := by
  pointwise [val_main_v793, val_main_v792, val_main_v791]
  have h1 := n.isLt
  have h2 := k.isLt
  have h3 := p.isLt
  rw [hl]
  unfold Fuse.fused Fuse.gather
  rw [← v790_at x0 x1 x2 x3 x4 x5 x6 x7 x8 x9 x10 x11 x12 x13 n h l hh hl]
  exact congrArg (· + l k p) (congrArg₂ (fun a b => val_main_v790 (F := Ideal) x0 x1 x2 x3 x4 x5 x6 x7 x8 x9 x10 x11 x12 x13 (ix3 n a b)) (Fin.ext (by dsimp only; omega)) (Fin.ext (by dsimp only; omega)))

end

end Cert.Ref

end

end
-- ==== Proof.RefScatter.lean ====
module

public import proofs.«01_k».proof.Proof.RefSample
public import proofs.«01_k».proof.Proof.RefAttn
public import Idealize.ShloMosaic.Lib.Routing.OpsSet

/-! The reference's writing of the fused features. -/

@[expose] public section

set_option maxRecDepth 16384

noncomputable section

open Idealize.ShloMosaic Idealize.SL.Sem

namespace Cert.Ref

open Cert.ReferenceIdeal Cert.ReferenceIdeal.Gen Cert.ReferenceIdeal.Read
open Cert.Host Cert.Tables Cert.Spec

section put
variable {A B N M : ℕ}

/-- Writing along the third axis, every entry at its own position. -/
abbrev putDims (A B N M : ℕ)
    (wf : ScatterDims.WF ⟨3, ![A, B, N]⟩ ⟨4, ![A, B, M, 3]⟩ ⟨3, ![A, B, M]⟩ [] [0, 1, 2] [0, 1, 2] 3) :
    ScatterDims ⟨3, ![A, B, N]⟩ ⟨4, ![A, B, M, 3]⟩ ⟨3, ![A, B, M]⟩ where
  updateWindowDims := []
  insertedWindowDims := [0, 1, 2]
  scatterDimsToOperandDims := [0, 1, 2]
  indexVectorDim := 3
  wf := wf

theorem put_start (wf : ScatterDims.WF ⟨3, ![A, B, N]⟩ ⟨4, ![A, B, M, 3]⟩ ⟨3, ![A, B, M]⟩ [] [0, 1, 2] [0, 1, 2] 3)
    (idx : IVec ⟨4, ![A, B, M, 3]⟩ 32) (a : Fin A) (b : Fin B) (i : Fin M) (q : Fin 3) :
    (putDims A B N M wf).start (ix3 a b i) idx q + (putDims A B N M wf).window (ix3 a b i) q = (idx (ix4 a b i q)).toInt := by
  have hq : q ∈ (putDims A B N M wf).scatterDimsToOperandDims := by
    match q with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  have hw : (putDims A B N M wf).window (ix3 a b i) q = 0 := by
    unfold ScatterDims.window
    rw [dif_neg fun h => (of_decide_eq_true (List.mem_filter.1 h).2) hq]
  rw [hw]
  unfold ScatterDims.start
  rw [dif_pos hq]
  have hs : (putDims A B N M wf).siIdx (ix3 a b i) ⟨List.idxOf q (putDims A B N M wf).scatterDimsToOperandDims,
      List.idxOf_lt_length_iff.2 hq⟩ = ix4 a b i q := by
    funext c
    refine Fin.ext ?_
    match c with
    | ⟨0, _⟩ => rfl
    | ⟨1, _⟩ => rfl
    | ⟨2, _⟩ => rfl
    | ⟨3, _⟩ =>
      match q with
      | ⟨0, _⟩ => rfl
      | ⟨1, _⟩ => rfl
      | ⟨2, _⟩ => rfl
  rw [hs]
  exact add_zero _

/-- Where an entry is written. -/
theorem put_lands (wf : ScatterDims.WF ⟨3, ![A, B, N]⟩ ⟨4, ![A, B, M, 3]⟩ ⟨3, ![A, B, M]⟩ [] [0, 1, 2] [0, 1, 2] 3)
    (idx : IVec ⟨4, ![A, B, M, 3]⟩ 32) (a : Fin A) (b : Fin B) (i : Fin M) (y : Fin N)
    (h0 : (idx (ix4 a b i 0)).toInt = (a.val : ℤ)) (h1 : (idx (ix4 a b i 1)).toInt = (b.val : ℤ))
    (h2 : (idx (ix4 a b i 2)).toInt = (y.val : ℤ)) :
    (putDims A B N M wf).resultIdx? (ix3 a b i) idx = some (ix3 a b y) := by
  have st : ∀ q : Fin 3, (putDims A B N M wf).start (ix3 a b i) idx q + (putDims A B N M wf).window (ix3 a b i) q
      = (((ix3 a b y : (⟨3, ![A, B, N]⟩ : Shape).Idx) q).val : ℤ) := by
    intro q
    rw [put_start]
    match q with
    | ⟨0, _⟩ => exact h0
    | ⟨1, _⟩ => exact h1
    | ⟨2, _⟩ => exact h2
  unfold ScatterDims.resultIdx?
  rw [dif_pos (fun q => by
    have e := st q
    have l := ((ix3 a b y : (⟨3, ![A, B, N]⟩ : Shape).Idx) q).isLt
    constructor
    · rw [e]; exact Int.natCast_nonneg _
    · rw [e]; exact_mod_cast l)]
  refine congrArg some (funext fun q => Fin.ext ?_)
  have e := st q
  show ((putDims A B N M wf).start (ix3 a b i) idx q + (putDims A B N M wf).window (ix3 a b i) q).toNat = _
  rw [e]
  rfl

end put

section
variable (x0 : FVec Ideal S8x192x64x64 .f32) (x1 : FVec Ideal S8x192x128x128 .f32) (x2 : FVec Ideal S64x192x1x1 .f32)
    (x3 : FVec Ideal S64 .f32) (x4 : FVec Ideal S64x192x1x1 .f32) (x5 : FVec Ideal S64 .f32) (x6 : FVec Ideal S1x128x3x3 .f32)
    (x7 : FVec Ideal S1 .f32) (x8 : FVec Ideal S192x192x3x3 .f32) (x9 x10 : FVec Ideal S192 .f32) (x11 : FVec Ideal S1x192x3x3 .f32)
    (x12 : FVec Ideal S192x192x3x3 .f32) (x13 : FVec Ideal S192 .f32)

theorem v819_at0 (n : Fin 8) (k : Fin 192) (p : Fin 128) : val_main_v819 (F := Ideal) x0 x1 x2 x3 x4 x5 x6 x7 x8 x9 x10 x11 (ix4 n k p 0) = BitVec.ofNat 32 n.val := by
  pointwise [val_main_v819, val_main_v816, val_main_v817, val_main_v818, val_main_v814, val_main_v815, val_main_v813, val_main_v803, val_main_v808, val_main_v810, val_main_v812, val_main_v800, val_main_v802, val_main_v796, val_main_v805, val_main_v807, val_main_v798, val_main_v809, val_main_v811, val_main_v799, val_main_v801, val_main_v795, val_main_v804, val_main_v806, val_main_v797, val_main_c_180, val_main_c_181, val_main_c_176, val_main_c_177, val_main_c_178, val_main_c_179]
  exact not_neg _ (by omega) _

theorem v819_at1 (n : Fin 8) (k : Fin 192) (p : Fin 128) : val_main_v819 (F := Ideal) x0 x1 x2 x3 x4 x5 x6 x7 x8 x9 x10 x11 (ix4 n k p 1) = BitVec.ofNat 32 k.val := by
  pointwise [val_main_v819, val_main_v816, val_main_v817, val_main_v818, val_main_v814, val_main_v815, val_main_v813, val_main_v803, val_main_v808, val_main_v810, val_main_v812, val_main_v800, val_main_v802, val_main_v796, val_main_v805, val_main_v807, val_main_v798, val_main_v809, val_main_v811, val_main_v799, val_main_v801, val_main_v795, val_main_v804, val_main_v806, val_main_v797, val_main_c_180, val_main_c_181, val_main_c_176, val_main_c_177, val_main_c_178, val_main_c_179]
  exact not_neg _ (by omega) _

theorem v819_at2 (n : Fin 8) (k : Fin 192) (p : Fin 128) (y : Fin 16384) (h : val_main_v379 (F := Ideal) x0 x1 x2 x3 x4 x5 x6 x7 x8 x9 x10 x11 (ix3 n k p) = BitVec.ofNat 32 y.val) :
    val_main_v819 (F := Ideal) x0 x1 x2 x3 x4 x5 x6 x7 x8 x9 x10 x11 (ix4 n k p 2) = BitVec.ofNat 32 y.val := by
  pointwise [val_main_v819, val_main_v816, val_main_v817, val_main_v818, val_main_v814, val_main_v815, val_main_v813, val_main_v803, val_main_v808, val_main_v810, val_main_v812, val_main_v800, val_main_v802, val_main_v796, val_main_v805, val_main_v807, val_main_v798, val_main_v809, val_main_v811, val_main_v799, val_main_v801, val_main_v795, val_main_v804, val_main_v806, val_main_v797, val_main_c_180, val_main_c_181, val_main_c_176, val_main_c_177, val_main_c_178, val_main_c_179]
  rw [h]
  exact not_neg _ (by omega) _

theorem v794_at (n : Fin 8) (k : Fin 192) (y : Fin 16384) : val_main_v794 (F := Ideal) x1 (ix3 n k y)
    = x1 (ix4 n k ⟨y.val / 128, by omega⟩ ⟨y.val % 128, Nat.mod_lt _ (by decide)⟩) := by
  pointwise [val_main_v794]

/-- A small word, as a number with a sign. -/
theorem int_of (m : ℕ) (h : m < 2147483648) : (BitVec.ofNat 32 m).toInt = (m : ℤ) := by
  rw [BitVec.toInt_eq_toNat_of_lt] <;> simp only [BitVec.toNat_ofNat] <;> omega

variable (h3 : ∀ d : Fin 64, x3 (ix1 d) = (0 : EReal)) (h5 : ∀ d : Fin 64, x5 (ix1 d) = (0 : EReal))
    (ha : ∀ n i j, out (argsOf x0 x1 x2 x4 x6 x7 x8 x9 x10 x11) n i j ≠ ⊥)
include h3 h5 ha

/-- Where the fused features are written. -/
theorem lands (wf) (n : Fin 8) (k : Fin 192) (p : Fin 128) :
    (putDims 8 192 16384 128 wf).resultIdx? (ix3 n k p) (val_main_v819 (F := Ideal) x0 x1 x2 x3 x4 x5 x6 x7 x8 x9 x10 x11)
      = some (ix3 n k (Fuse.place (Fuse.top (argsOf x0 x1 x2 x4 x6 x7 x8 x9 x10 x11) n p))) := by
  refine put_lands wf _ n k p _ ?_ ?_ ?_
  · rw [v819_at0]
    exact int_of _ (by omega)
  · rw [v819_at1]
    exact int_of _ (by omega)
  · rw [v819_at2 x0 x1 x2 x3 x4 x5 x6 x7 x8 x9 x10 x11 n k p _ (v379_at x0 x1 x2 x3 x4 x5 x6 x7 x8 x9 x10 x11 _ n p (indices_at x0 x1 x2 x3 x4 x5 x6 x7 x8 x9 x10 x11 h3 h5 ha n p) k)]
    exact int_of _ (by omega)

theorem v793_top (n : Fin 8) (k : Fin 192) (p : Fin 128) : val_main_v793 (F := Ideal) x0 x1 x2 x3 x4 x5 x6 x7 x8 x9 x10 x11 x12 x13 (ix3 n k p)
    = Fuse.fused (Fuse.hi (argsOf x0 x1 x2 x4 x6 x7 x8 x9 x10 x11) n) (Fuse.lo (argsOf x0 x1 x2 x4 x6 x7 x8 x9 x10 x11) n)
        (fun o k s => x12 (ix4 o k 1 s)) (fun o => x13 (ix1 o)) k p :=
  v793_at x0 x1 x2 x3 x4 x5 x6 x7 x8 x9 x10 x11 x12 x13 n _ _
    (fun k p => v545_at x0 x1 x2 x3 x4 x5 x6 x7 x8 x9 x10 x11 _ n p (indices_at x0 x1 x2 x3 x4 x5 x6 x7 x8 x9 x10 x11 h3 h5 ha n p) k)
    (fun k p => v711_at x0 x1 x2 x3 x4 x5 x6 x7 x8 x9 x10 x11 _ n p (indices_at x0 x1 x2 x3 x4 x5 x6 x7 x8 x9 x10 x11 h3 h5 ha n p) k) k p

/-- The low-level features with the fused ones written over them. -/
theorem v820_at (n : Fin 8) (k : Fin 192) (y : Fin 16384) : val_main_v820 (F := Ideal) x0 x1 x2 x3 x4 x5 x6 x7 x8 x9 x10 x11 x12 x13 (ix3 n k y)
    = Fuse.fin (argsOf x0 x1 x2 x4 x6 x7 x8 x9 x10 x11) (fun o k s => x12 (ix4 o k 1 s)) (fun o => x13 (ix1 o)) n k y := by
  have wf : ScatterDims.WF ⟨3, ![8, 192, 16384]⟩ ⟨4, ![8, 192, 128, 3]⟩ ⟨3, ![8, 192, 128]⟩ [] [0, 1, 2] [0, 1, 2] 3 :=
    scatter_S8x192x16384_S8x192x128x3_S8x192x128_n_012_012_3.wf
  unfold val_main_v820
  by_cases e : ∃ p, Fuse.place (Fuse.top (argsOf x0 x1 x2 x4 x6 x7 x8 x9 x10 x11) n p) = y
  · obtain ⟨p, rfl⟩ := e
    rw [Fuse.fin_place _ _ _ ha]
    refine Routing.scatter_set_hit (putDims 8 192 16384 128 wf) _ _ _ _ _ (fun j hj => ?_) (ix3 n k p) (lands x0 x1 x2 x3 x4 x5 x6 x7 x8 x9 x10 x11 h3 h5 ha wf n k p)
    obtain ⟨u, v, r, rfl⟩ : ∃ (u : Fin 8) (v : Fin 192) (r : Fin 128), j = ix3 u v r := ⟨j 0, j 1, j 2, eq_ix3 j⟩
    rw [lands x0 x1 x2 x3 x4 x5 x6 x7 x8 x9 x10 x11 h3 h5 ha wf u v r] at hj
    have hs := Option.some.inj hj
    have e0 : u = n := congrFun hs 0
    have e1 : v = k := congrFun hs 1
    have e2 : Fuse.place (Fuse.top (argsOf x0 x1 x2 x4 x6 x7 x8 x9 x10 x11) u r)
      = Fuse.place (Fuse.top (argsOf x0 x1 x2 x4 x6 x7 x8 x9 x10 x11) n p) := congrFun hs 2
    rw [e0] at e2
    rw [e0, e1, Fuse.top_inj _ ha n e2]
    exact v793_top x0 x1 x2 x3 x4 x5 x6 x7 x8 x9 x10 x11 x12 x13 h3 h5 ha n k p
  · rw [Fuse.fin_off _ _ _ n k y (fun p hp => e ⟨p, hp⟩)]
    refine (Routing.scatter_set_miss (putDims 8 192 16384 128 wf) _ _ _ _ (fun j hj => e ?_)).trans (v794_at x1 n k y)
    obtain ⟨u, v, r, rfl⟩ : ∃ (u : Fin 8) (v : Fin 192) (r : Fin 128), j = ix3 u v r := ⟨j 0, j 1, j 2, eq_ix3 j⟩
    rw [lands x0 x1 x2 x3 x4 x5 x6 x7 x8 x9 x10 x11 h3 h5 ha wf u v r] at hj
    have hs := Option.some.inj hj
    have e0 : u = n := congrFun hs 0
    have e2 : Fuse.place (Fuse.top (argsOf x0 x1 x2 x4 x6 x7 x8 x9 x10 x11) u r) = y := congrFun hs 2
    rw [e0] at e2
    exact ⟨r, e2⟩

/-- The reference's first result. -/
theorem v821_at (n : Fin 8) (k : Fin 192) (i j : Fin 128) : val_main_v821 (F := Ideal) x0 x1 x2 x3 x4 x5 x6 x7 x8 x9 x10 x11 x12 x13 (ix4 n k i j)
    = Fuse.fin (argsOf x0 x1 x2 x4 x6 x7 x8 x9 x10 x11) (fun o k s => x12 (ix4 o k 1 s)) (fun o => x13 (ix1 o)) n k
        ⟨i.val * 128 + j.val, by omega⟩ := by
  refine Eq.trans ?_ (v820_at x0 x1 x2 x3 x4 x5 x6 x7 x8 x9 x10 x11 x12 x13 h3 h5 ha n k _)
  pointwise [val_main_v821]

end

end Cert.Ref

end

end
-- ==== Proof.Real.lean ====
module

public import proofs.«01_k».proof.Proof.Spec

/-! With finite high-level features, edge weights, scales and shifts the edge map is a real number everywhere. -/

@[expose] public section

noncomputable section

namespace Cert.Spec

open Idealize.ShloMosaic
open Cert.Tables Cert.Pad

/-- An extended real that is a real number. -/
def IsReal (x : EReal) : Prop := ∃ r : ℝ, x = (r : EReal)

/-- An extended real that is a real number and not negative. -/
def IsPos (x : EReal) : Prop := ∃ r : ℝ, 0 ≤ r ∧ x = (r : EReal)

namespace IsReal

theorem of {x : EReal} (hb : x ≠ ⊥) (ht : x ≠ ⊤) : IsReal x := ⟨x.toReal, (EReal.coe_toReal ht hb).symm⟩

theorem ne_bot {x : EReal} (h : IsReal x) : x ≠ ⊥ := by
  obtain ⟨r, rfl⟩ := h
  exact EReal.coe_ne_bot r

theorem zero : IsReal 0 := ⟨0, rfl⟩

theorem one : IsReal 1 := ⟨1, rfl⟩

theorem coe (r : ℝ) : IsReal (r : EReal) := ⟨r, rfl⟩

theorem add {x y : EReal} (hx : IsReal x) (hy : IsReal y) : IsReal (x + y) := by
  obtain ⟨r, rfl⟩ := hx
  obtain ⟨s, rfl⟩ := hy
  exact ⟨r + s, (EReal.coe_add r s).symm⟩

theorem sub {x y : EReal} (hx : IsReal x) (hy : IsReal y) : IsReal (x - y) := by
  obtain ⟨r, rfl⟩ := hx
  obtain ⟨s, rfl⟩ := hy
  exact ⟨r - s, (EReal.coe_sub r s).symm⟩

theorem mul {x y : EReal} (hx : IsReal x) (hy : IsReal y) : IsReal (x * y) := by
  obtain ⟨r, rfl⟩ := hx
  obtain ⟨s, rfl⟩ := hy
  exact ⟨r * s, (EReal.coe_mul r s).symm⟩

theorem cut {x : EReal} (hx : IsReal x) : IsReal (max x 0) := by
  rcases le_total x 0 with h | h
  · rw [max_eq_right h]
    exact zero
  · rw [max_eq_left h]
    exact hx

theorem sum {n : ℕ} (f : Fin n → EReal) (h : ∀ k, IsReal (f k)) : IsReal (∑ k, f k) :=
  Finset.sum_induction f IsReal (fun _ _ => add) zero fun k _ => h k

theorem zpad {f : Fin 64 → Fin 64 → EReal} (h : ∀ i j, IsReal (f i j)) (r c : ℕ) : IsReal (Pad.zpad f r c) := by
  unfold Pad.zpad
  split
  · exact h _ _
  · exact zero

theorem taps9 {f : Fin 3 → Fin 3 → EReal} (h : ∀ u v, IsReal (f u v)) : IsReal (Spec.taps9 f) := by
  unfold Spec.taps9
  exact (((((((((zero.add (h _ _)).add (h _ _)).add (h _ _)).add (h _ _)).add (h _ _)).add (h _ _)).add (h _ _)).add
    (h _ _)).add (h _ _))

theorem grow {f : Fin 8 → Fin 8 → EReal} (h : ∀ i j, IsReal (f i j)) (i j : Fin 64) : IsReal (Spec.grow f i j) := by
  have w : ∀ i, IsReal (fr8 i) := fun i => coe _
  have v : ∀ i, IsReal (1 - fr8 i) := fun i => one.sub (w i)
  unfold Spec.grow
  exact ((((h _ _).mul (v _)).add ((h _ _).mul (w _))).mul (v _)).add ((((h _ _).mul (v _)).add ((h _ _).mul (w _))).mul (w _))

/-- The certainty is a real number whatever it is taken of. -/
theorem cert (x : EReal) : IsReal (Ideal.div 1 (1 + Ideal.exp (-x))) := by
  induction x using EReal.rec with
  | bot =>
    refine ⟨0, ?_⟩
    rw [EReal.neg_bot, Ideal.exp_top]
    have e : (1 : EReal) + ⊤ = ⊤ := EReal.add_top_of_ne_bot (by decide)
    rw [e, Ideal.div, if_neg (by decide), EReal.inv_top, mul_zero]
    rfl
  | top =>
    refine ⟨1, ?_⟩
    rw [EReal.neg_top, Ideal.exp_bot, add_zero]
    have := Ideal.div_coe (one_ne_zero (α := ℝ)) 1
    refine (show Ideal.div 1 1 = Ideal.div 1 ((1 : ℝ) : EReal) from rfl).trans (this.trans ?_)
    rw [one_mul, div_one]
  | coe r =>
    have hp : (1 + Real.exp (-r) : ℝ) ≠ 0 := by positivity
    refine ⟨1 / (1 + Real.exp (-r)), ?_⟩
    have e : (1 : EReal) + Ideal.exp (-(r : EReal)) = ((1 + Real.exp (-r) : ℝ) : EReal) := rfl
    rw [e, Ideal.div_coe hp, one_mul]

end IsReal

namespace IsPos

theorem sum {n : ℕ} (f : Fin n → EReal) (h : ∀ k, IsPos (f k)) : IsPos (∑ k, f k) :=
  Finset.sum_induction f IsPos (fun _ _ ⟨r, hr, er⟩ ⟨s, hs, es⟩ => ⟨r + s, add_nonneg hr hs, by rw [er, es, EReal.coe_add]⟩)
    ⟨0, le_rfl, rfl⟩ fun k _ => h k

theorem square {x : EReal} (hx : IsReal x) : IsPos (x * x) := by
  obtain ⟨r, rfl⟩ := hx
  exact ⟨r * r, mul_self_nonneg r, (EReal.coe_mul r r).symm⟩

theorem mul {x : EReal} (h : IsPos x) (s : ℝ) (hs : 0 ≤ s) : IsPos (x * (s : EReal)) := by
  obtain ⟨r, hr, rfl⟩ := h
  exact ⟨r * s, mul_nonneg hr hs, (EReal.coe_mul r s).symm⟩

end IsPos

/-- The small number that is added to a variance is a positive real. -/
theorem eps_pos : ∃ e : ℝ, 0 < e ∧ Ideal.ofBits .f32 0x3727C5AC#32 = (e : EReal) := by
  refine ⟨_, ?_, by simp [Ideal.ofBits, Ideal.ieee]; rfl⟩
  positivity

/-- A difference over the root of a variance and that small number. -/
theorem scaled {x v : EReal} (hx : IsReal x) (hv : IsPos v) :
    IsReal (Ideal.div x (Ideal.sqrt (v + Ideal.ofBits .f32 0x3727C5AC#32))) := by
  obtain ⟨e, he, ee⟩ := eps_pos
  obtain ⟨s, hs, rfl⟩ := hv
  rw [ee, ← EReal.coe_add, Ideal.sqrt_coe, if_neg (by linarith)]
  rw [Ideal.div_coe (Real.sqrt_pos.2 (by linarith)).ne']
  exact hx.mul (IsReal.coe _)

variable (a : Args) (hx : ∀ n k i j, IsReal (a.xh n k i j)) (hw : ∀ o k u v, IsReal (a.we o k u v))
include hx hw

theorem conv_real (n : Fin 8) (o : Fin 192) (i j : Fin 64) : IsReal (conv a n o i j) := by
  have hc : ∀ n i j, IsReal (cert a n i j) := fun n i j => IsReal.cert _
  have hg : ∀ n r c, IsReal (avg a n r c) := fun n r c =>
    (IsReal.sum _ fun _ => IsReal.sum _ fun _ => hc _ _ _).mul (IsReal.coe _)
  have he : ∀ n k i j, IsReal (edge a n k i j) := fun n k i j => (hx _ _ _ _).sub ((hx _ _ _ _).mul (IsReal.grow (hg n) i j))
  exact IsReal.taps9 fun u v => IsReal.sum _ fun k => (hw _ _ _ _).mul (IsReal.zpad (he n k) _ _)

theorem mean_real (o : Fin 192) : IsReal (mean a o) :=
  (IsReal.sum _ fun n => IsReal.sum _ fun i => IsReal.sum _ fun j => conv_real a hx hw n o i j).mul (IsReal.coe _)

theorem var_pos (o : Fin 192) : IsPos (var a o) :=
  (IsPos.sum _ fun n => IsPos.sum _ fun i => IsPos.sum _ fun j =>
    IsPos.square ((conv_real a hx hw n o i j).sub (mean_real a hx hw o))).mul _ (by positivity)

/-- The edge map is real. -/
theorem out_real (hg : ∀ o, IsReal (a.g o)) (hb : ∀ o, IsReal (a.b o)) (ho : ∀ o u v, IsReal (a.wo o u v))
    (n : Fin 8) (i j : Fin 64) : IsReal (out a n i j) := by
  have hn : ∀ n o i j, IsReal (nrm a n o i j) := fun n o i j =>
    (((scaled ((conv_real a hx hw n o i j).sub (mean_real a hx hw o)) (var_pos a hx hw o)).mul (hg o)).add (hb o)).cut
  exact IsReal.taps9 fun u v => IsReal.sum _ fun o => (ho _ _ _).mul (IsReal.zpad (hn n o) _ _)

end Cert.Spec

end

end
-- ==== Proof.Pre.lean ====
module

public import proofs.«01_k».proof.Pre_biases_zero
public import proofs.«01_k».proof.Pre_finite_edge
public import proofs.«01_k».proof.On_edge_map
public import proofs.«01_k».proof.Proof.Real
public import Idealize.ShloMosaic.PureOps.Ideal
public import Idealize.ShloMosaic.PureOps.IdealRules
public import Idealize.ShloMosaic.Lib.Decide

/-! The preconditions, read at an index: both bias vectors are zero, and what the edge map is computed from is finite.
    The mask of the compared results: nothing of the first result, all of the second. -/

@[expose] public section

set_option maxRecDepth 16384

noncomputable section

namespace Cert.Pre

open Idealize.ShloMosaic Idealize.SL.Sem

/-- The shape relation of the first precondition. -/
theorem biases_facts : Cert.Pre_biases_zero.Facts where
  bcast_S_S64 := by decide

/-- The shape relations of the second. -/
theorem finite_facts : Cert.Pre_finite_edge.Facts where
  bcast_S_S64 := by decide
  bcast_S_S8x192x64x64 := by decide
  bcast_S_S192x192x3x3 := by decide
  bcast_S_S192 := by decide
  bcast_S_S1x192x3x3 := by decide

/-- The shape relations of the mask. -/
theorem map_facts : Cert.On_edge_map.Facts where
  bcast_S_S8x192x128x128 := by decide
  bcast_S_S8x1x64x64 := by decide

/-- A number that compares equal to the zero literal is zero. -/
theorem zero_of_oeq (x : EReal) (h : (FloatOps.cmpf .oeq (x : Ideal .f32) (Ideal.ofBits .f32 0x00000000#32) : BitVec 1) = 1#1) :
    x = 0 := by
  have z : Ideal.ofBits .f32 0x00000000#32 = (0 : EReal) := by simp [Ideal.ofBits, Ideal.ieee]
  rw [z] at h
  by_contra hx
  simp [FloatOps.cmpf, Ideal.cmp, hx] at h

/-- A number whose magnitude compares less than the infinite literal is real. -/
theorem real_of_olt (x : EReal)
    (h : (FloatOps.cmpf .olt (FloatOps.hostAbsf (x : Ideal .f32)) (Ideal.ofBits .f32 0x7F800000#32) : BitVec 1) = 1#1) :
    Spec.IsReal x := by
  have z : Ideal.ofBits .f32 0x7F800000#32 = (⊤ : EReal) := by simp [Ideal.ofBits, Ideal.ieee]
  rw [z] at h
  refine Spec.IsReal.of ?_ ?_ <;> rintro rfl <;> simp [FloatOps.cmpf, FloatOps.absf, Ideal.cmp] at h

end Cert.Pre

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.FuseValue
public import proofs.«01_k».proof.Proof.RefEdge
public import proofs.«01_k».proof.Proof.RefScatter
public import proofs.«01_k».proof.Proof.Pre
public import Idealize.ShloMosaic.Adequacy
public import Idealize.ShloMosaic.Init

/-! The certificate: what the kernel and the reference leave unchanged, and the edge map and the
    fused map that both compute. -/

@[expose] public section

set_option maxRecDepth 16384

noncomputable section

namespace Cert.Proof

open Idealize.ShloMosaic Idealize.SL.Sem Cert.Host

/-- The idealized kernel's memories and the idealized reference's. -/
abbrev KMem := (ℓ : Loc Cert.KernelIdeal.nD Cert.KernelIdeal.τ Cert.KernelIdeal.sig) → Buf (Elt Ideal) ℓ
@[inherit_doc KMem] abbrev RMem := (ℓ : Loc Cert.ReferenceIdeal.nD Cert.ReferenceIdeal.τ Cert.ReferenceIdeal.sig) → Buf (Elt Ideal) ℓ

/-- The edge map of the arguments that a device holds. -/
def edgeMap (m : KMem) (c : Dev Cert.KernelIdeal.nD) :
    Buf (Elt Ideal) ((c.tc : Thread Cert.KernelIdeal.nD Cert.KernelIdeal.τ).loc Cert.KernelIdeal.main_v48) :=
  fun (i : Cert.KernelIdeal.S8x1x64x64.Idx) => (Spec.out (Whole.args m c) (i 0) (i 2) (i 3) : EReal)

/-- The kernel leaves the edge map. -/
theorem kernel_map (m : KMem) (g : Dev Cert.KernelIdeal.nD → PrngReg) (c : Dev Cert.KernelIdeal.nD)
    (i : Cert.KernelIdeal.S8x1x64x64.Idx) :
    (Cert.KernelIdeal.Gen.W21 m g c (Proc.devRef .tc Cert.KernelIdeal.main_v48) : Cert.KernelIdeal.S8x1x64x64.Idx → EReal) i
      = edgeMap m c i := by
  rw [eq_ix4 i]
  exact Whole.edge21 m g c _ _ _ _

/-- The fused map of the arguments that a device holds. -/
def fusedMap (m : KMem) (c : Dev Cert.KernelIdeal.nD) :
    Buf (Elt Ideal) ((c.tc : Thread Cert.KernelIdeal.nD Cert.KernelIdeal.τ).loc Cert.KernelIdeal.main_v61) :=
  fun (i : Cert.KernelIdeal.S8x192x128x128.Idx) => (Fuse.fin (Whole.args m c) (Whole.wg m c) (Whole.bg m c) (i 0) (i 1)
    ⟨(i 2 : Fin 128).val * 128 + (i 3 : Fin 128).val, by
      have h2 : (i 2 : Fin 128).val < 128 := (i 2).isLt
      have h3 : (i 3 : Fin 128).val < 128 := (i 3).isLt
      omega⟩ : EReal)

/-- The kernel leaves the fused map. -/
theorem kernel_fused (m : KMem) (g : Dev Cert.KernelIdeal.nD → PrngReg) (c : Dev Cert.KernelIdeal.nD)
    (ha : ∀ n i j, Spec.out (Whole.args m c) n i j ≠ ⊥) (i : Cert.KernelIdeal.S8x192x128x128.Idx) :
    (Cert.KernelIdeal.Gen.W21 m g c (Proc.devRef .tc Cert.KernelIdeal.main_v61) : Cert.KernelIdeal.S8x192x128x128.Idx → EReal) i
      = fusedMap m c i := by
  rw [eq_ix4 i]
  exact Whole.fused21 m g c ha _ _ _ _

/-- Both bias vectors of a device are zero. -/
def NoBias (m : KMem) (c : Dev Cert.KernelIdeal.nD) : Prop :=
  (∀ d : Fin 64, ((m ((c.tc : Thread Cert.KernelIdeal.nD Cert.KernelIdeal.τ).loc Cert.KernelIdeal.main_arg3)) : Cert.KernelIdeal.S64.Idx → EReal) (ix1 d) = (0 : EReal))
    ∧ ∀ d : Fin 64, ((m ((c.tc : Thread Cert.KernelIdeal.nD Cert.KernelIdeal.τ).loc Cert.KernelIdeal.main_arg5)) : Cert.KernelIdeal.S64.Idx → EReal) (ix1 d) = (0 : EReal)

/-- The first precondition says so. -/
theorem no_bias (m : KMem) (h : @Cert.Pre_KernelIdeal_biases_zero Pre.biases_facts m) (c : Dev Cert.KernelIdeal.nD) : NoBias m c :=
  ⟨fun d => Pre.zero_of_oeq _ (congrFun (h c).1 (ix1 d)), fun d => Pre.zero_of_oeq _ (congrFun (h c).2 (ix1 d))⟩

/-- So does the second. -/
theorem no_bias_finite (m : KMem) (h : @Cert.Pre_KernelIdeal_finite_edge Pre.finite_facts m) (c : Dev Cert.KernelIdeal.nD) : NoBias m c :=
  ⟨fun d => Pre.zero_of_oeq _ (congrFun (h c).1 (ix1 d)), fun d => Pre.zero_of_oeq _ (congrFun (h c).2.1 (ix1 d))⟩

/-- Under the second precondition the edge map is nowhere minus infinity. -/
theorem map_ne_bot (m : KMem) (h : @Cert.Pre_KernelIdeal_finite_edge Pre.finite_facts m) (c : Dev Cert.KernelIdeal.nD)
    (n : Fin 8) (i j : Fin 64) : Spec.out (Whole.args m c) n i j ≠ ⊥ :=
  (Spec.out_real (Whole.args m c) (fun n k i j => Pre.real_of_olt _ (congrFun (h c).2.2.1 (ix4 n k i j)))
    (fun o k u v => Pre.real_of_olt _ (congrFun (h c).2.2.2.1 (ix4 o k u v)))
    (fun o => Pre.real_of_olt _ (congrFun (h c).2.2.2.2.1 (ix1 o)))
    (fun o => Pre.real_of_olt _ (congrFun (h c).2.2.2.2.2.1 (ix1 o)))
    (fun o u v => Pre.real_of_olt _ (congrFun (h c).2.2.2.2.2.2 (ix4 0 o u v))) n i j).ne_bot

/-- The reference's edge map over the kernel's arguments. -/
theorem reference_map (m : KMem) (c : Dev Cert.KernelIdeal.nD) (h : NoBias m c) (i : Cert.KernelIdeal.S8x1x64x64.Idx) :
    (Cert.ReferenceIdeal.Read.val_main_v349 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) : Cert.KernelIdeal.S8x1x64x64.Idx → EReal) i = edgeMap m c i := by
  rw [eq_ix4 i]
  exact Ref.v349_at _ _ _ _ _ _ _ _ _ _ _ _ h.1 h.2 _ _ _ _

/-- The reference's fused map over the kernel's arguments. -/
theorem reference_fused (m : KMem) (c : Dev Cert.KernelIdeal.nD) (h : NoBias m c) (ha : ∀ n i j, Spec.out (Whole.args m c) n i j ≠ ⊥)
    (i : Cert.KernelIdeal.S8x192x128x128.Idx) :
    (Cert.ReferenceIdeal.Read.val_main_v821 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) : Cert.KernelIdeal.S8x192x128x128.Idx → EReal) i = fusedMap m c i := by
  rw [eq_ix4 i]
  exact Ref.v821_at _ _ _ _ _ _ _ _ _ _ _ _ _ _ h.1 h.2 ha _ _ _ _

/-- The reference ends with its arguments unchanged and every counter at zero: it declares none. -/
theorem reference_frame : Cert.quiescent_ReferenceIdeal := by
  intro m g _
  exact (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- Over equal arguments and zero biases, kernel and reference leave the same edge map. -/
theorem value : @Cert.algebraic_KernelIdeal_ReferenceIdeal_on_edge_map_pre_biases_zero
    Cert.KernelIdeal.Gen.facts Cert.ReferenceIdeal.Gen.facts Pre.biases_facts Pre.map_facts := by
  intro m g m' g' hpre hagree
  refine ⟨fun c => m ((c.tc : Thread Cert.KernelIdeal.nD Cert.KernelIdeal.τ).loc Cert.KernelIdeal.main_v61), edgeMap m, ?_, ?_⟩
  · refine (θ_run Cert.KernelIdeal.defs _ _).mono (fun r h c => ?_) (KernelRun.run m g)
    refine ⟨fun i hi => absurd (show 0#1 = 1#1 from hi) (by decide), fun i _ => ?_, (h c).2.2⟩
    rw [(h c).2.1]
    exact kernel_map m g c i
  · refine (θ_run Cert.ReferenceIdeal.defs _ _).mono (fun r h c => ?_) (Cert.ReferenceIdeal.Value.run (F := Ideal) m' g')
    refine ⟨fun i hi => absurd (show 0#1 = 1#1 from hi) (by decide), fun i _ => ?_, (h c).2.2⟩
    have e : r.2.mem ((c.tc : Thread Cert.ReferenceIdeal.nD Cert.ReferenceIdeal.τ).loc Cert.ReferenceIdeal.main_v349)
        = Cert.ReferenceIdeal.Read.val_main_v349 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11)) :=
      (h c).2.1.trans (Cert.ReferenceIdeal.Read.val_main_v349_eq (F := Ideal) (StableHlo.launchContents m' c))
    obtain ⟨a0, a1, a2, a3, a4, a5, a6, a7, a8, a9, a10, a11, -, -⟩ := hagree c
    rw [a0, a1, a2, a3, a4, a5, a6, a7, a8, a9, a10, a11] at e
    rw [e]
    exact reference_map m c (no_bias m hpre c) i

/-- Over equal arguments, zero biases and finite edge arguments, kernel and reference leave the same two results. -/
theorem values : @Cert.algebraic_KernelIdeal_ReferenceIdeal_pre_finite_edge
    Cert.KernelIdeal.Gen.facts Cert.ReferenceIdeal.Gen.facts Pre.finite_facts := by
  intro m g m' g' hpre hagree
  refine ⟨fusedMap m, edgeMap m, ?_, ?_⟩
  · refine (θ_run Cert.KernelIdeal.defs _ _).mono (fun r h c => ?_) (KernelRun.run m g)
    exact ⟨(h c).1.trans (funext (kernel_fused m g c (map_ne_bot m hpre c))), (h c).2.1.trans (funext (kernel_map m g c)), (h c).2.2⟩
  · refine (θ_run Cert.ReferenceIdeal.defs _ _).mono (fun r h c => ?_) (Cert.ReferenceIdeal.Value.run (F := Ideal) m' g')
    have e821 : r.2.mem ((c.tc : Thread Cert.ReferenceIdeal.nD Cert.ReferenceIdeal.τ).loc Cert.ReferenceIdeal.main_v821)
        = Cert.ReferenceIdeal.Read.val_main_v821 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13)) :=
      (h c).1.trans (Cert.ReferenceIdeal.Read.val_main_v821_eq (F := Ideal) (StableHlo.launchContents m' c))
    have e349 : r.2.mem ((c.tc : Thread Cert.ReferenceIdeal.nD Cert.ReferenceIdeal.τ).loc Cert.ReferenceIdeal.main_v349)
        = Cert.ReferenceIdeal.Read.val_main_v349 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11)) :=
      (h c).2.1.trans (Cert.ReferenceIdeal.Read.val_main_v349_eq (F := Ideal) (StableHlo.launchContents m' c))
    obtain ⟨a0, a1, a2, a3, a4, a5, a6, a7, a8, a9, a10, a11, a12, a13⟩ := hagree c
    rw [a0, a1, a2, a3, a4, a5, a6, a7, a8, a9, a10, a11, a12, a13] at e821
    rw [a0, a1, a2, a3, a4, a5, a6, a7, a8, a9, a10, a11] at e349
    exact ⟨e821.trans (funext (reference_fused m c (no_bias_finite m hpre c) (map_ne_bot m hpre c))),
      e349.trans (funext (reference_map m c (no_bias_finite m hpre c))), (h c).2.2⟩

theorem claim : Cert.Claim :=
  ⟨Cert.Kernel.Gen.facts, Cert.KernelIdeal.Gen.facts, Cert.ReferenceIdeal.Gen.facts, Pre.biases_facts, Pre.finite_facts, Pre.map_facts,
    fun m g _ => Cert.Kernel.Gen.frame m g,
    fun m g _ => Cert.KernelIdeal.Gen.frame m g,
    fun m g _ => Cert.KernelIdeal.Gen.frame m g,
    fun m g _ => Cert.KernelIdeal.Gen.frame m g,
    reference_frame,
    fun m g _ => reference_frame m g trivial,
    fun m g _ => reference_frame m g trivial,
    trivial,
    value,
    values⟩

end Cert.Proof

end
